-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_groups_named [hPre_groups_named : Cert.Pre_groups_named.Facts] (m : (ℓ : Loc Cert.KernelIdeal.nD Cert.KernelIdeal.τ Cert.KernelIdeal.sig) → Buf (Elt Ideal) ℓ) : Prop :=
  ∀ c : Dev Cert.KernelIdeal.nD,
    (Cert.Pre_groups_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_named [hPre_groups_named : Cert.Pre_groups_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_pool_finite [hPre_pool_finite : Cert.Pre_pool_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_pool_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_pool_finite [hPre_pool_finite : Cert.Pre_pool_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_pool_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_groups_named [hKernelIdeal : Cert.KernelIdeal.Facts] [hPre_groups_named : Cert.Pre_groups_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_named m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_groups_named [hReferenceIdeal : Cert.ReferenceIdeal.Facts] [hPre_groups_named : Cert.Pre_groups_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_pool_finite [hKernel5Ideal : Cert.Kernel5Ideal.Facts] [hPre_pool_finite : Cert.Pre_pool_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_pool_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_pool_finite [hReference5Ideal : Cert.Reference5Ideal.Facts] [hPre_pool_finite : Cert.Pre_pool_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_pool_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_pre_groups_named [hKernelIdeal : Cert.KernelIdeal.Facts] [hReferenceIdeal : Cert.ReferenceIdeal.Facts] [hPre_groups_named : Cert.Pre_groups_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_named m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v62)) (v1 : (c : Dev Cert.Kernel2Ideal.nD) → Buf (Elt Ideal) ((c.tc : Thread Cert.Kernel2Ideal.nD Cert.Kernel2Ideal.τ).loc Cert.Kernel2Ideal.main_v63)) (v2 : (c : Dev Cert.Kernel2Ideal.nD) → Buf (Elt Ideal) ((c.tc : Thread Cert.Kernel2Ideal.nD Cert.Kernel2Ideal.τ).loc Cert.Kernel2Ideal.main_v64)) (v3 : (c : Dev Cert.Kernel2Ideal.nD) → Buf (Elt Ideal) ((c.tc : Thread Cert.Kernel2Ideal.nD Cert.Kernel2Ideal.τ).loc Cert.Kernel2Ideal.main_v65)) (v4 : (c : Dev Cert.Kernel2Ideal.nD) → Buf (Elt Ideal) ((c.tc : Thread Cert.Kernel2Ideal.nD Cert.Kernel2Ideal.τ).loc Cert.Kernel2Ideal.main_v66)) (v5 : (c : Dev Cert.Kernel2Ideal.nD) → Buf (Elt Ideal) ((c.tc : Thread Cert.Kernel2Ideal.nD Cert.Kernel2Ideal.τ).loc Cert.Kernel2Ideal.main_v68)) (v6 : (c : Dev Cert.Kernel2Ideal.nD) → Buf (Elt Ideal) ((c.tc : Thread Cert.Kernel2Ideal.nD Cert.Kernel2Ideal.τ).loc Cert.Kernel2Ideal.main_v70)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v62) = v0 c
          ∧ r.2.mem ((c.tc : Thread Cert.Kernel2Ideal.nD Cert.Kernel2Ideal.τ).loc Cert.Kernel2Ideal.main_v63) = v1 c
          ∧ r.2.mem ((c.tc : Thread Cert.Kernel2Ideal.nD Cert.Kernel2Ideal.τ).loc Cert.Kernel2Ideal.main_v64) = v2 c
          ∧ r.2.mem ((c.tc : Thread Cert.Kernel2Ideal.nD Cert.Kernel2Ideal.τ).loc Cert.Kernel2Ideal.main_v65) = v3 c
          ∧ r.2.mem ((c.tc : Thread Cert.Kernel2Ideal.nD Cert.Kernel2Ideal.τ).loc Cert.Kernel2Ideal.main_v66) = v4 c
          ∧ r.2.mem ((c.tc : Thread Cert.Kernel2Ideal.nD Cert.Kernel2Ideal.τ).loc Cert.Kernel2Ideal.main_v68) = v5 c
          ∧ r.2.mem ((c.tc : Thread Cert.Kernel2Ideal.nD Cert.Kernel2Ideal.τ).loc Cert.Kernel2Ideal.main_v70) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v199) = v1 c
          ∧ r.2.mem ((c.tc : Thread Cert.Reference2Ideal.nD Cert.Reference2Ideal.τ).loc Cert.Reference2Ideal.main_v126) = v2 c
          ∧ r.2.mem ((c.tc : Thread Cert.Reference2Ideal.nD Cert.Reference2Ideal.τ).loc Cert.Reference2Ideal.main_v127) = v3 c
          ∧ r.2.mem ((c.tc : Thread Cert.Reference2Ideal.nD Cert.Reference2Ideal.τ).loc Cert.Reference2Ideal.main_v202) = v4 c
          ∧ r.2.mem ((c.tc : Thread Cert.Reference2Ideal.nD Cert.Reference2Ideal.τ).loc Cert.Reference2Ideal.main_v194) = v5 c
          ∧ r.2.mem ((c.tc : Thread Cert.Reference2Ideal.nD Cert.Reference2Ideal.τ).loc Cert.Reference2Ideal.main_v196) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v9_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal_pre_pool_finite [hKernel5Ideal : Cert.Kernel5Ideal.Facts] [hReference5Ideal : Cert.Reference5Ideal.Facts] [hPre_pool_finite : Cert.Pre_pool_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_pool_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v12) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v146) = v0 c
          ∧ r.2.mem ((c.tc : Thread Cert.Reference5Ideal.nD Cert.Reference5Ideal.τ).loc Cert.Reference5Ideal.main_v147) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_groups_named : Cert.Pre_groups_named.Facts) (hPre_finite : Cert.Pre_finite.Facts) (hPre_pool_finite : Cert.Pre_pool_finite.Facts),
    quiescent_Kernel (hKernel := hKernel)
    ∧ quiescent_KernelIdeal (hKernelIdeal := hKernelIdeal)
    ∧ quiescent_KernelIdeal_pre_groups_named (hKernelIdeal := hKernelIdeal) (hPre_groups_named := hPre_groups_named)
    ∧ quiescent_ReferenceIdeal (hReferenceIdeal := hReferenceIdeal)
    ∧ quiescent_ReferenceIdeal_pre_groups_named (hReferenceIdeal := hReferenceIdeal) (hPre_groups_named := hPre_groups_named)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_pool_finite (hKernel5Ideal := hKernel5Ideal) (hPre_pool_finite := hPre_pool_finite)
    ∧ quiescent_Reference5Ideal (hReference5Ideal := hReference5Ideal)
    ∧ quiescent_Reference5Ideal_pre_pool_finite (hReference5Ideal := hReference5Ideal) (hPre_pool_finite := hPre_pool_finite)
    ∧ preserves_Kernel_KernelIdeal
    ∧ algebraic_KernelIdeal_ReferenceIdeal_pre_groups_named (hKernelIdeal := hKernelIdeal) (hReferenceIdeal := hReferenceIdeal) (hPre_groups_named := hPre_groups_named)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_pool_finite (hKernel5Ideal := hKernel5Ideal) (hReference5Ideal := hReference5Ideal) (hPre_pool_finite := hPre_pool_finite)
-- ==== Pre_finite.lean ====
abbrev S8x2048x1024 : Shape := ⟨3, ![8, 2048, 1024]⟩
abbrev S8x6144 : Shape := ⟨2, ![8, 6144]⟩
abbrev S1024 : Shape := ⟨1, ![1024]⟩
abbrev S1024x1864 : Shape := ⟨2, ![1024, 1864]⟩
abbrev S64 : Shape := ⟨1, ![64]⟩
abbrev S8x2048 : Shape := ⟨2, ![8, 2048]⟩
abbrev S_ : Shape := ⟨0, ![]⟩

class Facts : Prop where
  slices_S8x6144_S8x2048_0_0 : S8x6144.Slices ![0, 0] S8x2048
  bcast_S_S8x2048 : S_.BroadcastsInDim S8x2048 (![] : Fin 0 → Fin S8x2048.rank)
  reducesTo_S8x2048_S_d0_1 : S8x2048.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1864 : S_.BroadcastsInDim S1024x1864 (![] : Fin 0 → Fin S1024x1864.rank)
  reducesTo_S1024x1864_S_d0_1 : S1024x1864.ReducesTo [0, 1] S_

variable [Facts]

def fn {F : FTy → Type} [FloatOps F] (main_arg0 : FVec F S8x2048x1024 .f32) (main_arg1 : FVec F S8x6144 .f32) (main_arg2 : FVec F S1024 .f32) (main_arg3 : FVec F S1024x1864 .f32) (main_arg4 : FVec F S64 .f32) (main_arg5 : FVec F S64 .f32) : IVec S_ 1 :=
  let main_v0 : FVec F S8x2048 .f32 := (extractStridedSlice S8x2048 ![0, 0] · slices_S8x6144_S8x2048_0_0) main_arg1
  let main_v1 : FVec F S8x2048 .f32 := Host.absf main_v0
  let main_cst : FVec F S_ .f32 := constant S_ .f32 0x7F800000#32
  let main_v2 : FVec F S8x2048 .f32 := broadcastInDim S8x2048 ![] bcast_S_S8x2048 main_cst
  let main_v3 : IVec S8x2048 1 := cmpf .olt main_v1 main_v2
  let main_c : IVec S_ 1 := constantI S_ 1 1#1
  let main_v4 : IVec S_ 1 := (fun x v => Host.reduce IntOp.andi x v reducesTo_S8x2048_S_d0_1 h_S_) main_v3 main_c
  let main_v5 : FVec F S1024 .f32 := Host.absf main_arg2
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_c_1 : IVec S_ 1 := constantI S_ 1 1#1
  let main_v8 : IVec S_ 1 := (fun x v => Host.reduce IntOp.andi x v reducesTo_S1024_S_d0 h_S_) main_v7 main_c_1
  let main_v9 : IVec S_ 1 := andi main_v4 main_v8
  let main_v10 : FVec F S1024x1864 .f32 := Host.absf main_arg3
  let main_cst_2 : FVec F S_ .f32 := constant S_ .f32 0x7F800000#32
  let main_v11 : FVec F S1024x1864 .f32 := broadcastInDim S1024x1864 ![] bcast_S_S1024x1864 main_cst_2
  let main_v12 : IVec S1024x1864 1 := cmpf .olt main_v10 main_v11
  let main_c_3 : IVec S_ 1 := constantI S_ 1 1#1
  let main_v13 : IVec S_ 1 := (fun x v => Host.reduce IntOp.andi x v reducesTo_S1024x1864_S_d0_1 h_S_) main_v12 main_c_3
  let main_v14 : IVec S_ 1 := andi main_v9 main_v13
  main_v14
-- ==== Pre_groups_named.lean ====
abbrev S8x2048x1024 : Shape := ⟨3, ![8, 2048, 1024]⟩
abbrev S8x6144 : Shape := ⟨2, ![8, 6144]⟩
abbrev S1024 : Shape := ⟨1, ![1024]⟩
abbrev S8x16384 : Shape := ⟨2, ![8, 16384]⟩
abbrev S16x1024x256 : Shape := ⟨3, ![16, 1024, 256]⟩
abbrev S16x256x1024 : Shape := ⟨3, ![16, 256, 1024]⟩
abbrev S1x16384 : Shape := ⟨2, ![1, 16384]⟩
abbrev S16384 : Shape := ⟨1, ![16384]⟩
abbrev S_ : Shape := ⟨0, ![]⟩

class Facts : Prop where
  slices_S8x16384_S1x16384_4_0 : S8x16384.Slices ![4, 0] S1x16384
  shapeCasts_S1x16384_S16384 : S1x16384.ShapeCasts S16384
  bcast_S_S16384 : S_.BroadcastsInDim S16384 (![] : Fin 0 → Fin S16384.rank)

variable [Facts]

def fn {F : FTy → Type} [FloatOps F] (main_arg0 : FVec F S8x2048x1024 .f32) (main_arg1 : FVec F S8x6144 .f32) (main_arg2 : FVec F S1024 .f32) (main_arg3 : FVec F S8x16384 .f32) (main_arg4 : FVec F S16x1024x256 .f32) (main_arg5 : FVec F S16x1024x256 .f32) (main_arg6 : FVec F S16x256x1024 .f32) : IVec S16384 1 :=
  let main_v0 : FVec F S1x16384 .f32 := (extractStridedSlice S1x16384 ![4, 0] · slices_S8x16384_S1x16384_4_0) main_arg3
  let main_v1 : FVec F S16384 .f32 := shapeCast S16384 main_v0 shapeCasts_S1x16384_S16384
  let main_v2 : IVec S16384 32 := fptosi 32 main_v1
  let main_c : IVec S_ 32 := constantI S_ 32 0#32
  let main_v3 : IVec S16384 32 := broadcastInDim S16384 ![] bcast_S_S16384 main_c
  let main_v4 : IVec S16384 1 := cmpi .sge main_v2 main_v3
  let main_c_0 : IVec S_ 32 := constantI S_ 32 4#32
  let main_v5 : IVec S16384 32 := broadcastInDim S16384 ![] bcast_S_S16384 main_c_0
  let main_v6 : IVec S16384 1 := cmpi .slt main_v2 main_v5
  let main_v7 : IVec S16384 1 := andi main_v4 main_v6
  main_v7
-- ==== Pre_pool_finite.lean ====
abbrev S8x2048x1024 : Shape := ⟨3, ![8, 2048, 1024]⟩
abbrev S8x6144 : Shape := ⟨2, ![8, 6144]⟩
abbrev S1024 : Shape := ⟨1, ![1024]⟩
abbrev S4x256x256 : Shape := ⟨3, ![4, 256, 256]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S8x1024 : Shape := ⟨2, ![8, 1024]⟩
abbrev S_ : Shape := ⟨0, ![]⟩

class Facts : Prop where
  slices_S8x6144_S8x1024_0_1024 : S8x6144.Slices ![0, 1024] S8x1024
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x2048x1024 .f32) (main_arg1 : FVec F S8x6144 .f32) (main_arg2 : FVec F S1024 .f32) (main_arg3 : FVec F S4x256x256 .f32) (main_arg4 : FVec F S1024 .f32) (main_arg5 : FVec F S1024 .f32) (main_arg6 : FVec F S1024x4 .f32) (main_arg7 : FVec F S4 .f32) (main_arg8 : FVec F S1024x16 .f32) (main_arg9 : FVec F S16 .f32) : IVec S_ 1 :=
  let main_v0 : FVec F S8x1024 .f32 := (extractStridedSlice S8x1024 ![0, 1024] · slices_S8x6144_S8x1024_0_1024) main_arg1
  let main_v1 : FVec F S8x1024 .f32 := Host.absf main_v0
  let main_cst : FVec F S_ .f32 := constant S_ .f32 0x7F800000#32
  let main_v2 : FVec F S8x1024 .f32 := broadcastInDim S8x1024 ![] bcast_S_S8x1024 main_cst
  let main_v3 : IVec S8x1024 1 := cmpf .olt main_v1 main_v2
  let main_c : IVec S_ 1 := constantI S_ 1 1#1
  let main_v4 : IVec S_ 1 := (fun x v => Host.reduce IntOp.andi x v reducesTo_S8x1024_S_d0_1 h_S_) main_v3 main_c
  let main_v5 : FVec F S1024 .f32 := Host.absf main_arg2
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_c_1 : IVec S_ 1 := constantI S_ 1 1#1
  let main_v8 : IVec S_ 1 := (fun x v => Host.reduce IntOp.andi x v reducesTo_S1024_S_d0 h_S_) main_v7 main_c_1
  let main_v9 : IVec S_ 1 := andi main_v4 main_v8
  main_v9
-- ==== Kernel.lean ====
abbrev S8x2048x1024 : Shape := ⟨3, ![8, 2048, 1024]⟩
abbrev S8x6144 : Shape := ⟨2, ![8, 6144]⟩
abbrev S1024 : Shape := ⟨1, ![1024]⟩
abbrev S8x16384 : Shape := ⟨2, ![8, 16384]⟩
abbrev S16x1024x256 : Shape := ⟨3, ![16, 1024, 256]⟩
abbrev S16x256x1024 : Shape := ⟨3, ![16, 256, 1024]⟩
abbrev S16384x1024 : Shape := ⟨2, ![16384, 1024]⟩
abbrev S8x1x6144 : Shape := ⟨3, ![8, 1, 6144]⟩
abbrev S1x1024 : Shape := ⟨2, ![1, 1024]⟩
abbrev S1x16384 : Shape := ⟨2, ![1, 16384]⟩
abbrev S16384 : Shape := ⟨1, ![16384]⟩
abbrev S16x1024 : Shape := ⟨2, ![16, 1024]⟩
abbrev S16x1024x1 : Shape := ⟨3, ![16, 1024, 1]⟩
abbrev S4 : Shape := ⟨1, ![4]⟩
abbrev S1x1x4 : Shape := ⟨3, ![1, 1, 4]⟩
abbrev S16x1024x4 : Shape := ⟨3, ![16, 1024, 4]⟩
abbrev S_ : Shape := ⟨0, ![]⟩
abbrev S16x4 : Shape := ⟨2, ![16, 4]⟩
abbrev S16x1x4 : Shape := ⟨3, ![16, 1, 4]⟩
abbrev S64 : Shape := ⟨1, ![64]⟩
abbrev S16384x8 : Shape := ⟨2, ![16384, 8]⟩
abbrev S1024x1024 : Shape := ⟨2, ![1024, 1024]⟩
abbrev S1x1x1024 : Shape := ⟨3, ![1, 1, 1024]⟩
abbrev S1024x8 : Shape := ⟨2, ![1024, 8]⟩
abbrev S4x1024x256 : Shape := ⟨3, ![4, 1024, 256]⟩
abbrev S4x256x1024 : Shape := ⟨3, ![4, 256, 1024]⟩
abbrev S1312x1024 : Shape := ⟨2, ![1312, 1024]⟩
abbrev S1312x8 : Shape := ⟨2, ![1312, 8]⟩
abbrev S1024x1 : Shape := ⟨2, ![1024, 1]⟩
abbrev S1 : Shape := ⟨1, ![1]⟩
abbrev S1x8 : Shape := ⟨2, ![1, 8]⟩
abbrev S256x1024 : Shape := ⟨2, ![256, 1024]⟩
abbrev S256x8 : Shape := ⟨2, ![256, 8]⟩
abbrev S1x1024x256 : Shape := ⟨3, ![1, 1024, 256]⟩
abbrev S1024x256 : Shape := ⟨2, ![1024, 256]⟩
abbrev S256x256 : Shape := ⟨2, ![256, 256]⟩
abbrev S256x1 : Shape := ⟨2, ![256, 1]⟩
abbrev S1x256x1024 : Shape := ⟨3, ![1, 256, 1024]⟩
abbrev S128x1024 : Shape := ⟨2, ![128, 1024]⟩
abbrev S128x8 : Shape := ⟨2, ![128, 8]⟩
abbrev S128x1 : Shape := ⟨2, ![128, 1]⟩
abbrev S128x256 : Shape := ⟨2, ![128, 256]⟩

abbrev nBuf : Space → Nat
  | .hbm => 69
  | .vmem => 22
  | .smem => 3
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S8x16384, .f32⟩
  | .hbm, ⟨4, _⟩ => ⟨S16x1024x256, .f32⟩
  | .hbm, ⟨5, _⟩ => ⟨S16x1024x256, .f32⟩
  | .hbm, ⟨6, _⟩ => ⟨S16x256x1024, .f32⟩
  | .hbm, ⟨7, _⟩ => ⟨S16384x1024, .f32⟩
  | .hbm, ⟨8, _⟩ => ⟨S8x1x6144, .f32⟩
  | .hbm, ⟨9, _⟩ => ⟨S1x1024, .f32⟩
  | .hbm, ⟨10, _⟩ => ⟨S16x1024x256, .bf16⟩
  | .hbm, ⟨11, _⟩ => ⟨S16x1024x256, .bf16⟩
  | .hbm, ⟨12, _⟩ => ⟨S16x256x1024, .bf16⟩
  | .hbm, ⟨13, _⟩ => ⟨S1x16384, .f32⟩
  | .hbm, ⟨14, _⟩ => ⟨S16384, .f32⟩
  | .hbm, ⟨15, _⟩ => ⟨S16384, .i32⟩
  | .hbm, ⟨16, _⟩ => ⟨S16x1024, .i32⟩
  | .hbm, ⟨17, _⟩ => ⟨S16x1024x1, .i32⟩
  | .hbm, ⟨18, _⟩ => ⟨S4, .i32⟩
  | .hbm, ⟨19, _⟩ => ⟨S1x1x4, .i32⟩
  | .hbm, ⟨20, _⟩ => ⟨S16x1024x4, .i32⟩
  | .hbm, ⟨21, _⟩ => ⟨S16x1024x4, .i32⟩
  | .hbm, ⟨22, _⟩ => ⟨S16x1024x4, .i1⟩
  | .hbm, ⟨23, _⟩ => ⟨S16x1024x4, .i32⟩
  | .hbm, ⟨24, _⟩ => ⟨S_, .i32⟩
  | .hbm, ⟨25, _⟩ => ⟨S16x4, .i32⟩
  | .hbm, ⟨26, _⟩ => ⟨S_, .i32⟩
  | .hbm, ⟨27, _⟩ => ⟨S16x4, .i32⟩
  | .hbm, ⟨28, _⟩ => ⟨S16x4, .i32⟩
  | .hbm, ⟨29, _⟩ => ⟨S_, .i32⟩
  | .hbm, ⟨30, _⟩ => ⟨S16x4, .i32⟩
  | .hbm, ⟨31, _⟩ => ⟨S16x4, .i32⟩
  | .hbm, ⟨32, _⟩ => ⟨S_, .i32⟩
  | .hbm, ⟨33, _⟩ => ⟨S_, .i32⟩
  | .hbm, ⟨34, _⟩ => ⟨S16x4, .i32⟩
  | .hbm, ⟨35, _⟩ => ⟨S16x4, .i32⟩
  | .hbm, ⟨36, _⟩ => ⟨S16x4, .i32⟩
  | .hbm, ⟨37, _⟩ => ⟨S_, .i32⟩
  | .hbm, ⟨38, _⟩ => ⟨S16x4, .i32⟩
  | .hbm, ⟨39, _⟩ => ⟨S16x4, .i1⟩
  | .hbm, ⟨40, _⟩ => ⟨S16x4, .i32⟩
  | .hbm, ⟨41, _⟩ => ⟨S16x4, .i32⟩
  | .hbm, ⟨42, _⟩ => ⟨S_, .i32⟩
  | .hbm, ⟨43, _⟩ => ⟨S16x4, .i32⟩
  | .hbm, ⟨44, _⟩ => ⟨S16x4, .i1⟩
  | .hbm, ⟨45, _⟩ => ⟨S16x4, .i1⟩
  | .hbm, ⟨46, _⟩ => ⟨S_, .i32⟩
  | .hbm, ⟨47, _⟩ => ⟨S16x4, .i32⟩
  | .hbm, ⟨48, _⟩ => ⟨S16x4, .i32⟩
  | .hbm, ⟨49, _⟩ => ⟨S16x4, .i32⟩
  | .hbm, ⟨50, _⟩ => ⟨S_, .i32⟩
  | .hbm, ⟨51, _⟩ => ⟨S16x4, .i32⟩
  | .hbm, ⟨52, _⟩ => ⟨S16x4, .i32⟩
  | .hbm, ⟨53, _⟩ => ⟨S_, .i32⟩
  | .hbm, ⟨54, _⟩ => ⟨S_, .i32⟩
  | .hbm, ⟨55, _⟩ => ⟨S16x4, .i32⟩
  | .hbm, ⟨56, _⟩ => ⟨S16x4, .i32⟩
  | .hbm, ⟨57, _⟩ => ⟨S_, .i32⟩
  | .hbm, ⟨58, _⟩ => ⟨S_, .i32⟩
  | .hbm, ⟨59, _⟩ => ⟨S16x1024x4, .i32⟩
  | .hbm, ⟨60, _⟩ => ⟨S16x1024x4, .i32⟩
  | .hbm, ⟨61, _⟩ => ⟨S16x1x4, .i32⟩
  | .hbm, ⟨62, _⟩ => ⟨S16x1024x4, .i32⟩
  | .hbm, ⟨63, _⟩ => ⟨S16x1024x4, .i32⟩
  | .hbm, ⟨64, _⟩ => ⟨S16x1024x4, .i32⟩
  | .hbm, ⟨65, _⟩ => ⟨S_, .i32⟩
  | .hbm, ⟨66, _⟩ => ⟨S16x1024, .i32⟩
  | .hbm, ⟨67, _⟩ => ⟨S16384x8, .f32⟩
  | .hbm, ⟨68, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x8, .f32⟩
  | .local _ .vmem, ⟨10, _⟩ => ⟨S1024x8, .f32⟩
  | .local _ .vmem, ⟨11, _⟩ => ⟨S4x1024x256, .bf16⟩
  | .local _ .vmem, ⟨12, _⟩ => ⟨S4x1024x256, .bf16⟩
  | .local _ .vmem, ⟨13, _⟩ => ⟨S4x1024x256, .bf16⟩
  | .local _ .vmem, ⟨14, _⟩ => ⟨S4x1024x256, .bf16⟩
  | .local _ .vmem, ⟨15, _⟩ => ⟨S4x256x1024, .bf16⟩
  | .local _ .vmem, ⟨16, _⟩ => ⟨S4x256x1024, .bf16⟩
  | .local _ .vmem, ⟨17, _⟩ => ⟨S1024x1024, .f32⟩
  | .local _ .vmem, ⟨18, _⟩ => ⟨S1024x1024, .f32⟩
  | .local _ .vmem, ⟨19, _⟩ => ⟨S1312x1024, .f32⟩
  | .local _ .vmem, ⟨20, _⟩ => ⟨S1312x8, .f32⟩
  | .local _ .vmem, ⟨21, _⟩ => ⟨S1312x1024, .f32⟩
  | .local _ .smem, ⟨0, _⟩ => ⟨S16384, .i32⟩
  | .local _ .smem, ⟨1, _⟩ => ⟨S64, .i32⟩
  | .local _ .smem, ⟨2, _⟩ => ⟨S64, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v22 : Ref sig .tc := ⟨.hbm, 49, rfl⟩
abbrev main_c_3 : Ref sig .tc := ⟨.hbm, 50, rfl⟩
abbrev main_v23 : Ref sig .tc := ⟨.hbm, 51, rfl⟩
abbrev main_v24 : Ref sig .tc := ⟨.hbm, 52, rfl⟩
abbrev main_call1_call0_c : Ref sig .tc := ⟨.hbm, 53, rfl⟩
abbrev main_call1_call0_v0 : Ref sig .tc := ⟨.hbm, 54, rfl⟩
abbrev main_v25 : Ref sig .tc := ⟨.hbm, 55, rfl⟩
abbrev main_v26 : Ref sig .tc := ⟨.hbm, 56, rfl⟩
abbrev main_call2_call0_c : Ref sig .tc := ⟨.hbm, 57, rfl⟩
abbrev main_call2_call0_v0 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_4 : Ref sig .tc := ⟨.hbm, 65, rfl⟩
abbrev main_v33 : Ref sig .tc := ⟨.hbm, 66, rfl⟩
abbrev main_v37 : Ref sig .tc := ⟨.hbm, 67, rfl⟩
abbrev main_v38 : Ref sig .tc := ⟨.hbm, 68, rfl⟩
abbrev main_v34 : Ref sig .tc := ⟨.smem, 0, rfl⟩
abbrev main_v35 : Ref sig .tc := ⟨.smem, 1, rfl⟩
abbrev main_v36 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 4], ![false, false]⟩

abbrev pre0 : Pipeline.Prefetch sig := ⟨3, ![main_v34.idx, main_v35.idx, main_v36.idx], fun | 0 => main_v34.names | 1 => main_v35.names | 2 => main_v36.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_cond2 (i : grid0.Coords) : BitVec 1 :=
  let arg1 : BitVec 32 := BitVec.ofNat 32 (i 1).val
  let c0_i32_2 : BitVec 32 := 0#32
  let v6 : BitVec 1 := Scalar.cmpi .eq arg1 c0_i32_2
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_36 : BitVec 32 := 0#32
  let c1024_i32_37 : BitVec 32 := 1024#32
  let v81 : BitVec 32 := Scalar.addi c0_i32_36 c1024_i32_37
  let c1_i32_38 : BitVec 32 := 1#32
  ⟨c0_i32_36, v81, c1_i32_38⟩
def k0_off1 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c0_i32_36 : BitVec 32 := 0#32
  let c1_i32_38 : BitVec 32 := 1#32
  let arg18 : BitVec 32 := Scf.iv c0_i32_36 c1_i32_38 k0_t1
  let v82 : BitVec 32 := Scalar.addi v0 arg18
  let v83 : Index := Scalar.indexCast v82
  ![v83.toNat]
def k0_off2 (k0_t1 : Fin k0_t1_loop.trips) : Fin 2 → Nat :=
  let c0_i32_36 : BitVec 32 := 0#32
  let c1_i32_38 : BitVec 32 := 1#32
  let arg18 : BitVec 32 := Scf.iv c0_i32_36 c1_i32_38 k0_t1
  let v85 : Index := Scalar.indexCast arg18
  let c0_40 : Index := 0#32
  ![v85.toNat, 0]
def k0_off3 (v84 : BitVec 32) : Fin 2 → Nat :=
  let v88 : Index := Scalar.indexCast v84
  let c0_41 : Index := 0#32
  ![v88.toNat, 0]

def k0_off4 (k0_t1 : Fin k0_t1_loop.trips) : Fin 2 → Nat :=
  let c0_i32_36 : BitVec 32 := 0#32
  let c1_i32_38 : BitVec 32 := 1#32
  let arg18 : BitVec 32 := Scf.iv c0_i32_36 c1_i32_38 k0_t1
  let v92 : Index := Scalar.indexCast arg18
  let c0_42 : Index := 0#32
  ![v92.toNat, 0]
def k0_off5 (v84 : BitVec 32) : Fin 2 → Nat :=
  let v95 : Index := Scalar.indexCast v84
  let c0_43 : Index := 0#32
  ![v95.toNat, 0]

def k0_chk1 (i : grid0.Coords) (v84 : BitVec 32) : Prop :=
  (∀ (k0_h2 : k0_cond2 i = 1#1), ∀ a, (k0_off3 v84) a + S1x1024.size a ≤ S1312x1024.size a) ∧
  (∀ (k0_h2 : k0_cond2 i = 1#1), ∀ a, (k0_off5 v84) a + S1x8.size a ≤ S1312x8.size a)
theorem k0_off3_inb : ∀ (i : grid0.Coords) (v84 : BitVec 32) (k0_hw1 : k0_chk1 i v84), ∀ (k0_h2 : k0_cond2 i = 1#1), ∀ a, (k0_off3 v84) a + S1x1024.size a ≤ S1312x1024.size a := fun i v84 k0_hw1 k0_h2 => k0_hw1.1 k0_h2
theorem k0_off5_inb : ∀ (i : grid0.Coords) (v84 : BitVec 32) (k0_hw1 : k0_chk1 i v84), ∀ (k0_h2 : k0_cond2 i = 1#1), ∀ a, (k0_off5 v84) a + S1x8.size a ≤ S1312x8.size a := fun i v84 k0_hw1 k0_h2 => k0_hw1.2 k0_h2

def k0_off6 (i : grid0.Coords) : Fin 1 → Nat :=
  let arg0 : BitVec 32 := BitVec.ofNat 32 (i 0).val
  let c4_i32 : BitVec 32 := 4#32
  let v9 : BitVec 32 := Scalar.muli arg0 c4_i32
  let arg1 : BitVec 32 := BitVec.ofNat 32 (i 1).val
  let v10 : BitVec 32 := Scalar.addi v9 arg1
  let v11 : Index := Scalar.indexCast v10
  ![v11.toNat]
@[reducible] def k0_t2_loop (v16 : BitVec 32) : Scf.Loop 32 :=
  let c0_i32_11 : BitVec 32 := 0#32
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c256_i32 : BitVec 32 := 256#32
  let c0_i32_7 : BitVec 32 := 0#32
  let v23 : BitVec 1 := Scalar.cmpi .sgt c256_i32 c0_i32_7
  let v24 : BitVec 32 := Scalar.extui v23
  let c0_i32_8 : BitVec 32 := 0#32
  let v25 : BitVec 1 := Scalar.cmpi .slt c256_i32 c0_i32_8
  let v26 : BitVec 32 := Scalar.extui v25
  let v27 : BitVec 32 := Scalar.subi v24 v26
  let v28 : BitVec 1 := Scalar.cmpi .ne v22 v27
  let v29 : BitVec 32 := Scalar.remsi v16 c256_i32
  let c0_i32_9 : BitVec 32 := 0#32
  let v30 : BitVec 1 := Scalar.cmpi .ne v29 c0_i32_9
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v34 : BitVec 32 := Scalar.subi v33 c0_i32_11
  let c1_i32_12 : BitVec 32 := 1#32
  let v36 : BitVec 32 := Scalar.divsi v34 c1_i32_12
  let v37 : BitVec 32 := Scalar.muli v36 c1_i32_12
  let v38 : BitVec 32 := Scalar.addi c0_i32_11 v37
  let c1_i32_13 : BitVec 32 := 1#32
  ⟨c0_i32_11, v38, c1_i32_13⟩

def k0_mult1 (v12 : BitVec 32) (v16 : BitVec 32) (k0_t2 : Fin (k0_t2_loop v16).trips) : BitVec 32 :=
  let c0_i32_11 : BitVec 32 := 0#32
  let c1_i32_13 : BitVec 32 := 1#32
  let arg18 : BitVec 32 := Scf.iv c0_i32_11 c1_i32_13 k0_t2
  let c256_i32_22 : BitVec 32 := 256#32
  let v54 : BitVec 32 := Scalar.muli arg18 c256_i32_22
  let v55 : BitVec 32 := Scalar.addi v12 v54
  v55
def k0_off7 (v12 : BitVec 32) (v16 : BitVec 32) (k0_t2 : Fin (k0_t2_loop v16).trips) : Fin 2 → Nat :=
  let c0_i32_11 : BitVec 32 := 0#32
  let c1_i32_13 : BitVec 32 := 1#32
  let arg18 : BitVec 32 := Scf.iv c0_i32_11 c1_i32_13 k0_t2
  let c256_i32_22 : BitVec 32 := 256#32
  let v54 : BitVec 32 := Scalar.muli arg18 c256_i32_22
  let v55 : BitVec 32 := Scalar.addi v12 v54
  let v56 : BitVec 32 := v55
  let v57 : Index := Scalar.indexCast v56
  let c0 : Index := 0#32
  ![v57.toNat, 0]
def k0_off8 (v12 : BitVec 32) (v16 : BitVec 32) (k0_t2 : Fin (k0_t2_loop v16).trips) : Fin 2 → Nat :=
  let c0_i32_11 : BitVec 32 := 0#32
  let c1_i32_13 : BitVec 32 := 1#32
  let arg18 : BitVec 32 := Scf.iv c0_i32_11 c1_i32_13 k0_t2
  let c256_i32_22 : BitVec 32 := 256#32
  let v54 : BitVec 32 := Scalar.muli arg18 c256_i32_22
  let v55 : BitVec 32 := Scalar.addi v12 v54
  let v56 : BitVec 32 := v55
  let v60 : Index := Scalar.indexCast v56
  let c0_23 : Index := 0#32
  ![v60.toNat, 0]
@[reducible] def k0_t3_loop (v16 : BitVec 32) : Scf.Loop 32 :=
  let c0_i32_11 : BitVec 32 := 0#32
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c256_i32 : BitVec 32 := 256#32
  let c0_i32_7 : BitVec 32 := 0#32
  let v23 : BitVec 1 := Scalar.cmpi .sgt c256_i32 c0_i32_7
  let v24 : BitVec 32 := Scalar.extui v23
  let c0_i32_8 : BitVec 32 := 0#32
  let v25 : BitVec 1 := Scalar.cmpi .slt c256_i32 c0_i32_8
  let v26 : BitVec 32 := Scalar.extui v25
  let v27 : BitVec 32 := Scalar.subi v24 v26
  let v28 : BitVec 1 := Scalar.cmpi .ne v22 v27
  let v29 : BitVec 32 := Scalar.remsi v16 c256_i32
  let c0_i32_9 : BitVec 32 := 0#32
  let v30 : BitVec 1 := Scalar.cmpi .ne v29 c0_i32_9
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v34 : BitVec 32 := Scalar.subi v33 c0_i32_11
  let c1_i32_12 : BitVec 32 := 1#32
  let v36 : BitVec 32 := Scalar.divsi v34 c1_i32_12
  let v37 : BitVec 32 := Scalar.muli v36 c1_i32_12
  let v38 : BitVec 32 := Scalar.addi c0_i32_11 v37
  let v35 : BitVec 32 := Scalar.addi c0_i32_11 v34
  let c1_i32_14 : BitVec 32 := 1#32
  ⟨v38, v35, c1_i32_14⟩
def k0_mult2 (v12 : BitVec 32) (v16 : BitVec 32) (k0_t3 : Fin (k0_t3_loop v16).trips) : BitVec 32 :=
  let c0_i32_11 : BitVec 32 := 0#32
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c256_i32 : BitVec 32 := 256#32
  let c0_i32_7 : BitVec 32 := 0#32
  let v23 : BitVec 1 := Scalar.cmpi .sgt c256_i32 c0_i32_7
  let v24 : BitVec 32 := Scalar.extui v23
  let c0_i32_8 : BitVec 32 := 0#32
  let v25 : BitVec 1 := Scalar.cmpi .slt c256_i32 c0_i32_8
  let v26 : BitVec 32 := Scalar.extui v25
  let v27 : BitVec 32 := Scalar.subi v24 v26
  let v28 : BitVec 1 := Scalar.cmpi .ne v22 v27
  let v29 : BitVec 32 := Scalar.remsi v16 c256_i32
  let c0_i32_9 : BitVec 32 := 0#32
  let v30 : BitVec 1 := Scalar.cmpi .ne v29 c0_i32_9
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v34 : BitVec 32 := Scalar.subi v33 c0_i32_11
  let c1_i32_12 : BitVec 32 := 1#32
  let v36 : BitVec 32 := Scalar.divsi v34 c1_i32_12
  let v37 : BitVec 32 := Scalar.muli v36 c1_i32_12
  let v38 : BitVec 32 := Scalar.addi c0_i32_11 v37
  let c1_i32_14 : BitVec 32 := 1#32
  let arg18 : BitVec 32 := Scf.iv v38 c1_i32_14 k0_t3
  let c256_i32_22 : BitVec 32 := 256#32
  let v54 : BitVec 32 := Scalar.muli arg18 c256_i32_22
  let v55 : BitVec 32 := Scalar.addi v12 v54
  v55
def k0_off9 (v12 : BitVec 32) (v16 : BitVec 32) (k0_t3 : Fin (k0_t3_loop v16).trips) : Fin 2 → Nat :=
  let c0_i32_11 : BitVec 32 := 0#32
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c256_i32 : BitVec 32 := 256#32
  let c0_i32_7 : BitVec 32 := 0#32
  let v23 : BitVec 1 := Scalar.cmpi .sgt c256_i32 c0_i32_7
  let v24 : BitVec 32 := Scalar.extui v23
  let c0_i32_8 : BitVec 32 := 0#32
  let v25 : BitVec 1 := Scalar.cmpi .slt c256_i32 c0_i32_8
  let v26 : BitVec 32 := Scalar.extui v25
  let v27 : BitVec 32 := Scalar.subi v24 v26
  let v28 : BitVec 1 := Scalar.cmpi .ne v22 v27
  let v29 : BitVec 32 := Scalar.remsi v16 c256_i32
  let c0_i32_9 : BitVec 32 := 0#32
  let v30 : BitVec 1 := Scalar.cmpi .ne v29 c0_i32_9
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v34 : BitVec 32 := Scalar.subi v33 c0_i32_11
  let c1_i32_12 : BitVec 32 := 1#32
  let v36 : BitVec 32 := Scalar.divsi v34 c1_i32_12
  let v37 : BitVec 32 := Scalar.muli v36 c1_i32_12
  let v38 : BitVec 32 := Scalar.addi c0_i32_11 v37
  let c1_i32_14 : BitVec 32 := 1#32
  let arg18 : BitVec 32 := Scf.iv v38 c1_i32_14 k0_t3
  let c256_i32_22 : BitVec 32 := 256#32
  let v54 : BitVec 32 := Scalar.muli arg18 c256_i32_22
  let v55 : BitVec 32 := Scalar.addi v12 v54
  let v56 : BitVec 32 := v55
  let v57 : Index := Scalar.indexCast v56
  let c0 : Index := 0#32
  ![v57.toNat, 0]
def k0_off10 (v12 : BitVec 32) (v16 : BitVec 32) (k0_t3 : Fin (k0_t3_loop v16).trips) : Fin 2 → Nat :=
  let c0_i32_11 : BitVec 32 := 0#32
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c256_i32 : BitVec 32 := 256#32
  let c0_i32_7 : BitVec 32 := 0#32
  let v23 : BitVec 1 := Scalar.cmpi .sgt c256_i32 c0_i32_7
  let v24 : BitVec 32 := Scalar.extui v23
  let c0_i32_8 : BitVec 32 := 0#32
  let v25 : BitVec 1 := Scalar.cmpi .slt c256_i32 c0_i32_8
  let v26 : BitVec 32 := Scalar.extui v25
  let v27 : BitVec 32 := Scalar.subi v24 v26
  let v28 : BitVec 1 := Scalar.cmpi .ne v22 v27
  let v29 : BitVec 32 := Scalar.remsi v16 c256_i32
  let c0_i32_9 : BitVec 32 := 0#32
  let v30 : BitVec 1 := Scalar.cmpi .ne v29 c0_i32_9
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v34 : BitVec 32 := Scalar.subi v33 c0_i32_11
  let c1_i32_12 : BitVec 32 := 1#32
  let v36 : BitVec 32 := Scalar.divsi v34 c1_i32_12
  let v37 : BitVec 32 := Scalar.muli v36 c1_i32_12
  let v38 : BitVec 32 := Scalar.addi c0_i32_11 v37
  let c1_i32_14 : BitVec 32 := 1#32
  let arg18 : BitVec 32 := Scf.iv v38 c1_i32_14 k0_t3
  let c256_i32_22 : BitVec 32 := 256#32
  let v54 : BitVec 32 := Scalar.muli arg18 c256_i32_22
  let v55 : BitVec 32 := Scalar.addi v12 v54
  let v56 : BitVec 32 := v55
  let v60 : Index := Scalar.indexCast v56
  let c0_23 : Index := 0#32
  ![v60.toNat, 0]
def k0_mult3 (v12 : BitVec 32) (v16 : BitVec 32) : BitVec 32 :=
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c256_i32 : BitVec 32 := 256#32
  let c0_i32_7 : BitVec 32 := 0#32
  let v23 : BitVec 1 := Scalar.cmpi .sgt c256_i32 c0_i32_7
  let v24 : BitVec 32 := Scalar.extui v23
  let c0_i32_8 : BitVec 32 := 0#32
  let v25 : BitVec 1 := Scalar.cmpi .slt c256_i32 c0_i32_8
  let v26 : BitVec 32 := Scalar.extui v25
  let v27 : BitVec 32 := Scalar.subi v24 v26
  let v28 : BitVec 1 := Scalar.cmpi .ne v22 v27
  let v29 : BitVec 32 := Scalar.remsi v16 c256_i32
  let c0_i32_9 : BitVec 32 := 0#32
  let v30 : BitVec 1 := Scalar.cmpi .ne v29 c0_i32_9
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let c256_i32_16 : BitVec 32 := 256#32
  let v41 : BitVec 32 := Scalar.muli v33 c256_i32_16
  let v42 : BitVec 32 := Scalar.addi v12 v41
  v42
def k0_cond3 (v16 : BitVec 32) : BitVec 1 :=
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c256_i32 : BitVec 32 := 256#32
  let c0_i32_7 : BitVec 32 := 0#32
  let v23 : BitVec 1 := Scalar.cmpi .sgt c256_i32 c0_i32_7
  let v24 : BitVec 32 := Scalar.extui v23
  let c0_i32_8 : BitVec 32 := 0#32
  let v25 : BitVec 1 := Scalar.cmpi .slt c256_i32 c0_i32_8
  let v26 : BitVec 32 := Scalar.extui v25
  let v27 : BitVec 32 := Scalar.subi v24 v26
  let v28 : BitVec 1 := Scalar.cmpi .ne v22 v27
  let v29 : BitVec 32 := Scalar.remsi v16 c256_i32
  let c0_i32_9 : BitVec 32 := 0#32
  let v30 : BitVec 1 := Scalar.cmpi .ne v29 c0_i32_9
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let c256_i32_15 : BitVec 32 := 256#32
  let v39 : BitVec 32 := Scalar.muli v33 c256_i32_15
  let v40 : BitVec 32 := Scalar.subi v16 v39
  let c128_i32 : BitVec 32 := 128#32
  let v43 : BitVec 1 := Scalar.cmpi .sgt v40 c128_i32
  let v44 : BitVec 32 := Scalar.extui v43
  let c0_i32_17 : BitVec 32 := 0#32
  let v45 : BitVec 1 := Scalar.cmpi .ne v44 c0_i32_17
  v45

def k0_off11 (v12 : BitVec 32) (v16 : BitVec 32) : Fin 2 → Nat :=
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c256_i32 : BitVec 32 := 256#32
  let c0_i32_7 : BitVec 32 := 0#32
  let v23 : BitVec 1 := Scalar.cmpi .sgt c256_i32 c0_i32_7
  let v24 : BitVec 32 := Scalar.extui v23
  let c0_i32_8 : BitVec 32 := 0#32
  let v25 : BitVec 1 := Scalar.cmpi .slt c256_i32 c0_i32_8
  let v26 : BitVec 32 := Scalar.extui v25
  let v27 : BitVec 32 := Scalar.subi v24 v26
  let v28 : BitVec 1 := Scalar.cmpi .ne v22 v27
  let v29 : BitVec 32 := Scalar.remsi v16 c256_i32
  let c0_i32_9 : BitVec 32 := 0#32
  let v30 : BitVec 1 := Scalar.cmpi .ne v29 c0_i32_9
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let c256_i32_16 : BitVec 32 := 256#32
  let v41 : BitVec 32 := Scalar.muli v33 c256_i32_16
  let v42 : BitVec 32 := Scalar.addi v12 v41
  let v54 : BitVec 32 := v42
  let v55 : Index := Scalar.indexCast v54
  let c0 : Index := 0#32
  ![v55.toNat, 0]
def k0_off12 (v12 : BitVec 32) (v16 : BitVec 32) : Fin 2 → Nat :=
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c256_i32 : BitVec 32 := 256#32
  let c0_i32_7 : BitVec 32 := 0#32
  let v23 : BitVec 1 := Scalar.cmpi .sgt c256_i32 c0_i32_7
  let v24 : BitVec 32 := Scalar.extui v23
  let c0_i32_8 : BitVec 32 := 0#32
  let v25 : BitVec 1 := Scalar.cmpi .slt c256_i32 c0_i32_8
  let v26 : BitVec 32 := Scalar.extui v25
  let v27 : BitVec 32 := Scalar.subi v24 v26
  let v28 : BitVec 1 := Scalar.cmpi .ne v22 v27
  let v29 : BitVec 32 := Scalar.remsi v16 c256_i32
  let c0_i32_9 : BitVec 32 := 0#32
  let v30 : BitVec 1 := Scalar.cmpi .ne v29 c0_i32_9
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let c256_i32_16 : BitVec 32 := 256#32
  let v41 : BitVec 32 := Scalar.muli v33 c256_i32_16
  let v42 : BitVec 32 := Scalar.addi v12 v41
  let v54 : BitVec 32 := v42
  let v58 : Index := Scalar.indexCast v54
  let c0_22 : Index := 0#32
  ![v58.toNat, 0]
def k0_mult4 (v12 : BitVec 32) (v16 : BitVec 32) : BitVec 32 :=
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c256_i32 : BitVec 32 := 256#32
  let c0_i32_7 : BitVec 32 := 0#32
  let v23 : BitVec 1 := Scalar.cmpi .sgt c256_i32 c0_i32_7
  let v24 : BitVec 32 := Scalar.extui v23
  let c0_i32_8 : BitVec 32 := 0#32
  let v25 : BitVec 1 := Scalar.cmpi .slt c256_i32 c0_i32_8
  let v26 : BitVec 32 := Scalar.extui v25
  let v27 : BitVec 32 := Scalar.subi v24 v26
  let v28 : BitVec 1 := Scalar.cmpi .ne v22 v27
  let v29 : BitVec 32 := Scalar.remsi v16 c256_i32
  let c0_i32_9 : BitVec 32 := 0#32
  let v30 : BitVec 1 := Scalar.cmpi .ne v29 c0_i32_9
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let c256_i32_16 : BitVec 32 := 256#32
  let v41 : BitVec 32 := Scalar.muli v33 c256_i32_16
  let v42 : BitVec 32 := Scalar.addi v12 v41
  v42
def k0_cond4 (v16 : BitVec 32) : BitVec 1 :=
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c256_i32 : BitVec 32 := 256#32
  let c0_i32_7 : BitVec 32 := 0#32
  let v23 : BitVec 1 := Scalar.cmpi .sgt c256_i32 c0_i32_7
  let v24 : BitVec 32 := Scalar.extui v23
  let c0_i32_8 : BitVec 32 := 0#32
  let v25 : BitVec 1 := Scalar.cmpi .slt c256_i32 c0_i32_8
  let v26 : BitVec 32 := Scalar.extui v25
  let v27 : BitVec 32 := Scalar.subi v24 v26
  let v28 : BitVec 1 := Scalar.cmpi .ne v22 v27
  let v29 : BitVec 32 := Scalar.remsi v16 c256_i32
  let c0_i32_9 : BitVec 32 := 0#32
  let v30 : BitVec 1 := Scalar.cmpi .ne v29 c0_i32_9
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let c256_i32_15 : BitVec 32 := 256#32
  let v39 : BitVec 32 := Scalar.muli v33 c256_i32_15
  let v40 : BitVec 32 := Scalar.subi v16 v39
  let c0_i32_18 : BitVec 32 := 0#32
  let v46 : BitVec 1 := Scalar.cmpi .sgt v40 c0_i32_18
  let c128_i32_19 : BitVec 32 := 128#32
  let v47 : BitVec 1 := Scalar.cmpi .sle v40 c128_i32_19
  let v48 : BitVec 1 := Scalar.andi v46 v47
  let v49 : BitVec 32 := Scalar.extui v48
  let c0_i32_20 : BitVec 32 := 0#32
  let v50 : BitVec 1 := Scalar.cmpi .ne v49 c0_i32_20
  v50

def k0_off13 (v12 : BitVec 32) (v16 : BitVec 32) : Fin 2 → Nat :=
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c256_i32 : BitVec 32 := 256#32
  let c0_i32_7 : BitVec 32 := 0#32
  let v23 : BitVec 1 := Scalar.cmpi .sgt c256_i32 c0_i32_7
  let v24 : BitVec 32 := Scalar.extui v23
  let c0_i32_8 : BitVec 32 := 0#32
  let v25 : BitVec 1 := Scalar.cmpi .slt c256_i32 c0_i32_8
  let v26 : BitVec 32 := Scalar.extui v25
  let v27 : BitVec 32 := Scalar.subi v24 v26
  let v28 : BitVec 1 := Scalar.cmpi .ne v22 v27
  let v29 : BitVec 32 := Scalar.remsi v16 c256_i32
  let c0_i32_9 : BitVec 32 := 0#32
  let v30 : BitVec 1 := Scalar.cmpi .ne v29 c0_i32_9
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let c256_i32_16 : BitVec 32 := 256#32
  let v41 : BitVec 32 := Scalar.muli v33 c256_i32_16
  let v42 : BitVec 32 := Scalar.addi v12 v41
  let v54 : BitVec 32 := v42
  let v55 : Index := Scalar.indexCast v54
  let c0 : Index := 0#32
  ![v55.toNat, 0]
def k0_off14 (v12 : BitVec 32) (v16 : BitVec 32) : Fin 2 → Nat :=
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c256_i32 : BitVec 32 := 256#32
  let c0_i32_7 : BitVec 32 := 0#32
  let v23 : BitVec 1 := Scalar.cmpi .sgt c256_i32 c0_i32_7
  let v24 : BitVec 32 := Scalar.extui v23
  let c0_i32_8 : BitVec 32 := 0#32
  let v25 : BitVec 1 := Scalar.cmpi .slt c256_i32 c0_i32_8
  let v26 : BitVec 32 := Scalar.extui v25
  let v27 : BitVec 32 := Scalar.subi v24 v26
  let v28 : BitVec 1 := Scalar.cmpi .ne v22 v27
  let v29 : BitVec 32 := Scalar.remsi v16 c256_i32
  let c0_i32_9 : BitVec 32 := 0#32
  let v30 : BitVec 1 := Scalar.cmpi .ne v29 c0_i32_9
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let c256_i32_16 : BitVec 32 := 256#32
  let v41 : BitVec 32 := Scalar.muli v33 c256_i32_16
  let v42 : BitVec 32 := Scalar.addi v12 v41
  let v54 : BitVec 32 := v42
  let v58 : Index := Scalar.indexCast v54
  let c0_22 : Index := 0#32
  ![v58.toNat, 0]

def k0_chk2 (v12 : BitVec 32) (v16 : BitVec 32) : Prop :=
  ((k0_t2_loop v16).OK) ∧
  (∀ k0_t2 : Fin (k0_t2_loop v16).trips, 8 ∣ (k0_mult1 v12 v16 k0_t2).toNat) ∧
  (∀ k0_t2 : Fin (k0_t2_loop v16).trips, ∀ a, (k0_off7 v12 v16 k0_t2) a + S256x1024.size a ≤ S1312x1024.size a) ∧
  (∀ k0_t2 : Fin (k0_t2_loop v16).trips, ∀ a, (k0_off8 v12 v16 k0_t2) a + S256x8.size a ≤ S1312x8.size a) ∧
  ((k0_t3_loop v16).OK) ∧
  (∀ k0_t3 : Fin (k0_t3_loop v16).trips, 8 ∣ (k0_mult2 v12 v16 k0_t3).toNat) ∧
  (∀ k0_t3 : Fin (k0_t3_loop v16).trips, ∀ a, (k0_off9 v12 v16 k0_t3) a + S256x1024.size a ≤ S1312x1024.size a) ∧
  (∀ k0_t3 : Fin (k0_t3_loop v16).trips, ∀ a, (k0_off10 v12 v16 k0_t3) a + S256x8.size a ≤ S1312x8.size a) ∧
  (∀ (k0_h3 : k0_cond3 v16 = 1#1), 8 ∣ (k0_mult3 v12 v16).toNat) ∧
  (∀ (k0_h3 : k0_cond3 v16 = 1#1), ∀ a, (k0_off11 v12 v16) a + S256x1024.size a ≤ S1312x1024.size a) ∧
  (∀ (k0_h3 : k0_cond3 v16 = 1#1), ∀ a, (k0_off12 v12 v16) a + S256x8.size a ≤ S1312x8.size a) ∧
  (∀ (k0_h4 : k0_cond4 v16 = 1#1), 8 ∣ (k0_mult4 v12 v16).toNat) ∧
  (∀ (k0_h4 : k0_cond4 v16 = 1#1), ∀ a, (k0_off13 v12 v16) a + S128x1024.size a ≤ S1312x1024.size a) ∧
  (∀ (k0_h4 : k0_cond4 v16 = 1#1), ∀ a, (k0_off14 v12 v16) a + S128x8.size a ≤ S1312x8.size a)
theorem k0_t2_ok : ∀ (v12 : BitVec 32) (v16 : BitVec 32) (k0_hw2 : k0_chk2 v12 v16), (k0_t2_loop v16).OK := fun v12 v16 k0_hw2 => k0_hw2.1
theorem k0_mult1_dvd : ∀ (v12 : BitVec 32) (v16 : BitVec 32) (k0_hw2 : k0_chk2 v12 v16) (k0_t2 : Fin (k0_t2_loop v16).trips), 8 ∣ (k0_mult1 v12 v16 k0_t2).toNat := fun v12 v16 k0_hw2 k0_t2 => k0_hw2.2.1 k0_t2
theorem k0_off7_inb : ∀ (v12 : BitVec 32) (v16 : BitVec 32) (k0_hw2 : k0_chk2 v12 v16) (k0_t2 : Fin (k0_t2_loop v16).trips), ∀ a, (k0_off7 v12 v16 k0_t2) a + S256x1024.size a ≤ S1312x1024.size a := fun v12 v16 k0_hw2 k0_t2 => k0_hw2.2.2.1 k0_t2
theorem k0_off8_inb : ∀ (v12 : BitVec 32) (v16 : BitVec 32) (k0_hw2 : k0_chk2 v12 v16) (k0_t2 : Fin (k0_t2_loop v16).trips), ∀ a, (k0_off8 v12 v16 k0_t2) a + S256x8.size a ≤ S1312x8.size a := fun v12 v16 k0_hw2 k0_t2 => k0_hw2.2.2.2.1 k0_t2
theorem k0_t3_ok : ∀ (v12 : BitVec 32) (v16 : BitVec 32) (k0_hw2 : k0_chk2 v12 v16), (k0_t3_loop v16).OK := fun v12 v16 k0_hw2 => k0_hw2.2.2.2.2.1
theorem k0_mult2_dvd : ∀ (v12 : BitVec 32) (v16 : BitVec 32) (k0_hw2 : k0_chk2 v12 v16) (k0_t3 : Fin (k0_t3_loop v16).trips), 8 ∣ (k0_mult2 v12 v16 k0_t3).toNat := fun v12 v16 k0_hw2 k0_t3 => k0_hw2.2.2.2.2.2.1 k0_t3
theorem k0_off9_inb : ∀ (v12 : BitVec 32) (v16 : BitVec 32) (k0_hw2 : k0_chk2 v12 v16) (k0_t3 : Fin (k0_t3_loop v16).trips), ∀ a, (k0_off9 v12 v16 k0_t3) a + S256x1024.size a ≤ S1312x1024.size a := fun v12 v16 k0_hw2 k0_t3 => k0_hw2.2.2.2.2.2.2.1 k0_t3
theorem k0_off10_inb : ∀ (v12 : BitVec 32) (v16 : BitVec 32) (k0_hw2 : k0_chk2 v12 v16) (k0_t3 : Fin (k0_t3_loop v16).trips), ∀ a, (k0_off10 v12 v16 k0_t3) a + S256x8.size a ≤ S1312x8.size a := fun v12 v16 k0_hw2 k0_t3 => k0_hw2.2.2.2.2.2.2.2.1 k0_t3
theorem k0_mult3_dvd : ∀ (v12 : BitVec 32) (v16 : BitVec 32) (k0_hw2 : k0_chk2 v12 v16), ∀ (k0_h3 : k0_cond3 v16 = 1#1), 8 ∣ (k0_mult3 v12 v16).toNat := fun v12 v16 k0_hw2 k0_h3 => k0_hw2.2.2.2.2.2.2.2.2.1 k0_h3
theorem k0_off11_inb : ∀ (v12 : BitVec 32) (v16 : BitVec 32) (k0_hw2 : k0_chk2 v12 v16), ∀ (k0_h3 : k0_cond3 v16 = 1#1), ∀ a, (k0_off11 v12 v16) a + S256x1024.size a ≤ S1312x1024.size a := fun v12 v16 k0_hw2 k0_h3 => k0_hw2.2.2.2.2.2.2.2.2.2.1 k0_h3
theorem k0_off12_inb : ∀ (v12 : BitVec 32) (v16 : BitVec 32) (k0_hw2 : k0_chk2 v12 v16), ∀ (k0_h3 : k0_cond3 v16 = 1#1), ∀ a, (k0_off12 v12 v16) a + S256x8.size a ≤ S1312x8.size a := fun v12 v16 k0_hw2 k0_h3 => k0_hw2.2.2.2.2.2.2.2.2.2.2.1 k0_h3
theorem k0_mult4_dvd : ∀ (v12 : BitVec 32) (v16 : BitVec 32) (k0_hw2 : k0_chk2 v12 v16), ∀ (k0_h4 : k0_cond4 v16 = 1#1), 8 ∣ (k0_mult4 v12 v16).toNat := fun v12 v16 k0_hw2 k0_h4 => k0_hw2.2.2.2.2.2.2.2.2.2.2.2.1 k0_h4
theorem k0_off13_inb : ∀ (v12 : BitVec 32) (v16 : BitVec 32) (k0_hw2 : k0_chk2 v12 v16), ∀ (k0_h4 : k0_cond4 v16 = 1#1), ∀ a, (k0_off13 v12 v16) a + S128x1024.size a ≤ S1312x1024.size a := fun v12 v16 k0_hw2 k0_h4 => k0_hw2.2.2.2.2.2.2.2.2.2.2.2.2.1 k0_h4
theorem k0_off14_inb : ∀ (v12 : BitVec 32) (v16 : BitVec 32) (k0_hw2 : k0_chk2 v12 v16), ∀ (k0_h4 : k0_cond4 v16 = 1#1), ∀ a, (k0_off14 v12 v16) a + S128x8.size a ≤ S1312x8.size a := fun v12 v16 k0_hw2 k0_h4 => k0_hw2.2.2.2.2.2.2.2.2.2.2.2.2.2 k0_h4

def k0_cond5 (i : grid0.Coords) : BitVec 1 :=
  let arg1 : BitVec 32 := BitVec.ofNat 32 (i 1).val
  let c3_i32 : BitVec 32 := 3#32
  let v51 : BitVec 1 := Scalar.cmpi .eq arg1 c3_i32
  let v52 : BitVec 32 := Scalar.extui v51
  let c0_i32_21 : BitVec 32 := 0#32
  let v53 : BitVec 1 := Scalar.cmpi .ne v52 c0_i32_21
  v53

@[reducible] def k0_t4_loop : Scf.Loop 32 :=
  let c0_i32_22 : BitVec 32 := 0#32
  let c1024_i32_23 : BitVec 32 := 1024#32
  let v54 : BitVec 32 := Scalar.addi c0_i32_22 c1024_i32_23
  let c1_i32_24 : BitVec 32 := 1#32
  ⟨c0_i32_22, v54, c1_i32_24⟩
def k0_off15 (i : grid0.Coords) (k0_t4 : Fin k0_t4_loop.trips) : Fin 1 → Nat :=
  let arg0 : BitVec 32 := BitVec.ofNat 32 (i 0).val
  let c1024_i32 : BitVec 32 := 1024#32
  let v0 : BitVec 32 := Scalar.muli arg0 c1024_i32
  let c0_i32_22 : BitVec 32 := 0#32
  let c1_i32_24 : BitVec 32 := 1#32
  let arg18 : BitVec 32 := Scf.iv c0_i32_22 c1_i32_24 k0_t4
  let v65 : BitVec 32 := Scalar.addi v0 arg18
  let v66 : Index := Scalar.indexCast v65
  ![v66.toNat]
def k0_off16 (v67 : BitVec 32) : Fin 2 → Nat :=
  let v68 : Index := Scalar.indexCast v67
  let c0_34 : Index := 0#32
  ![v68.toNat, 0]

def k0_chk3 (i : grid0.Coords) (v67 : BitVec 32) : Prop :=
  (∀ (k0_h5 : k0_cond5 i = 1#1), ∀ a, (k0_off16 v67) a + S1x1024.size a ≤ S1312x1024.size a)
theorem k0_off16_inb : ∀ (i : grid0.Coords) (v67 : BitVec 32) (k0_hw3 : k0_chk3 i v67), ∀ (k0_h5 : k0_cond5 i = 1#1), ∀ a, (k0_off16 v67) a + S1x1024.size a ≤ S1312x1024.size a := fun i v67 k0_hw3 k0_h5 => k0_hw3 k0_h5

def k0_off17 (k0_t4 : Fin k0_t4_loop.trips) : Fin 2 → Nat :=
  let c0_i32_22 : BitVec 32 := 0#32
  let c1_i32_24 : BitVec 32 := 1#32
  let arg18 : BitVec 32 := Scf.iv c0_i32_22 c1_i32_24 k0_t4
  let v70 : Index := Scalar.indexCast arg18
  let c0_35 : Index := 0#32
  ![v70.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8x2048x1024 : Shape := ⟨3, ![8, 2048, 1024]⟩
abbrev S8x6144 : Shape := ⟨2, ![8, 6144]⟩
abbrev S1024 : Shape := ⟨1, ![1024]⟩
abbrev S8x16384 : Shape := ⟨2, ![8, 16384]⟩
abbrev S16x1024x256 : Shape := ⟨3, ![16, 1024, 256]⟩
abbrev S16x256x1024 : Shape := ⟨3, ![16, 256, 1024]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩
abbrev S1x16384 : Shape := ⟨2, ![1, 16384]⟩
abbrev S16384 : Shape := ⟨1, ![16384]⟩
abbrev S16384x1 : Shape := ⟨2, ![16384, 1]⟩
abbrev S1x4 : Shape := ⟨2, ![1, 4]⟩
abbrev S16384x4 : Shape := ⟨2, ![16384, 4]⟩
abbrev S16384x4x1 : Shape := ⟨3, ![16384, 4, 1]⟩
abbrev S4x16384 : Shape := ⟨2, ![4, 16384]⟩
abbrev S16384x1x4 : Shape := ⟨3, ![16384, 1, 4]⟩
abbrev S16384x4x4 : Shape := ⟨3, ![16384, 4, 4]⟩
abbrev S16384x16 : Shape := ⟨2, ![16384, 16]⟩
abbrev S16384x16x256 : Shape := ⟨3, ![16384, 16, 256]⟩
abbrev S16384x16x1 : Shape := ⟨3, ![16384, 16, 1]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S8x16384, .f32⟩
  | .hbm, ⟨4, _⟩ => ⟨S16x1024x256, .f32⟩
  | .hbm, ⟨5, _⟩ => ⟨S16x1024x256, .f32⟩
  | .hbm, ⟨6, _⟩ => ⟨S16x256x1024, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S16384x1024, .f32⟩
  | .hbm, ⟨38, _⟩ => ⟨S1x16384, .f32⟩
  | .hbm, ⟨39, _⟩ => ⟨S16384, .f32⟩
  | .hbm, ⟨40, _⟩ => ⟨S16384, .i32⟩
  | .hbm, ⟨41, _⟩ => ⟨S16384x1, .i32⟩
  | .hbm, ⟨42, _⟩ => ⟨S1x4, .i32⟩
  | .hbm, ⟨43, _⟩ => ⟨S16384x4, .i32⟩
  | .hbm, ⟨44, _⟩ => ⟨S16384x4, .i32⟩
  | .hbm, ⟨45, _⟩ => ⟨S16384x4, .i1⟩
  | .hbm, ⟨46, _⟩ => ⟨S16384x4, .f32⟩
  | .hbm, ⟨47, _⟩ => ⟨S16384x4x1, .f32⟩
  | .hbm, ⟨48, _⟩ => ⟨S4x16384, .f32⟩
  | .hbm, ⟨49, _⟩ => ⟨S16384x4, .f32⟩
  | .hbm, ⟨50, _⟩ => ⟨S16384x1x4, .f32⟩
  | .hbm, ⟨51, _⟩ => ⟨S16384x4x4, .f32⟩
  | .hbm, ⟨52, _⟩ => ⟨S16384x4x4, .f32⟩
  | .hbm, ⟨53, _⟩ => ⟨S16384x4x4, .f32⟩
  | .hbm, ⟨54, _⟩ => ⟨S16384x16, .f32⟩
  | .hbm, ⟨55, _⟩ => ⟨S16384x16x256, .f32⟩
  | .hbm, ⟨56, _⟩ => ⟨S16384x16x256, .f32⟩
  | .hbm, ⟨57, _⟩ => ⟨S16384x16x256, .f32⟩
  | .hbm, ⟨58, _⟩ => ⟨S_, .f32⟩
  | .hbm, ⟨59, _⟩ => ⟨S16384x16x256, .f32⟩
  | .hbm, ⟨60, _⟩ => ⟨S16384x16x256, .f32⟩
  | .hbm, ⟨61, _⟩ => ⟨S_, .f32⟩
  | .hbm, ⟨62, _⟩ => ⟨S16384x16x256, .f32⟩
  | .hbm, ⟨63, _⟩ => ⟨S16384x16x256, .f32⟩
  | .hbm, ⟨64, _⟩ => ⟨S16384x16x256, .f32⟩
  | .hbm, ⟨65, _⟩ => ⟨S16384x16x256, .f32⟩
  | .hbm, ⟨66, _⟩ => ⟨S16384x16x256, .f32⟩
  | .hbm, ⟨67, _⟩ => ⟨S16384x16x1, .f32⟩
  | .hbm, ⟨68, _⟩ => ⟨S16384x16x256, .f32⟩
  | .hbm, ⟨69, _⟩ => ⟨S16384x16x256, .f32⟩
  | .hbm, ⟨70, _⟩ => ⟨S16384x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S8x2048x1024, .f32⟩
  | .hbm, ⟨75, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x6144 : Shape := ⟨2, ![8, 6144]⟩
abbrev S1024 : Shape := ⟨1, ![1024]⟩
abbrev S1024x1864 : Shape := ⟨2, ![1024, 1864]⟩
abbrev S64 : Shape := ⟨1, ![64]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x56 : Shape := ⟨2, ![2048, 56]⟩
abbrev S2048x128 : Shape := ⟨2, ![2048, 128]⟩
abbrev S1x2048x128 : Shape := ⟨3, ![1, 2048, 128]⟩
abbrev S6x2048x128 : Shape := ⟨3, ![6, 2048, 128]⟩
abbrev S1024x1920 : Shape := ⟨2, ![1024, 1920]⟩
abbrev S16384x1024 : Shape := ⟨2, ![16384, 1024]⟩
abbrev S8x1x6144 : Shape := ⟨3, ![8, 1, 6144]⟩
abbrev S1x1024 : Shape := ⟨2, ![1, 1024]⟩
abbrev S1x64 : Shape := ⟨2, ![1, 64]⟩
abbrev S8x64 : Shape := ⟨2, ![8, 64]⟩
abbrev S2x64 : Shape := ⟨2, ![2, 64]⟩
abbrev S128 : Shape := ⟨1, ![128]⟩
abbrev S1x128 : Shape := ⟨2, ![1, 128]⟩
abbrev S16384x512 : Shape := ⟨2, ![16384, 512]⟩
abbrev S16384x128 : Shape := ⟨2, ![16384, 128]⟩
abbrev S8x128x2048 : Shape := ⟨3, ![8, 128, 2048]⟩
abbrev S512x1024 : Shape := ⟨2, ![512, 1024]⟩
abbrev S1x1x1024 : Shape := ⟨3, ![1, 1, 1024]⟩
abbrev S6x512x128 : Shape := ⟨3, ![6, 512, 128]⟩
abbrev S512x128 : Shape := ⟨2, ![512, 128]⟩
abbrev S1x128x512 : Shape := ⟨3, ![1, 128, 512]⟩
abbrev S512x1920 : Shape := ⟨2, ![512, 1920]⟩
abbrev S1x512x128 : Shape := ⟨3, ![1, 512, 128]⟩
abbrev S128x128 : Shape := ⟨2, ![128, 128]⟩
abbrev S128x512 : Shape := ⟨2, ![128, 512]⟩
abbrev S8x2048x512 : Shape := ⟨3, ![8, 2048, 512]⟩
abbrev S8x2048x8x64 : Shape := ⟨4, ![8, 2048, 8, 64]⟩
abbrev S8x2048x2x64 : Shape := ⟨4, ![8, 2048, 2, 64]⟩
abbrev S16384x64 : Shape := ⟨2, ![16384, 64]⟩
abbrev S8x2048x64 : Shape := ⟨3, ![8, 2048, 64]⟩
abbrev S16384x8 : Shape := ⟨2, ![16384, 8]⟩
abbrev S8x2048x8 : Shape := ⟨3, ![8, 2048, 8]⟩

abbrev nBuf : Space → Nat
  | .hbm => 116
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x1864, .f32⟩
  | .hbm, ⟨4, _⟩ => ⟨S64, .f32⟩
  | .hbm, ⟨5, _⟩ => ⟨S64, .f32⟩
  | .hbm, ⟨6, _⟩ => ⟨S512, .i32⟩
  | .hbm, ⟨7, _⟩ => ⟨S_, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S512x1, .i32⟩
  | .hbm, ⟨26, _⟩ => ⟨S1x512, .i32⟩
  | .hbm, ⟨27, _⟩ => ⟨S512x512, .i32⟩
  | .hbm, ⟨28, _⟩ => ⟨S512x512, .i32⟩
  | .hbm, ⟨29, _⟩ => ⟨S512x512, .i1⟩
  | .hbm, ⟨30, _⟩ => ⟨S_, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S512x512, .bf16⟩
  | .hbm, ⟨36, _⟩ => ⟨S2048, .i32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S2048, .f32⟩
  | .hbm, ⟨46, _⟩ => ⟨S2048x1, .f32⟩
  | .hbm, ⟨47, _⟩ => ⟨S1x8, .f32⟩
  | .hbm, ⟨48, _⟩ => ⟨S2048x8, .f32⟩
  | .hbm, ⟨49, _⟩ => ⟨S2048x8, .f32⟩
  | .hbm, ⟨50, _⟩ => ⟨S2048x8, .f32⟩
  | .hbm, ⟨51, _⟩ => ⟨S2048x8, .f32⟩
  | .hbm, ⟨52, _⟩ => ⟨S2048x8, .f32⟩
  | .hbm, ⟨53, _⟩ => ⟨S_, .f32⟩
  | .hbm, ⟨54, _⟩ => ⟨S2048x8, .f32⟩
  | .hbm, ⟨55, _⟩ => ⟨S_, .f32⟩
  | .hbm, ⟨56, _⟩ => ⟨S2048x48, .f32⟩
  | .hbm, ⟨57, _⟩ => ⟨S_, .f32⟩
  | .hbm, ⟨58, _⟩ => ⟨S2048x48, .f32⟩
  | .hbm, ⟨59, _⟩ => ⟨S2048x64, .f32⟩
  | .hbm, ⟨60, _⟩ => ⟨S2048x8, .f32⟩
  | .hbm, ⟨61, _⟩ => ⟨S2048x64, .f32⟩
  | .hbm, ⟨62, _⟩ => ⟨S2048x64, .f32⟩
  | .hbm, ⟨63, _⟩ => ⟨S_, .f32⟩
  | .hbm, ⟨64, _⟩ => ⟨S2048x64, .f32⟩
  | .hbm, ⟨65, _⟩ => ⟨S_, .f32⟩
  | .hbm, ⟨66, _⟩ => ⟨S2048x8, .f32⟩
  | .hbm, ⟨67, _⟩ => ⟨S_, .f32⟩
  | .hbm, ⟨68, _⟩ => ⟨S2048x56, .f32⟩
  | .hbm, ⟨69, _⟩ => ⟨S2048x64, .f32⟩
  | .hbm, ⟨70, _⟩ => ⟨S2048x128, .f32⟩
  | .hbm, ⟨71, _⟩ => ⟨S2048x128, .f32⟩
  | .hbm, ⟨72, _⟩ => ⟨S2048x128, .f32⟩
  | .hbm, ⟨73, _⟩ => ⟨S2048x128, .f32⟩
  | .hbm, ⟨74, _⟩ => ⟨S2048x128, .f32⟩
  | .hbm, ⟨75, _⟩ => ⟨S2048x128, .f32⟩
  | .hbm, ⟨76, _⟩ => ⟨S1x2048x128, .f32⟩
  | .hbm, ⟨77, _⟩ => ⟨S1x2048x128, .f32⟩
  | .hbm, ⟨78, _⟩ => ⟨S1x2048x128, .f32⟩
  | .hbm, ⟨79, _⟩ => ⟨S1x2048x128, .f32⟩
  | .hbm, ⟨80, _⟩ => ⟨S1x2048x128, .f32⟩
  | .hbm, ⟨81, _⟩ => ⟨S1x2048x128, .f32⟩
  | .hbm, ⟨82, _⟩ => ⟨S6x2048x128, .f32⟩
  | .hbm, ⟨83, _⟩ => ⟨S_, .i32⟩
  | .hbm, ⟨84, _⟩ => ⟨S_, .f32⟩
  | .hbm, ⟨85, _⟩ => ⟨S1024x1920, .f32⟩
  | .hbm, ⟨86, _⟩ => ⟨S1024x1920, .bf16⟩
  | .hbm, ⟨87, _⟩ => ⟨S16384x1024, .f32⟩
  | .hbm, ⟨88, _⟩ => ⟨S8x1x6144, .f32⟩
  | .hbm, ⟨89, _⟩ => ⟨S1x1024, .f32⟩
  | .hbm, ⟨90, _⟩ => ⟨S1x64, .f32⟩
  | .hbm, ⟨91, _⟩ => ⟨S8x64, .f32⟩
  | .hbm, ⟨92, _⟩ => ⟨S512, .f32⟩
  | .hbm, ⟨93, _⟩ => ⟨S1x512, .f32⟩
  | .hbm, ⟨94, _⟩ => ⟨S1x64, .f32⟩
  | .hbm, ⟨95, _⟩ => ⟨S2x64, .f32⟩
  | .hbm, ⟨96, _⟩ => ⟨S128, .f32⟩
  | .hbm, ⟨97, _⟩ => ⟨S1x128, .f32⟩
  | .hbm, ⟨98, _⟩ => ⟨S16384x512, .f32⟩
  | .hbm, ⟨99, _⟩ => ⟨S16384x512, .bf16⟩
  | .hbm, ⟨100, _⟩ => ⟨S16384x128, .f32⟩
  | .hbm, ⟨101, _⟩ => ⟨S16384x128, .f32⟩
  | .hbm, ⟨102, _⟩ => ⟨S16384x512, .bf16⟩
  | .hbm, ⟨103, _⟩ => ⟨S16384x128, .f32⟩
  | .hbm, ⟨104, _⟩ => ⟨S16384x128, .bf16⟩
  | .hbm, ⟨105, _⟩ => ⟨S16384x128, .bf16⟩
  | .hbm, ⟨106, _⟩ => ⟨S8x128x2048, .bf16⟩
  | .hbm, ⟨107, _⟩ => ⟨S8x2048x512, .f32⟩
  | .hbm, ⟨108, _⟩ => ⟨S8x2048x8x64, .bf16⟩
  | .hbm, ⟨109, _⟩ => ⟨S8x2048x2x64, .f32⟩
  | .hbm, ⟨110, _⟩ => ⟨S8x2048x2x64, .f32⟩
  | .hbm, ⟨111, _⟩ => ⟨S8x2048x8x64, .bf16⟩
  | .hbm, ⟨112, _⟩ => ⟨S16384x64, .f32⟩
  | .hbm, ⟨113, _⟩ => ⟨S8x2048x64, .f32⟩
  | .hbm, ⟨114, _⟩ => ⟨S16384x8, .f32⟩
  | .hbm, ⟨115, _⟩ => ⟨S8x2048x8, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1920, .bf16⟩
  | .local _ .vmem, ⟨8, _⟩ => ⟨S1x512, .f32⟩
  | .local _ .vmem, ⟨9, _⟩ => ⟨S1x128, .f32⟩
  | .local _ .vmem, ⟨10, _⟩ => ⟨S512x512, .bf16⟩
  | .local _ .vmem, ⟨11, _⟩ => ⟨S6x512x128, .f32⟩
  | .local _ .vmem, ⟨12, _⟩ => ⟨S6x512x128, .f32⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x512, .bf16⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x512, .bf16⟩
  | .local _ .vmem, ⟨22, _⟩ => ⟨S512x512, .bf16⟩
  | .local _ .vmem, ⟨23, _⟩ => ⟨S512x128, .f32⟩
  | .local _ .vmem, ⟨24, _⟩ => ⟨S512x128, .f32⟩
  | .local _ .vmem, ⟨25, _⟩ => ⟨S512x128, .bf16⟩
  | .local _ .vmem, ⟨26, _⟩ => ⟨S512x128, .bf16⟩
  | .local _ .vmem, ⟨27, _⟩ => ⟨S512x128, .bf16⟩
  | .local _ .vmem, ⟨28, _⟩ => ⟨S512x128, .bf16⟩
  | .local _ .vmem, ⟨29, _⟩ => ⟨S1x128x512, .bf16⟩
  | .local _ .vmem, ⟨30, _⟩ => ⟨S1x128x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_1 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_3 : Ref sig .tc := ⟨.hbm, 53, rfl⟩
abbrev main_v24 : Ref sig .tc := ⟨.hbm, 54, rfl⟩
abbrev main_cst_4 : Ref sig .tc := ⟨.hbm, 55, rfl⟩
abbrev main_v25 : Ref sig .tc := ⟨.hbm, 56, rfl⟩
abbrev main_cst_5 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_6 : Ref sig .tc := ⟨.hbm, 63, rfl⟩
abbrev main_v31 : Ref sig .tc := ⟨.hbm, 64, rfl⟩
abbrev main_cst_7 : Ref sig .tc := ⟨.hbm, 65, rfl⟩
abbrev main_v32 : Ref sig .tc := ⟨.hbm, 66, rfl⟩
abbrev main_cst_8 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_9 : Ref sig .tc := ⟨.hbm, 83, rfl⟩
abbrev main_call2_v0 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61_0 : Ref sig .tc := ⟨.hbm, 98, rfl⟩
abbrev main_v61_1 : Ref sig .tc := ⟨.hbm, 99, rfl⟩
abbrev main_v61_2 : Ref sig .tc := ⟨.hbm, 100, rfl⟩
abbrev main_v61_3 : Ref sig .tc := ⟨.hbm, 101, rfl⟩
abbrev main_v61_4 : Ref sig .tc := ⟨.hbm, 102, rfl⟩
abbrev main_v61_5 : Ref sig .tc := ⟨.hbm, 103, rfl⟩
abbrev main_v61_6 : Ref sig .tc := ⟨.hbm, 104, rfl⟩
abbrev main_v61_7 : Ref sig .tc := ⟨.hbm, 105, rfl⟩
abbrev main_v61_8 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S6x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S8x2048x1024 : Shape := ⟨3, ![8, 2048, 1024]⟩
abbrev S8x6144 : Shape := ⟨2, ![8, 6144]⟩
abbrev S1024 : Shape := ⟨1, ![1024]⟩
abbrev S1024x1864 : Shape := ⟨2, ![1024, 1864]⟩
abbrev S64 : Shape := ⟨1, ![64]⟩
abbrev S2048 : Shape := ⟨1, ![2048]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x1864 : Shape := ⟨3, ![8, 2048, 1864]⟩
abbrev S8x2048x512 : Shape := ⟨3, ![8, 2048, 512]⟩
abbrev S8x2048x128 : Shape := ⟨3, ![8, 2048, 128]⟩
abbrev S8x2048x64 : Shape := ⟨3, ![8, 2048, 64]⟩
abbrev S8x2048x8 : Shape := ⟨3, ![8, 2048, 8]⟩
abbrev S8x2048x8x64 : Shape := ⟨4, ![8, 2048, 8, 64]⟩
abbrev S8x2048x8x1 : Shape := ⟨4, ![8, 2048, 8, 1]⟩
abbrev S1x1x1x64 : Shape := ⟨4, ![1, 1, 1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S8x2048x8x16 : Shape := ⟨4, ![8, 2048, 8, 16]⟩
abbrev S8x2048x8x8 : Shape := ⟨4, ![8, 2048, 8, 8]⟩
abbrev S8x2048x8x48 : Shape := ⟨4, ![8, 2048, 8, 48]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S8x2048x2x16 : Shape := ⟨4, ![8, 2048, 2, 16]⟩
abbrev S8x2048x2x8 : Shape := ⟨4, ![8, 2048, 2, 8]⟩
abbrev S8x2048x2x48 : Shape := ⟨4, ![8, 2048, 2, 48]⟩
abbrev S8x2048x1x64 : Shape := ⟨4, ![8, 2048, 1, 64]⟩
abbrev S8x2048x1x16 : Shape := ⟨4, ![8, 2048, 1, 16]⟩
abbrev S8x2048x1x8 : Shape := ⟨4, ![8, 2048, 1, 8]⟩
abbrev S8x2048x1x48 : Shape := ⟨4, ![8, 2048, 1, 48]⟩

abbrev nBuf : Space → Nat
  | .hbm => 230
  | .vmem => 0
  | .smem => 0
  | _ => 0

abbrev hbmTy0_0 (i : Nat) : BufTy := match i % 128 with
  | 0 => ⟨S8x2048x1024, .f32⟩
  | 1 => ⟨S8x6144, .f32⟩
  | 2 => ⟨S1024, .f32⟩
  | 3 => ⟨S1024x1864, .f32⟩
  | 4 => ⟨S64, .f32⟩
  | 5 => ⟨S64, .f32⟩
  | 6 => ⟨S2048, .i32⟩
  | 7 => ⟨S8x1x6144, .f32⟩
  | 8 => ⟨S8x1x1024, .f32⟩
  | 9 => ⟨S8x1x1024, .f32⟩
  | 10 => ⟨S8x1x1024, .f32⟩
  | 11 => ⟨S8x1x1024, .f32⟩
  | 12 => ⟨S8x1x1024, .f32⟩
  | 13 => ⟨S8x1x1024, .f32⟩
  | 14 => ⟨S8x2048x1024, .f32⟩
  | 15 => ⟨S_, .f32⟩
  | 16 => ⟨S8x2048, .f32⟩
  | 17 => ⟨S8x2048x1, .f32⟩
  | 18 => ⟨S_, .f32⟩
  | 19 => ⟨S8x2048x1, .f32⟩
  | 20 => ⟨S8x2048x1, .f32⟩
  | 21 => ⟨S_, .f32⟩
  | 22 => ⟨S8x2048x1, .f32⟩
  | 23 => ⟨S8x2048x1, .f32⟩
  | 24 => ⟨S8x2048x1, .f32⟩
  | 25 => ⟨S8x2048x1024, .f32⟩
  | 26 => ⟨S8x2048x1024, .f32⟩
  | 27 => ⟨S1x1x1024, .f32⟩
  | 28 => ⟨S8x2048x1024, .f32⟩
  | 29 => ⟨S8x2048x1024, .f32⟩
  | 30 => ⟨S_, .f32⟩
  | 31 => ⟨S8x1x1024, .f32⟩
  | 32 => ⟨S8x1x1024, .f32⟩
  | 33 => ⟨S8x2048x1024, .f32⟩
  | 34 => ⟨S8x2048x1024, .f32⟩
  | 35 => ⟨S8x2048x1024, .f32⟩
  | 36 => ⟨S8x2048x1024, .f32⟩
  | 37 => ⟨S8x2048x1864, .f32⟩
  | 38 => ⟨S8x2048x512, .f32⟩
  | 39 => ⟨S8x2048x512, .f32⟩
  | 40 => ⟨S8x2048x128, .f32⟩
  | 41 => ⟨S8x2048x128, .f32⟩
  | 42 => ⟨S8x2048x512, .f32⟩
  | 43 => ⟨S8x2048x64, .f32⟩
  | 44 => ⟨S8x2048x8, .f32⟩
  | 45 => ⟨S8x2048x8x64, .f32⟩
  | 46 => ⟨S8x2048x8x64, .f32⟩
  | 47 => ⟨S_, .f32⟩
  | 48 => ⟨S8x2048x8, .f32⟩
  | 49 => ⟨S8x2048x8x1, .f32⟩
  | 50 => ⟨S_, .f32⟩
  | 51 => ⟨S8x2048x8x1, .f32⟩
  | 52 => ⟨S8x2048x8x1, .f32⟩
  | 53 => ⟨S_, .f32⟩
  | 54 => ⟨S8x2048x8x1, .f32⟩
  | 55 => ⟨S8x2048x8x1, .f32⟩
  | 56 => ⟨S8x2048x8x1, .f32⟩
  | 57 => ⟨S8x2048x8x64, .f32⟩
  | 58 => ⟨S8x2048x8x64, .f32⟩
  | 59 => ⟨S1x1x1x64, .f32⟩
  | 60 => ⟨S8x2048x8x64, .f32⟩
  | 61 => ⟨S8x2048x8x64, .f32⟩
  | 62 => ⟨S8, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S2048, .f32⟩
  | 71 => ⟨S2048x1, .f32⟩
  | 72 => ⟨S1x8, .f32⟩
  | 73 => ⟨S2048x8, .f32⟩
  | 74 => ⟨S2048x8, .f32⟩
  | 75 => ⟨S2048x8, .f32⟩
  | 76 => ⟨S2048x8, .f32⟩
  | 77 => ⟨S1x2048x1x8, .f32⟩
  | 78 => ⟨S2048x8, .f32⟩
  | 79 => ⟨S1x2048x1x8, .f32⟩
  | 80 => ⟨S8x2048x8x16, .f32⟩
  | 81 => ⟨S8x2048x8x8, .f32⟩
  | 82 => ⟨S8x2048x8x8, .f32⟩
  | 83 => ⟨S8x2048x8x8, .f32⟩
  | 84 => ⟨S8x2048x8x8, .f32⟩
  | 85 => ⟨S8x2048x8x8, .f32⟩
  | 86 => ⟨S8x2048x8x8, .f32⟩
  | 87 => ⟨S8x2048x8x8, .f32⟩
  | 88 => ⟨S8x2048x8x8, .f32⟩
  | 89 => ⟨S8x2048x8x8, .f32⟩
  | 90 => ⟨S8x2048x8x8, .f32⟩
  | 91 => ⟨S8x2048x8x8, .f32⟩
  | 92 => ⟨S8x2048x8x8, .f32⟩
  | 93 => ⟨S8x2048x8x16, .f32⟩
  | 94 => ⟨S8x2048x8x48, .f32⟩
  | 95 => ⟨S8x2048x8x64, .f32⟩
  | 96 => ⟨S8x2048x2x64, .f32⟩
  | 97 => ⟨S8x2048x2x64, .f32⟩
  | 98 => ⟨S_, .f32⟩
  | 99 => ⟨S8x2048x2, .f32⟩
  | 100 => ⟨S8x2048x2x1, .f32⟩
  | 101 => ⟨S_, .f32⟩
  | 102 => ⟨S8x2048x2x1, .f32⟩
  | 103 => ⟨S8x2048x2x1, .f32⟩
  | 104 => ⟨S_, .f32⟩
  | 105 => ⟨S8x2048x2x1, .f32⟩
  | 106 => ⟨S8x2048x2x1, .f32⟩
  | 107 => ⟨S8x2048x2x1, .f32⟩
  | 108 => ⟨S8x2048x2x64, .f32⟩
  | 109 => ⟨S8x2048x2x64, .f32⟩
  | 110 => ⟨S1x1x1x64, .f32⟩
  | 111 => ⟨S8x2048x2x64, .f32⟩
  | 112 => ⟨S8x2048x2x64, .f32⟩
  | 113 => ⟨S8, .f32⟩
  | 114 => ⟨S8, .f32⟩
  | 115 => ⟨S_, .f32⟩
  | 116 => ⟨S8, .f32⟩
  | 117 => ⟨S8, .f32⟩
  | 118 => ⟨S_, .f32⟩
  | 119 => ⟨S8, .f32⟩
  | 120 => ⟨S8, .f32⟩
  | 121 => ⟨S2048, .f32⟩
  | 122 => ⟨S2048x1, .f32⟩
  | 123 => ⟨S1x8, .f32⟩
  | 124 => ⟨S2048x8, .f32⟩
  | 125 => ⟨S2048x8, .f32⟩
  | 126 => ⟨S2048x8, .f32⟩
  | 127 => ⟨S2048x8, .f32⟩
  | _ => ⟨S8x2048x1024, .f32⟩

abbrev hbmTy0_1 (i : Nat) : BufTy := match i % 128 with
  | 0 => ⟨S1x2048x1x8, .f32⟩
  | 1 => ⟨S2048x8, .f32⟩
  | 2 => ⟨S1x2048x1x8, .f32⟩
  | 3 => ⟨S8x2048x2x16, .f32⟩
  | 4 => ⟨S8x2048x2x8, .f32⟩
  | 5 => ⟨S8x2048x2x8, .f32⟩
  | 6 => ⟨S8x2048x2x8, .f32⟩
  | 7 => ⟨S8x2048x2x8, .f32⟩
  | 8 => ⟨S8x2048x2x8, .f32⟩
  | 9 => ⟨S8x2048x2x8, .f32⟩
  | 10 => ⟨S8x2048x2x8, .f32⟩
  | 11 => ⟨S8x2048x2x8, .f32⟩
  | 12 => ⟨S8x2048x2x8, .f32⟩
  | 13 => ⟨S8x2048x2x8, .f32⟩
  | 14 => ⟨S8x2048x2x8, .f32⟩
  | 15 => ⟨S8x2048x2x8, .f32⟩
  | 16 => ⟨S8x2048x2x16, .f32⟩
  | 17 => ⟨S8x2048x2x48, .f32⟩
  | 18 => ⟨S8x2048x2x64, .f32⟩
  | 19 => ⟨S8x2048x2x64, .f32⟩
  | 20 => ⟨S8x2048x8x64, .f32⟩
  | 21 => ⟨S8, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S2048, .f32⟩
  | 30 => ⟨S2048x1, .f32⟩
  | 31 => ⟨S1x8, .f32⟩
  | 32 => ⟨S2048x8, .f32⟩
  | 33 => ⟨S2048x8, .f32⟩
  | 34 => ⟨S2048x8, .f32⟩
  | 35 => ⟨S2048x8, .f32⟩
  | 36 => ⟨S1x2048x1x8, .f32⟩
  | 37 => ⟨S2048x8, .f32⟩
  | 38 => ⟨S1x2048x1x8, .f32⟩
  | 39 => ⟨S8x2048x8x16, .f32⟩
  | 40 => ⟨S8x2048x8x8, .f32⟩
  | 41 => ⟨S8x2048x8x8, .f32⟩
  | 42 => ⟨S8x2048x8x8, .f32⟩
  | 43 => ⟨S8x2048x8x8, .f32⟩
  | 44 => ⟨S8x2048x8x8, .f32⟩
  | 45 => ⟨S8x2048x8x8, .f32⟩
  | 46 => ⟨S8x2048x8x8, .f32⟩
  | 47 => ⟨S8x2048x8x8, .f32⟩
  | 48 => ⟨S8x2048x8x8, .f32⟩
  | 49 => ⟨S8x2048x8x8, .f32⟩
  | 50 => ⟨S8x2048x8x8, .f32⟩
  | 51 => ⟨S8x2048x8x8, .f32⟩
  | 52 => ⟨S8x2048x8x16, .f32⟩
  | 53 => ⟨S8x2048x8x48, .f32⟩
  | 54 => ⟨S8x2048x8x64, .f32⟩
  | 55 => ⟨S8x2048x1x64, .f32⟩
  | 56 => ⟨S8, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S2048, .f32⟩
  | 65 => ⟨S2048x1, .f32⟩
  | 66 => ⟨S1x8, .f32⟩
  | 67 => ⟨S2048x8, .f32⟩
  | 68 => ⟨S2048x8, .f32⟩
  | 69 => ⟨S2048x8, .f32⟩
  | 70 => ⟨S2048x8, .f32⟩
  | 71 => ⟨S1x2048x1x8, .f32⟩
  | 72 => ⟨S2048x8, .f32⟩
  | 73 => ⟨S1x2048x1x8, .f32⟩
  | 74 => ⟨S8x2048x1x16, .f32⟩
  | 75 => ⟨S8x2048x1x8, .f32⟩
  | 76 => ⟨S8x2048x1x8, .f32⟩
  | 77 => ⟨S8x2048x1x8, .f32⟩
  | 78 => ⟨S8x2048x1x8, .f32⟩
  | 79 => ⟨S8x2048x1x8, .f32⟩
  | 80 => ⟨S8x2048x1x8, .f32⟩
  | 81 => ⟨S8x2048x1x8, .f32⟩
  | 82 => ⟨S8x2048x1x8, .f32⟩
  | 83 => ⟨S8x2048x1x8, .f32⟩
  | 84 => ⟨S8x2048x1x8, .f32⟩
  | 85 => ⟨S8x2048x1x8, .f32⟩
  | 86 => ⟨S8x2048x1x8, .f32⟩
  | 87 => ⟨S8x2048x1x16, .f32⟩
  | 88 => ⟨S8x2048x1x48, .f32⟩
  | 89 => ⟨S8x2048x1x64, .f32⟩
  | 90 => ⟨S8x2048x64, .f32⟩
  | 91 => ⟨S_, .f32⟩
  | 92 => ⟨S8x2048x8, .f32⟩
  | 93 => ⟨S8x2048x8, .f32⟩
  | 94 => ⟨S_, .f32⟩
  | 95 => ⟨S8x2048x8x64, .f32⟩
  | 96 => ⟨S8x2048x8x64, .f32⟩
  | 97 => ⟨S8x2048x8x64, .bf16⟩
  | 98 => ⟨S_, .f32⟩
  | 99 => ⟨S8x2048x8x64, .f32⟩
  | 100 => ⟨S8x2048x8x64, .f32⟩
  | 101 => ⟨S8x2048x8x64, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_8 : Ref sig .tc := ⟨.hbm, 98, rfl⟩
abbrev main_v83 : Ref sig .tc := ⟨.hbm, 99, rfl⟩
abbrev main_v84 : Ref sig .tc := ⟨.hbm, 100, rfl⟩
abbrev main_cst_9 : Ref sig .tc := ⟨.hbm, 101, rfl⟩
abbrev main_v85 : Ref sig .tc := ⟨.hbm, 102, rfl⟩
abbrev main_v86 : Ref sig .tc := ⟨.hbm, 103, rfl⟩
abbrev main_cst_10 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_11 : Ref sig .tc := ⟨.hbm, 115, rfl⟩
abbrev main_v97 : Ref sig .tc := ⟨.hbm, 116, rfl⟩
abbrev main_v98 : Ref sig .tc := ⟨.hbm, 117, rfl⟩
abbrev main_cst_12 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_cst_13 : Ref sig .tc := ⟨.hbm, 151, rfl⟩
abbrev main_v131 : Ref sig .tc := ⟨.hbm, 152, rfl⟩
abbrev main_v132 : Ref sig .tc := ⟨.hbm, 153, rfl⟩
abbrev main_cst_14 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_cst_15 : Ref sig .tc := ⟨.hbm, 186, rfl⟩
abbrev main_v164 : Ref sig .tc := ⟨.hbm, 187, rfl⟩
abbrev main_v165 : Ref sig .tc := ⟨.hbm, 188, rfl⟩
abbrev main_cst_16 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_cst_17 : Ref sig .tc := ⟨.hbm, 219, rfl⟩
abbrev main_v195 : Ref sig .tc := ⟨.hbm, 220, rfl⟩
abbrev main_v196 : Ref sig .tc := ⟨.hbm, 221, rfl⟩
abbrev main_cst_18 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_cst_19 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩

abbrev nD : Nat := 1
abbrev τ : Topo := Topo.v7x

variable {F : FTy → Type} [FloatOps F]
-- ==== Kernel3.lean ====
abbrev S8x1024 : Shape := ⟨2, ![8, 1024]⟩
abbrev S32x1024 : Shape := ⟨2, ![32, 1024]⟩
abbrev S4x1024x6144 : Shape := ⟨3, ![4, 1024, 6144]⟩
abbrev S4x6144 : Shape := ⟨2, ![4, 6144]⟩
abbrev S40x1024 : Shape := ⟨2, ![40, 1024]⟩
abbrev S4x1x6144 : Shape := ⟨3, ![4, 1, 6144]⟩
abbrev S4x40x6144 : Shape := ⟨3, ![4, 40, 6144]⟩
abbrev S1x1024x1536 : Shape := ⟨3, ![1, 1024, 1536]⟩
abbrev S1x1x1536 : Shape := ⟨3, ![1, 1, 1536]⟩
abbrev S1x40x1536 : Shape := ⟨3, ![1, 40, 1536]⟩
abbrev S1024x1536 : Shape := ⟨2, ![1024, 1536]⟩
abbrev S40x1536 : Shape := ⟨2, ![40, 1536]⟩
abbrev S1x1536 : Shape := ⟨2, ![1, 1536]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S32x1024, .f32⟩
  | .hbm, ⟨2, _⟩ => ⟨S4x1024x6144, .f32⟩
  | .hbm, ⟨3, _⟩ => ⟨S4x6144, .f32⟩
  | .hbm, ⟨4, _⟩ => ⟨S40x1024, .f32⟩
  | .hbm, ⟨5, _⟩ => ⟨S4x1x6144, .f32⟩
  | .hbm, ⟨6, _⟩ => ⟨S4x40x6144, .f32⟩
  | .local _ .vmem, ⟨0, _⟩ => ⟨S40x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x40x1536, .f32⟩
  | .local _ .vmem, ⟨6, _⟩ => ⟨S1x40x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8x1024 : Shape := ⟨2, ![8, 1024]⟩
abbrev S32x1024 : Shape := ⟨2, ![32, 1024]⟩
abbrev S4x1024x6144 : Shape := ⟨3, ![4, 1024, 6144]⟩
abbrev S4x6144 : Shape := ⟨2, ![4, 6144]⟩
abbrev S40x1024 : Shape := ⟨2, ![40, 1024]⟩
abbrev S_ : Shape := ⟨0, ![]⟩
abbrev S4x6144x40 : Shape := ⟨3, ![4, 6144, 40]⟩
abbrev S4x40x6144 : Shape := ⟨3, ![4, 40, 6144]⟩
abbrev S4x1x6144 : Shape := ⟨3, ![4, 1, 6144]⟩

abbrev nBuf : Space → Nat
  | .hbm => 19
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S32x1024, .f32⟩
  | .hbm, ⟨2, _⟩ => ⟨S4x1024x6144, .f32⟩
  | .hbm, ⟨3, _⟩ => ⟨S4x6144, .f32⟩
  | .hbm, ⟨4, _⟩ => ⟨S40x1024, .f32⟩
  | .hbm, ⟨5, _⟩ => ⟨S40x1024, .f32⟩
  | .hbm, ⟨6, _⟩ => ⟨S40x1024, .f32⟩
  | .hbm, ⟨7, _⟩ => ⟨S_, .f32⟩
  | .hbm, ⟨8, _⟩ => ⟨S40x1024, .f32⟩
  | .hbm, ⟨9, _⟩ => ⟨S40x1024, .f32⟩
  | .hbm, ⟨10, _⟩ => ⟨S_, .f32⟩
  | .hbm, ⟨11, _⟩ => ⟨S40x1024, .f32⟩
  | .hbm, ⟨12, _⟩ => ⟨S40x1024, .f32⟩
  | .hbm, ⟨13, _⟩ => ⟨S40x1024, .f32⟩
  | .hbm, ⟨14, _⟩ => ⟨S4x6144x40, .f32⟩
  | .hbm, ⟨15, _⟩ => ⟨S4x40x6144, .f32⟩
  | .hbm, ⟨16, _⟩ => ⟨S4x1x6144, .f32⟩
  | .hbm, ⟨17, _⟩ => ⟨S4x40x6144, .f32⟩
  | .hbm, ⟨18, _⟩ => ⟨S4x40x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x6144 : Shape := ⟨2, ![8, 6144]⟩
abbrev S16384x512 : Shape := ⟨2, ![16384, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16384x1024 : Shape := ⟨2, ![16384, 1024]⟩
abbrev S8x1x6144 : Shape := ⟨3, ![8, 1, 6144]⟩
abbrev S1x1024 : Shape := ⟨2, ![1, 1024]⟩
abbrev S1024x20 : Shape := ⟨2, ![1024, 20]⟩
abbrev S20 : Shape := ⟨1, ![20]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S8x16384 : Shape := ⟨2, ![8, 16384]⟩
abbrev S512x1024 : Shape := ⟨2, ![512, 1024]⟩
abbrev S512x512 : Shape := ⟨2, ![512, 512]⟩
abbrev S1x1x1024 : Shape := ⟨3, ![1, 1, 1024]⟩
abbrev S8x512 : Shape := ⟨2, ![8, 512]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S1x512 : Shape := ⟨2, ![1, 512]⟩

abbrev nBuf : Space → Nat
  | .hbm => 25
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S16384x512, .f32⟩
  | .hbm, ⟨3, _⟩ => ⟨S16384x512, .bf16⟩
  | .hbm, ⟨4, _⟩ => ⟨S1024x1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S1024x16, .f32⟩
  | .hbm, ⟨9, _⟩ => ⟨S16, .f32⟩
  | .hbm, ⟨10, _⟩ => ⟨S16384x1024, .f32⟩
  | .hbm, ⟨11, _⟩ => ⟨S8x1x6144, .f32⟩
  | .hbm, ⟨12, _⟩ => ⟨S1024x1024, .bf16⟩
  | .hbm, ⟨13, _⟩ => ⟨S1x1024, .f32⟩
  | .hbm, ⟨14, _⟩ => ⟨S1024x20, .f32⟩
  | .hbm, ⟨15, _⟩ => ⟨S20, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S16384x1024, .f32⟩
  | .hbm, ⟨24, _⟩ => ⟨S8x16384, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1024x128, .f32⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S8x512, .f32⟩
  | .local _ .vmem, ⟨19, _⟩ => ⟨S8x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_c_0 : Ref sig .tc := ⟨.hbm, 19, rfl⟩
abbrev main_call1_v0 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32_5 : BitVec 32 := 4#32
  let c0_i32_6 : BitVec 32 := 0#32
  ![v16.toNat, c0_i32_4.toNat, c4_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S8x2048x1024 : Shape := ⟨3, ![8, 2048, 1024]⟩
abbrev S8x6144 : Shape := ⟨2, ![8, 6144]⟩
abbrev S16384x512 : Shape := ⟨2, ![16384, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S8x1x6144 : Shape := ⟨3, ![8, 1, 6144]⟩
abbrev S8x1x1024 : Shape := ⟨3, ![8, 1, 1024]⟩
abbrev S16384x1024 : Shape := ⟨2, ![16384, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S16384x512, .f32⟩
  | .hbm, ⟨3, _⟩ => ⟨S16384x512, .bf16⟩
  | .hbm, ⟨4, _⟩ => ⟨S1024x1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S1024x16, .f32⟩
  | .hbm, ⟨9, _⟩ => ⟨S16, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S16384x512, .f32⟩
  | .hbm, ⟨18, _⟩ => ⟨S16384x1024, .f32⟩
  | .hbm, ⟨19, _⟩ => ⟨S16384x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Kernel5.lean ====
abbrev S8x2048x1024 : Shape := ⟨3, ![8, 2048, 1024]⟩
abbrev S8x6144 : Shape := ⟨2, ![8, 6144]⟩
abbrev S1024 : Shape := ⟨1, ![1024]⟩
abbrev S4x256x256 : Shape := ⟨3, ![4, 256, 256]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16384x1024 : Shape := ⟨2, ![16384, 1024]⟩
abbrev S8x1x6144 : Shape := ⟨3, ![8, 1, 6144]⟩
abbrev S1x1024 : Shape := ⟨2, ![1, 1024]⟩
abbrev S1024x20 : Shape := ⟨2, ![1024, 20]⟩
abbrev S20 : Shape := ⟨1, ![20]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S8x16x1024 : Shape := ⟨3, ![8, 16, 1024]⟩
abbrev S8x16384 : Shape := ⟨2, ![8, 16384]⟩
abbrev S512x1024 : Shape := ⟨2, ![512, 1024]⟩
abbrev S16x1024 : Shape := ⟨2, ![16, 1024]⟩
abbrev S1x1x1024 : Shape := ⟨3, ![1, 1, 1024]⟩
abbrev S1x16x1024 : Shape := ⟨3, ![1, 16, 1024]⟩
abbrev S8x512 : Shape := ⟨2, ![8, 512]⟩
abbrev S512 : Shape := ⟨1, ![512]⟩
abbrev S512x1 : Shape := ⟨2, ![512, 1]⟩
abbrev S16x1 : Shape := ⟨2, ![16, 1]⟩
abbrev S528x1024 : Shape := ⟨2, ![528, 1024]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩
abbrev S512x128 : Shape := ⟨2, ![512, 128]⟩
abbrev S128x512 : Shape := ⟨2, ![128, 512]⟩
abbrev S1x512 : Shape := ⟨2, ![1, 512]⟩
abbrev S8x15x1024 : Shape := ⟨3, ![8, 15, 1024]⟩

abbrev nBuf : Space → Nat
  | .hbm => 29
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S4x256x256, .f32⟩
  | .hbm, ⟨4, _⟩ => ⟨S1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S1024x16, .f32⟩
  | .hbm, ⟨9, _⟩ => ⟨S16, .f32⟩
  | .hbm, ⟨10, _⟩ => ⟨S16384x1024, .f32⟩
  | .hbm, ⟨11, _⟩ => ⟨S8x1x6144, .f32⟩
  | .hbm, ⟨12, _⟩ => ⟨S1x1024, .f32⟩
  | .hbm, ⟨13, _⟩ => ⟨S4x256x256, .bf16⟩
  | .hbm, ⟨14, _⟩ => ⟨S1x1024, .f32⟩
  | .hbm, ⟨15, _⟩ => ⟨S1x1024, .f32⟩
  | .hbm, ⟨16, _⟩ => ⟨S1024x20, .f32⟩
  | .hbm, ⟨17, _⟩ => ⟨S20, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S16384x1024, .f32⟩
  | .hbm, ⟨26, _⟩ => ⟨S8x16x1024, .f32⟩
  | .hbm, ⟨27, _⟩ => ⟨S8x16384, .f32⟩
  | .hbm, ⟨28, _⟩ => ⟨S8x15x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S4x256x256, .bf16⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S1024x128, .f32⟩
  | .local _ .vmem, ⟨19, _⟩ => ⟨S1x128, .f32⟩
  | .local _ .vmem, ⟨20, _⟩ => ⟨S512x1024, .f32⟩
  | .local _ .vmem, ⟨21, _⟩ => ⟨S512x1024, .f32⟩
  | .local _ .vmem, ⟨22, _⟩ => ⟨S1x16x1024, .f32⟩
  | .local _ .vmem, ⟨23, _⟩ => ⟨S1x16x1024, .f32⟩
  | .local _ .vmem, ⟨24, _⟩ => ⟨S8x512, .f32⟩
  | .local _ .vmem, ⟨25, _⟩ => ⟨S8x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_v8 : Ref sig .tc := ⟨.hbm, 20, rfl⟩
abbrev main_c_0 : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v12 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32_5 : BitVec 32 := 4#32
  let c0_i32_6 : BitVec 32 := 0#32
  ![v16.toNat, c0_i32_4.toNat, c4_i32_5.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x16x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S8x2048x1024 : Shape := ⟨3, ![8, 2048, 1024]⟩
abbrev S8x6144 : Shape := ⟨2, ![8, 6144]⟩
abbrev S1024 : Shape := ⟨1, ![1024]⟩
abbrev S4x256x256 : Shape := ⟨3, ![4, 256, 256]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S2048 : Shape := ⟨1, ![2048]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2049x1024 : Shape := ⟨3, ![8, 2049, 1024]⟩
abbrev S8x2049x256 : Shape := ⟨3, ![8, 2049, 256]⟩
abbrev S2048x1 : Shape := ⟨2, ![2048, 1]⟩
abbrev S8x2048x256 : Shape := ⟨3, ![8, 2048, 256]⟩
abbrev S1x2048x1 : Shape := ⟨3, ![1, 2048, 1]⟩
abbrev S8x2048x4x256 : Shape := ⟨4, ![8, 2048, 4, 256]⟩
abbrev S4x256x8x2048 : Shape := ⟨4, ![4, 256, 8, 2048]⟩
abbrev S16384x1024 : Shape := ⟨2, ![16384, 1024]⟩
abbrev S8x15x1024 : Shape := ⟨3, ![8, 15, 1024]⟩

abbrev nBuf : Space → Nat
  | .hbm => 190
  | .vmem => 0
  | .smem => 0
  | _ => 0

abbrev hbmTy0_0 (i : Nat) : BufTy := match i % 128 with
  | 0 => ⟨S8x2048x1024, .f32⟩
  | 1 => ⟨S8x6144, .f32⟩
  | 2 => ⟨S1024, .f32⟩
  | 3 => ⟨S4x256x256, .f32⟩
  | 4 => ⟨S1024, .f32⟩
  | 5 => ⟨S1024, .f32⟩
  | 6 => ⟨S1024x4, .f32⟩
  | 7 => ⟨S4, .f32⟩
  | 8 => ⟨S1024x16, .f32⟩
  | 9 => ⟨S16, .f32⟩
  | 10 => ⟨S2048, .i32⟩
  | 11 => ⟨S8x1x6144, .f32⟩
  | 12 => ⟨S8x1x1024, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S8x2048x1024, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S_, .f32⟩
  | 26 => ⟨S8x2048x1, .f32⟩
  | 27 => ⟨S8x2048x1, .f32⟩
  | 28 => ⟨S8x2048x1, .f32⟩
  | 29 => ⟨S8x2048x1024, .f32⟩
  | 30 => ⟨S8x2048x1024, .f32⟩
  | 31 => ⟨S1x1x1024, .f32⟩
  | 32 => ⟨S8x2048x1024, .f32⟩
  | 33 => ⟨S8x2048x1024, .f32⟩
  | 34 => ⟨S_, .f32⟩
  | 35 => ⟨S8x1x1024, .f32⟩
  | 36 => ⟨S8x1x1024, .f32⟩
  | 37 => ⟨S8x2048x1024, .f32⟩
  | 38 => ⟨S8x2048x1024, .f32⟩
  | 39 => ⟨S8x2048x1024, .f32⟩
  | 40 => ⟨S8x2048x1024, .f32⟩
  | 41 => ⟨S_, .f32⟩
  | 42 => ⟨S_, .f32⟩
  | 43 => ⟨S8x2048x1024, .f32⟩
  | 44 => ⟨S8x1x1024, .f32⟩
  | 45 => ⟨S_, .f32⟩
  | 46 => ⟨S8x1x1024, .f32⟩
  | 47 => ⟨S8x2049x1024, .f32⟩
  | 48 => ⟨S2048, .i32⟩
  | 49 => ⟨S_, .i32⟩
  | 50 => ⟨S2048, .i32⟩
  | 51 => ⟨S2048, .i32⟩
  | 52 => ⟨S8x2049x256, .f32⟩
  | 53 => ⟨S_, .i32⟩
  | 54 => ⟨S2048, .i32⟩
  | 55 => ⟨S2048, .i32⟩
  | 56 => ⟨S_, .i32⟩
  | 57 => ⟨S2048, .i32⟩
  | 58 => ⟨S2048, .i32⟩
  | 59 => ⟨S_, .i32⟩
  | 60 => ⟨S2048, .i32⟩
  | 61 => ⟨S2048, .i1⟩
  | 62 => ⟨S_, .i32⟩
  | 63 => ⟨S2048, .i32⟩
  | 64 => ⟨S2048, .i32⟩
  | 65 => ⟨S2048, .i32⟩
  | 66 => ⟨S2048x1, .i32⟩
  | 67 => ⟨S8x2048x256, .f32⟩
  | 68 => ⟨S2048, .i32⟩
  | 69 => ⟨S_, .i32⟩
  | 70 => ⟨S2048, .i32⟩
  | 71 => ⟨S2048, .i1⟩
  | 72 => ⟨S_, .i32⟩
  | 73 => ⟨S2048, .i32⟩
  | 74 => ⟨S2048, .i32⟩
  | 75 => ⟨S2048, .i32⟩
  | 76 => ⟨S2048x1, .i32⟩
  | 77 => ⟨S8x2048x256, .f32⟩
  | 78 => ⟨S8x2048x256, .f32⟩
  | 79 => ⟨S1x2048x1, .i32⟩
  | 80 => ⟨S1x2048x1, .f32⟩
  | 81 => ⟨S8x2048x256, .f32⟩
  | 82 => ⟨S8x2048x256, .f32⟩
  | 83 => ⟨S8x2049x256, .f32⟩
  | 84 => ⟨S_, .i32⟩
  | 85 => ⟨S2048, .i32⟩
  | 86 => ⟨S2048, .i32⟩
  | 87 => ⟨S_, .i32⟩
  | 88 => ⟨S2048, .i32⟩
  | 89 => ⟨S2048, .i32⟩
  | 90 => ⟨S_, .i32⟩
  | 91 => ⟨S2048, .i32⟩
  | 92 => ⟨S2048, .i1⟩
  | 93 => ⟨S_, .i32⟩
  | 94 => ⟨S2048, .i32⟩
  | 95 => ⟨S2048, .i32⟩
  | 96 => ⟨S2048, .i32⟩
  | 97 => ⟨S2048x1, .i32⟩
  | 98 => ⟨S8x2048x256, .f32⟩
  | 99 => ⟨S2048, .i32⟩
  | 100 => ⟨S_, .i32⟩
  | 101 => ⟨S2048, .i32⟩
  | 102 => ⟨S2048, .i1⟩
  | 103 => ⟨S_, .i32⟩
  | 104 => ⟨S2048, .i32⟩
  | 105 => ⟨S2048, .i32⟩
  | 106 => ⟨S2048, .i32⟩
  | 107 => ⟨S2048x1, .i32⟩
  | 108 => ⟨S8x2048x256, .f32⟩
  | 109 => ⟨S8x2048x256, .f32⟩
  | 110 => ⟨S1x2048x1, .i32⟩
  | 111 => ⟨S1x2048x1, .f32⟩
  | 112 => ⟨S8x2048x256, .f32⟩
  | 113 => ⟨S8x2048x256, .f32⟩
  | 114 => ⟨S8x2049x256, .f32⟩
  | 115 => ⟨S_, .i32⟩
  | 116 => ⟨S2048, .i32⟩
  | 117 => ⟨S2048, .i32⟩
  | 118 => ⟨S_, .i32⟩
  | 119 => ⟨S2048, .i32⟩
  | 120 => ⟨S2048, .i32⟩
  | 121 => ⟨S_, .i32⟩
  | 122 => ⟨S2048, .i32⟩
  | 123 => ⟨S2048, .i1⟩
  | 124 => ⟨S_, .i32⟩
  | 125 => ⟨S2048, .i32⟩
  | 126 => ⟨S2048, .i32⟩
  | 127 => ⟨S2048, .i32⟩
  | _ => ⟨S8x2048x1024, .f32⟩

abbrev hbmTy0_1 (i : Nat) : BufTy := match i % 128 with
  | 0 => ⟨S2048x1, .i32⟩
  | 1 => ⟨S8x2048x256, .f32⟩
  | 2 => ⟨S2048, .i32⟩
  | 3 => ⟨S_, .i32⟩
  | 4 => ⟨S2048, .i32⟩
  | 5 => ⟨S2048, .i1⟩
  | 6 => ⟨S_, .i32⟩
  | 7 => ⟨S2048, .i32⟩
  | 8 => ⟨S2048, .i32⟩
  | 9 => ⟨S2048, .i32⟩
  | 10 => ⟨S2048x1, .i32⟩
  | 11 => ⟨S8x2048x256, .f32⟩
  | 12 => ⟨S8x2048x256, .f32⟩
  | 13 => ⟨S1x2048x1, .i32⟩
  | 14 => ⟨S1x2048x1, .f32⟩
  | 15 => ⟨S8x2048x256, .f32⟩
  | 16 => ⟨S8x2048x256, .f32⟩
  | 17 => ⟨S8x2049x256, .f32⟩
  | 18 => ⟨S_, .i32⟩
  | 19 => ⟨S2048, .i32⟩
  | 20 => ⟨S2048, .i32⟩
  | 21 => ⟨S_, .i32⟩
  | 22 => ⟨S2048, .i32⟩
  | 23 => ⟨S2048, .i32⟩
  | 24 => ⟨S_, .i32⟩
  | 25 => ⟨S2048, .i32⟩
  | 26 => ⟨S2048, .i1⟩
  | 27 => ⟨S_, .i32⟩
  | 28 => ⟨S2048, .i32⟩
  | 29 => ⟨S2048, .i32⟩
  | 30 => ⟨S2048, .i32⟩
  | 31 => ⟨S2048x1, .i32⟩
  | 32 => ⟨S8x2048x256, .f32⟩
  | 33 => ⟨S2048, .i32⟩
  | 34 => ⟨S_, .i32⟩
  | 35 => ⟨S2048, .i32⟩
  | 36 => ⟨S2048, .i1⟩
  | 37 => ⟨S_, .i32⟩
  | 38 => ⟨S2048, .i32⟩
  | 39 => ⟨S2048, .i32⟩
  | 40 => ⟨S2048, .i32⟩
  | 41 => ⟨S2048x1, .i32⟩
  | 42 => ⟨S8x2048x256, .f32⟩
  | 43 => ⟨S8x2048x256, .f32⟩
  | 44 => ⟨S1x2048x1, .i32⟩
  | 45 => ⟨S1x2048x1, .f32⟩
  | 46 => ⟨S8x2048x256, .f32⟩
  | 47 => ⟨S8x2048x256, .f32⟩
  | 48 => ⟨S8x2048x1024, .f32⟩
  | 49 => ⟨S8x2048x1024, .f32⟩
  | 50 => ⟨S8x2048x4x256, .f32⟩
  | 51 => ⟨S4x256x8x2048, .f32⟩
  | 52 => ⟨S8x2048x4x256, .f32⟩
  | 53 => ⟨S8x2048x1024, .f32⟩
  | 54 => ⟨S1x1x1024, .f32⟩
  | 55 => ⟨S8x2048x1024, .f32⟩
  | 56 => ⟨S8x2048x1024, .f32⟩
  | 57 => ⟨S8x2048x1024, .f32⟩
  | 58 => ⟨S8x2048x1024, .f32⟩
  | 59 => ⟨S8x2048x1024, .f32⟩
  | 60 => ⟨S16384x1024, .f32⟩
  | 61 => ⟨S8x15x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_call0_cst : Ref sig .tc := ⟨.hbm, 41, rfl⟩
abbrev main_call0_call0_v0 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_10 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_c_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_16 : Ref sig .tc := ⟨.hbm, 115, rfl⟩
abbrev main_v85 : Ref sig .tc := ⟨.hbm, 116, rfl⟩
abbrev main_v86 : Ref sig .tc := ⟨.hbm, 117, rfl⟩
abbrev main_c_17 : Ref sig .tc := ⟨.hbm, 118, rfl⟩
abbrev main_v87 : Ref sig .tc := ⟨.hbm, 119, rfl⟩
abbrev main_v88 : Ref sig .tc := ⟨.hbm, 120, rfl⟩
abbrev main_c_18 : Ref sig .tc := ⟨.hbm, 121, rfl⟩
abbrev main_v89 : Ref sig .tc := ⟨.hbm, 122, rfl⟩
abbrev main_v90 : Ref sig .tc := ⟨.hbm, 123, rfl⟩
abbrev main_c_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_20 : Ref sig .tc := ⟨.hbm, 131, rfl⟩
abbrev main_v97 : Ref sig .tc := ⟨.hbm, 132, rfl⟩
abbrev main_v98 : Ref sig .tc := ⟨.hbm, 133, rfl⟩
abbrev main_c_21 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_c_22 : Ref sig .tc := ⟨.hbm, 146, rfl⟩
abbrev main_v110 : Ref sig .tc := ⟨.hbm, 147, rfl⟩
abbrev main_v111 : Ref sig .tc := ⟨.hbm, 148, rfl⟩
abbrev main_c_23 : Ref sig .tc := ⟨.hbm, 149, rfl⟩
abbrev main_v112 : Ref sig .tc := ⟨.hbm, 150, rfl⟩
abbrev main_v113 : Ref sig .tc := ⟨.hbm, 151, rfl⟩
abbrev main_c_24 : Ref sig .tc := ⟨.hbm, 152, rfl⟩
abbrev main_v114 : Ref sig .tc := ⟨.hbm, 153, rfl⟩
abbrev main_v115 : Ref sig .tc := ⟨.hbm, 154, rfl⟩
abbrev main_c_25 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_c_26 : Ref sig .tc := ⟨.hbm, 162, rfl⟩
abbrev main_v122 : Ref sig .tc := ⟨.hbm, 163, rfl⟩
abbrev main_v123 : Ref sig .tc := ⟨.hbm, 164, rfl⟩
abbrev main_c_27 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩

abbrev nD : Nat := 1
abbrev τ : Topo := Topo.v7x

variable {F : FTy → Type} [FloatOps F]
-- ==== Proof.Steps.lean ====
/-
  Loads and stores at the level of contents: a memref held whole at contents `X` is read through a rectangle as `X` at
  the rectangle's indices, and written through a rectangle as `X` overlaid there.  The body's proof (Body.lean) is
  written over these, so that every buffer's contents stay functions of a multi-index.
-/
module

public import Idealize.ShloMosaic.Lib.Tactic
public import Idealize.ShloMosaic.Lib.Memref
public import Idealize.ShloMosaic.Lib.Exec

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- Contents `X` read at a load's indices. -/
def ld {α : Type} {s : Shape} (X : s.Idx → α) (r : LoadRect s) : r.shape.Idx → α := fun x => X (r.idx x)

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} (𝒱 : Variants)

variable (c : Thread nD τ) (bd : Option 𝒱.V) {α : Type} {s : Shape} {e : EltTy}

/-- A load from a memref held at `X`. -/
theorem wp_load_owns {Q : α → sProp (MT nD τ sig Ix Val Name U Lvl)} {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) Set.univ (k (ld X r)) Q)
        -∗ wp frame (wpE defs 𝒱 c bd) Set.univ (.op (.load m r hl) k) Q) := by
  unfold owns
  iintro ⟨%f, %hf, H⟩ Hk
  iapply (wp_load 𝒱 c bd Set.univ (m := m) (r := r) (m.view.setOn_subset_set _)) $$ H
  iintro H
  have h : m.view.readAt Val r f = ld X r := by rw [← hf]; rfl
  rw [h]
  iapply Hk
  iexists f; isplitr; · ipureintro; exact hf
  iexact H

/-- A store through a rectangle into a memref held at `X`. -/
theorem wp_store_owns {Q : α → sProp (MT nD τ sig Ix Val Name U Lvl)} {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp (MT nD τ sig Ix Val Name U Lvl))
      ⊢ iprop((owns c m fullShare (r.overlay X w) -∗ wp frame (wpE defs 𝒱 c bd) Set.univ (k ⟨⟩) Q)
        -∗ wp frame (wpE defs 𝒱 c bd) Set.univ (.op (.store m r w Finset.univ hx hm) k) Q) := by
  unfold owns
  iintro ⟨%f, %hf, H⟩ Hk
  iapply (wp_store 𝒱 c bd Set.univ (m := m) (r := r) (Mk := Finset.univ) (S := m.view.set) (by
    rw [View.setOn_univ]; exact m.view.set_slice_subset r)) $$ H
  iintro H
  iapply Hk
  iexists _; isplitr; swap; · iexact H
  ipureintro
  funext j
  by_cases hj : j ∈ r.set
  · obtain ⟨x, rfl⟩ := r.exists_idx_of_mem hj
    exact (View.read_slice_write_emb r f w (Finset.mem_univ x)).trans (Rect.overlay_emb r X w x).symm
  · rw [Rect.overlay_of_not_mem r X w hj, ← hf]
    exact View.read_slice_write_of_not_mem r f w Finset.univ (by rw [Rect.map_emb_univ]; exact hj)

/-- A word load from a scalar table held at `X`. -/
theorem wp_smem_owns {Q : α → sProp (MT nD τ sig Ix Val Name U Lvl)} {m : Memref sig c.2.kind .smem s e} {r : Rect s} {h1 : r.shape.numel = 1} {hp : e.packing = 1}
    {k : Val e → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) Set.univ (k (X (r.idx (Shape.Idx.first (h1.symm ▸ Nat.one_pos))))) Q)
        -∗ wp frame (wpE defs 𝒱 c bd) Set.univ (smemLoad m r h1 hp >>= k) Q) := by
  iintro H Hk
  unfold smemLoad smemLoadElt
  simp only [Prog.bind_op, Prog.bind_ret, Prog.pure_eq_ret, bind, Prog.bind]
  iapply (wp_load_owns (defs := defs) 𝒱 c bd) $$ H
  iintro H
  iapply Hk
  iexact H

end Cert.Proof

end
-- ==== Proof.Rows.lean ====
/-
  Blocks of rows of a rectangular buffer as total functions of the first row's number: `getRows` reads a block,
  `putRows` replaces one.  A load or an overlay through a unit-stride rectangle that starts at row `d`, column 0 and
  spans all columns is one of them.
-/
module

public import proofs.«01_k».proof.Proof.Steps
public import Idealize.ShloMosaic.Lib.PointwiseCore

@[expose] public section

noncomputable section

namespace Cert.Proof

open Idealize.ShloMosaic

variable {α : Type} {R N : ℕ}

/-- Rows `d … d+n-1` of `X` (row numbers taken modulo the number of rows, so that the function is total). -/
def getRows [NeZero R] (X : (⟨2, ![R, N]⟩ : Shape).Idx → α) (d n : ℕ) : (⟨2, ![n, N]⟩ : Shape).Idx → α :=
  fun j => X (ix2 (Fin.ofNat R (d + (j 0).val)) (j 1))

/-- `X` with rows `d … d+n-1` replaced by `v`. -/
def putRows (X : (⟨2, ![R, N]⟩ : Shape).Idx → α) (d n : ℕ) (v : (⟨2, ![n, N]⟩ : Shape).Idx → α) :
    (⟨2, ![R, N]⟩ : Shape).Idx → α :=
  fun j => if h : d ≤ (j 0).val ∧ (j 0).val < d + n then v (ix2 ⟨(j 0).val - d, by omega⟩ (j 1)) else X j

/-- A load of whole rows is `getRows`. -/
theorem ld_rows [NeZero R] (X : (⟨2, ![R, N]⟩ : Shape).Idx → α) (d n : ℕ) (off : Fin 2 → ℕ) (hoff : off = ![d, 0])
    (inb : ∀ a, off a + (![n, N] : Fin 2 → ℕ) a ≤ (⟨2, ![R, N]⟩ : Shape).size a) :
    ld X (Rect.unit (s := ⟨2, ![R, N]⟩) off ![n, N] inb).toLoadRect = getRows X d n := by
  subst hoff
  funext j
  unfold ld getRows
  congr 1
  have h0 := inb 0
  have hj : (j 0).val < n := (j 0).isLt
  funext a
  match a with
  | ⟨0, _⟩ =>
    apply Fin.ext
    show d + 1 * (j 0).val = (d + (j 0).val) % R
    rw [Nat.mod_eq_of_lt]; · omega
    have : d + n ≤ R := h0
    omega
  | ⟨1, _⟩ =>
    apply Fin.ext
    show 0 + 1 * (j 1).val = (j 1).val
    omega

/-- An overlay of whole rows is `putRows`. -/
theorem overlay_rows (X : (⟨2, ![R, N]⟩ : Shape).Idx → α) (d n : ℕ) (off : Fin 2 → ℕ) (hoff : off = ![d, 0])
    (inb : ∀ a, off a + (![n, N] : Fin 2 → ℕ) a ≤ (⟨2, ![R, N]⟩ : Shape).size a)
    (w : (⟨2, ![n, N]⟩ : Shape).Idx → α) :
    (Rect.unit (s := ⟨2, ![R, N]⟩) off ![n, N] inb).overlay X w = putRows X d n w := by
  subst hoff
  funext j
  unfold putRows
  by_cases h : d ≤ (j 0).val ∧ (j 0).val < d + n
  · rw [dif_pos h]
    have hj : j = (Rect.unit (s := ⟨2, ![R, N]⟩) ![d, 0] ![n, N] inb).emb
        (ix2 (⟨(j 0).val - d, by omega⟩ : Fin n) (j 1)) := by
      funext a
      match a with
      | ⟨0, _⟩ =>
        apply Fin.ext
        show (j 0).val = d + 1 * ((j 0).val - d)
        omega
      | ⟨1, _⟩ =>
        apply Fin.ext
        show (j 1).val = 0 + 1 * (j 1).val
        omega
    conv_lhs => rw [hj]
    exact Rect.overlay_emb (Rect.unit (s := ⟨2, ![R, N]⟩) ![d, 0] ![n, N] inb) X w _
  · rw [dif_neg h]
    refine Rect.overlay_of_not_mem (Rect.unit (s := ⟨2, ![R, N]⟩) ![d, 0] ![n, N] inb) X w fun hm => h ?_
    obtain ⟨x, hx⟩ := LoadRect.exists_idx_of_mem _ hm
    have hx0 : (x 0).val < n := (x 0).isLt
    have h0 : (j 0).val = d + 1 * (x 0).val := by rw [← hx]; rfl
    omega

/-- A load of everything is the contents. -/
theorem ld_all {s : Shape} (X : s.Idx → α) (off : Fin s.rank → ℕ) (hoff : ∀ a, off a = 0)
    (inb : ∀ a, off a + s.size a ≤ s.size a) : ld X (Rect.unit (s := s) off s.size inb).toLoadRect = X := by
  funext j
  unfold ld
  congr 1
  funext a
  apply Fin.ext
  show off a + 1 * (j a).val = (j a).val
  rw [hoff a]; omega

/-- An overlay of everything is the new contents. -/
theorem overlay_all {s : Shape} (X : s.Idx → α) (off : Fin s.rank → ℕ) (hoff : ∀ a, off a = 0)
    (inb : ∀ a, off a + s.size a ≤ s.size a) (w : s.Idx → α) : (Rect.unit (s := s) off s.size inb).overlay X w = w := by
  funext j
  have hj : j = (Rect.unit (s := s) off s.size inb).emb j := by
    funext a
    apply Fin.ext
    show (j a).val = off a + 1 * (j a).val
    rw [hoff a]; omega
  conv_lhs => rw [hj]
  exact Rect.overlay_emb (Rect.unit (s := s) off s.size inb) X w _

/-- A row outside a replaced block is as before. -/
theorem putRows_of_not (X : (⟨2, ![R, N]⟩ : Shape).Idx → α) (d n : ℕ) (v : (⟨2, ![n, N]⟩ : Shape).Idx → α)
    (j : (⟨2, ![R, N]⟩ : Shape).Idx) (h : ¬ (d ≤ (j 0).val ∧ (j 0).val < d + n)) : putRows X d n v j = X j := dif_neg h

/-- A row inside a replaced block is the new row. -/
theorem putRows_of_mem (X : (⟨2, ![R, N]⟩ : Shape).Idx → α) (d n : ℕ) (v : (⟨2, ![n, N]⟩ : Shape).Idx → α)
    (j : (⟨2, ![R, N]⟩ : Shape).Idx) (h : d ≤ (j 0).val ∧ (j 0).val < d + n) :
    putRows X d n v j = v (ix2 ⟨(j 0).val - d, by omega⟩ (j 1)) := dif_pos h

end Cert.Proof

end
-- ==== Proof.Model.lean ====
/-
  What one grid point of the kernel does to its buffers, as functions of their contents: the moves of the tile's rows to
  their group's segment, the feed-forward layer of one group's experts over its segment in chunks of 256 rows with a
  tail of 256 or 128, and the moves back.
-/
module

public import proofs.«01_k».proof.Proof.Rows
public import proofs.«01_k».proof.Proof.Gen.KernelIdeal.Skeleton

@[expose] public section

noncomputable section

namespace Cert.KernelIdeal

open Idealize.ShloMosaic Cert.KernelIdeal.Gen Cert.Proof

variable {F : FTy → Type} [FloatOps F]

/-- Expert `e`'s matrix of a block of four up- or gate-projection matrices. -/
def slabU (W : Vec F S4x1024x256 .bf16) (e : Fin 4) : Vec F S1x1024x256 .bf16 :=
  match e with
  | 0 => ld W (Rect.unit (s := S4x1024x256) ![0, 0, 0] S1x1024x256.size inb_S4x1024x256_S1x1024x256_0_0_0).toLoadRect
  | 1 => ld W (Rect.unit (s := S4x1024x256) ![1, 0, 0] S1x1024x256.size inb_S4x1024x256_S1x1024x256_1_0_0).toLoadRect
  | 2 => ld W (Rect.unit (s := S4x1024x256) ![2, 0, 0] S1x1024x256.size inb_S4x1024x256_S1x1024x256_2_0_0).toLoadRect
  | 3 => ld W (Rect.unit (s := S4x1024x256) ![3, 0, 0] S1x1024x256.size inb_S4x1024x256_S1x1024x256_3_0_0).toLoadRect

/-- Expert `e`'s matrix of a block of four down-projection matrices. -/
def slabD (W : Vec F S4x256x1024 .bf16) (e : Fin 4) : Vec F S1x256x1024 .bf16 :=
  match e with
  | 0 => ld W (Rect.unit (s := S4x256x1024) ![0, 0, 0] S1x256x1024.size inb_S4x256x1024_S1x256x1024_0_0_0).toLoadRect
  | 1 => ld W (Rect.unit (s := S4x256x1024) ![1, 0, 0] S1x256x1024.size inb_S4x256x1024_S1x256x1024_1_0_0).toLoadRect
  | 2 => ld W (Rect.unit (s := S4x256x1024) ![2, 0, 0] S1x256x1024.size inb_S4x256x1024_S1x256x1024_2_0_0).toLoadRect
  | 3 => ld W (Rect.unit (s := S4x256x1024) ![3, 0, 0] S1x256x1024.size inb_S4x256x1024_S1x256x1024_3_0_0).toLoadRect

/-- The feed-forward layer of one group on a full chunk of 256 rows `h` with gates `r`. -/
def ffn256 (h : Vec F S256x1024 .f32) (r : Vec F S256x8 .f32) (wg wu : Vec F S4x1024x256 .bf16) (wd : Vec F S4x256x1024 .bf16) :
    FVec F S256x1024 .f32 :=
  k0_pay1
    (k0_pay9 (k0_pay6 h) r (k0_pay7 h r (slabU wg 0) (slabU wu 0) (slabD wd 0)) (k0_pay8 h (slabU wg 1) (slabU wu 1))
      (slabD wd 1) (slabU wg 2) (slabU wu 2) (slabD wd 2))
    (k0_pay10 (k0_pay6 h) (slabU wg 3) (slabU wu 3)) (k0_pay11 r) (slabD wd 3)

/-- The same on a tail of up to 256 rows, of which `m` are live. -/
def tail256 (m : BitVec 32) (h : Vec F S256x1024 .f32) (r : Vec F S256x8 .f32) (wg wu : Vec F S4x1024x256 .bf16)
    (wd : Vec F S4x256x1024 .bf16) : FVec F S256x1024 .f32 :=
  k0_pay3 (k0_pay18 h) r (k0_pay19 m)
    (k0_pay22 (k0_pay18 h) r (k0_pay19 m) (k0_pay20 m h r (slabU wg 0) (slabU wu 0) (slabD wd 0)) (k0_pay21 h (slabU wg 1))
      (slabU wu 1) (slabD wd 1) (slabU wg 2) (slabU wu 2) (slabD wd 2))
    (k0_pay23 (slabU wg 3)) (slabU wu 3) (slabD wd 3)

/-- The same on a tail of up to 128 rows. -/
def tail128 (m : BitVec 32) (h : Vec F S128x1024 .f32) (r : Vec F S128x8 .f32) (wg wu : Vec F S4x1024x256 .bf16)
    (wd : Vec F S4x256x1024 .bf16) : FVec F S128x1024 .f32 :=
  k0_pay4 (k0_pay24 h) r (k0_pay25 m)
    (k0_pay28 (k0_pay24 h) r (k0_pay25 m) (k0_pay26 m h r (slabU wg 0) (slabU wu 0) (slabD wd 0)) (k0_pay27 h (slabU wg 1))
      (slabU wu 1) (slabD wd 1) (slabU wg 2) (slabU wu 2) (slabD wd 2))
    (k0_pay29 (slabU wg 3)) (slabU wu 3) (slabD wd 3)

/-- The first `k` full chunks of the segment that starts at row `a`. -/
def chunks (a : ℕ) (hs : Vec F S1312x1024 .f32) (gs : Vec F S1312x8 .f32) (wg wu : Vec F S4x1024x256 .bf16)
    (wd : Vec F S4x256x1024 .bf16) (ys : Vec F S1312x1024 .f32) : ℕ → Vec F S1312x1024 .f32
  | 0 => ys
  | k + 1 => putRows (chunks a hs gs wg wu wd ys k) (a + 256 * k) 256
      (ffn256 (getRows hs (a + 256 * k) 256) (getRows gs (a + 256 * k) 256) wg wu wd)

/-- The whole segment of `n` rows that starts at row `a`: its full chunks, then its tail. -/
def segment (a n : ℕ) (hs : Vec F S1312x1024 .f32) (gs : Vec F S1312x8 .f32) (wg wu : Vec F S4x1024x256 .bf16)
    (wd : Vec F S4x256x1024 .bf16) (ys : Vec F S1312x1024 .f32) : Vec F S1312x1024 .f32 :=
  if 128 < n % 256 then
    putRows (chunks a hs gs wg wu wd ys (n / 256)) (a + 256 * (n / 256)) 256
      (tail256 (BitVec.ofNat 32 (n % 256)) (getRows hs (a + 256 * (n / 256)) 256) (getRows gs (a + 256 * (n / 256)) 256) wg wu wd)
  else if 0 < n % 256 then
    putRows (chunks a hs gs wg wu wd ys (n / 256)) (a + 256 * (n / 256)) 128
      (tail128 (BitVec.ofNat 32 (n % 256)) (getRows hs (a + 256 * (n / 256)) 128) (getRows gs (a + 256 * (n / 256)) 128) wg wu wd)
  else chunks a hs gs wg wu wd ys (n / 256)

/-- Rows `0 … k-1` of the tile's normalised rows moved to their destinations `d`. -/
def moveH (d : ℕ → ℕ) (o : Vec F S1024x1024 .f32) (hs : Vec F S1312x1024 .f32) : ℕ → Vec F S1312x1024 .f32
  | 0 => hs
  | k + 1 => putRows (moveH d o hs k) (d k) 1 (k0_pay33 (getRows o k 1))

/-- Rows `0 … k-1` of the tile's gates moved to their destinations. -/
def moveG (d : ℕ → ℕ) (r : Vec F S1024x8 .f32) (gs : Vec F S1312x8 .f32) : ℕ → Vec F S1312x8 .f32
  | 0 => gs
  | k + 1 => putRows (moveG d r gs k) (d k) 1 (k0_pay34 (getRows r k 1))

/-- Rows `0 … k-1` of the tile's result fetched back from their destinations. -/
def moveBack (d : ℕ → ℕ) (ys : Vec F S1312x1024 .f32) (o : Vec F S1024x1024 .f32) : ℕ → Vec F S1024x1024 .f32
  | 0 => o
  | k + 1 => putRows (moveBack d ys o k) k 1 (getRows ys (d k) 1)

/-- Entry `j` of a table of 16384 words, as a number. -/
def entry (T : IVec S16384 32) (j : ℕ) : ℕ := (T (ix1 (Fin.ofNat 16384 j))).toNat

/-- Entry `j` of a table of 64 words, as a number. -/
def entry64 (T : IVec S64 32) (j : ℕ) : ℕ := (T (ix1 (Fin.ofNat 64 j))).toNat

end Cert.KernelIdeal

end
-- ==== Proof.Words.lean ====
/-
  The word arithmetic of the kernel body: for a segment of at most 1024 rows that starts at a multiple of 8 with its end
  at row 1052 or below, the trip counts, the branch conditions and the row offsets that the body computes, and that its
  side conditions hold.
-/
module

public import proofs.«01_k».proof.Proof.Rows
public import proofs.«01_k».proof.Proof.Gen.KernelIdeal.Skeleton

@[expose] public section

set_option maxRecDepth 16384

noncomputable section

namespace Cert.KernelIdeal

open Idealize.ShloMosaic Cert.KernelIdeal.Gen

/-- The number of full chunks of 256 rows, as the body computes it (a floor division of words). -/
def nfull (v16 : BitVec 32) : BitVec 32 :=
  Scalar.select
    (Scalar.andi
      (Scalar.cmpi .ne (Scalar.subi (Scalar.extui (Scalar.cmpi .sgt v16 0#32)) (Scalar.extui (Scalar.cmpi .slt v16 0#32)) : BitVec 32)
        (Scalar.subi (Scalar.extui (Scalar.cmpi .sgt 256#32 0#32)) (Scalar.extui (Scalar.cmpi .slt 256#32 0#32)) : BitVec 32))
      (Scalar.cmpi .ne (Scalar.remsi v16 256#32) 0#32))
    (Scalar.subi (Scalar.divsi v16 256#32) 1#32) (Scalar.divsi v16 256#32)

/-- What the body computes from a row count of at most 1024. -/
theorem words (n : ℕ) (hn : n ≤ 1024) :
    (k0_t2_loop (BitVec.ofNat 32 n)).trips = n / 256 ∧ (k0_t2_loop (BitVec.ofNat 32 n)).OK ∧
    (k0_t3_loop (BitVec.ofNat 32 n)).trips = 0 ∧ (k0_t3_loop (BitVec.ofNat 32 n)).OK ∧
    (k0_cond3 (BitVec.ofNat 32 n) = 1#1 ↔ 128 < n % 256) ∧
    (k0_cond4 (BitVec.ofNat 32 n) = 1#1 ↔ 0 < n % 256 ∧ n % 256 ≤ 128) ∧
    nfull (BitVec.ofNat 32 n) = BitVec.ofNat 32 (n / 256) := by
  have h : ∀ n : Fin 1025, (k0_t2_loop (BitVec.ofNat 32 n.val)).trips = n.val / 256 ∧
    (k0_t2_loop (BitVec.ofNat 32 n.val)).OK ∧
    (k0_t3_loop (BitVec.ofNat 32 n.val)).trips = 0 ∧ (k0_t3_loop (BitVec.ofNat 32 n.val)).OK ∧
    (k0_cond3 (BitVec.ofNat 32 n.val) = 1#1 ↔ 128 < n.val % 256) ∧
    (k0_cond4 (BitVec.ofNat 32 n.val) = 1#1 ↔ 0 < n.val % 256 ∧ n.val % 256 ≤ 128) ∧
    nfull (BitVec.ofNat 32 n.val) = BitVec.ofNat 32 (n.val / 256) := by decide +kernel
  exact h ⟨n, by omega⟩

/-- Rows `d …` of a block of `m` rows and all columns lie inside a buffer of `R` rows. -/
theorem rows_inb (off : Fin 2 → ℕ) (d m R N : ℕ) (hoff : off = ![d, 0]) (h : d + m ≤ R) :
    ∀ i, off i + (⟨2, ![m, N]⟩ : Shape).size i ≤ (⟨2, ![R, N]⟩ : Shape).size i := by
  subst hoff
  intro i
  match i with
  | ⟨0, _⟩ => exact h
  | ⟨1, _⟩ => show 0 + N ≤ N; omega

section offsets

variable (v12 v16 : BitVec 32) (a n : ℕ) (h12 : v12.toNat = a) (h16 : v16.toNat = n) (hn : n ≤ 1024) (ha : a + n ≤ 1052)
include h12 h16 hn ha

theorem w16 : v16 = BitVec.ofNat 32 n := by rw [← h16]; simp

theorem trips2 : (k0_t2_loop v16).trips = n / 256 := by
  rw [w16 v12 v16 a n h12 h16 hn ha]; exact (words n hn).1

theorem trips3 : (k0_t3_loop v16).trips = 0 := by
  rw [w16 v12 v16 a n h12 h16 hn ha]; exact (words n hn).2.2.1

theorem cond3_iff : k0_cond3 v16 = 1#1 ↔ 128 < n % 256 := by
  rw [w16 v12 v16 a n h12 h16 hn ha]; exact (words n hn).2.2.2.2.1

theorem cond4_iff : k0_cond4 v16 = 1#1 ↔ 0 < n % 256 ∧ n % 256 ≤ 128 := by
  rw [w16 v12 v16 a n h12 h16 hn ha]; exact (words n hn).2.2.2.2.2.1

theorem nfull_eq : nfull v16 = BitVec.ofNat 32 (n / 256) := by
  rw [w16 v12 v16 a n h12 h16 hn ha]; exact (words n hn).2.2.2.2.2.2

theorem chunk_word (t : ℕ) (ht : t < n / 256) :
    (Scalar.addi v12 (Scalar.muli (Scf.iv 0#32 1#32 t) 256#32) : BitVec 32).toNat = a + 256 * t := by
  show (v12 + (0#32 + BitVec.ofNat 32 t * 1#32) * 256#32).toNat = _
  simp only [BitVec.toNat_add, BitVec.toNat_mul, BitVec.toNat_ofNat, h12]
  omega

theorem off7_eq (t : Fin (k0_t2_loop v16).trips) : k0_off7 v12 v16 t = ![a + 256 * t.val, 0] := by
  have ht : t.val < n / 256 := lt_of_lt_of_eq t.isLt (trips2 v12 v16 a n h12 h16 hn ha)
  rw [← chunk_word v12 v16 a n h12 h16 hn ha t.val ht]; rfl

theorem off8_eq (t : Fin (k0_t2_loop v16).trips) : k0_off8 v12 v16 t = ![a + 256 * t.val, 0] := by
  have ht : t.val < n / 256 := lt_of_lt_of_eq t.isLt (trips2 v12 v16 a n h12 h16 hn ha)
  rw [← chunk_word v12 v16 a n h12 h16 hn ha t.val ht]; rfl

theorem mult1_eq (t : Fin (k0_t2_loop v16).trips) : (k0_mult1 v12 v16 t).toNat = a + 256 * t.val := by
  have ht : t.val < n / 256 := lt_of_lt_of_eq t.isLt (trips2 v12 v16 a n h12 h16 hn ha)
  rw [← chunk_word v12 v16 a n h12 h16 hn ha t.val ht]; rfl

theorem tail_word : (Scalar.addi v12 (Scalar.muli (nfull v16) 256#32) : BitVec 32).toNat = a + 256 * (n / 256) := by
  rw [nfull_eq v12 v16 a n h12 h16 hn ha]
  show (v12 + BitVec.ofNat 32 (n / 256) * 256#32).toNat = _
  simp only [BitVec.toNat_add, BitVec.toNat_mul, BitVec.toNat_ofNat, h12]
  omega

theorem rem_word : (Scalar.subi v16 (Scalar.muli (nfull v16) 256#32) : BitVec 32) = BitVec.ofNat 32 (n % 256) := by
  rw [nfull_eq v12 v16 a n h12 h16 hn ha]
  apply BitVec.eq_of_toNat_eq
  show (v16 - BitVec.ofNat 32 (n / 256) * 256#32).toNat = _
  simp only [BitVec.toNat_sub, BitVec.toNat_mul, BitVec.toNat_ofNat, h16]
  omega

theorem off11_eq : k0_off11 v12 v16 = ![a + 256 * (n / 256), 0] := by
  rw [← tail_word v12 v16 a n h12 h16 hn ha]; rfl
theorem off12_eq : k0_off12 v12 v16 = ![a + 256 * (n / 256), 0] := by
  rw [← tail_word v12 v16 a n h12 h16 hn ha]; rfl
theorem off13_eq : k0_off13 v12 v16 = ![a + 256 * (n / 256), 0] := by
  rw [← tail_word v12 v16 a n h12 h16 hn ha]; rfl
theorem off14_eq : k0_off14 v12 v16 = ![a + 256 * (n / 256), 0] := by
  rw [← tail_word v12 v16 a n h12 h16 hn ha]; rfl
theorem mult3_eq : (k0_mult3 v12 v16).toNat = a + 256 * (n / 256) := by
  rw [← tail_word v12 v16 a n h12 h16 hn ha]; rfl
theorem mult4_eq : (k0_mult4 v12 v16).toNat = a + 256 * (n / 256) := by
  rw [← tail_word v12 v16 a n h12 h16 hn ha]; rfl

/-- The side condition of the segment's start and row count. -/
theorem chk2_of (h8 : 8 ∣ a) : k0_chk2 v12 v16 := by
  have hw := words n hn
  rw [← w16 v12 v16 a n h12 h16 hn ha] at hw
  obtain ⟨-, ok2, tr3, ok3, -, -, -⟩ := hw
  have no3 : ∀ t : Fin (k0_t3_loop v16).trips, False := fun t => by have := t.isLt; omega
  have lt2 : ∀ t : Fin (k0_t2_loop v16).trips, t.val < n / 256 := fun t => lt_of_lt_of_eq t.isLt (trips2 v12 v16 a n h12 h16 hn ha)
  refine ⟨ok2, fun t => ?_, fun t => ?_, fun t => ?_, ok3, fun t => (no3 t).elim, fun t => (no3 t).elim, fun t => (no3 t).elim,
    fun _ => ?_, fun _ => ?_, fun _ => ?_, fun _ => ?_, fun _ => ?_, fun _ => ?_⟩
  · rw [mult1_eq v12 v16 a n h12 h16 hn ha]; omega
  · have := lt2 t
    exact rows_inb _ _ 256 1312 1024 (off7_eq v12 v16 a n h12 h16 hn ha t) (by omega)
  · have := lt2 t
    exact rows_inb _ _ 256 1312 8 (off8_eq v12 v16 a n h12 h16 hn ha t) (by omega)
  · rw [mult3_eq v12 v16 a n h12 h16 hn ha]; omega
  · exact rows_inb _ _ 256 1312 1024 (off11_eq v12 v16 a n h12 h16 hn ha) (by omega)
  · exact rows_inb _ _ 256 1312 8 (off12_eq v12 v16 a n h12 h16 hn ha) (by omega)
  · rw [mult4_eq v12 v16 a n h12 h16 hn ha]; omega
  · exact rows_inb _ _ 128 1312 1024 (off13_eq v12 v16 a n h12 h16 hn ha) (by omega)
  · exact rows_inb _ _ 128 1312 8 (off14_eq v12 v16 a n h12 h16 hn ha) (by omega)

end offsets

/-! ### The offsets that depend on the grid point and the trip only -/

theorem trips1 : k0_t1_loop.trips = 1024 := by decide +kernel
theorem trips4 : k0_t4_loop.trips = 1024 := by decide +kernel

theorem off1_eq (i : grid0.Coords) (k : Fin k0_t1_loop.trips) : k0_off1 i k = ![1024 * (i 0).val + k.val] := by
  have h0 : (i 0).val < 16 := (i 0).isLt
  have hk : k.val < 1024 := lt_of_lt_of_eq k.isLt trips1
  have : (BitVec.ofNat 32 (i 0).val * 1024#32 + (0#32 + BitVec.ofNat 32 k.val * 1#32)).toNat = 1024 * (i 0).val + k.val := by
    simp only [BitVec.toNat_add, BitVec.toNat_mul, BitVec.toNat_ofNat]
    omega
  rw [← this]; rfl

theorem off15_eq (i : grid0.Coords) (k : Fin k0_t4_loop.trips) : k0_off15 i k = ![1024 * (i 0).val + k.val] := by
  have h0 : (i 0).val < 16 := (i 0).isLt
  have hk : k.val < 1024 := lt_of_lt_of_eq k.isLt trips4
  have : (BitVec.ofNat 32 (i 0).val * 1024#32 + (0#32 + BitVec.ofNat 32 k.val * 1#32)).toNat = 1024 * (i 0).val + k.val := by
    simp only [BitVec.toNat_add, BitVec.toNat_mul, BitVec.toNat_ofNat]
    omega
  rw [← this]; rfl

theorem off6_eq (i : grid0.Coords) : k0_off6 i = ![4 * (i 0).val + (i 1).val] := by
  have h0 : (i 0).val < 16 := (i 0).isLt
  have h1 : (i 1).val < 4 := (i 1).isLt
  have : (BitVec.ofNat 32 (i 0).val * 4#32 + BitVec.ofNat 32 (i 1).val).toNat = 4 * (i 0).val + (i 1).val := by
    simp only [BitVec.toNat_add, BitVec.toNat_mul, BitVec.toNat_ofNat]
    omega
  rw [← this]; rfl

theorem iv_eq (k : ℕ) (hk : k < 1024) : (0#32 + BitVec.ofNat 32 k * 1#32).toNat = k := by
  simp only [BitVec.toNat_add, BitVec.toNat_mul, BitVec.toNat_ofNat]
  omega

theorem off2_eq (k : Fin k0_t1_loop.trips) : k0_off2 k = ![k.val, 0] := by
  conv_rhs => rw [← iv_eq k.val (lt_of_lt_of_eq k.isLt trips1)]
  rfl
theorem off4_eq (k : Fin k0_t1_loop.trips) : k0_off4 k = ![k.val, 0] := by
  conv_rhs => rw [← iv_eq k.val (lt_of_lt_of_eq k.isLt trips1)]
  rfl
theorem off17_eq (k : Fin k0_t4_loop.trips) : k0_off17 k = ![k.val, 0] := by
  conv_rhs => rw [← iv_eq k.val (lt_of_lt_of_eq k.isLt trips4)]
  rfl

/-- The branch taken at the first group. -/
theorem cond2_iff (i : grid0.Coords) : k0_cond2 i = 1#1 ↔ (i 1).val = 0 := by
  have h : ∀ g : Fin 4, (Scalar.cmpi .ne (Scalar.extui (Scalar.cmpi .eq (BitVec.ofNat 32 g.val) 0#32) : BitVec 32) 0#32 : BitVec 1) = 1#1
      ↔ g.val = 0 := by decide
  exact h (i 1)

/-- The branch taken at the first group of the first tile is one taken at a first group. -/
theorem zero_of_both (i : grid0.Coords) (h : (Scalar.cmpi .ne (Scalar.extui (Scalar.andi
    (Scalar.cmpi .eq (BitVec.ofNat 32 (i 0).val) 0#32) (Scalar.cmpi .eq (BitVec.ofNat 32 (i 1).val) 0#32)) : BitVec 32) 0#32 : BitVec 1) = 1#1) :
    (i 1).val = 0 := by
  have h' : ∀ (a : Fin 16) (g : Fin 4), (Scalar.cmpi .ne (Scalar.extui (Scalar.andi
    (Scalar.cmpi .eq (BitVec.ofNat 32 a.val) 0#32) (Scalar.cmpi .eq (BitVec.ofNat 32 g.val) 0#32)) : BitVec 32) 0#32 : BitVec 1) = 1#1 →
    g.val = 0 := by decide
  exact h' (i 0) (i 1) h

/-- The branch taken at the last group. -/
theorem cond5_iff (i : grid0.Coords) : k0_cond5 i = 1#1 ↔ (i 1).val = 3 := by
  have h : ∀ g : Fin 4, (Scalar.cmpi .ne (Scalar.extui (Scalar.cmpi .eq (BitVec.ofNat 32 g.val) 3#32) : BitVec 32) 0#32 : BitVec 1) = 1#1
      ↔ g.val = 3 := by decide
  exact h (i 1)

/-- The side conditions of a destination row inside the buffer. -/
theorem chk1_of (i : grid0.Coords) (v : BitVec 32) (h : v.toNat < 1312) : k0_chk1 i v :=
  ⟨fun _ => rows_inb _ v.toNat 1 1312 1024 rfl (by omega), fun _ => rows_inb _ v.toNat 1 1312 8 rfl (by omega)⟩

theorem chk3_of (i : grid0.Coords) (v : BitVec 32) (h : v.toNat < 1312) : k0_chk3 i v :=
  fun _ => rows_inb _ v.toNat 1 1312 1024 rfl (by omega)

/-- A word of a table of `N` words, read at place `d`. -/
theorem word_at {N : ℕ} [NeZero N] {α : Type} (T : (⟨1, ![N]⟩ : Shape).Idx → α) (d : ℕ) (off : Fin 1 → ℕ) (hoff : off = ![d])
    (inb : ∀ a, off a + (![1] : Fin 1 → ℕ) a ≤ (⟨1, ![N]⟩ : Shape).size a)
    (x : (Rect.unit (s := ⟨1, ![N]⟩) off ![1] inb).toLoadRect.shape.Idx) :
    T ((Rect.unit (s := ⟨1, ![N]⟩) off ![1] inb).toLoadRect.idx x) = T (ix1 (Fin.ofNat N d)) := by
  subst hoff
  congr 1
  funext a
  match a with
  | ⟨0, _⟩ =>
    apply Fin.ext
    have hx : (x 0).val < 1 := (x 0).isLt
    have h : d + 1 ≤ N := inb 0
    show d + 1 * (x 0).val = d % N
    rw [Nat.mod_eq_of_lt (by omega)]; omega

end Cert.KernelIdeal

end
-- ==== Proof.Trips.lean ====
/-
  One trip of each of the body's loops, and its two tails, at the level of contents.
-/
module

public import proofs.«01_k».proof.Proof.Model
public import proofs.«01_k».proof.Proof.Words
public import Idealize.ShloMosaic.Lib.Pipeline.Kit

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Proof

variable {F : FTy → Type} [FloatOps F]

variable (c : Dev nD) (i : grid0.Coords)
  (arg2 : Memref sig .tc .smem S16384 .i32) (harg2 : arg2.IsWhole)
  (arg3 : Memref sig .tc .smem S64 .i32) (harg3 : arg3.IsWhole)
  (arg4 : Memref sig .tc .smem S64 .i32) (harg4 : arg4.IsWhole)
  (arg5 : Memref sig .tc .vmem S1024x1024 .f32) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024 .f32) (harg9 : arg9.IsWhole)
  (arg10 : Memref sig .tc .vmem S1024x8 .f32) (harg10 : arg10.IsWhole)
  (arg11 : Memref sig .tc .vmem S4x1024x256 .bf16) (harg11 : arg11.IsWhole)
  (arg12 : Memref sig .tc .vmem S4x1024x256 .bf16) (harg12 : arg12.IsWhole)
  (arg13 : Memref sig .tc .vmem S4x256x1024 .bf16) (harg13 : arg13.IsWhole)
  (arg14 : Memref sig .tc .vmem S1024x1024 .f32) (harg14 : arg14.IsWhole)
  (arg15 : Memref sig .tc .vmem S1312x1024 .f32) (harg15 : arg15.IsWhole)
  (arg16 : Memref sig .tc .vmem S1312x8 .f32) (harg16 : arg16.IsWhole)
  (arg17 : Memref sig .tc .vmem S1312x1024 .f32) (harg17 : arg17.IsWhole)

set_option maxHeartbeats 4000000 in
/-- One full chunk. -/
theorem trip2 (v12 v16 : BitVec 32) (a n : ℕ) (h12 : v12.toNat = a) (h16 : v16.toNat = n) (hn : n ≤ 1024) (ha : a + n ≤ 1052)
    (hw : k0_chk2 v12 v16) (z : BitVec 32) (k : Fin (k0_t2_loop v16).trips) (u : Unit)
    (wg wu : Vec F S4x1024x256 .bf16) (wd : Vec F S4x256x1024 .bf16)
    (hs : Vec F S1312x1024 .f32) (gs : Vec F S1312x8 .f32) (ys : Vec F S1312x1024 .f32) :
    (iprop(owns c arg11 fullShare wg ∗ owns c arg12 fullShare wu ∗ owns c arg13 fullShare wd ∗
        owns c arg15 fullShare hs ∗ owns c arg16 fullShare gs ∗ owns c arg17 fullShare ys) : sProp (MT nD τ sig Unit (Elt F) ℕ (UR sig nD τ) ℕ))
      ⊢ wp frame (wpE (defs₀ (F := F)) Variants.none (c : Thread nD τ) none) Set.univ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v12 v16 hw z k u)
        (fun _ => iprop(owns c arg11 fullShare wg ∗ owns c arg12 fullShare wu ∗ owns c arg13 fullShare wd ∗
          owns c arg15 fullShare hs ∗ owns c arg16 fullShare gs ∗
          owns c arg17 fullShare (putRows ys (a + 256 * k.val) 256
            (ffn256 (getRows hs (a + 256 * k.val) 256) (getRows gs (a + 256 * k.val) 256) wg wu wd)))) := by
  unfold k0_t2_body
  simp only [k0_part1_eq_skeleton, k0_part2_eq_skeleton]
  unfold k0_part1_skel k0_part2_skel
  simp only [Prog.lift, Prog.bind_op, Prog.bind_ret, Prog.pure_eq_ret, Prog.bind_assoc]
  iintro ⟨H11, H12, H13, H15, H16, H17⟩
  iapply (wp_load_owns Variants.none (c : Thread nD τ) none) $$ H15; iintro H15
  iapply (wp_load_owns Variants.none (c : Thread nD τ) none) $$ H16; iintro H16
  iapply (wp_load_owns Variants.none (c : Thread nD τ) none) $$ H11; iintro H11
  iapply (wp_load_owns Variants.none (c : Thread nD τ) none) $$ H12; iintro H12
  iapply (wp_load_owns Variants.none (c : Thread nD τ) none) $$ H13; iintro H13
  iapply (wp_load_owns Variants.none (c : Thread nD τ) none) $$ H11; iintro H11
  iapply (wp_load_owns Variants.none (c : Thread nD τ) none) $$ H12; iintro H12
  iapply (wp_load_owns Variants.none (c : Thread nD τ) none) $$ H13; iintro H13
  iapply (wp_load_owns Variants.none (c : Thread nD τ) none) $$ H11; iintro H11
  iapply (wp_load_owns Variants.none (c : Thread nD τ) none) $$ H12; iintro H12
  iapply (wp_load_owns Variants.none (c : Thread nD τ) none) $$ H13; iintro H13
  iapply (wp_load_owns Variants.none (c : Thread nD τ) none) $$ H11; iintro H11
  iapply (wp_load_owns Variants.none (c : Thread nD τ) none) $$ H12; iintro H12
  iapply (wp_load_owns Variants.none (c : Thread nD τ) none) $$ H13; iintro H13
  iapply (wp_load_owns Variants.none (c : Thread nD τ) none) $$ H17; iintro H17
  iapply (wp_store_owns Variants.none (c : Thread nD τ) none) $$ H17; iintro H17
  rw [ld_rows hs _ 256 _ (off7_eq v12 v16 a n h12 h16 hn ha k), ld_rows gs _ 256 _ (off8_eq v12 v16 a n h12 h16 hn ha k),
    overlay_rows ys _ 256 _ (off7_eq v12 v16 a n h12 h16 hn ha k)]
  unfold ffn256 slabU slabD
  rw [wp_ret]
  imodintro
  isplitl [H11]; · iexact H11
  isplitl [H12]; · iexact H12
  isplitl [H13]; · iexact H13
  isplitl [H15]; · iexact H15
  isplitl [H16]; · iexact H16
  iexact H17

set_option maxHeartbeats 4000000 in
/-- One row of the tile and its gates moved to their destination. -/
theorem trip1 (h2 : k0_cond2 i = 1#1) (q : PosShare TreeShare) (T : S16384.Idx → Elt F .i32)
    (hd : ∀ j, j < 1024 → entry T (1024 * (i 0).val + j) < 1312) (k : Fin k0_t1_loop.trips) (u : Unit)
    (o : Vec F S1024x1024 .f32) (r : Vec F S1024x8 .f32) (hs : Vec F S1312x1024 .f32) (gs : Vec F S1312x8 .f32) :
    (iprop(owns c arg2 q T ∗ owns c arg10 fullShare r ∗ owns c arg14 fullShare o ∗
        owns c arg15 fullShare hs ∗ owns c arg16 fullShare gs) : sProp (MT nD τ sig Unit (Elt F) ℕ (UR sig nD τ) ℕ))
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 k u)
        (fun _ => iprop(owns c arg2 q T ∗ owns c arg10 fullShare r ∗ owns c arg14 fullShare o ∗
          owns c arg15 fullShare (putRows hs (entry T (1024 * (i 0).val + k.val)) 1 (k0_pay33 (getRows o k.val 1))) ∗
          owns c arg16 fullShare (putRows gs (entry T (1024 * (i 0).val + k.val)) 1 (k0_pay34 (getRows r k.val 1))))) := by
  have hk : k.val < 1024 := lt_of_lt_of_eq k.isLt trips1
  have hlt := hd k.val hk
  unfold entry at hlt ⊢
  unfold k0_t1_body
  simp only [Prog.lift, Prog.bind_op, Prog.bind_ret, Prog.pure_eq_ret, Prog.bind_assoc]
  iintro ⟨H2, H10, H14, H15, H16⟩
  iapply (wp_smem_owns Variants.none (c : Thread nD τ) none) $$ H2
  iintro H2
  rw [word_at T _ _ (off1_eq i k)]
  generalize T (ix1 (Fin.ofNat 16384 (1024 * (i 0).val + k.val))) = w at hlt ⊢
  simp only [Prog.bind_op, Prog.bind_ret, Prog.pure_eq_ret, Prog.bind_assoc]
  rw [wp_assume_of Variants.none (c : Thread nD τ) none Set.univ (chk1_of i w hlt)]
  simp only [Prog.bind_op, Prog.bind_ret, Prog.pure_eq_ret, Prog.bind_assoc]
  iapply (wp_load_owns Variants.none (c : Thread nD τ) none) $$ H14; iintro H14
  iapply (wp_load_owns Variants.none (c : Thread nD τ) none) $$ H15; iintro H15
  iapply (wp_store_owns Variants.none (c : Thread nD τ) none) $$ H15; iintro H15
  iapply (wp_load_owns Variants.none (c : Thread nD τ) none) $$ H10; iintro H10
  iapply (wp_load_owns Variants.none (c : Thread nD τ) none) $$ H16; iintro H16
  iapply (wp_store_owns Variants.none (c : Thread nD τ) none) $$ H16; iintro H16
  rw [ld_rows o _ 1 _ (off2_eq k), ld_rows r _ 1 _ (off4_eq k), overlay_rows hs w.toNat 1 (k0_off3 w) rfl,
    overlay_rows gs w.toNat 1 (k0_off5 w) rfl]
  rw [wp_ret]
  imodintro
  isplitl [H2]; · iexact H2
  isplitl [H10]; · iexact H10
  isplitl [H14]; · iexact H14
  isplitl [H15]; · iexact H15
  iexact H16

set_option maxHeartbeats 4000000 in
/-- One row of the result fetched back. -/
theorem trip4 (h5 : k0_cond5 i = 1#1) (q : PosShare TreeShare) (T : S16384.Idx → Elt F .i32)
    (hd : ∀ j, j < 1024 → entry T (1024 * (i 0).val + j) < 1312) (k : Fin k0_t4_loop.trips) (u : Unit)
    (o : Vec F S1024x1024 .f32) (ys : Vec F S1312x1024 .f32) :
    (iprop(owns c arg2 q T ∗ owns c arg14 fullShare o ∗ owns c arg17 fullShare ys) : sProp (MT nD τ sig Unit (Elt F) ℕ (UR sig nD τ) ℕ))
      ⊢ wp frame (wpE (defs₀ (F := F)) Variants.none (c : Thread nD τ) none) Set.univ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h5 k u)
        (fun _ => iprop(owns c arg2 q T ∗
          owns c arg14 fullShare (putRows o k.val 1 (getRows ys (entry T (1024 * (i 0).val + k.val)) 1)) ∗
          owns c arg17 fullShare ys)) := by
  have hk : k.val < 1024 := lt_of_lt_of_eq k.isLt trips4
  have hlt := hd k.val hk
  unfold entry at hlt ⊢
  unfold k0_t4_body
  simp only [Prog.lift, Prog.bind_op, Prog.bind_ret, Prog.pure_eq_ret, Prog.bind_assoc]
  iintro ⟨H2, H14, H17⟩
  iapply (wp_smem_owns Variants.none (c : Thread nD τ) none) $$ H2
  iintro H2
  rw [word_at T _ _ (off15_eq i k)]
  generalize T (ix1 (Fin.ofNat 16384 (1024 * (i 0).val + k.val))) = w at hlt ⊢
  simp only [Prog.bind_op, Prog.bind_ret, Prog.pure_eq_ret, Prog.bind_assoc]
  rw [wp_assume_of Variants.none (c : Thread nD τ) none Set.univ (chk3_of i w hlt)]
  simp only [Prog.bind_op, Prog.bind_ret, Prog.pure_eq_ret, Prog.bind_assoc]
  iapply (wp_load_owns Variants.none (c : Thread nD τ) none) $$ H17; iintro H17
  iapply (wp_load_owns Variants.none (c : Thread nD τ) none) $$ H14; iintro H14
  iapply (wp_store_owns Variants.none (c : Thread nD τ) none) $$ H14; iintro H14
  rw [ld_rows ys w.toNat 1 (k0_off16 w) rfl, overlay_rows o _ 1 _ (off17_eq k)]
  rw [wp_ret]
  imodintro
  isplitl [H2]; · iexact H2
  isplitl [H14]; · iexact H14
  iexact H17

end Cert.KernelIdeal

end
-- ==== Proof.Loops.lean ====
/-
  The body's loops, at the level of contents.
-/
module

public import proofs.«01_k».proof.Proof.Model
public import proofs.«01_k».proof.Proof.Trips
public import Idealize.ShloMosaic.Lib.Pipeline.Kit

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Proof

variable {F : FTy → Type} [FloatOps F]

variable (c : Dev nD) (i : grid0.Coords)
  (arg2 : Memref sig .tc .smem S16384 .i32) (harg2 : arg2.IsWhole)
  (arg3 : Memref sig .tc .smem S64 .i32) (harg3 : arg3.IsWhole)
  (arg4 : Memref sig .tc .smem S64 .i32) (harg4 : arg4.IsWhole)
  (arg5 : Memref sig .tc .vmem S1024x1024 .f32) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024 .f32) (harg9 : arg9.IsWhole)
  (arg10 : Memref sig .tc .vmem S1024x8 .f32) (harg10 : arg10.IsWhole)
  (arg11 : Memref sig .tc .vmem S4x1024x256 .bf16) (harg11 : arg11.IsWhole)
  (arg12 : Memref sig .tc .vmem S4x1024x256 .bf16) (harg12 : arg12.IsWhole)
  (arg13 : Memref sig .tc .vmem S4x256x1024 .bf16) (harg13 : arg13.IsWhole)
  (arg14 : Memref sig .tc .vmem S1024x1024 .f32) (harg14 : arg14.IsWhole)
  (arg15 : Memref sig .tc .vmem S1312x1024 .f32) (harg15 : arg15.IsWhole)
  (arg16 : Memref sig .tc .vmem S1312x8 .f32) (harg16 : arg16.IsWhole)
  (arg17 : Memref sig .tc .vmem S1312x1024 .f32) (harg17 : arg17.IsWhole)

set_option maxHeartbeats 4000000 in
/-- The tile's rows and gates moved to their destinations. -/
theorem loop1 (h2 : k0_cond2 i = 1#1) (q : PosShare TreeShare) (T : S16384.Idx → Elt F .i32)
    (hd : ∀ j, j < 1024 → entry T (1024 * (i 0).val + j) < 1312)
    (o : Vec F S1024x1024 .f32) (r : Vec F S1024x8 .f32) (hs : Vec F S1312x1024 .f32) (gs : Vec F S1312x8 .f32)
    {β : Type} {kk : Unit → Prog (TpuEff nD τ sig (Elt F) Λ₀ .tc) β} {Q : β → sProp (MT nD τ sig Unit (Elt F) ℕ (UR sig nD τ) ℕ)} :
    (iprop(owns c arg2 q T ∗ owns c arg10 fullShare r ∗ owns c arg14 fullShare o ∗
        owns c arg15 fullShare hs ∗ owns c arg16 fullShare gs) : sProp (MT nD τ sig Unit (Elt F) ℕ (UR sig nD τ) ℕ))
      ⊢ iprop((owns c arg2 q T ∗ owns c arg10 fullShare r ∗ owns c arg14 fullShare o ∗
          owns c arg15 fullShare (moveH (fun j => entry T (1024 * (i 0).val + j)) o hs 1024) ∗
          owns c arg16 fullShare (moveG (fun j => entry T (1024 * (i 0).val + j)) r gs 1024) -∗ wp frame (wpE (defs₀ (F := F)) Variants.none (c : Thread nD τ) none) Set.univ (kk ⟨⟩) Q)
        -∗ wp frame (wpE (defs₀ (F := F)) Variants.none (c : Thread nD τ) none) Set.univ (Scf.Loop.for k0_t1_loop (k0_t1_ok i h2) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2) >>= kk) Q) := by
  show (iprop(owns c arg2 q T ∗ owns c arg10 fullShare r ∗ owns c arg14 fullShare o ∗
        owns c arg15 fullShare (moveH (fun j => entry T (1024 * (i 0).val + j)) o hs 0) ∗ owns c arg16 fullShare (moveG (fun j => entry T (1024 * (i 0).val + j)) r gs 0)) : sProp (MT nD τ sig Unit (Elt F) ℕ (UR sig nD τ) ℕ)) ⊢ _
  iintro H HK
  iapply (Scf.wp_for_bind frame (wpE (defs₀ (F := F)) Variants.none (c : Thread nD τ) none) Set.univ _ _ _ (k0_t1_ok i h2) ⟨⟩ _
    (fun k _ => iprop(owns c arg2 q T ∗ owns c arg10 fullShare r ∗ owns c arg14 fullShare o ∗
          owns c arg15 fullShare (moveH (fun j => entry T (1024 * (i 0).val + j)) o hs k) ∗
          owns c arg16 fullShare (moveG (fun j => entry T (1024 * (i 0).val + j)) r gs k)))
    (fun k u => trip1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 q T hd k u o r _ _)) $$ H
  iintro %u H
  iapply HK
  rw [show Scf.trips k0_t1_loop.lb k0_t1_loop.ub k0_t1_loop.st = 1024 from trips1]
  iexact H

set_option maxHeartbeats 4000000 in
/-- The result's rows fetched back. -/
theorem loop4 (h5 : k0_cond5 i = 1#1) (q : PosShare TreeShare) (T : S16384.Idx → Elt F .i32)
    (hd : ∀ j, j < 1024 → entry T (1024 * (i 0).val + j) < 1312)
    (o : Vec F S1024x1024 .f32) (ys : Vec F S1312x1024 .f32)
    {β : Type} {kk : Unit → Prog (TpuEff nD τ sig (Elt F) Λ₀ .tc) β} {Q : β → sProp (MT nD τ sig Unit (Elt F) ℕ (UR sig nD τ) ℕ)} :
    (iprop(owns c arg2 q T ∗ owns c arg14 fullShare o ∗ owns c arg17 fullShare ys) : sProp (MT nD τ sig Unit (Elt F) ℕ (UR sig nD τ) ℕ))
      ⊢ iprop((owns c arg2 q T ∗
          owns c arg14 fullShare (moveBack (fun j => entry T (1024 * (i 0).val + j)) ys o 1024) ∗
          owns c arg17 fullShare ys -∗ wp frame (wpE (defs₀ (F := F)) Variants.none (c : Thread nD τ) none) Set.univ (kk ⟨⟩) Q)
        -∗ wp frame (wpE (defs₀ (F := F)) Variants.none (c : Thread nD τ) none) Set.univ (Scf.Loop.for k0_t4_loop (k0_t4_ok i h5) ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h5) >>= kk) Q) := by
  show (iprop(owns c arg2 q T ∗ owns c arg14 fullShare (moveBack (fun j => entry T (1024 * (i 0).val + j)) ys o 0) ∗ owns c arg17 fullShare ys) : sProp (MT nD τ sig Unit (Elt F) ℕ (UR sig nD τ) ℕ)) ⊢ _
  iintro H HK
  iapply (Scf.wp_for_bind frame (wpE (defs₀ (F := F)) Variants.none (c : Thread nD τ) none) Set.univ _ _ _ (k0_t4_ok i h5) ⟨⟩ _
    (fun k _ => iprop(owns c arg2 q T ∗
          owns c arg14 fullShare (moveBack (fun j => entry T (1024 * (i 0).val + j)) ys o k) ∗
          owns c arg17 fullShare ys))
    (fun k u => trip4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h5 q T hd k u _ ys)) $$ H
  iintro %u H
  iapply HK
  rw [show Scf.trips k0_t4_loop.lb k0_t4_loop.ub k0_t4_loop.st = 1024 from trips4]
  iexact H

set_option maxHeartbeats 4000000 in
/-- The full chunks of the group's segment. -/
theorem loop2 (v12 v16 : BitVec 32) (a n : ℕ) (h12 : v12.toNat = a) (h16 : v16.toNat = n) (hn : n ≤ 1024) (ha : a + n ≤ 1052)
    (hw : k0_chk2 v12 v16) (z : BitVec 32)
    (wg wu : Vec F S4x1024x256 .bf16) (wd : Vec F S4x256x1024 .bf16)
    (hs : Vec F S1312x1024 .f32) (gs : Vec F S1312x8 .f32) (ys : Vec F S1312x1024 .f32)
    {β : Type} {kk : Unit → Prog (TpuEff nD τ sig (Elt F) Λ₀ .tc) β} {Q : β → sProp (MT nD τ sig Unit (Elt F) ℕ (UR sig nD τ) ℕ)} :
    (iprop(owns c arg11 fullShare wg ∗ owns c arg12 fullShare wu ∗ owns c arg13 fullShare wd ∗
        owns c arg15 fullShare hs ∗ owns c arg16 fullShare gs ∗ owns c arg17 fullShare ys) : sProp (MT nD τ sig Unit (Elt F) ℕ (UR sig nD τ) ℕ))
      ⊢ iprop((owns c arg11 fullShare wg ∗ owns c arg12 fullShare wu ∗ owns c arg13 fullShare wd ∗
          owns c arg15 fullShare hs ∗ owns c arg16 fullShare gs ∗
          owns c arg17 fullShare (chunks a hs gs wg wu wd ys (n / 256)) -∗ wp frame (wpE (defs₀ (F := F)) Variants.none (c : Thread nD τ) none) Set.univ (kk ⟨⟩) Q)
        -∗ wp frame (wpE (defs₀ (F := F)) Variants.none (c : Thread nD τ) none) Set.univ (Scf.Loop.for (k0_t2_loop v16) (k0_t2_ok v12 v16 hw) ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v12 v16 hw z) >>= kk) Q) := by
  show (iprop(owns c arg11 fullShare wg ∗ owns c arg12 fullShare wu ∗ owns c arg13 fullShare wd ∗
        owns c arg15 fullShare hs ∗ owns c arg16 fullShare gs ∗ owns c arg17 fullShare (chunks a hs gs wg wu wd ys 0)) : sProp (MT nD τ sig Unit (Elt F) ℕ (UR sig nD τ) ℕ)) ⊢ _
  iintro H HK
  iapply (Scf.wp_for_bind frame (wpE (defs₀ (F := F)) Variants.none (c : Thread nD τ) none) Set.univ _ _ _ (k0_t2_ok v12 v16 hw) ⟨⟩ _
    (fun k _ => iprop(owns c arg11 fullShare wg ∗ owns c arg12 fullShare wu ∗ owns c arg13 fullShare wd ∗
          owns c arg15 fullShare hs ∗ owns c arg16 fullShare gs ∗
          owns c arg17 fullShare (chunks a hs gs wg wu wd ys k)))
    (fun k u => trip2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v12 v16 a n h12 h16 hn ha hw z k u wg wu wd hs gs _)) $$ H
  iintro %u H
  iapply HK
  rw [show Scf.trips (k0_t2_loop v16).lb (k0_t2_loop v16).ub (k0_t2_loop v16).st = n / 256 from trips2 v12 v16 a n h12 h16 hn ha]
  iexact H

set_option maxHeartbeats 4000000 in
/-- The loop behind the full chunks makes no trip. -/
theorem loop3 (v12 v16 : BitVec 32) (a n : ℕ) (h12 : v12.toNat = a) (h16 : v16.toNat = n) (hn : n ≤ 1024) (ha : a + n ≤ 1052)
    (hw : k0_chk2 v12 v16) (z : BitVec 32)
    {β : Type} {kk : Unit → Prog (TpuEff nD τ sig (Elt F) Λ₀ .tc) β} {Q : β → sProp (MT nD τ sig Unit (Elt F) ℕ (UR sig nD τ) ℕ)} :
    (iprop(emp) : sProp (MT nD τ sig Unit (Elt F) ℕ (UR sig nD τ) ℕ))
      ⊢ iprop(wp frame (wpE (defs₀ (F := F)) Variants.none (c : Thread nD τ) none) Set.univ (kk ⟨⟩) Q
        -∗ wp frame (wpE (defs₀ (F := F)) Variants.none (c : Thread nD τ) none) Set.univ (Scf.Loop.for (k0_t3_loop v16) (k0_t3_ok v12 v16 hw) ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v12 v16 hw z) >>= kk) Q) := by
  iintro H HK
  iapply (Scf.wp_for_bind frame (wpE (defs₀ (F := F)) Variants.none (c : Thread nD τ) none) Set.univ _ _ _ (k0_t3_ok v12 v16 hw) ⟨⟩ _
    (fun k _ => iprop(emp))
    (fun k u => absurd k.isLt (by
      have := trips3 v12 v16 a n h12 h16 hn ha
      show ¬ k.val < (k0_t3_loop v16).trips
      omega))) $$ H
  iintro %u H
  iexact HK

end Cert.KernelIdeal

end
-- ==== Proof.First.lean ====
/-
  The first part of a grid point, at the level of contents.
-/
module

public import proofs.«01_k».proof.Proof.Model
public import proofs.«01_k».proof.Proof.Loops
public import Idealize.ShloMosaic.Lib.Pipeline.Kit

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Proof

variable {F : FTy → Type} [FloatOps F]

variable (c : Dev nD) (i : grid0.Coords)
  (arg2 : Memref sig .tc .smem S16384 .i32) (harg2 : arg2.IsWhole)
  (arg3 : Memref sig .tc .smem S64 .i32) (harg3 : arg3.IsWhole)
  (arg4 : Memref sig .tc .smem S64 .i32) (harg4 : arg4.IsWhole)
  (arg5 : Memref sig .tc .vmem S1024x1024 .f32) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024 .f32) (harg9 : arg9.IsWhole)
  (arg10 : Memref sig .tc .vmem S1024x8 .f32) (harg10 : arg10.IsWhole)
  (arg11 : Memref sig .tc .vmem S4x1024x256 .bf16) (harg11 : arg11.IsWhole)
  (arg12 : Memref sig .tc .vmem S4x1024x256 .bf16) (harg12 : arg12.IsWhole)
  (arg13 : Memref sig .tc .vmem S4x256x1024 .bf16) (harg13 : arg13.IsWhole)
  (arg14 : Memref sig .tc .vmem S1024x1024 .f32) (harg14 : arg14.IsWhole)
  (arg15 : Memref sig .tc .vmem S1312x1024 .f32) (harg15 : arg15.IsWhole)
  (arg16 : Memref sig .tc .vmem S1312x8 .f32) (harg16 : arg16.IsWhole)
  (arg17 : Memref sig .tc .vmem S1312x1024 .f32) (harg17 : arg17.IsWhole)

/-- What the first part of a grid point leaves in the two row buffers: at the first group the tile's normalised,
    modulated rows and its gates, at their destinations; at the others what was there. -/
def Moved (T : S16384.Idx → Elt F .i32) (x : Vec F S1024x1024 .f32) (g : Vec F S1x1024 .f32) (sc sh : Vec F S1x1x1024 .f32)
    (r : Vec F S1024x8 .f32) (hs : Vec F S1312x1024 .f32) (gs : Vec F S1312x8 .f32) (hs' : Vec F S1312x1024 .f32)
    (gs' : Vec F S1312x8 .f32) : Prop :=
  ((i 1).val = 0 → ∃ hs0 gs0, hs' = moveH (fun j => entry T (1024 * (i 0).val + j)) (k0_pay32 x g sc sh) hs0 1024 ∧
      gs' = moveG (fun j => entry T (1024 * (i 0).val + j)) r gs0 1024) ∧
  ((i 1).val ≠ 0 → hs' = hs ∧ gs' = gs)

set_option maxHeartbeats 4000000 in
/-- The first part: the tile's rows moved (at the first group), the segment's start and row count read. -/
theorem first (q : PosShare TreeShare) (T : S16384.Idx → Elt F .i32) (S C : S64.Idx → Elt F .i32)
    (hd : ∀ j, j < 1024 → entry T (1024 * (i 0).val + j) < 1312)
    (h8 : 8 ∣ entry64 S (4 * (i 0).val + (i 1).val)) (hn : entry64 C (4 * (i 0).val + (i 1).val) ≤ 1024)
    (ha : entry64 S (4 * (i 0).val + (i 1).val) + entry64 C (4 * (i 0).val + (i 1).val) ≤ 1052)
    (x : Vec F S1024x1024 .f32) (sc sh : Vec F S1x1x1024 .f32) (g : Vec F S1x1024 .f32)
    (r : Vec F S1024x8 .f32) (o : Vec F S1024x1024 .f32) (hs : Vec F S1312x1024 .f32) (gs : Vec F S1312x8 .f32) :
    (iprop(owns c arg2 q T ∗ owns c arg3 q S ∗ owns c arg4 q C ∗ owns c arg5 fullShare x ∗ owns c arg6 fullShare sc ∗
        owns c arg7 fullShare sh ∗ owns c arg9 fullShare g ∗ owns c arg10 fullShare r ∗ owns c arg14 fullShare o ∗
        owns c arg15 fullShare hs ∗ owns c arg16 fullShare gs) : sProp (MT nD τ sig Unit (Elt F) ℕ (UR sig nD τ) ℕ))
      ⊢ wp frame (wpE (defs₀ (F := F)) Variants.none (c : Thread nD τ) none) Set.univ (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun w => iprop(∃ o' hs' gs', ⌜(w.2.2.1.toNat = entry64 S (4 * (i 0).val + (i 1).val) ∧
            w.2.2.2.1.toNat = entry64 C (4 * (i 0).val + (i 1).val) ∧ w.2.2.2.2.2.1 = nfull w.2.2.2.1) ∧
            Moved i T x g sc sh r hs gs hs' gs'⌝ ∗
          owns c arg2 q T ∗ owns c arg3 q S ∗ owns c arg4 q C ∗ owns c arg5 fullShare x ∗ owns c arg6 fullShare sc ∗
          owns c arg7 fullShare sh ∗ owns c arg9 fullShare g ∗ owns c arg10 fullShare r ∗ owns c arg14 fullShare o' ∗
          owns c arg15 fullShare hs' ∗ owns c arg16 fullShare gs')) := by
  unfold entry64 at h8 hn ha ⊢
  simp only [k0_part9_eq_skeleton]
  unfold k0_part9_skel
  simp only [Prog.lift, Prog.bind_op, Prog.bind_ret, Prog.pure_eq_ret, Prog.bind_assoc]
  iintro ⟨H2, H3, H4, H5, H6, H7, H9, H10, H14, H15, H16⟩
  by_cases h2 : k0_cond2 i = 1#1
  · have hi : (i 1).val = 0 := (cond2_iff i).mp h2
    split
    · iapply (wp_load_owns Variants.none (c : Thread nD τ) none) $$ H15; iintro H15
      iapply (wp_store_owns Variants.none (c : Thread nD τ) none) $$ H15; iintro H15
      iapply (wp_load_owns Variants.none (c : Thread nD τ) none) $$ H16; iintro H16
      iapply (wp_store_owns Variants.none (c : Thread nD τ) none) $$ H16; iintro H16
      try rw [dif_pos h2]
      iapply (wp_load_owns Variants.none (c : Thread nD τ) none) $$ H5; iintro H5
      iapply (wp_load_owns Variants.none (c : Thread nD τ) none) $$ H9; iintro H9
      iapply (wp_load_owns Variants.none (c : Thread nD τ) none) $$ H6; iintro H6
      iapply (wp_load_owns Variants.none (c : Thread nD τ) none) $$ H7; iintro H7
      iapply (wp_load_owns Variants.none (c : Thread nD τ) none) $$ H14; iintro H14
      iapply (wp_store_owns Variants.none (c : Thread nD τ) none) $$ H14; iintro H14
      rw [ld_all x ![0, 0] (by decide), ld_all g ![0, 0] (by decide), ld_all sc ![0, 0, 0] (by decide), ld_all sh ![0, 0, 0] (by decide),
        overlay_all o ![0, 0] (by decide), overlay_all hs ![0, 0] (by decide), overlay_all gs ![0, 0] (by decide)]
      iapply (loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 q T hd (k0_pay32 x g sc sh) r (k0_pay30 (F := F)) (k0_pay31 (F := F))) $$ [H2 H10 H14 H15 H16]
      · isplitl [H2]; · iexact H2
        isplitl [H10]; · iexact H10
        isplitl [H14]; · iexact H14
        isplitl [H15]; · iexact H15
        iexact H16
      iintro ⟨H2, H10, H14, H15, H16⟩
      simp only [Prog.bind_op, Prog.bind_ret, Prog.pure_eq_ret, Prog.bind_assoc]
      iapply (wp_smem_owns Variants.none (c : Thread nD τ) none) $$ H3
      iintro H3
      rw [word_at S _ _ (off6_eq i)]
      simp only [Prog.bind_op, Prog.bind_ret, Prog.pure_eq_ret, Prog.bind_assoc]
      iapply (wp_smem_owns Variants.none (c : Thread nD τ) none) $$ H4
      iintro H4
      rw [word_at C _ _ (off6_eq i)]
      simp only [Prog.bind_op, Prog.bind_ret, Prog.pure_eq_ret, Prog.bind_assoc]
      rw [wp_assume_of Variants.none (c : Thread nD τ) none Set.univ (chk2_of _ _ _ _ rfl rfl hn ha h8)]
      simp only [Prog.bind_op, Prog.bind_ret, Prog.pure_eq_ret, Prog.bind_assoc]
      rw [wp_ret]
      imodintro
      iexists _; iexists _; iexists _
      isplitr
      · ipureintro
        exact ⟨⟨rfl, rfl, rfl⟩, fun _ => ⟨k0_pay30 (F := F), k0_pay31 (F := F), rfl, rfl⟩, fun h => absurd hi h⟩
      isplitl [H2]; · iexact H2
      isplitl [H3]; · iexact H3
      isplitl [H4]; · iexact H4
      isplitl [H5]; · iexact H5
      isplitl [H6]; · iexact H6
      isplitl [H7]; · iexact H7
      isplitl [H9]; · iexact H9
      isplitl [H10]; · iexact H10
      isplitl [H14]; · iexact H14
      isplitl [H15]; · iexact H15
      iexact H16
    · try rw [dif_pos h2]
      iapply (wp_load_owns Variants.none (c : Thread nD τ) none) $$ H5; iintro H5
      iapply (wp_load_owns Variants.none (c : Thread nD τ) none) $$ H9; iintro H9
      iapply (wp_load_owns Variants.none (c : Thread nD τ) none) $$ H6; iintro H6
      iapply (wp_load_owns Variants.none (c : Thread nD τ) none) $$ H7; iintro H7
      iapply (wp_load_owns Variants.none (c : Thread nD τ) none) $$ H14; iintro H14
      iapply (wp_store_owns Variants.none (c : Thread nD τ) none) $$ H14; iintro H14
      rw [ld_all x ![0, 0] (by decide), ld_all g ![0, 0] (by decide), ld_all sc ![0, 0, 0] (by decide), ld_all sh ![0, 0, 0] (by decide),
        overlay_all o ![0, 0] (by decide)]
      iapply (loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 q T hd (k0_pay32 x g sc sh) r hs gs) $$ [H2 H10 H14 H15 H16]
      · isplitl [H2]; · iexact H2
        isplitl [H10]; · iexact H10
        isplitl [H14]; · iexact H14
        isplitl [H15]; · iexact H15
        iexact H16
      iintro ⟨H2, H10, H14, H15, H16⟩
      simp only [Prog.bind_op, Prog.bind_ret, Prog.pure_eq_ret, Prog.bind_assoc]
      iapply (wp_smem_owns Variants.none (c : Thread nD τ) none) $$ H3
      iintro H3
      rw [word_at S _ _ (off6_eq i)]
      simp only [Prog.bind_op, Prog.bind_ret, Prog.pure_eq_ret, Prog.bind_assoc]
      iapply (wp_smem_owns Variants.none (c : Thread nD τ) none) $$ H4
      iintro H4
      rw [word_at C _ _ (off6_eq i)]
      simp only [Prog.bind_op, Prog.bind_ret, Prog.pure_eq_ret, Prog.bind_assoc]
      rw [wp_assume_of Variants.none (c : Thread nD τ) none Set.univ (chk2_of _ _ _ _ rfl rfl hn ha h8)]
      simp only [Prog.bind_op, Prog.bind_ret, Prog.pure_eq_ret, Prog.bind_assoc]
      rw [wp_ret]
      imodintro
      iexists _; iexists _; iexists _
      isplitr
      · ipureintro
        exact ⟨⟨rfl, rfl, rfl⟩, fun _ => ⟨hs, gs, rfl, rfl⟩, fun h => absurd hi h⟩
      isplitl [H2]; · iexact H2
      isplitl [H3]; · iexact H3
      isplitl [H4]; · iexact H4
      isplitl [H5]; · iexact H5
      isplitl [H6]; · iexact H6
      isplitl [H7]; · iexact H7
      isplitl [H9]; · iexact H9
      isplitl [H10]; · iexact H10
      isplitl [H14]; · iexact H14
      isplitl [H15]; · iexact H15
      iexact H16
  · have hi : (i 1).val ≠ 0 := fun h => h2 ((cond2_iff i).mpr h)
    split
    · next h1 => exact absurd (zero_of_both i h1) hi
    try rw [dif_neg h2]
    iapply (wp_smem_owns Variants.none (c : Thread nD τ) none) $$ H3
    iintro H3
    rw [word_at S _ _ (off6_eq i)]
    simp only [Prog.bind_op, Prog.bind_ret, Prog.pure_eq_ret, Prog.bind_assoc]
    iapply (wp_smem_owns Variants.none (c : Thread nD τ) none) $$ H4
    iintro H4
    rw [word_at C _ _ (off6_eq i)]
    simp only [Prog.bind_op, Prog.bind_ret, Prog.pure_eq_ret, Prog.bind_assoc]
    rw [wp_assume_of Variants.none (c : Thread nD τ) none Set.univ (chk2_of _ _ _ _ rfl rfl hn ha h8)]
    simp only [Prog.bind_op, Prog.bind_ret, Prog.pure_eq_ret, Prog.bind_assoc]
    rw [wp_ret]
    imodintro
    iexists _; iexists _; iexists _
    isplitr
    · ipureintro
      exact ⟨⟨rfl, rfl, rfl⟩, fun h => absurd h hi, fun _ => ⟨rfl, rfl⟩⟩
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H14]; · iexact H14
    isplitl [H15]; · iexact H15
    iexact H16

end Cert.KernelIdeal

end
-- ==== Proof.Body.lean ====
/-
  A whole grid point, at the level of contents.
-/
module

public import proofs.«01_k».proof.Proof.Model
public import proofs.«01_k».proof.Proof.First
public import Idealize.ShloMosaic.Lib.Pipeline.Kit

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Proof

variable {F : FTy → Type} [FloatOps F]

variable (c : Dev nD) (i : grid0.Coords)
  (arg2 : Memref sig .tc .smem S16384 .i32) (harg2 : arg2.IsWhole)
  (arg3 : Memref sig .tc .smem S64 .i32) (harg3 : arg3.IsWhole)
  (arg4 : Memref sig .tc .smem S64 .i32) (harg4 : arg4.IsWhole)
  (arg5 : Memref sig .tc .vmem S1024x1024 .f32) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024 .f32) (harg9 : arg9.IsWhole)
  (arg10 : Memref sig .tc .vmem S1024x8 .f32) (harg10 : arg10.IsWhole)
  (arg11 : Memref sig .tc .vmem S4x1024x256 .bf16) (harg11 : arg11.IsWhole)
  (arg12 : Memref sig .tc .vmem S4x1024x256 .bf16) (harg12 : arg12.IsWhole)
  (arg13 : Memref sig .tc .vmem S4x256x1024 .bf16) (harg13 : arg13.IsWhole)
  (arg14 : Memref sig .tc .vmem S1024x1024 .f32) (harg14 : arg14.IsWhole)
  (arg15 : Memref sig .tc .vmem S1312x1024 .f32) (harg15 : arg15.IsWhole)
  (arg16 : Memref sig .tc .vmem S1312x8 .f32) (harg16 : arg16.IsWhole)
  (arg17 : Memref sig .tc .vmem S1312x1024 .f32) (harg17 : arg17.IsWhole)

/-- What a grid point makes of the row buffers and of the buffer of results. -/
def Step (T : S16384.Idx → Elt F .i32) (S C : S64.Idx → Elt F .i32) (x : Vec F S1024x1024 .f32) (g : Vec F S1x1024 .f32)
    (sc sh : Vec F S1x1x1024 .f32) (r : Vec F S1024x8 .f32) (wg wu : Vec F S4x1024x256 .bf16) (wd : Vec F S4x256x1024 .bf16)
    (hs : Vec F S1312x1024 .f32) (gs : Vec F S1312x8 .f32) (ys hs' : Vec F S1312x1024 .f32)
    (gs' : Vec F S1312x8 .f32) (ys' : Vec F S1312x1024 .f32) : Prop :=
  Moved i T x g sc sh r hs gs hs' gs' ∧
    ys' = segment (entry64 S (4 * (i 0).val + (i 1).val)) (entry64 C (4 * (i 0).val + (i 1).val)) hs' gs' wg wu wd ys

/-- What the last group's grid point leaves in the tile of the output. -/
def Left (T : S16384.Idx → Elt F .i32) (x : Vec F S1024x1024 .f32) (gate : Vec F S1x1x1024 .f32)
    (ys' : Vec F S1312x1024 .f32) (o' : Vec F S1024x1024 .f32) : Prop :=
  (i 1).val = 3 → ∃ o0, o' = k0_pay5 x gate (moveBack (fun j => entry T (1024 * (i 0).val + j)) ys' o0 1024)

set_option maxHeartbeats 8000000 in
/-- One grid point: from any contents of the buffers to contents related to them by `Step` and `Left`. -/
theorem point (q : PosShare TreeShare) (T : S16384.Idx → Elt F .i32) (S C : S64.Idx → Elt F .i32)
    (hd : ∀ j, j < 1024 → entry T (1024 * (i 0).val + j) < 1312)
    (h8 : 8 ∣ entry64 S (4 * (i 0).val + (i 1).val)) (hn : entry64 C (4 * (i 0).val + (i 1).val) ≤ 1024)
    (ha : entry64 S (4 * (i 0).val + (i 1).val) + entry64 C (4 * (i 0).val + (i 1).val) ≤ 1052)
    (x : Vec F S1024x1024 .f32) (sc sh gate : Vec F S1x1x1024 .f32) (g : Vec F S1x1024 .f32)
    (r : Vec F S1024x8 .f32) (wg wu : Vec F S4x1024x256 .bf16) (wd : Vec F S4x256x1024 .bf16) (o : Vec F S1024x1024 .f32)
    (hs : Vec F S1312x1024 .f32) (gs : Vec F S1312x8 .f32) (ys : Vec F S1312x1024 .f32) :
    (iprop(owns c arg2 q T ∗ owns c arg3 q S ∗ owns c arg4 q C ∗ owns c arg5 fullShare x ∗
        owns c arg6 fullShare sc ∗ owns c arg7 fullShare sh ∗ owns c arg8 fullShare gate ∗ owns c arg9 fullShare g ∗
        owns c arg10 fullShare r ∗ owns c arg11 fullShare wg ∗ owns c arg12 fullShare wu ∗ owns c arg13 fullShare wd ∗
        owns c arg14 fullShare o ∗ owns c arg15 fullShare hs ∗ owns c arg16 fullShare gs ∗ owns c arg17 fullShare ys) : sProp (MT nD τ sig Unit (Elt F) ℕ (UR sig nD τ) ℕ))
      ⊢ wp frame (wpE (defs₀ (F := F)) Variants.none (c : Thread nD τ) none) Set.univ (cc0__moe_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop(∃ o' hs' gs' ys', ⌜Step i T S C x g sc sh r wg wu wd hs gs ys hs' gs' ys' ∧ Left i T x gate ys' o'⌝ ∗
        owns c arg2 q T ∗ owns c arg3 q S ∗ owns c arg4 q C ∗ owns c arg5 fullShare x ∗
        owns c arg6 fullShare sc ∗ owns c arg7 fullShare sh ∗ owns c arg8 fullShare gate ∗ owns c arg9 fullShare g ∗
        owns c arg10 fullShare r ∗ owns c arg11 fullShare wg ∗ owns c arg12 fullShare wu ∗ owns c arg13 fullShare wd ∗
        owns c arg14 fullShare o' ∗ owns c arg15 fullShare hs' ∗ owns c arg16 fullShare gs' ∗ owns c arg17 fullShare ys')) := by
  simp only [cc0__moe_kernel_eq_skeleton]
  unfold cc0__moe_kernel_skel
  rw [wp_bind]
  iintro ⟨H2, H3, H4, H5, H6, H7, H8, H9, H10, H11, H12, H13, H14, H15, H16, H17⟩
  iapply wp_wand $$ [H2 H3 H4 H5 H6 H7 H9 H10 H14 H15 H16]
  · iapply (first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q T S C hd h8 hn ha x sc sh g r o hs gs)
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H14]; · iexact H14
    isplitl [H15]; · iexact H15
    iexact H16
  iintro %w ⟨%o', %hs', %gs', %hp, H2, H3, H4, H5, H6, H7, H9, H10, H14, H15, H16⟩
  obtain ⟨⟨h12, h16, h33⟩, hmoved⟩ := hp
  obtain ⟨a1, v0, v12, v16, hw, v33, z, o1, v36⟩ := w
  dsimp only at h12 h16 h33
  subst h33
  unfold Step Left
  rw [← h12] at h8 ha ⊢
  rw [← h16] at hn ha ⊢
  dsimp only
  iapply (loop2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v12 v16 _ _ rfl rfl hn ha hw z wg wu wd hs' gs' ys) $$ [H11 H12 H13 H15 H16 H17]
  · isplitl [H11]; · iexact H11
    isplitl [H12]; · iexact H12
    isplitl [H13]; · iexact H13
    isplitl [H15]; · iexact H15
    isplitl [H16]; · iexact H16
    iexact H17
  iintro ⟨H11, H12, H13, H15, H16, H17⟩
  iapply (loop3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v12 v16 _ _ rfl rfl hn ha hw _) $$ []
  · iempintro
  by_cases h3 : k0_cond3 v16 = 1#1
  · have h3' := (cond3_iff v12 v16 _ _ rfl rfl hn ha).mp h3
    have h4 : ¬ k0_cond4 v16 = 1#1 := fun h => by
      have := (cond4_iff v12 v16 _ _ rfl rfl hn ha).mp h
      omega
    rw [dif_pos h3]
    simp only [k0_part5_eq_skeleton, k0_part6_eq_skeleton]
    unfold k0_part5_skel k0_part6_skel
    simp only [Prog.lift, Prog.bind_op, Prog.bind_ret, Prog.pure_eq_ret, Prog.bind_assoc]
    iapply (wp_load_owns Variants.none (c : Thread nD τ) none) $$ H15; iintro H15
    iapply (wp_load_owns Variants.none (c : Thread nD τ) none) $$ H16; iintro H16
    iapply (wp_load_owns Variants.none (c : Thread nD τ) none) $$ H11; iintro H11
    iapply (wp_load_owns Variants.none (c : Thread nD τ) none) $$ H12; iintro H12
    iapply (wp_load_owns Variants.none (c : Thread nD τ) none) $$ H13; iintro H13
    iapply (wp_load_owns Variants.none (c : Thread nD τ) none) $$ H11; iintro H11
    iapply (wp_load_owns Variants.none (c : Thread nD τ) none) $$ H12; iintro H12
    iapply (wp_load_owns Variants.none (c : Thread nD τ) none) $$ H13; iintro H13
    iapply (wp_load_owns Variants.none (c : Thread nD τ) none) $$ H11; iintro H11
    iapply (wp_load_owns Variants.none (c : Thread nD τ) none) $$ H12; iintro H12
    iapply (wp_load_owns Variants.none (c : Thread nD τ) none) $$ H13; iintro H13
    iapply (wp_load_owns Variants.none (c : Thread nD τ) none) $$ H11; iintro H11
    iapply (wp_load_owns Variants.none (c : Thread nD τ) none) $$ H12; iintro H12
    iapply (wp_load_owns Variants.none (c : Thread nD τ) none) $$ H13; iintro H13
    iapply (wp_load_owns Variants.none (c : Thread nD τ) none) $$ H17; iintro H17
    iapply (wp_store_owns Variants.none (c : Thread nD τ) none) $$ H17; iintro H17
    rw [ld_rows hs' _ 256 _ (off11_eq v12 v16 _ _ rfl rfl hn ha) _, ld_rows gs' _ 256 _ (off12_eq v12 v16 _ _ rfl rfl hn ha) _,
      overlay_rows _ _ 256 _ (off11_eq v12 v16 _ _ rfl rfl hn ha) _ _]
    rw [dif_neg h4]
    have hseg := (show segment v12.toNat v16.toNat hs' gs' wg wu wd ys = _ from if_pos h3').symm
    rw [rem_word v12 v16 _ _ rfl rfl hn ha]
    by_cases h5 : k0_cond5 i = 1#1
    · rw [dif_pos h5]
      iapply (loop4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h5 q T hd o' _) $$ [H2 H14 H17]
      · isplitl [H2]; · iexact H2
        isplitl [H14]; · iexact H14
        iexact H17
      iintro ⟨H2, H14, H17⟩
      simp only [Prog.lift, Prog.bind_op, Prog.bind_ret, Prog.pure_eq_ret, Prog.bind_assoc]
      iapply (wp_load_owns Variants.none (c : Thread nD τ) none) $$ H5; iintro H5
      iapply (wp_load_owns Variants.none (c : Thread nD τ) none) $$ H8; iintro H8
      iapply (wp_load_owns Variants.none (c : Thread nD τ) none) $$ H14; iintro H14
      iapply (wp_load_owns Variants.none (c : Thread nD τ) none) $$ H14; iintro H14
      iapply (wp_store_owns Variants.none (c : Thread nD τ) none) $$ H14; iintro H14
      rw [ld_all x ![0, 0] (by decide), ld_all gate ![0, 0, 0] (by decide), ld_all (s := S1024x1024) (moveBack _ _ _ _) ![0, 0] (by decide),
        overlay_all (s := S1024x1024) _ ![0, 0] (by decide)]
      rw [wp_ret]
      imodintro
      iexists _; iexists _; iexists _; iexists _
      isplitr
      · ipureintro
        exact ⟨⟨hmoved, hseg⟩, fun _ => ⟨o', rfl⟩⟩
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    · rw [dif_neg h5]
      simp only [Prog.pure_eq_ret]
      rw [wp_ret]
      imodintro
      iexists o'; iexists _; iexists _; iexists _
      isplitr
      · ipureintro
        exact ⟨⟨hmoved, hseg⟩, fun h => absurd ((cond5_iff i).mpr h) h5⟩
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
  · rw [dif_neg h3]
    by_cases h4 : k0_cond4 v16 = 1#1
    · have h3' := fun h => h3 ((cond3_iff v12 v16 _ _ rfl rfl hn ha).mpr h)
      have h4' := (cond4_iff v12 v16 _ _ rfl rfl hn ha).mp h4
      rw [dif_pos h4]
      simp only [k0_part7_eq_skeleton, k0_part8_eq_skeleton]
      unfold k0_part7_skel k0_part8_skel
      simp only [Prog.lift, Prog.bind_op, Prog.bind_ret, Prog.pure_eq_ret, Prog.bind_assoc]
      iapply (wp_load_owns Variants.none (c : Thread nD τ) none) $$ H15; iintro H15
      iapply (wp_load_owns Variants.none (c : Thread nD τ) none) $$ H16; iintro H16
      iapply (wp_load_owns Variants.none (c : Thread nD τ) none) $$ H11; iintro H11
      iapply (wp_load_owns Variants.none (c : Thread nD τ) none) $$ H12; iintro H12
      iapply (wp_load_owns Variants.none (c : Thread nD τ) none) $$ H13; iintro H13
      iapply (wp_load_owns Variants.none (c : Thread nD τ) none) $$ H11; iintro H11
      iapply (wp_load_owns Variants.none (c : Thread nD τ) none) $$ H12; iintro H12
      iapply (wp_load_owns Variants.none (c : Thread nD τ) none) $$ H13; iintro H13
      iapply (wp_load_owns Variants.none (c : Thread nD τ) none) $$ H11; iintro H11
      iapply (wp_load_owns Variants.none (c : Thread nD τ) none) $$ H12; iintro H12
      iapply (wp_load_owns Variants.none (c : Thread nD τ) none) $$ H13; iintro H13
      iapply (wp_load_owns Variants.none (c : Thread nD τ) none) $$ H11; iintro H11
      iapply (wp_load_owns Variants.none (c : Thread nD τ) none) $$ H12; iintro H12
      iapply (wp_load_owns Variants.none (c : Thread nD τ) none) $$ H13; iintro H13
      iapply (wp_load_owns Variants.none (c : Thread nD τ) none) $$ H17; iintro H17
      iapply (wp_store_owns Variants.none (c : Thread nD τ) none) $$ H17; iintro H17
      rw [ld_rows hs' _ 128 _ (off13_eq v12 v16 _ _ rfl rfl hn ha) _, ld_rows gs' _ 128 _ (off14_eq v12 v16 _ _ rfl rfl hn ha) _,
        overlay_rows _ _ 128 _ (off13_eq v12 v16 _ _ rfl rfl hn ha) _ _]
      rw [rem_word v12 v16 _ _ rfl rfl hn ha]
      have hseg := (show segment v12.toNat v16.toNat hs' gs' wg wu wd ys = _ from (if_neg h3').trans (if_pos h4'.1)).symm
      by_cases h5 : k0_cond5 i = 1#1
      · rw [dif_pos h5]
        iapply (loop4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h5 q T hd o' _) $$ [H2 H14 H17]
        · isplitl [H2]; · iexact H2
          isplitl [H14]; · iexact H14
          iexact H17
        iintro ⟨H2, H14, H17⟩
        simp only [Prog.lift, Prog.bind_op, Prog.bind_ret, Prog.pure_eq_ret, Prog.bind_assoc]
        iapply (wp_load_owns Variants.none (c : Thread nD τ) none) $$ H5; iintro H5
        iapply (wp_load_owns Variants.none (c : Thread nD τ) none) $$ H8; iintro H8
        iapply (wp_load_owns Variants.none (c : Thread nD τ) none) $$ H14; iintro H14
        iapply (wp_load_owns Variants.none (c : Thread nD τ) none) $$ H14; iintro H14
        iapply (wp_store_owns Variants.none (c : Thread nD τ) none) $$ H14; iintro H14
        rw [ld_all x ![0, 0] (by decide), ld_all gate ![0, 0, 0] (by decide), ld_all (s := S1024x1024) (moveBack _ _ _ _) ![0, 0] (by decide),
          overlay_all (s := S1024x1024) _ ![0, 0] (by decide)]
        rw [wp_ret]
        imodintro
        iexists _; iexists _; iexists _; iexists _
        isplitr
        · ipureintro
          exact ⟨⟨hmoved, hseg⟩, fun _ => ⟨o', rfl⟩⟩
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact H17
      · rw [dif_neg h5]
        simp only [Prog.pure_eq_ret]
        rw [wp_ret]
        imodintro
        iexists o'; iexists _; iexists _; iexists _
        isplitr
        · ipureintro
          exact ⟨⟨hmoved, hseg⟩, fun h => absurd ((cond5_iff i).mpr h) h5⟩
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact H17
    · have h3' := fun h => h3 ((cond3_iff v12 v16 _ _ rfl rfl hn ha).mpr h)
      have h4' : ¬ 0 < v16.toNat % 256 := fun h => h4 ((cond4_iff v12 v16 _ _ rfl rfl hn ha).mpr ⟨h, Nat.le_of_not_lt h3'⟩)
      rw [dif_neg h4]
      have hseg := (show segment v12.toNat v16.toNat hs' gs' wg wu wd ys = _ from (if_neg h3').trans (if_neg h4')).symm
      by_cases h5 : k0_cond5 i = 1#1
      · rw [dif_pos h5]
        iapply (loop4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h5 q T hd o' _) $$ [H2 H14 H17]
        · isplitl [H2]; · iexact H2
          isplitl [H14]; · iexact H14
          iexact H17
        iintro ⟨H2, H14, H17⟩
        simp only [Prog.lift, Prog.bind_op, Prog.bind_ret, Prog.pure_eq_ret, Prog.bind_assoc]
        iapply (wp_load_owns Variants.none (c : Thread nD τ) none) $$ H5; iintro H5
        iapply (wp_load_owns Variants.none (c : Thread nD τ) none) $$ H8; iintro H8
        iapply (wp_load_owns Variants.none (c : Thread nD τ) none) $$ H14; iintro H14
        iapply (wp_load_owns Variants.none (c : Thread nD τ) none) $$ H14; iintro H14
        iapply (wp_store_owns Variants.none (c : Thread nD τ) none) $$ H14; iintro H14
        rw [ld_all x ![0, 0] (by decide), ld_all gate ![0, 0, 0] (by decide), ld_all (s := S1024x1024) (moveBack _ _ _ _) ![0, 0] (by decide),
          overlay_all (s := S1024x1024) _ ![0, 0] (by decide)]
        rw [wp_ret]
        imodintro
        iexists _; iexists _; iexists _; iexists _
        isplitr
        · ipureintro
          exact ⟨⟨hmoved, hseg⟩, fun _ => ⟨o', rfl⟩⟩
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact H17
      · rw [dif_neg h5]
        simp only [Prog.pure_eq_ret]
        rw [wp_ret]
        imodintro
        iexists o'; iexists _; iexists _; iexists _
        isplitr
        · ipureintro
          exact ⟨⟨hmoved, hseg⟩, fun h => absurd ((cond5_iff i).mpr h) h5⟩
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact H17

end Cert.KernelIdeal

end
-- ==== Proof.Run.lean ====
/-
  The launch: the host operations before the kernel, the pipeline's proof data, and the run of the whole program.
-/
module

public import proofs.«01_k».proof.Proof.Body
public import proofs.«01_k».proof.Proof.Gen.KernelIdeal.Launch
public import Idealize.ShloMosaic.Lib.Pipeline.FrameBody
public import Idealize.ShloMosaic.Lib.Claim

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window RDat)
open Cert.KernelIdeal.Gen Cert.Proof

variable {F : FTy → Type} [FloatOps F]
variable (m : (ℓ : Loc nD τ sig) → Buf (Elt F) ℓ) (ρ : Dev nD → PrngReg)

/-- The host operations before the kernel, in order. -/
abbrev prefixOps : List (List (HloOp τ sig (Elt F))) :=
  [hostOps0, hostOps0_1, hostOps0_2, hostOps0_3, hostOps0_4, hostOps0_5, hostOps0_6]

/-- What each array holds when the kernel starts. -/
def V (c : Dev nD) (b : Ref sig .tc) : Buf (Elt F) ((c : Thread nD τ).loc b) :=
  StableHlo.after (prefixOps (F := F)).flatten (fun b => m (c, b)) b

/-- The program reaches the kernel with the arrays holding `V`. -/
theorem hmain : Pipeline.HMainP (Ix := Unit) (Name := ℕ) (U := UR sig nD τ) (Lvl := ℕ) pcfgs 0 defs₀ Variants.none m
    (main (F := F)) (V m) :=
  Pipeline.hmainP_prefixes pcfgs 0 defs₀ Variants.none m main prefixOps
    (by
      refine ⟨hostOps0_sub, hostOps0_1_sub, hostOps0_2_sub, hostOps0_3_sub, hostOps0_4_sub, hostOps0_5_sub, hostOps0_6_sub⟩)
    (by
      refine ⟨?_, ?_, ?_, ?_, ?_, ?_, ?_⟩ <;> repeat' (first | exact rfl | refine ⟨?_, ?_⟩))
    fun c => (main_chain c).trans rfl

/-- The tables of a run, as the kernel finds them. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- The tables as the pipeline takes them: no block depends on a table, so any contents will do. -/
abbrev adm : (pcfg0 (F := F)).Adm := ⟨tbl m, trivial⟩
abbrev cfgM : Cfg sig Λ₀ := cfg0 (adm m)

/-- The three tables by name. -/
def tblT : S16384.Idx → Elt F .i32 := tbl m 0
def tblS : S64.Idx → Elt F .i32 := tbl m 1
def tblC : S64.Idx → Elt F .i32 := tbl m 2

/-- The body's share of the tables. -/
theorem PhiT_eq (c : Dev nD) : (Pipeline.ΦT pre0 (tbl m) c : sProp (MT nD τ sig Unit (Elt F) ℕ (UR sig nD τ) ℕ))
    = iprop(owns (c : Thread nD τ) (Memref.whole main_v34) fullShare.right (tblT m)
        ∗ owns (c : Thread nD τ) (Memref.whole main_v35) fullShare.right (tblS m)
        ∗ owns (c : Thread nD τ) (Memref.whole main_v36) fullShare.right (tblC m)) := by
  unfold Pipeline.ΦT Pipeline.prefHeld
  rw [bigSep_univ_eq_bigSepL [(0 : Fin 3), (1 : Fin 3), (2 : Fin 3)] (by decide) (by decide)]
  rw [owns_whole, owns_whole, owns_whole]
  rfl

/-- The block window `w` holds at point `t`. -/
def blkAt (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- What the table words satisfy, which keeps every access of the kernel inside its buffers. -/
structure TabOK (T : S16384.Idx → Elt F .i32) (S C : S64.Idx → Elt F .i32) : Prop where
  dest : ∀ r, r < 16384 → entry T r < 1312
  dvd : ∀ q, q < 64 → 8 ∣ entry64 S q
  cnt : ∀ q, q < 64 → entry64 C q ≤ 1024
  last : ∀ q, q < 64 → entry64 S q + entry64 C q ≤ 1052

/-- The blocks of the input windows at point `t`. -/
abbrev bx (c : Dev nD) (t : Fin (cfgM m).N) : Vec F S1024x1024 .f32 := blkAt m c 0 t
abbrev bsc (c : Dev nD) (t : Fin (cfgM m).N) : Vec F S1x1x1024 .f32 := blkAt m c 1 t
abbrev bsh (c : Dev nD) (t : Fin (cfgM m).N) : Vec F S1x1x1024 .f32 := blkAt m c 2 t
abbrev bgate (c : Dev nD) (t : Fin (cfgM m).N) : Vec F S1x1x1024 .f32 := blkAt m c 3 t
abbrev bg (c : Dev nD) (t : Fin (cfgM m).N) : Vec F S1x1024 .f32 := blkAt m c 4 t
abbrev br (c : Dev nD) (t : Fin (cfgM m).N) : Vec F S1024x8 .f32 := blkAt m c 5 t
abbrev bwg (c : Dev nD) (t : Fin (cfgM m).N) : Vec F S4x1024x256 .bf16 := blkAt m c 6 t
abbrev bwu (c : Dev nD) (t : Fin (cfgM m).N) : Vec F S4x1024x256 .bf16 := blkAt m c 7 t
abbrev bwd (c : Dev nD) (t : Fin (cfgM m).N) : Vec F S4x256x1024 .bf16 := blkAt m c 8 t

/-- What the three buffers may hold before point `n`. -/
def Reach (c : Dev nD) : ℕ → Vec F S1312x1024 .f32 → Vec F S1312x8 .f32 → Vec F S1312x1024 .f32 → Prop
  | 0, _, _, _ => True
  | n + 1, hs', gs', ys' => ∃ (h : n < (cfgM m).N) (hs : Vec F S1312x1024 .f32) (gs : Vec F S1312x8 .f32) (ys : Vec F S1312x1024 .f32),
      Reach c n hs gs ys ∧ Step (grid0.coords ⟨n, h⟩) (tblT m) (tblS m) (tblC m) (bx m c ⟨n, h⟩) (bg m c ⟨n, h⟩) (bsc m c ⟨n, h⟩)
        (bsh m c ⟨n, h⟩) (br m c ⟨n, h⟩) (bwg m c ⟨n, h⟩) (bwu m c ⟨n, h⟩) (bwd m c ⟨n, h⟩) hs gs ys hs' gs' ys'

/-- What the body may leave in the output tile at point `t`. -/
def OutRel (c : Dev nD) (t : Fin (cfgM m).N) (o : Vec F S1024x1024 .f32) : Prop :=
  ∃ hs gs ys, Reach m c (t.val + 1) hs gs ys ∧ Left (grid0.coords t) (tblT m) (bx m c t) (bgate m c t) ys o

/-- The pipeline's invariant before point `n`. -/
def Inv (c : Dev nD) (n : ℕ) : sProp (MT nD τ sig Unit (Elt F) ℕ (UR sig nD τ) ℕ) :=
  iprop(∃ hs gs ys, ⌜Reach m c n hs gs ys⌝ ∗ owns (c : Thread nD τ) (Memref.whole cc0_scratch0) fullShare hs
    ∗ owns (c : Thread nD τ) (Memref.whole cc0_scratch1) fullShare gs
    ∗ owns (c : Thread nD τ) (Memref.whole cc0_scratch2) fullShare ys
    ∗ (∃ r, prngReg c r)
    ∗ owns (c : Thread nD τ) (Memref.whole main_v34) fullShare.right (tblT m)
        ∗ owns (c : Thread nD τ) (Memref.whole main_v35) fullShare.right (tblS m)
        ∗ owns (c : Thread nD τ) (Memref.whole main_v36) fullShare.right (tblC m))

/-- The pipeline's proof data: the input blocks stay as they are, the output tile is as `OutRel` says. -/
def rdat (c : Dev nD) : RDat τ (Elt F) Unit ℕ (UR sig nD τ) ℕ (cfgM m) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun _ X => OutRel m c t X
  Φ t := Inv m c t.val
  q w := Pipeline.shareOf spec0 w
  owed _ := 0

theorem rdat_A (c : Dev nD) (w : Fin (cfgM m).W) : (rdat m c).A w = V m c (Pipeline.arrRef spec0 w) := by
  dsimp only [rdat]

theorem after_in (c : Dev nD) (w : Fin (cfgM m).W) (hw : w ≠ 9) (t : Fin (cfgM m).N) (Y X) (h : X = Y) : (rdat m c).after w t Y X := by
  have hw' : (w.val : ℕ) ≠ 9 := fun h' => hw (Fin.ext h')
  obtain ⟨k, hk⟩ := w
  have hk' : k < 10 := hk
  match k, hk' with
  | 0, _ | 1, _ | 2, _ | 3, _ | 4, _ | 5, _ | 6, _ | 7, _ | 8, _ => exact h
  | 9, _ => exact absurd rfl hw'

theorem of_after_in (c : Dev nD) (w : Fin (cfgM m).W) (hw : w ≠ 9) (t : Fin (cfgM m).N) (Y X) (h : (rdat m c).after w t Y X) : X = Y := by
  have hw' : (w.val : ℕ) ≠ 9 := fun h' => hw (Fin.ext h')
  obtain ⟨k, hk⟩ := w
  have hk' : k < 10 := hk
  match k, hk' with
  | 0, _ | 1, _ | 2, _ | 3, _ | 4, _ | 5, _ | 6, _ | 7, _ | 8, _ => exact h
  | 9, _ => exact absurd rfl hw'

/-- An input window's staging buffer holds its block at every point. -/
theorem finds_in (c : Dev nD) (w : Fin (cfgM m).W) (hw : w ≠ 9) (hin : ((cfgM m).win w).isOut = false) (hclip : ∀ t t' : Fin (cfgM m).N, ((cfgM m).win w).index t = ((cfgM m).win w).index t' → ((cfgM m).win w).clip ((cfgM m).grid.coords t) = ((cfgM m).win w).clip ((cfgM m).grid.coords t')) (t : Fin (cfgM m).N) (Y) (h : (rdat m c).Finds w t Y) :
    ∃ d, Y = (rdat m c).fetched w t d :=
  RDat.finds_in_eq_fetched (rdat m c) w hin hclip (fun t Y X h => of_after_in m c w hw t Y X h) t Y h

theorem finds_bx (c : Dev nD) (t : Fin (cfgM m).N) (Y) (h : (rdat m c).Finds 0 t Y) : Y = bx m c t := by
  obtain ⟨d, hd⟩ := finds_in m c 0 (show (0 : Fin 10) ≠ 9 from by decide) rfl (fun _ _ _ => rfl) t Y h
  exact hd.trans (by unfold RDat.fetched RDat.blockOf bx blkAt; rw [rdat_A]; rfl)

theorem finds_bsc (c : Dev nD) (t : Fin (cfgM m).N) (Y) (h : (rdat m c).Finds 1 t Y) : Y = bsc m c t := by
  obtain ⟨d, hd⟩ := finds_in m c 1 (show (1 : Fin 10) ≠ 9 from by decide) rfl (fun _ _ _ => rfl) t Y h
  exact hd.trans (by unfold RDat.fetched RDat.blockOf bsc blkAt; rw [rdat_A]; rfl)

theorem finds_bsh (c : Dev nD) (t : Fin (cfgM m).N) (Y) (h : (rdat m c).Finds 2 t Y) : Y = bsh m c t := by
  obtain ⟨d, hd⟩ := finds_in m c 2 (show (2 : Fin 10) ≠ 9 from by decide) rfl (fun _ _ _ => rfl) t Y h
  exact hd.trans (by unfold RDat.fetched RDat.blockOf bsh blkAt; rw [rdat_A]; rfl)

theorem finds_bgate (c : Dev nD) (t : Fin (cfgM m).N) (Y) (h : (rdat m c).Finds 3 t Y) : Y = bgate m c t := by
  obtain ⟨d, hd⟩ := finds_in m c 3 (show (3 : Fin 10) ≠ 9 from by decide) rfl (fun _ _ _ => rfl) t Y h
  exact hd.trans (by unfold RDat.fetched RDat.blockOf bgate blkAt; rw [rdat_A]; rfl)

theorem finds_bg (c : Dev nD) (t : Fin (cfgM m).N) (Y) (h : (rdat m c).Finds 4 t Y) : Y = bg m c t := by
  obtain ⟨d, hd⟩ := finds_in m c 4 (show (4 : Fin 10) ≠ 9 from by decide) rfl (fun _ _ _ => rfl) t Y h
  exact hd.trans (by unfold RDat.fetched RDat.blockOf bg blkAt; rw [rdat_A]; rfl)

theorem finds_br (c : Dev nD) (t : Fin (cfgM m).N) (Y) (h : (rdat m c).Finds 5 t Y) : Y = br m c t := by
  obtain ⟨d, hd⟩ := finds_in m c 5 (show (5 : Fin 10) ≠ 9 from by decide) rfl (fun _ _ _ => rfl) t Y h
  exact hd.trans (by unfold RDat.fetched RDat.blockOf br blkAt; rw [rdat_A]; rfl)

theorem finds_bwg (c : Dev nD) (t : Fin (cfgM m).N) (Y) (h : (rdat m c).Finds 6 t Y) : Y = bwg m c t := by
  obtain ⟨d, hd⟩ := finds_in m c 6 (show (6 : Fin 10) ≠ 9 from by decide) rfl (fun _ _ _ => rfl) t Y h
  exact hd.trans (by unfold RDat.fetched RDat.blockOf bwg blkAt; rw [rdat_A]; rfl)

theorem finds_bwu (c : Dev nD) (t : Fin (cfgM m).N) (Y) (h : (rdat m c).Finds 7 t Y) : Y = bwu m c t := by
  obtain ⟨d, hd⟩ := finds_in m c 7 (show (7 : Fin 10) ≠ 9 from by decide) rfl (fun _ _ _ => rfl) t Y h
  exact hd.trans (by unfold RDat.fetched RDat.blockOf bwu blkAt; rw [rdat_A]; rfl)

theorem finds_bwd (c : Dev nD) (t : Fin (cfgM m).N) (Y) (h : (rdat m c).Finds 8 t Y) : Y = bwd m c t := by
  obtain ⟨d, hd⟩ := finds_in m c 8 (show (8 : Fin 10) ≠ 9 from by decide) rfl (fun _ _ _ => rfl) t Y h
  exact hd.trans (by unfold RDat.fetched RDat.blockOf bwd blkAt; rw [rdat_A]; rfl)

/-- The kernel's body as the pipeline calls it at point `t`. -/
abbrev bodyAt (t : Fin (cfgM m).N) : Prog (TpuEff nD τ sig (Elt F) Λ₀ .tc) PUnit :=
  cc0__moe_kernel (F := F) (grid0.coords t) (Memref.whole main_v34) (Memref.isWhole_whole _) (Memref.whole main_v35) (Memref.isWhole_whole _) (Memref.whole main_v36) (Memref.isWhole_whole _)
    (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9))
    (Memref.whole cc0_scratch0) (Memref.isWhole_whole _) (Memref.whole cc0_scratch1) (Memref.isWhole_whole _) (Memref.whole cc0_scratch2) (Memref.isWhole_whole _)

theorem body_row (t : Fin (cfgM m).N) :
    defs₀ (F := F) .tc (cfgM m).body ((cfgM m).bodyArgs t ((cfgM m).slots t)) = bodyAt m t := by
  unfold defs₀; rw [Defs.onTc_tc]

theorem coord0_lt (i : grid0.Coords) : (i 0).val < 16 := (i 0).isLt
theorem coord1_lt (i : grid0.Coords) : (i 1).val < 4 := (i 1).isLt

/-- The body at any point keeps the invariant. -/
theorem sound (hT : TabOK (tblT m) (tblS m) (tblC m)) (c : Dev nD) (t : Fin (cfgM m).N)
    (Y : (w : Fin (cfgM m).W) → ((cfgM m).win w).block.Idx → Elt F ((cfgM m).win w).elt) (hY : ∀ w, (rdat m c).Finds w t (Y w)) :
    iprop((rdat m c).Φ t.castSucc ∗ (rdat m c).owesAt () t.castSucc
        ∗ owns (c : Thread nD τ) (((cfgM m).win 0).stage ((cfgM m).slots t 0)) fullShare (Y 0) ∗ owns (c : Thread nD τ) (((cfgM m).win 1).stage ((cfgM m).slots t 1)) fullShare (Y 1) ∗ owns (c : Thread nD τ) (((cfgM m).win 2).stage ((cfgM m).slots t 2)) fullShare (Y 2) ∗ owns (c : Thread nD τ) (((cfgM m).win 3).stage ((cfgM m).slots t 3)) fullShare (Y 3) ∗ owns (c : Thread nD τ) (((cfgM m).win 4).stage ((cfgM m).slots t 4)) fullShare (Y 4) ∗ owns (c : Thread nD τ) (((cfgM m).win 5).stage ((cfgM m).slots t 5)) fullShare (Y 5) ∗ owns (c : Thread nD τ) (((cfgM m).win 6).stage ((cfgM m).slots t 6)) fullShare (Y 6) ∗ owns (c : Thread nD τ) (((cfgM m).win 7).stage ((cfgM m).slots t 7)) fullShare (Y 7) ∗ owns (c : Thread nD τ) (((cfgM m).win 8).stage ((cfgM m).slots t 8)) fullShare (Y 8) ∗ owns (c : Thread nD τ) (((cfgM m).win 9).stage ((cfgM m).slots t 9)) fullShare (Y 9))
      ⊢ wp frame (wpE (defs₀ (F := F)) Variants.none (c : Thread nD τ) none) Set.univ (bodyAt m t) fun _ =>
          iprop((rdat m c).Φ t.succ ∗ (rdat m c).owesAt () t.succ
            ∗ (∃ X, ⌜(rdat m c).after 0 t (Y 0) X⌝ ∗ owns (c : Thread nD τ) (((cfgM m).win 0).stage ((cfgM m).slots t 0)) fullShare X) ∗ (∃ X, ⌜(rdat m c).after 1 t (Y 1) X⌝ ∗ owns (c : Thread nD τ) (((cfgM m).win 1).stage ((cfgM m).slots t 1)) fullShare X) ∗ (∃ X, ⌜(rdat m c).after 2 t (Y 2) X⌝ ∗ owns (c : Thread nD τ) (((cfgM m).win 2).stage ((cfgM m).slots t 2)) fullShare X) ∗ (∃ X, ⌜(rdat m c).after 3 t (Y 3) X⌝ ∗ owns (c : Thread nD τ) (((cfgM m).win 3).stage ((cfgM m).slots t 3)) fullShare X) ∗ (∃ X, ⌜(rdat m c).after 4 t (Y 4) X⌝ ∗ owns (c : Thread nD τ) (((cfgM m).win 4).stage ((cfgM m).slots t 4)) fullShare X) ∗ (∃ X, ⌜(rdat m c).after 5 t (Y 5) X⌝ ∗ owns (c : Thread nD τ) (((cfgM m).win 5).stage ((cfgM m).slots t 5)) fullShare X) ∗ (∃ X, ⌜(rdat m c).after 6 t (Y 6) X⌝ ∗ owns (c : Thread nD τ) (((cfgM m).win 6).stage ((cfgM m).slots t 6)) fullShare X) ∗ (∃ X, ⌜(rdat m c).after 7 t (Y 7) X⌝ ∗ owns (c : Thread nD τ) (((cfgM m).win 7).stage ((cfgM m).slots t 7)) fullShare X) ∗ (∃ X, ⌜(rdat m c).after 8 t (Y 8) X⌝ ∗ owns (c : Thread nD τ) (((cfgM m).win 8).stage ((cfgM m).slots t 8)) fullShare X) ∗ (∃ X, ⌜(rdat m c).after 9 t (Y 9) X⌝ ∗ owns (c : Thread nD τ) (((cfgM m).win 9).stage ((cfgM m).slots t 9)) fullShare X)) := by
  rw [finds_bx m c t (Y 0) (hY 0)]
  rw [finds_bsc m c t (Y 1) (hY 1)]
  rw [finds_bsh m c t (Y 2) (hY 2)]
  rw [finds_bgate m c t (Y 3) (hY 3)]
  rw [finds_bg m c t (Y 4) (hY 4)]
  rw [finds_br m c t (Y 5) (hY 5)]
  rw [finds_bwg m c t (Y 6) (hY 6)]
  rw [finds_bwu m c t (Y 7) (hY 7)]
  rw [finds_bwd m c t (Y 8) (hY 8)]
  rw [show (rdat m c).Φ t.castSucc = Inv m c t.val from rfl, show (rdat m c).Φ t.succ = Inv m c (t.val + 1) from rfl]
  unfold RDat.owesAt Pipeline.owesWithin
  rw [show (rdat m c).owed t.castSucc = 0 from rfl, show (rdat m c).owed t.succ = 0 from rfl]
  unfold Inv
  iintro ⟨⟨%hs, %gs, %ys, %hR, Hhs, Hgs, Hys, Hp, HT, HS, HC⟩, ⟨%W, -, HW⟩, H0, H1, H2, H3, H4, H5, H6, H7, H8, H9⟩
  have hi0 := coord0_lt (grid0.coords t)
  have hi1 := coord1_lt (grid0.coords t)
  iapply wp_wand $$ [Hhs Hgs Hys HT HS HC H0 H1 H2 H3 H4 H5 H6 H7 H8 H9]
  · iapply (point c (grid0.coords t) _ _ _ _ _ _ _ _ _ _ _ _ _ _ _ _ _ _ _ _ _ _ _ _ _ _ _ _ _ _ _ _ fullShare.right (tblT m) (tblS m) (tblC m)
      (fun j hj => hT.dest _ (by omega)) (hT.dvd _ (by omega)) (hT.cnt _ (by omega)) (hT.last _ (by omega))
      (bx m c t) (bsc m c t) (bsh m c t) (bgate m c t) (bg m c t) (br m c t) (bwg m c t) (bwu m c t) (bwd m c t) (Y 9) hs gs ys)
    isplitl [HT]; · iexact HT
    isplitl [HS]; · iexact HS
    isplitl [HC]; · iexact HC
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hhs]; · iexact Hhs
    isplitl [Hgs]; · iexact Hgs
    iexact Hys
  iintro %_ ⟨%o', %hs', %gs', %ys', %hstep, HT, HS, HC, H0, H1, H2, H3, H4, H5, H6, H7, H8, H9, Hhs, Hgs, Hys⟩
  have hR' : Reach m c (t.val + 1) hs' gs' ys' := ⟨t.isLt, hs, gs, ys, hR, hstep.1⟩
  isplitl [Hhs Hgs Hys Hp HT HS HC]
  · iexists hs'; iexists gs'; iexists ys'
    isplitr; · ipureintro; exact hR'
    isplitl [Hhs]; · iexact Hhs
    isplitl [Hgs]; · iexact Hgs
    isplitl [Hys]; · iexact Hys
    isplitl [Hp]; · iexact Hp
    isplitl [HT]; · iexact HT
    isplitl [HS]; · iexact HS
    iexact HC
  isplitl [HW]
  · iexists W; isplitr; · ipureintro; exact fun _ _ => Or.inl trivial
    iexact HW
  isplitl [H0]
  · iexists bx m c t; isplitr; · ipureintro; exact after_in m c 0 (show (0 : Fin 10) ≠ 9 from by decide) t _ _ rfl
    iexact H0
  isplitl [H1]
  · iexists bsc m c t; isplitr; · ipureintro; exact after_in m c 1 (show (1 : Fin 10) ≠ 9 from by decide) t _ _ rfl
    iexact H1
  isplitl [H2]
  · iexists bsh m c t; isplitr; · ipureintro; exact after_in m c 2 (show (2 : Fin 10) ≠ 9 from by decide) t _ _ rfl
    iexact H2
  isplitl [H3]
  · iexists bgate m c t; isplitr; · ipureintro; exact after_in m c 3 (show (3 : Fin 10) ≠ 9 from by decide) t _ _ rfl
    iexact H3
  isplitl [H4]
  · iexists bg m c t; isplitr; · ipureintro; exact after_in m c 4 (show (4 : Fin 10) ≠ 9 from by decide) t _ _ rfl
    iexact H4
  isplitl [H5]
  · iexists br m c t; isplitr; · ipureintro; exact after_in m c 5 (show (5 : Fin 10) ≠ 9 from by decide) t _ _ rfl
    iexact H5
  isplitl [H6]
  · iexists bwg m c t; isplitr; · ipureintro; exact after_in m c 6 (show (6 : Fin 10) ≠ 9 from by decide) t _ _ rfl
    iexact H6
  isplitl [H7]
  · iexists bwu m c t; isplitr; · ipureintro; exact after_in m c 7 (show (7 : Fin 10) ≠ 9 from by decide) t _ _ rfl
    iexact H7
  isplitl [H8]
  · iexists bwd m c t; isplitr; · ipureintro; exact after_in m c 8 (show (8 : Fin 10) ≠ 9 from by decide) t _ _ rfl
    iexact H8
  iexists o'; isplitr; · ipureintro; exact ⟨hs', gs', ys', hR', hstep.2⟩
  iexact H9

theorem body_obligation (hT : TabOK (tblT m) (tblS m) (tblC m)) (c : Dev nD) :
    (rdat m c).BodyObligation (defs₀ (F := F)) Variants.none () Set.univ := fun t Y hY => by
  rw [bigSep_W0, bigSep_W0, body_row m]
  exact sound m hT c t Y hY

/-- A buffer held whole is its own memref owned, and back. -/
theorem whole_in (c : Dev nD) (b : Ref sig .tc) (f : Buf (Elt F) ((c : Thread nD τ).loc b)) :
    (((c : Thread nD τ).loc b ↦{fullShare} f) : sProp (MT nD τ sig Unit (Elt F) ℕ (UR sig nD τ) ℕ)) ⊢ owns (c : Thread nD τ) (Memref.whole b) fullShare f := by
  rw [owns_whole]

theorem whole_out (c : Dev nD) (b : Ref sig .tc) (f : Buf (Elt F) ((c : Thread nD τ).loc b)) :
    (owns (c : Thread nD τ) (Memref.whole b) fullShare f : sProp (MT nD τ sig Unit (Elt F) ℕ (UR sig nD τ) ℕ)) ⊢ ((c : Thread nD τ).loc b ↦{fullShare} f) := by
  rw [owns_whole]

theorem hin (c : Dev nD) : iprop(Pipeline.ΦA spec0 c ∗ Pipeline.ΦT pre0 (tbl m) c) ⊢ (rdat m c).Φ 0 := by
  rw [show (rdat m c).Φ 0 = Inv m c 0 from rfl, PhiT_eq]
  unfold Pipeline.ΦA
  rw [scopedRest0_eq]
  unfold Inv
  iintro ⟨⟨⟨⟨%a, Ha⟩, ⟨%b, Hb⟩, ⟨%d, Hd⟩⟩, Hp⟩, HT, HS, HC⟩
  iexists a; iexists b; iexists d
  isplitr; · ipureintro; trivial
  isplitl [Ha]; · iapply (whole_in c cc0_scratch0 a); iexact Ha
  isplitl [Hb]; · iapply (whole_in c cc0_scratch1 b); iexact Hb
  isplitl [Hd]; · iapply (whole_in c cc0_scratch2 d); iexact Hd
  isplitl [Hp]; · iexact Hp
  isplitl [HT]; · iexact HT
  isplitl [HS]; · iexact HS
  iexact HC

theorem hout (c : Dev nD) : (rdat m c).Φ (Fin.last (cfgM m).N) ⊢ Pipeline.ΦA spec0 c := by
  rw [show (rdat m c).Φ (Fin.last (cfgM m).N) = Inv m c (cfgM m).N from rfl]
  unfold Pipeline.ΦA
  rw [scopedRest0_eq]
  unfold Inv
  iintro ⟨%hs, %gs, %ys, -, Hhs, Hgs, Hys, Hp, -, -, -⟩
  isplitl [Hhs Hgs Hys]
  · isplitl [Hhs]; · iexists hs; iapply (whole_out c cc0_scratch0 hs); iexact Hhs
    isplitl [Hgs]; · iexists gs; iapply (whole_out c cc0_scratch1 gs); iexact Hgs
    iexists ys; iapply (whole_out c cc0_scratch2 ys); iexact Hys
  iexact Hp

set_option backward.isDefEq.respectTransparency.types false in
/-- The run of the whole program from any memory whose tables satisfy `TabOK`: it ends, every array is at what the
    proof data say of it, and every semaphore counter is at zero. -/
theorem run_all (hT : TabOK (tblT m) (tblS m) (tblC m)) :
    θ_run defs (onTc (τ := τ) (main (F := F))) (s₀ m ρ)
      (fun r => RDat.FramePost ((Pipeline.pin pcfgs fun _ => adm m) 0) (rdat m) (V m) r ∧ r.2.sem = fun _ => 0) :=
  RDat.θ_run_frameP_track_shared (Q' := _) pcfgs (fun _ => adm m) (0 : Fin 1) launch₀0 defs₀ Variants.none (rdat m) m ρ main
    (hbody := body_obligation m hT) (hq := fun _ _ _ => rfl) (howed := fun _ _ => rfl) (V := V m) (hmain := hmain m)
    (hA := rdat_A m) (hpf := V_pre m) (hin := hin m) (hout := hout m) (hQ' := fun _ h => h)

end Cert.KernelIdeal

end
-- ==== Proof.Counts.lean ====
/-
  Sums of words that hold natural numbers: the host's reductions and running sums, at an index.
-/
module

public import proofs.«01_k».proof.Proof.Gen.KernelIdeal
public import Idealize.ShloMosaic.Lib.Routing.Ops
public import Idealize.ShloMosaic.Lib.PointwiseCore
public import Idealize.ShloMosaic.Lib.Tactic

@[expose] public section

set_option maxRecDepth 16384

noncomputable section

namespace Cert.KernelIdeal

open Idealize.ShloMosaic Idealize.ShloMosaic.Tactic
open scoped BigOperators
open Cert.KernelIdeal.Gen

/-- A left fold over a filtered list of all positions, as a sum over a set. -/
theorem sum_filter_finRange {n : ℕ} (p : Fin n → Prop) [DecidablePred p] (g : Fin n → ℕ) :
    (((List.finRange n).filter fun k => decide (p k)).map g).sum = ∑ k ∈ Finset.univ.filter p, g k := rfl

theorem sum_finRange {n : ℕ} (g : Fin n → ℕ) : ((List.finRange n).map g).sum = ∑ k, g k := rfl

/-- An integer sum of the host over words that hold naturals holds the sum of the naturals. -/
theorem reduce_nat {s t u : Shape} {axes : List (Fin s.rank)} (x : IVec s 32) (f : s.Idx → ℕ) (hx : ∀ k, x k = BitVec.ofNat 32 (f k))
    (init : IVec u 32) (hu : 0 < u.numel) (hi : init (Shape.Idx.first hu) = 0#32) (h : s.ReducesTo axes t) (j : t.Idx) :
    Host.reduce IntOp.addi x init h hu j = BitVec.ofNat 32 (∑ k ∈ Finset.univ.filter (fun k => h.drop k = j), f k) := by
  unfold Host.reduce
  rw [Routing.foldl_addi_ofNat _ _ (fun n => f (s.rowMajor.symm n)) (fun n _ => hx _) _ 0 hi, Nat.zero_add]
  refine congrArg (BitVec.ofNat 32) ?_
  refine (sum_filter_finRange (fun n => h.drop (s.rowMajor.symm n) = j) (fun n => f (s.rowMajor.symm n))).trans ?_
  refine Finset.sum_equiv s.rowMajor.symm (fun n => ?_) (fun n _ => rfl)
  simp only [Finset.mem_filter, Finset.mem_univ, true_and]

theorem reduce_mid (x : IVec S16x1024x4 32) (f : Fin 16 → Fin 1024 → Fin 4 → ℕ)
    (hx : ∀ a b d, x (ix3 a b d) = BitVec.ofNat 32 (f a b d)) (a : Fin 16) (d : Fin 4) :
    Host.reduce IntOp.addi x (constantI S_ 32 0#32) reducesTo_S16x1024x4_S16x4_d1 h_S_ (ix2 a d)
      = BitVec.ofNat 32 (∑ b, f a b d) := by
  rw [reduce_nat x (fun k => f (k 0) (k 1) (k 2)) (fun k => (congrArg x (eq_ix3 k)).trans (hx _ _ _)) _ _ rfl]
  refine congrArg (BitVec.ofNat 32) (Finset.sum_nbij' (fun k => k 1) (fun b => ix3 a b d) ?_ ?_ ?_ ?_ ?_)
  · intro k _; exact Finset.mem_univ _
  · intro b _
    refine Finset.mem_filter.2 ⟨Finset.mem_univ _, ?_⟩
    funext q
    match q with
    | ⟨0, _⟩ => rfl
    | ⟨1, _⟩ => rfl
  · intro k hk
    have h := (Finset.mem_filter.1 hk).2
    have h0 : k 0 = a := congrFun h 0
    have h1 : k 2 = d := congrFun h 1
    rw [← h0, ← h1]; exact (eq_ix3 k).symm
  · intro b _; rfl
  · intro k hk
    have h := (Finset.mem_filter.1 hk).2
    have h0 : k 0 = a := congrFun h 0
    have h1 : k 2 = d := congrFun h 1
    rw [← h0, ← h1]

theorem reduce_last (x : IVec S16x1024x4 32) (f : Fin 16 → Fin 1024 → Fin 4 → ℕ)
    (hx : ∀ a b d, x (ix3 a b d) = BitVec.ofNat 32 (f a b d)) (a : Fin 16) (b : Fin 1024) :
    Host.reduce IntOp.addi x (constantI S_ 32 0#32) reducesTo_S16x1024x4_S16x1024_d2 h_S_ (ix2 a b)
      = BitVec.ofNat 32 (∑ d, f a b d) := by
  rw [reduce_nat x (fun k => f (k 0) (k 1) (k 2)) (fun k => (congrArg x (eq_ix3 k)).trans (hx _ _ _)) _ _ rfl]
  refine congrArg (BitVec.ofNat 32) (Finset.sum_nbij' (fun k => k 2) (fun d => ix3 a b d) ?_ ?_ ?_ ?_ ?_)
  · intro k _; exact Finset.mem_univ _
  · intro d _
    refine Finset.mem_filter.2 ⟨Finset.mem_univ _, ?_⟩
    funext q
    match q with
    | ⟨0, _⟩ => rfl
    | ⟨1, _⟩ => rfl
  · intro k hk
    have h := (Finset.mem_filter.1 hk).2
    have h0 : k 0 = a := congrFun h 0
    have h1 : k 1 = b := congrFun h 1
    rw [← h0, ← h1]; exact (eq_ix3 k).symm
  · intro d _; rfl
  · intro k hk
    have h := (Finset.mem_filter.1 hk).2
    have h0 : k 0 = a := congrFun h 0
    have h1 : k 1 = b := congrFun h 1
    rw [← h0, ← h1]

/-- A windowed integer sum of the host over words that hold naturals: the sum over the window's positions. -/
theorem window_nat {s t u : Shape} (window strides lo hi : Fin s.rank → ℕ) (x : IVec s 32) (init : IVec u 32) (hu : 0 < u.numel)
    (hi0 : init (Shape.Idx.first hu) = 0#32) (h : s.ReduceWindows window strides lo hi t) (j : t.Idx)
    (f : (⟨s.rank, window⟩ : Shape).Idx → ℕ)
    (hpos : ∀ w (hin : ∀ a, lo a ≤ (j (a.cast h.1.symm)).val * strides a + (w a).val
        ∧ (j (a.cast h.1.symm)).val * strides a + (w a).val - lo a < s.size a),
      x (fun a => ⟨(j (a.cast h.1.symm)).val * strides a + (w a).val - lo a, (hin a).2⟩) = BitVec.ofNat 32 (f w))
    (hneg : ∀ w, (¬ ∀ a, lo a ≤ (j (a.cast h.1.symm)).val * strides a + (w a).val
        ∧ (j (a.cast h.1.symm)).val * strides a + (w a).val - lo a < s.size a) → f w = 0) :
    Host.reduceWindow IntOp.addi window strides lo hi x init h hu j = BitVec.ofNat 32 (∑ w, f w) := by
  unfold Host.reduceWindow
  rw [Routing.foldl_addi_ofNat _ _ (fun n => f ((⟨s.rank, window⟩ : Shape).rowMajor.symm n)) (fun n _ => by
    dsimp only
    split
    · next hin => exact hpos _ hin
    · next hin => rw [hi0, hneg _ hin]) _ 0 hi0, Nat.zero_add]
  refine congrArg (BitVec.ofNat 32) ?_
  refine (sum_finRange (fun n => f ((⟨s.rank, window⟩ : Shape).rowMajor.symm n))).trans ?_
  exact Equiv.sum_comp (⟨s.rank, window⟩ : Shape).rowMajor.symm f

/-- A window that ends at `j` sums what stands at and before `j`. -/
theorem sum_window_fin {N : ℕ} (g : Fin N → ℕ) (j : Fin N) :
    (∑ k : Fin N, if h : N - 1 ≤ j.val + k.val ∧ j.val + k.val - (N - 1) < N then g ⟨j.val + k.val - (N - 1), h.2⟩ else 0)
      = ∑ b : Fin N, if b ≤ j then g b else 0 := by
  have hj := j.isLt
  rw [← Finset.sum_filter]
  rw [show (∑ k : Fin N, if h : N - 1 ≤ j.val + k.val ∧ j.val + k.val - (N - 1) < N then g ⟨j.val + k.val - (N - 1), h.2⟩ else 0)
    = ∑ k ∈ Finset.univ.filter (fun k : Fin N => N - 1 ≤ j.val + k.val), if h : j.val + k.val - (N - 1) < N then g ⟨j.val + k.val - (N - 1), h⟩ else 0 from by
      rw [Finset.sum_filter]
      refine Finset.sum_congr rfl fun k _ => ?_
      by_cases h1 : N - 1 ≤ j.val + k.val <;> by_cases h2 : j.val + k.val - (N - 1) < N <;> simp [h1, h2]]
  refine Finset.sum_bij' (fun k _ => (⟨j.val + k.val - (N - 1), by have := k.isLt; omega⟩ : Fin N)) (fun b _ => (⟨(N - 1) + b.val - j.val, by
    have := b.isLt; have hb := (Finset.mem_filter.1 ‹_›).2; have : b.val ≤ j.val := hb; omega⟩ : Fin N)) ?_ ?_ ?_ ?_ ?_
  · intro k hk
    refine Finset.mem_filter.2 ⟨Finset.mem_univ _, ?_⟩
    have := k.isLt
    show j.val + k.val - (N - 1) ≤ j.val
    omega
  · intro b hb
    have : b.val ≤ j.val := (Finset.mem_filter.1 hb).2
    refine Finset.mem_filter.2 ⟨Finset.mem_univ _, ?_⟩
    show N - 1 ≤ j.val + ((N - 1) + b.val - j.val)
    omega
  · intro k hk
    have h1 : N - 1 ≤ j.val + k.val := (Finset.mem_filter.1 hk).2
    have := k.isLt
    refine Fin.ext ?_
    show (N - 1) + (j.val + k.val - (N - 1)) - j.val = k.val
    omega
  · intro b hb
    have : b.val ≤ j.val := (Finset.mem_filter.1 hb).2
    refine Fin.ext ?_
    show j.val + ((N - 1) + b.val - j.val) - (N - 1) = b.val
    omega
  · intro k hk
    have := k.isLt
    exact dif_pos (by omega)

/-- The running sum along the rows of a tile. -/
theorem cumsum_mid (x init : _) (f : Fin 16 → Fin 1024 → Fin 4 → ℕ)
    (hx : ∀ a b d, (x : IVec S16x1024x4 32) (ix3 a b d) = BitVec.ofNat 32 (f a b d)) (hi : (init : IVec S_ 32) (Shape.Idx.first h_S_) = 0#32)
    (a : Fin 16) (b : Fin 1024) (d : Fin 4) :
    Host.reduceWindow IntOp.addi ![1, 1024, 1] ![1, 1, 1] ![0, 1023, 0] ![0, 0, 0] x init
        reduceWindows_S16x1024x4_S16x1024x4_w1s1p0_0_w1024s1p1023_0_w1s1p0_0 h_S_ (ix3 a b d)
      = BitVec.ofNat 32 (∑ b' : Fin 1024, if b' ≤ b then f a b' d else 0) := by
  rw [← sum_window_fin (fun b' => f a b' d) b]
  rw [window_nat _ _ _ _ x init h_S_ hi _ _ (fun w => if h : 1024 - 1 ≤ b.val + (w 1).val ∧ b.val + (w 1).val - (1024 - 1) < 1024
    then f a ⟨b.val + (w 1).val - (1024 - 1), h.2⟩ d else 0)]
  · refine congrArg (BitVec.ofNat 32) ?_
    refine Fintype.sum_bijective (fun w => w 1) ⟨?_, ?_⟩ _ _ fun w => rfl
    · intro w w' hw
      funext q
      match q with
      | ⟨0, _⟩ => exact Subsingleton.elim (α := Fin 1) _ _
      | ⟨1, _⟩ => exact hw
      | ⟨2, _⟩ => exact Subsingleton.elim (α := Fin 1) _ _
    · intro k
      exact ⟨(ix3 (0 : Fin 1) (k : Fin 1024) (0 : Fin 1) : (⟨3, ![1, 1024, 1]⟩ : Shape).Idx), rfl⟩
  · intro w hin
    have h1 := hin 1
    change 1023 ≤ b.val * 1 + (w 1).val ∧ b.val * 1 + (w 1).val - 1023 < 1024 at h1
    have hw0 : (w 0).val = 0 := by have : (w 0).val < 1 := (w 0).isLt; omega
    have hw2 : (w 2).val = 0 := by have : (w 2).val < 1 := (w 2).isLt; omega
    rw [dif_pos (by omega), ← hx]
    refine congrArg x (funext fun q => Fin.ext ?_)
    match q with
    | ⟨0, _⟩ =>
      show a.val * 1 + (w 0).val - 0 = a.val
      omega
    | ⟨1, _⟩ =>
      show b.val * 1 + (w 1).val - 1023 = b.val + (w 1).val - 1023
      omega
    | ⟨2, _⟩ =>
      show d.val * 1 + (w 2).val - 0 = d.val
      omega
  · intro w hin
    have ha := a.isLt
    have hd := d.isLt
    have hw0 : (w 0).val = 0 := by have : (w 0).val < 1 := (w 0).isLt; omega
    have hw2 : (w 2).val = 0 := by have : (w 2).val < 1 := (w 2).isLt; omega
    refine dif_neg fun h => hin fun q => ?_
    match q with
    | ⟨0, _⟩ =>
      show 0 ≤ a.val * 1 + (w 0).val ∧ a.val * 1 + (w 0).val - 0 < 16
      omega
    | ⟨1, _⟩ =>
      show 1023 ≤ b.val * 1 + (w 1).val ∧ b.val * 1 + (w 1).val - 1023 < 1024
      omega
    | ⟨2, _⟩ =>
      show 0 ≤ d.val * 1 + (w 2).val ∧ d.val * 1 + (w 2).val - 0 < 4
      omega

/-- The running sum along the groups of a tile. -/
theorem cumsum_grp (x init : _) (f : Fin 16 → Fin 4 → ℕ)
    (hx : ∀ a d, (x : IVec S16x4 32) (ix2 a d) = BitVec.ofNat 32 (f a d)) (hi : (init : IVec S_ 32) (Shape.Idx.first h_S_) = 0#32)
    (a : Fin 16) (d : Fin 4) :
    Host.reduceWindow IntOp.addi ![1, 4] ![1, 1] ![0, 3] ![0, 0] x init reduceWindows_S16x4_S16x4_w1s1p0_0_w4s1p3_0 h_S_ (ix2 a d)
      = BitVec.ofNat 32 (∑ d' : Fin 4, if d' ≤ d then f a d' else 0) := by
  rw [← sum_window_fin (fun d' => f a d') d]
  rw [window_nat _ _ _ _ x init h_S_ hi _ _ (fun w => if h : 4 - 1 ≤ d.val + (w 1).val ∧ d.val + (w 1).val - (4 - 1) < 4
    then f a ⟨d.val + (w 1).val - (4 - 1), h.2⟩ else 0)]
  · refine congrArg (BitVec.ofNat 32) ?_
    refine Fintype.sum_bijective (fun w => w 1) ⟨?_, ?_⟩ _ _ fun w => rfl
    · intro w w' hw
      funext q
      match q with
      | ⟨0, _⟩ => exact Subsingleton.elim (α := Fin 1) _ _
      | ⟨1, _⟩ => exact hw
    · intro k
      exact ⟨(ix2 (0 : Fin 1) (k : Fin 4) : (⟨2, ![1, 4]⟩ : Shape).Idx), rfl⟩
  · intro w hin
    have h1 := hin 1
    change 3 ≤ d.val * 1 + (w 1).val ∧ d.val * 1 + (w 1).val - 3 < 4 at h1
    have hw0 : (w 0).val = 0 := by have : (w 0).val < 1 := (w 0).isLt; omega
    rw [dif_pos (by omega), ← hx]
    refine congrArg x (funext fun q => Fin.ext ?_)
    match q with
    | ⟨0, _⟩ =>
      show a.val * 1 + (w 0).val - 0 = a.val
      omega
    | ⟨1, _⟩ =>
      show d.val * 1 + (w 1).val - 3 = d.val + (w 1).val - 3
      omega
  · intro w hin
    have ha := a.isLt
    have hw0 : (w 0).val = 0 := by have : (w 0).val < 1 := (w 0).isLt; omega
    refine dif_neg fun h => hin fun q => ?_
    match q with
    | ⟨0, _⟩ =>
      show 0 ≤ a.val * 1 + (w 0).val ∧ a.val * 1 + (w 0).val - 0 < 16
      omega
    | ⟨1, _⟩ =>
      show 3 ≤ d.val * 1 + (w 1).val ∧ d.val * 1 + (w 1).val - 3 < 4
      omega

/-! ### Counting the rows of a group -/

variable (G : Fin 16 → Fin 1024 → BitVec 32)

/-- One if row `b` of tile `a` is of group `d`. -/
def ind (a : Fin 16) (b : Fin 1024) (d : Fin 4) : ℕ := if G a b = BitVec.ofNat 32 d.val then 1 else 0
/-- How many rows of a tile are of a group. -/
def cntOf (a : Fin 16) (d : Fin 4) : ℕ := ∑ b, ind G a b d
/-- The count rounded up to eights. -/
def pad8 (n : ℕ) : ℕ := (n + 7) / 8 * 8
/-- Where a group's rows begin. -/
def startOf (a : Fin 16) (d : Fin 4) : ℕ := ∑ d' : Fin 4, if d' < d then pad8 (cntOf G a d') else 0
/-- How many earlier rows are of the group. -/
def rankOf (a : Fin 16) (b : Fin 1024) (d : Fin 4) : ℕ := ∑ b' : Fin 1024, if b' < b then ind G a b' d else 0
/-- Where a row goes. -/
def destOf (a : Fin 16) (b : Fin 1024) : ℕ := ∑ d : Fin 4, ind G a b d * (rankOf G a b d + startOf G a d)

theorem ind_le (a b d) : ind G a b d ≤ 1 := by unfold ind; split <;> omega

theorem ofNat_inj4 {d d' : Fin 4} (h : BitVec.ofNat 32 d.val = BitVec.ofNat 32 d'.val) : d = d' := by
  have := congrArg BitVec.toNat h
  rw [BitVec.toNat_ofNat, BitVec.toNat_ofNat, Nat.mod_eq_of_lt (by omega), Nat.mod_eq_of_lt (by omega)] at this
  exact Fin.ext this

theorem ind_sum_le (a : Fin 16) (b : Fin 1024) : ∑ d, ind G a b d ≤ 1 := by
  by_cases h : ∃ d : Fin 4, G a b = BitVec.ofNat 32 d.val
  · obtain ⟨d, hd⟩ := h
    rw [Finset.sum_eq_single d]
    · exact ind_le G a b d
    · intro d' _ hne
      exact if_neg fun h' => hne (ofNat_inj4 (h'.symm.trans hd))
    · intro h; exact absurd (Finset.mem_univ _) h
  · rw [Finset.sum_eq_zero fun d _ => show ind G a b d = 0 from if_neg fun h' => h ⟨d, h'⟩]; omega

theorem cnt_sum_le (a : Fin 16) : ∑ d, cntOf G a d ≤ 1024 := by
  unfold cntOf
  rw [Finset.sum_comm]
  refine (Finset.sum_le_card_nsmul _ _ 1 fun b _ => ind_sum_le G a b).trans ?_
  simp

theorem cnt_le (a d) : cntOf G a d ≤ 1024 :=
  (Finset.single_le_sum (f := cntOf G a) (fun _ _ => Nat.zero_le _) (Finset.mem_univ d)).trans (cnt_sum_le G a)

theorem pad8_le (n : ℕ) : pad8 n ≤ n + 7 := by unfold pad8; omega
theorem le_pad8 (n : ℕ) : n ≤ pad8 n := by unfold pad8; omega
theorem dvd_pad8 (n : ℕ) : 8 ∣ pad8 n := ⟨(n + 7) / 8, by unfold pad8; omega⟩

theorem start_dvd (a d) : 8 ∣ startOf G a d := by
  refine Finset.dvd_sum fun d' _ => ?_
  split
  · exact dvd_pad8 _
  · exact ⟨0, rfl⟩

theorem start_cnt_le (a d) : startOf G a d + cntOf G a d ≤ 1052 := by
  have h := cnt_sum_le G a
  rw [Fin.sum_univ_four] at h
  have h0 := pad8_le (cntOf G a 0)
  have h1 := pad8_le (cntOf G a 1)
  have h2 := pad8_le (cntOf G a 2)
  unfold startOf
  rw [Fin.sum_univ_four]
  fin_cases d <;> simp <;> omega

/-- The groups' regions do not overlap. -/
theorem start_step (a : Fin 16) (d d' : Fin 4) (h : d < d') : startOf G a d + pad8 (cntOf G a d) ≤ startOf G a d' := by
  unfold startOf
  rw [Fin.sum_univ_four, Fin.sum_univ_four]
  fin_cases d <;> fin_cases d' <;> simp at h ⊢ <;> omega

theorem rank_lt (a : Fin 16) (b : Fin 1024) (d : Fin 4) (h : ind G a b d = 1) : rankOf G a b d < cntOf G a d := by
  unfold rankOf cntOf
  refine Finset.sum_lt_sum (fun b' _ => by split <;> omega) ⟨b, Finset.mem_univ _, ?_⟩
  rw [if_neg (lt_irrefl _), h]; omega

theorem rank_le (a : Fin 16) (b : Fin 1024) (d : Fin 4) : rankOf G a b d ≤ 1024 :=
  (Finset.sum_le_sum (fun b' _ => by split <;> omega)).trans (cnt_le G a d)

theorem rank_mono (a : Fin 16) (b b' : Fin 1024) (d : Fin 4) (hb : b < b') (h : ind G a b d = 1) : rankOf G a b d < rankOf G a b' d := by
  unfold rankOf
  refine Finset.sum_lt_sum (fun k _ => ?_) ⟨b, Finset.mem_univ _, ?_⟩
  · by_cases h1 : k < b
    · rw [if_pos h1, if_pos (h1.trans hb)]
    · rw [if_neg h1]; exact Nat.zero_le _
  · rw [if_neg (lt_irrefl _), if_pos hb, h]; omega

theorem dest_eq (a : Fin 16) (b : Fin 1024) (d : Fin 4) (h : G a b = BitVec.ofNat 32 d.val) :
    destOf G a b = rankOf G a b d + startOf G a d := by
  unfold destOf
  rw [Finset.sum_eq_single d]
  · rw [show ind G a b d = 1 from if_pos h, one_mul]
  · intro d' _ hne
    rw [show ind G a b d' = 0 from if_neg fun h' => hne (ofNat_inj4 (h'.symm.trans h)), zero_mul]
  · intro h; exact absurd (Finset.mem_univ _) h

theorem dest_lt (a : Fin 16) (b : Fin 1024) : destOf G a b < 1052 := by
  by_cases h : ∃ d : Fin 4, G a b = BitVec.ofNat 32 d.val
  · obtain ⟨d, hd⟩ := h
    rw [dest_eq G a b d hd]
    have h1 := rank_lt G a b d (if_pos hd)
    have h2 := start_cnt_le G a d
    omega
  · unfold destOf
    rw [Finset.sum_eq_zero fun d _ => by rw [show ind G a b d = 0 from if_neg fun h' => h ⟨d, h'⟩, zero_mul]]
    omega

end Cert.KernelIdeal

end
-- ==== Proof.Tables.lean ====
/-
  The three tables the host prepares, read off the routing table.
-/
module

public import proofs.«01_k».proof.Proof.Run
public import proofs.«01_k».proof.Proof.Counts
public import Idealize.ShloMosaic.Lib.StableHlo.RunRead
public import Idealize.ShloMosaic.Lib.StableHlo.ReadAt

@[expose] public section

set_option maxRecDepth 16384

noncomputable section

namespace Cert.KernelIdeal

open Idealize.ShloMosaic Idealize.ShloMosaic.TcCoe Idealize.ShloMosaic.Tactic
open Cert.KernelIdeal.Gen Cert.Proof

variable {F : FTy → Type} [FloatOps F]
variable (m : (ℓ : Loc nD τ sig) → Buf (Elt F) ℓ)

theorem V_v9 (c : Dev nD) : (V m c main_v9 : IVec S16x1024 32) = shapeCast S16x1024 (fptosi 32 (shapeCast S16384 (extractStridedSlice S1x16384 ![4, 0] (m ((c : Thread nD τ).loc main_arg3) : Vec F S8x16384 .f32) slices_S8x16384_S1x16384_4_0 : Vec F S1x16384 .f32) shapeCasts_S1x16384_S16384 : Vec F S16384 .f32) : IVec S16384 32) shapeCasts_S16384_S16x1024 := by
  unfold V
  unfold_abbrev_sides
  after_reads_simp
  all_goals try simp -implicitDefEqProofs only [StableHlo.TRef.toBuf, StableHlo.TRef.ofBuf, cast_cast, cast_eq]
  all_goals try clean_types
  all_goals try rfl

theorem V_v16 (c : Dev nD) : (V m c main_v16 : IVec S16x1024x4 32) = extui 32 (cmpi .eq (broadcastInDim S16x1024x4 ![0, 1, 2] bcast_S16x1024x1_S16x1024x4_0_1_2 (broadcastInDim S16x1024x1 ![0, 1] bcast_S16x1024_S16x1024x1_0_1 (V m c main_v9 : IVec S16x1024 32))) (broadcastInDim S16x1024x4 ![0, 1, 2] bcast_S1x1x4_S16x1024x4_0_1_2 (broadcastInDim S1x1x4 ![2] bcast_S4_S1x1x4_2 (iotaInDim S4 32 0)))) natLt_1_32 := by
  unfold V
  unfold_abbrev_sides
  after_reads_simp
  all_goals try simp -implicitDefEqProofs only [StableHlo.TRef.toBuf, StableHlo.TRef.ofBuf, cast_cast, cast_eq]
  all_goals try clean_types
  all_goals try rfl

theorem V_v17 (c : Dev nD) : (V m c main_v17 : IVec S16x4 32) = Host.reduce IntOp.addi (V m c main_v16 : IVec S16x1024x4 32) (constantI S_ 32 0#32) reducesTo_S16x1024x4_S16x4_d1 h_S_ := by
  unfold V
  unfold_abbrev_sides
  after_reads_simp
  all_goals try simp -implicitDefEqProofs only [StableHlo.TRef.toBuf, StableHlo.TRef.ofBuf, cast_cast, cast_eq]
  all_goals try clean_types
  all_goals try rfl

theorem V_v21 (c : Dev nD) : (V m c main_v21 : IVec S16x4 32) = subi (addi (V m c main_v17 : IVec S16x4 32) (broadcastInDim S16x4 ![] bcast_S_S16x4 (constantI S_ 32 8#32))) (broadcastInDim S16x4 ![] bcast_S_S16x4 (constantI S_ 32 1#32)) := by
  unfold V
  unfold_abbrev_sides
  after_reads_simp
  all_goals try simp -implicitDefEqProofs only [StableHlo.TRef.toBuf, StableHlo.TRef.ofBuf, cast_cast, cast_eq]
  all_goals try clean_types
  all_goals try rfl

theorem V_v22 (c : Dev nD) : (V m c main_v22 : IVec S16x4 32) = select (andi (cmpi .ne (signi (V m c main_v21 : IVec S16x4 32)) (broadcastInDim S16x4 ![] bcast_S_S16x4 (signi (constantI S_ 32 8#32))))
      (cmpi .ne (Host.remsi (V m c main_v21 : IVec S16x4 32) (broadcastInDim S16x4 ![] bcast_S_S16x4 (constantI S_ 32 8#32))) (broadcastInDim S16x4 ![] bcast_S_S16x4 (constantI S_ 32 0#32))))
      (subi (Host.divsi (V m c main_v21 : IVec S16x4 32) (broadcastInDim S16x4 ![] bcast_S_S16x4 (constantI S_ 32 8#32))) (broadcastInDim S16x4 ![] bcast_S_S16x4 (constantI S_ 32 1#32)))
      (Host.divsi (V m c main_v21 : IVec S16x4 32) (broadcastInDim S16x4 ![] bcast_S_S16x4 (constantI S_ 32 8#32))) := by
  unfold V
  unfold_abbrev_sides
  after_reads_simp
  all_goals try simp -implicitDefEqProofs only [StableHlo.TRef.toBuf, StableHlo.TRef.ofBuf, cast_cast, cast_eq]
  all_goals try clean_types
  all_goals try rfl

theorem V_v24 (c : Dev nD) : (V m c main_v24 : IVec S16x4 32) = muli (V m c main_v22 : IVec S16x4 32) (broadcastInDim S16x4 ![] bcast_S_S16x4 (constantI S_ 32 8#32)) := by
  unfold V
  unfold_abbrev_sides
  after_reads_simp
  all_goals try simp -implicitDefEqProofs only [StableHlo.TRef.toBuf, StableHlo.TRef.ofBuf, cast_cast, cast_eq]
  all_goals try clean_types
  all_goals try rfl

theorem V_v25 (c : Dev nD) : (V m c main_v25 : IVec S16x4 32) = Host.reduceWindow IntOp.addi ![1, 4] ![1, 1] ![0, 3] ![0, 0] (V m c main_v24 : IVec S16x4 32) (broadcastInDim S_ ![] bcast_S_S_ (constantI S_ 32 0#32)) reduceWindows_S16x4_S16x4_w1s1p0_0_w4s1p3_0 h_S_ := by
  unfold V
  unfold_abbrev_sides
  after_reads_simp
  all_goals try simp -implicitDefEqProofs only [StableHlo.TRef.toBuf, StableHlo.TRef.ofBuf, cast_cast, cast_eq]
  all_goals try clean_types
  all_goals try rfl

theorem V_v26 (c : Dev nD) : (V m c main_v26 : IVec S16x4 32) = subi (V m c main_v25 : IVec S16x4 32) (V m c main_v24 : IVec S16x4 32) := by
  unfold V
  unfold_abbrev_sides
  after_reads_simp
  all_goals try simp -implicitDefEqProofs only [StableHlo.TRef.toBuf, StableHlo.TRef.ofBuf, cast_cast, cast_eq]
  all_goals try clean_types
  all_goals try rfl

theorem V_v27 (c : Dev nD) : (V m c main_v27 : IVec S16x1024x4 32) = Host.reduceWindow IntOp.addi ![1, 1024, 1] ![1, 1, 1] ![0, 1023, 0] ![0, 0, 0] (V m c main_v16 : IVec S16x1024x4 32) (broadcastInDim S_ ![] bcast_S_S_ (constantI S_ 32 0#32)) reduceWindows_S16x1024x4_S16x1024x4_w1s1p0_0_w1024s1p1023_0_w1s1p0_0 h_S_ := by
  unfold V
  unfold_abbrev_sides
  after_reads_simp
  all_goals try simp -implicitDefEqProofs only [StableHlo.TRef.toBuf, StableHlo.TRef.ofBuf, cast_cast, cast_eq]
  all_goals try clean_types
  all_goals try rfl

theorem V_v28 (c : Dev nD) : (V m c main_v28 : IVec S16x1024x4 32) = subi (V m c main_v27 : IVec S16x1024x4 32) (V m c main_v16 : IVec S16x1024x4 32) := by
  unfold V
  unfold_abbrev_sides
  after_reads_simp
  all_goals try simp -implicitDefEqProofs only [StableHlo.TRef.toBuf, StableHlo.TRef.ofBuf, cast_cast, cast_eq]
  all_goals try clean_types
  all_goals try rfl

theorem V_v31 (c : Dev nD) : (V m c main_v31 : IVec S16x1024x4 32) = addi (V m c main_v28 : IVec S16x1024x4 32) (broadcastInDim S16x1024x4 ![0, 1, 2] bcast_S16x1x4_S16x1024x4_0_1_2 (broadcastInDim S16x1x4 ![0, 2] bcast_S16x4_S16x1x4_0_2 (V m c main_v26 : IVec S16x4 32))) := by
  unfold V
  unfold_abbrev_sides
  after_reads_simp
  all_goals try simp -implicitDefEqProofs only [StableHlo.TRef.toBuf, StableHlo.TRef.ofBuf, cast_cast, cast_eq]
  all_goals try clean_types
  all_goals try rfl

theorem V_v32 (c : Dev nD) : (V m c main_v32 : IVec S16x1024x4 32) = muli (V m c main_v16 : IVec S16x1024x4 32) (V m c main_v31 : IVec S16x1024x4 32) := by
  unfold V
  unfold_abbrev_sides
  after_reads_simp
  all_goals try simp -implicitDefEqProofs only [StableHlo.TRef.toBuf, StableHlo.TRef.ofBuf, cast_cast, cast_eq]
  all_goals try clean_types
  all_goals try rfl

theorem V_v33 (c : Dev nD) : (V m c main_v33 : IVec S16x1024 32) = Host.reduce IntOp.addi (V m c main_v32 : IVec S16x1024x4 32) (constantI S_ 32 0#32) reducesTo_S16x1024x4_S16x1024_d2 h_S_ := by
  unfold V
  unfold_abbrev_sides
  after_reads_simp
  all_goals try simp -implicitDefEqProofs only [StableHlo.TRef.toBuf, StableHlo.TRef.ofBuf, cast_cast, cast_eq]
  all_goals try clean_types
  all_goals try rfl

theorem V_v34 (c : Dev nD) : (V m c main_v34 : IVec S16384 32) = shapeCast S16384 (V m c main_v33 : IVec S16x1024 32) shapeCasts_S16x1024_S16384 := by
  unfold V
  unfold_abbrev_sides
  after_reads_simp
  all_goals try simp -implicitDefEqProofs only [StableHlo.TRef.toBuf, StableHlo.TRef.ofBuf, cast_cast, cast_eq]
  all_goals try clean_types
  all_goals try rfl

theorem V_v35 (c : Dev nD) : (V m c main_v35 : IVec S64 32) = shapeCast S64 (V m c main_v26 : IVec S16x4 32) shapeCasts_S16x4_S64 := by
  unfold V
  unfold_abbrev_sides
  after_reads_simp
  all_goals try simp -implicitDefEqProofs only [StableHlo.TRef.toBuf, StableHlo.TRef.ofBuf, cast_cast, cast_eq]
  all_goals try clean_types
  all_goals try rfl

theorem V_v36 (c : Dev nD) : (V m c main_v36 : IVec S64 32) = shapeCast S64 (V m c main_v17 : IVec S16x4 32) shapeCasts_S16x4_S64 := by
  unfold V
  unfold_abbrev_sides
  after_reads_simp
  all_goals try simp -implicitDefEqProofs only [StableHlo.TRef.toBuf, StableHlo.TRef.ofBuf, cast_cast, cast_eq]
  all_goals try clean_types
  all_goals try rfl

theorem V_arg0 (c : Dev nD) : V m c main_arg0 = m ((c : Thread nD τ).loc main_arg0) := by
  unfold V
  unfold_abbrev_sides
  after_reads_simp
  try rfl

theorem V_arg1 (c : Dev nD) : V m c main_arg1 = m ((c : Thread nD τ).loc main_arg1) := by
  unfold V
  unfold_abbrev_sides
  after_reads_simp
  try rfl

theorem V_arg2 (c : Dev nD) : V m c main_arg2 = m ((c : Thread nD τ).loc main_arg2) := by
  unfold V
  unfold_abbrev_sides
  after_reads_simp
  try rfl

theorem V_arg3 (c : Dev nD) : V m c main_arg3 = m ((c : Thread nD τ).loc main_arg3) := by
  unfold V
  unfold_abbrev_sides
  after_reads_simp
  try rfl

theorem V_arg4 (c : Dev nD) : V m c main_arg4 = m ((c : Thread nD τ).loc main_arg4) := by
  unfold V
  unfold_abbrev_sides
  after_reads_simp
  try rfl

theorem V_arg5 (c : Dev nD) : V m c main_arg5 = m ((c : Thread nD τ).loc main_arg5) := by
  unfold V
  unfold_abbrev_sides
  after_reads_simp
  try rfl

theorem V_arg6 (c : Dev nD) : V m c main_arg6 = m ((c : Thread nD τ).loc main_arg6) := by
  unfold V
  unfold_abbrev_sides
  after_reads_simp
  try rfl

end Cert.KernelIdeal

end
-- ==== Proof.Slots.lean ====
/-
  The three tables the host prepares, as numbers: how many rows of each group a tile has, where each group's rows
  begin, and where each row goes.
-/
module

public import proofs.«01_k».proof.Proof.Tables
public import proofs.«01_k».proof.Proof.Counts

@[expose] public section

set_option maxRecDepth 16384

noncomputable section

namespace Cert.KernelIdeal

open Idealize.ShloMosaic Idealize.ShloMosaic.TcCoe Idealize.ShloMosaic.Tactic
open Cert.KernelIdeal.Gen Cert.Proof

variable {F : FTy → Type} [FloatOps F]
variable (m : (ℓ : Loc nD τ sig) → Buf (Elt F) ℓ)

/-- The group word of a row. -/
def grp (c : Dev nD) (a : Fin 16) (b : Fin 1024) : BitVec 32 := (V m c main_v9 : IVec S16x1024 32) (ix2 a b)

/-- A comparison for equality, widened: one where the words agree and zero elsewhere. -/
theorem eq_word (x y : BitVec 32) : BitVec.setWidth 32 (IntOp.cmpi .eq x y) = BitVec.ofNat 32 (if x = y then 1 else 0) := by
  unfold IntOp.cmpi
  by_cases h : x = y
  · rw [if_pos h, h]; simp
  · rw [if_neg h, beq_eq_false_iff_ne.2 h]; rfl

theorem at16 (c : Dev nD) (a : Fin 16) (b : Fin 1024) (d : Fin 4) :
    (V m c main_v16 : IVec S16x1024x4 32) (ix3 a b d) = BitVec.ofNat 32 (ind (grp m c) a b d) := by
  rw [V_v16]
  pointwise
  exact eq_word _ _

theorem at17 (c : Dev nD) (a : Fin 16) (d : Fin 4) :
    (V m c main_v17 : IVec S16x4 32) (ix2 a d) = BitVec.ofNat 32 (cntOf (grp m c) a d) := by
  rw [V_v17]
  exact reduce_mid _ _ (at16 m c) a d

theorem at21 (c : Dev nD) (a : Fin 16) (d : Fin 4) :
    (V m c main_v21 : IVec S16x4 32) (ix2 a d) = BitVec.ofNat 32 (cntOf (grp m c) a d + 7) := by
  rw [V_v21]
  pointwise
  rw [at17]
  unfold IntOp.subi IntOp.addi
  rw [BitVec.ofNat_add, BitVec.sub_eq_add_neg, BitVec.add_assoc]
  rfl

/-- Rounding down to eights by the host's floor division and multiplication, at the words that occur. -/
theorem eights : ∀ n : Fin 1032, IntOp.muli
      (Scalar.select
        (IntOp.andi
          (IntOp.cmpi CmpIPredicate.ne
            (if BitVec.ofNat 32 n.val = 0 then (0 : BitVec 32)
            else if (BitVec.ofNat 32 n.val).msb = true then -1 else 1)
            (if 8#32 = 0 then 0 else if (8#32).msb = true then -1 else 1))
          (IntOp.cmpi CmpIPredicate.ne (IntOp.remsi ArithUnit.host (BitVec.ofNat 32 n.val) 8#32)
            0#32))
        (IntOp.subi (IntOp.divsi ArithUnit.host (BitVec.ofNat 32 n.val) 8#32) 1#32)
        (IntOp.divsi ArithUnit.host (BitVec.ofNat 32 n.val) 8#32))
      8#32 = BitVec.ofNat 32 (n.val / 8 * 8) := by decide

theorem at24 (c : Dev nD) (a : Fin 16) (d : Fin 4) :
    (V m c main_v24 : IVec S16x4 32) (ix2 a d) = BitVec.ofNat 32 (pad8 (cntOf (grp m c) a d)) := by
  rw [V_v24, V_v22]
  pointwise
  rw [at21]
  have h := cnt_le (grp m c) a d
  exact eights ⟨cntOf (grp m c) a d + 7, by omega⟩

/-- A sum up to and including `j`, less the last term. -/
theorem ofNat_sub_last {N : ℕ} (g : Fin N → ℕ) (j : Fin N) :
    BitVec.ofNat 32 (∑ k, if k ≤ j then g k else 0) - BitVec.ofNat 32 (g j) = BitVec.ofNat 32 (∑ k, if k < j then g k else 0) := by
  have h : (∑ k, if k ≤ j then g k else 0) = (∑ k, if k < j then g k else 0) + g j := by
    rw [show g j = ∑ k, if k = j then g k else 0 from by rw [Finset.sum_ite_eq' Finset.univ j g, if_pos (Finset.mem_univ _)], ← Finset.sum_add_distrib]
    refine Finset.sum_congr rfl fun k _ => ?_
    rcases lt_trichotomy k j with h | h | h
    · rw [if_pos h.le, if_pos h, if_neg h.ne, add_zero]
    · subst h; rw [if_pos (le_refl _), if_neg (lt_irrefl _), if_pos rfl, zero_add]
    · rw [if_neg (not_le.2 h), if_neg (not_lt.2 h.le), if_neg h.ne']
  rw [h, BitVec.ofNat_add, BitVec.add_sub_cancel]

theorem at26 (c : Dev nD) (a : Fin 16) (d : Fin 4) :
    (V m c main_v26 : IVec S16x4 32) (ix2 a d) = BitVec.ofNat 32 (startOf (grp m c) a d) := by
  rw [V_v26]
  show IntOp.subi ((V m c main_v25 : IVec S16x4 32) (ix2 a d)) ((V m c main_v24 : IVec S16x4 32) (ix2 a d)) = _
  rw [V_v25, cumsum_grp _ _ _ (at24 m c) rfl, at24]
  exact ofNat_sub_last (fun d' => pad8 (cntOf (grp m c) a d')) d

theorem at28 (c : Dev nD) (a : Fin 16) (b : Fin 1024) (d : Fin 4) :
    (V m c main_v28 : IVec S16x1024x4 32) (ix3 a b d) = BitVec.ofNat 32 (rankOf (grp m c) a b d) := by
  rw [V_v28]
  show IntOp.subi ((V m c main_v27 : IVec S16x1024x4 32) (ix3 a b d)) ((V m c main_v16 : IVec S16x1024x4 32) (ix3 a b d)) = _
  rw [V_v27, cumsum_mid _ _ _ (at16 m c) rfl, at16]
  exact ofNat_sub_last (fun b' => ind (grp m c) a b' d) b

theorem at32 (c : Dev nD) (a : Fin 16) (b : Fin 1024) (d : Fin 4) :
    (V m c main_v32 : IVec S16x1024x4 32) (ix3 a b d)
      = BitVec.ofNat 32 (ind (grp m c) a b d * (rankOf (grp m c) a b d + startOf (grp m c) a d)) := by
  rw [V_v32, V_v31]
  pointwise
  rw [at16, at28, at26]
  unfold IntOp.muli IntOp.addi
  rw [BitVec.ofNat_mul, BitVec.ofNat_add]

theorem at33 (c : Dev nD) (a : Fin 16) (b : Fin 1024) :
    (V m c main_v33 : IVec S16x1024 32) (ix2 a b) = BitVec.ofNat 32 (destOf (grp m c) a b) := by
  rw [V_v33]
  exact reduce_last _ _ (at32 m c) a b

theorem dest_entry (a : Fin 16) (b : Fin 1024) : entry (tblT m) (1024 * a.val + b.val) = destOf (grp m 0) a b := by
  have h := dest_lt (grp m 0) a b
  unfold entry
  rw [show tblT m = (V m 0 main_v34 : IVec S16384 32) from rfl, V_v34]
  refine (congrArg BitVec.toNat ((Routing.cast21 (a := 16) (b := 1024) (n := 16384) _ _ a b _ (by
      show (1024 * a.val + b.val) % 16384 = a.val * 1024 + b.val
      have := a.isLt; have := b.isLt; omega) ).trans (at33 m 0 a b))).trans ?_
  rw [BitVec.toNat_ofNat, Nat.mod_eq_of_lt (by omega)]

theorem start_entry (a : Fin 16) (d : Fin 4) : entry64 (tblS m) (4 * a.val + d.val) = startOf (grp m 0) a d := by
  have h := start_cnt_le (grp m 0) a d
  unfold entry64
  rw [show tblS m = (V m 0 main_v35 : IVec S64 32) from rfl, V_v35]
  refine (congrArg BitVec.toNat ((Routing.cast21 (a := 16) (b := 4) (n := 64) _ _ a d _ (by
      show (4 * a.val + d.val) % 64 = a.val * 4 + d.val
      have := a.isLt; have := d.isLt; omega) ).trans (at26 m 0 a d))).trans ?_
  rw [BitVec.toNat_ofNat, Nat.mod_eq_of_lt (by omega)]

theorem cnt_entry (a : Fin 16) (d : Fin 4) : entry64 (tblC m) (4 * a.val + d.val) = cntOf (grp m 0) a d := by
  have h := start_cnt_le (grp m 0) a d
  unfold entry64
  rw [show tblC m = (V m 0 main_v36 : IVec S64 32) from rfl, V_v36]
  refine (congrArg BitVec.toNat ((Routing.cast21 (a := 16) (b := 4) (n := 64) _ _ a d _ (by
      show (4 * a.val + d.val) % 64 = a.val * 4 + d.val
      have := a.isLt; have := d.isLt; omega) ).trans (at17 m 0 a d))).trans ?_
  rw [BitVec.toNat_ofNat, Nat.mod_eq_of_lt (by omega)]

/-- The tables the host prepares keep every access of the kernel inside its buffers, whatever the arguments. -/
theorem tabOK : TabOK (tblT m) (tblS m) (tblC m) where
  dest r hr := by
    have h := dest_entry m ⟨r / 1024, by omega⟩ ⟨r % 1024, Nat.mod_lt _ (by omega)⟩
    rw [show 1024 * (r / 1024) + r % 1024 = r from Nat.div_add_mod r 1024] at h
    rw [h]; exact (dest_lt _ _ _).trans (by omega)
  dvd q hq := by
    have h := start_entry m ⟨q / 4, by omega⟩ ⟨q % 4, Nat.mod_lt _ (by omega)⟩
    rw [show 4 * (q / 4) + q % 4 = q from Nat.div_add_mod q 4] at h
    rw [h]; exact start_dvd _ _ _
  cnt q hq := by
    have h := cnt_entry m ⟨q / 4, by omega⟩ ⟨q % 4, Nat.mod_lt _ (by omega)⟩
    rw [show 4 * (q / 4) + q % 4 = q from Nat.div_add_mod q 4] at h
    rw [h]; exact cnt_le _ _ _
  last q hq := by
    have h := cnt_entry m ⟨q / 4, by omega⟩ ⟨q % 4, Nat.mod_lt _ (by omega)⟩
    have h' := start_entry m ⟨q / 4, by omega⟩ ⟨q % 4, Nat.mod_lt _ (by omega)⟩
    rw [show 4 * (q / 4) + q % 4 = q from Nat.div_add_mod q 4] at h h'
    rw [h, h']; exact start_cnt_le _ _ _

end Cert.KernelIdeal

end
-- ==== Proof.Frames.lean ====
/- The run of the program over any floating-point operations: every argument array ends unchanged and every
   semaphore at zero.  The frame of the kernel as printed is this run at its instance. -/
module

public import proofs.«01_k».proof.Proof.Slots
public import proofs.«01_k».proof.Kernel

@[expose] public section

noncomputable section

namespace Cert.KernelIdeal

open Idealize.ShloMosaic Idealize.ShloMosaic.TcCoe Idealize.SL.Sem

variable {F : FTy → Type} [FloatOps F] (m : (ℓ : Loc nD τ sig) → Buf (Elt F) ℓ) (ρ : Dev nD → PrngReg)

/-- A run's end keeps every argument. -/
theorem args_kept {r : PUnit × MemSt nD τ sig (Elt F)}
    (hk : Pipeline.RDat.FramePost ((Pipeline.pin pcfgs fun _ => adm m) 0) (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨((hk c).2 main_arg0 (by decide : main_arg0 ∈ Pipeline.restRefs sig spec0)).trans (V_arg0 m c),
    ((hk c).2 main_arg1 (by decide : main_arg1 ∈ Pipeline.restRefs sig spec0)).trans (V_arg1 m c),
    ((hk c).2 main_arg2 (by decide : main_arg2 ∈ Pipeline.restRefs sig spec0)).trans (V_arg2 m c),
    ((hk c).2 main_arg3 (by decide : main_arg3 ∈ Pipeline.restRefs sig spec0)).trans (V_arg3 m c),
    ((hk c).2 main_arg4 (by decide : main_arg4 ∈ Pipeline.restRefs sig spec0)).trans (V_arg4 m c),
    ((hk c).2 main_arg5 (by decide : main_arg5 ∈ Pipeline.restRefs sig spec0)).trans (V_arg5 m c),
    ((hk c).2 main_arg6 (by decide : main_arg6 ∈ Pipeline.restRefs sig spec0)).trans (V_arg6 m c)⟩

/-- Every run of the program ends with the arguments as they began and the semaphores at zero. -/
theorem run_main : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run_all m ρ (tabOK m))
  exact args_kept m h.1 c

end Cert.KernelIdeal

end
-- ==== Proof.Same.lean ====
/- The kernel as printed and the idealised kernel are one text: each definition of the one unfolds to the same term
   as the other's.  So the run of Proof/Frames.lean, read at machine words, is the frame of the kernel as printed. -/
module

public import proofs.«01_k».proof.Defs
public import proofs.«01_k».proof.Proof.Frames
public import proofs.«01_k».proof.Proof.Gen.Kernel
public import proofs.«01_k».proof.Proof.Gen.KernelIdeal

@[expose] public section

set_option maxHeartbeats 2000000

noncomputable section

namespace Cert.Proof

open Idealize.ShloMosaic Idealize.SL.Sem

/-- The bodies of the two programs' kernels are one text. -/
theorem moe_eq : Cert.Kernel.cc0__moe_kernel (F := Bits) = Cert.KernelIdeal.cc0__moe_kernel (F := Bits) := by
  delta Cert.Kernel.cc0__moe_kernel Cert.KernelIdeal.cc0__moe_kernel
  rfl

/-- So are their tables of bodies. -/
theorem body_eq : Cert.Kernel.defs₀ (F := Bits) = Cert.KernelIdeal.defs₀ (F := Bits) := by
  delta Cert.Kernel.defs₀ Cert.KernelIdeal.defs₀
  refine congrArg Defs.onTc ?_
  funext x y
  match x, y with
  | 0, (t, s) =>
    show Cert.Kernel.cc0__moe_kernel _ _ _ _ _ _ _ _ _ _ _ _ _ _ _ _ _ _ _ _ _ _ _ _ _ _ _ _ _ _ _ _ _ = _
    rw [moe_eq]
    rfl

/-- And the tables with each call's pipeline. -/
theorem defs_eq : Cert.Kernel.defs (F := Bits) = Cert.KernelIdeal.defs (F := Bits) :=
  congrArg (Pipeline.defs Cert.Kernel.pcfgs) body_eq

/-- The host parts are one text too. -/
theorem main_eq : Cert.Kernel.main (F := Bits) = Cert.KernelIdeal.main (F := Bits) := by
  delta Cert.Kernel.main Cert.KernelIdeal.main
  rfl

/-- The frame of the kernel as printed, at machine words. -/
theorem frame_kernel : Cert.quiescent_Kernel := fun m ρ _ => by
  rw [defs_eq, main_eq]
  exact (θ_run Cert.KernelIdeal.defs _ _).mono (fun _ h => h) (Cert.KernelIdeal.run_main (F := Bits) m ρ)

end Cert.Proof

end
-- ==== Proof.Pay.lean ====
/- The kernel's arithmetic at one element, over the extended reals. -/
module

public import proofs.«01_k».proof.Proof.Model
public import Idealize.ShloMosaic.PureOps.Ideal
public import Idealize.ShloMosaic.Lib.Pointwise

@[expose] public section

noncomputable section

namespace Cert.KernelIdeal

open Idealize.ShloMosaic Cert.KernelIdeal.Gen Cert.Proof

/-- The product of a row with column `f` of an expert's up- or gate-projection matrix. -/
def up (h : Fin 1024 → EReal) (W : Fin 1024 → Fin 256 → EReal) (f : Fin 256) : EReal := ∑ k, h k * W k f

/-- One expert's feed-forward layer on one row, weighted by its gate: column `n` of the result. -/
def expert (h : Fin 1024 → EReal) (gt : EReal) (Wg Wu : Fin 1024 → Fin 256 → EReal) (Wd : Fin 256 → Fin 1024 → EReal) (n : Fin 1024) : EReal :=
  ∑ f, up h Wg f * Ideal.logistic (up h Wg f) * up h Wu f * gt * Wd f n

/-- The four experts of a group on one row, summed. -/
def row (h : Fin 1024 → EReal) (gt : Fin 8 → EReal) (wg wu : Vec Ideal S4x1024x256 .bf16) (wd : Vec Ideal S4x256x1024 .bf16) (n : Fin 1024) : EReal :=
  expert h (gt 0) (fun k f => wg (ix3 0 k f)) (fun k f => wu (ix3 0 k f)) (fun f n => wd (ix3 0 f n)) n
    + expert h (gt 1) (fun k f => wg (ix3 1 k f)) (fun k f => wu (ix3 1 k f)) (fun f n => wd (ix3 1 f n)) n
    + expert h (gt 2) (fun k f => wg (ix3 2 k f)) (fun k f => wu (ix3 2 k f)) (fun f n => wd (ix3 2 f n)) n
    + expert h (gt 3) (fun k f => wg (ix3 3 k f)) (fun k f => wu (ix3 3 k f)) (fun f n => wd (ix3 3 f n)) n

theorem slabU_at (W : Vec Ideal S4x1024x256 .bf16) (e : Fin 4) (k : Fin 1024) (f : Fin 256) : slabU W e (ix3 0 k f) = W (ix3 e k f) := by
  match e with
  | 0 | 1 | 2 | 3 =>
    show W _ = W _
    refine congrArg W ?_
    funext a
    match a with
    | ⟨0, _⟩ => rfl
    | ⟨1, _⟩ => exact Fin.ext (by show 0 + 1 * k.val = k.val; omega)
    | ⟨2, _⟩ => exact Fin.ext (by show 0 + 1 * f.val = f.val; omega)

theorem slabD_at (W : Vec Ideal S4x256x1024 .bf16) (e : Fin 4) (f : Fin 256) (n : Fin 1024) : slabD W e (ix3 0 f n) = W (ix3 e f n) := by
  match e with
  | 0 | 1 | 2 | 3 =>
    show W _ = W _
    refine congrArg W ?_
    funext a
    match a with
    | ⟨0, _⟩ => rfl
    | ⟨1, _⟩ => exact Fin.ext (by show 0 + 1 * f.val = f.val; omega)
    | ⟨2, _⟩ => exact Fin.ext (by show 0 + 1 * n.val = n.val; omega)

/-- A full chunk, at one element. -/
theorem ffn256_at (h : Vec Ideal S256x1024 .f32) (r : Vec Ideal S256x8 .f32) (wg wu : Vec Ideal S4x1024x256 .bf16) (wd : Vec Ideal S4x256x1024 .bf16)
    (p : Fin 256) (n : Fin 1024) : ffn256 h r wg wu wd (ix2 p n) = row (fun k => h (ix2 p k)) (fun e => r (ix2 p e)) wg wu wd n := by
  unfold ffn256
  unfold_payloads
  pointwise
  simp only [slabU_at, slabD_at]
  unfold row expert up
  rfl

/-- The comparison of the row number with the number of live rows, below it. -/
theorem live (N p : ℕ) (h : p < N) (hN : N < 1024) : IntOp.cmpi CmpIPredicate.slt (BitVec.ofNat 32 p) (BitVec.ofNat 32 N) = 1#1 := by
  unfold IntOp.cmpi
  have h1 : (BitVec.ofNat 32 p).toInt = p := by
    have ht : (BitVec.ofNat 32 p).toNat = p := by rw [BitVec.toNat_ofNat]; omega
    rw [BitVec.toInt_eq_toNat_of_lt (by omega), ht]
  have h2 : (BitVec.ofNat 32 N).toInt = N := by
    have ht : (BitVec.ofNat 32 N).toNat = N := by rw [BitVec.toNat_ofNat]; omega
    rw [BitVec.toInt_eq_toNat_of_lt (by omega), ht]
  simp [BitVec.slt, h1, h2, h]

/-- A tail of up to 256 rows, at an element of a live row. -/
theorem tail256_at (N : ℕ) (hN : N < 1024) (h : Vec Ideal S256x1024 .f32) (r : Vec Ideal S256x8 .f32) (wg wu : Vec Ideal S4x1024x256 .bf16) (wd : Vec Ideal S4x256x1024 .bf16)
    (p : Fin 256) (hp : p.val < N) (n : Fin 1024) :
    tail256 (BitVec.ofNat 32 N) h r wg wu wd (ix2 p n) = row (fun k => h (ix2 p k)) (fun e => r (ix2 p e)) wg wu wd n := by
  unfold tail256
  unfold_payloads
  pointwise
  simp only [live N p.val hp hN, slabU_at, slabD_at]
  unfold row expert up
  rfl

/-- A tail of up to 128 rows, at an element of a live row. -/
theorem tail128_at (N : ℕ) (hN : N < 1024) (h : Vec Ideal S128x1024 .f32) (r : Vec Ideal S128x8 .f32) (wg wu : Vec Ideal S4x1024x256 .bf16) (wd : Vec Ideal S4x256x1024 .bf16)
    (p : Fin 128) (hp : p.val < N) (n : Fin 1024) :
    tail128 (BitVec.ofNat 32 N) h r wg wu wd (ix2 p n) = row (fun k => h (ix2 p k)) (fun e => r (ix2 p e)) wg wu wd n := by
  unfold tail128
  unfold_payloads
  pointwise
  simp only [live N p.val hp hN, slabU_at, slabD_at]
  unfold row expert up
  rfl

/-- One row normalised and modulated: column `n`. -/
def normed (x g sc sh : Fin 1024 → EReal) (n : Fin 1024) : EReal :=
  x n * Ideal.rsqrt (Ideal.div (∑ k, x k * x k) (Ideal.ofBits FTy.f32 1149239296#32) + Ideal.ofBits FTy.f32 897988541#32) * g n
    * (1 + sc n) + sh n

/-- The normalised tile, at one element. -/
theorem pay32_at (x : Vec Ideal S1024x1024 .f32) (g : Vec Ideal S1x1024 .f32) (sc sh : Vec Ideal S1x1x1024 .f32)
    (p : Fin 1024) (n : Fin 1024) : k0_pay32 x g sc sh (ix2 p n)
      = normed (fun k => x (ix2 p k)) (fun k => g (ix2 0 k)) (fun k => sc (ix3 0 0 k)) (fun k => sh (ix3 0 0 k)) n := by
  unfold_payloads
  pointwise
  rfl

/-- The output tile, at one element. -/
theorem pay5_at (x : Vec Ideal S1024x1024 .f32) (g : Vec Ideal S1x1x1024 .f32) (y : Vec Ideal S1024x1024 .f32)
    (p : Fin 1024) (n : Fin 1024) : k0_pay5 x g y (ix2 p n) = x (ix2 p n) + g (ix3 0 0 n) * y (ix2 p n) := by
  unfold_payloads
  pointwise

/-- The moves change nothing of a row. -/
theorem pay33_at (x : Vec Ideal S1x1024 .f32) : k0_pay33 x = x := by
  unfold k0_pay33
  dsimp only
  simp only [shapeCast_id]

theorem pay34_at (x : Vec Ideal S1x8 .f32) : k0_pay34 x = x := by
  unfold k0_pay34
  dsimp only
  simp only [shapeCast_id]

end Cert.KernelIdeal

end
-- ==== Proof.Tile.lean ====
/-
  The value of one tile of 1024 rows: after the rows are moved to their groups' segments and the four segments are worked
  out in order, the row at a destination is the feed-forward layer of that row's own group.
-/
module

public import proofs.«01_k».proof.Proof.Pay

@[expose] public section

noncomputable section

namespace Cert.KernelIdeal

open Idealize.ShloMosaic Cert.KernelIdeal.Gen Cert.Proof

section Rows
variable {α : Type} {R N : ℕ}

/-- One row replaced, at an element. -/
theorem putRow_at (X : (⟨2, ![R, N]⟩ : Shape).Idx → α) (d : ℕ) (v : (⟨2, ![1, N]⟩ : Shape).Idx → α) (r : Fin R) (n : Fin N) :
    putRows X d 1 v (ix2 r n) = if r.val = d then v (ix2 0 n) else X (ix2 r n) := by
  by_cases h : r.val = d
  · rw [if_pos h, putRows_of_mem _ _ _ _ _ (show d ≤ r.val ∧ r.val < d + 1 by omega)]
    refine congrArg v ?_
    refine congrArg (fun z => ix2 z n) ?_
    exact Fin.ext (by show r.val - d = 0; omega)
  · rw [if_neg h, putRows_of_not _ _ _ _ _ (show ¬ (d ≤ r.val ∧ r.val < d + 1) by omega)]

/-- A block of rows read, at an element. -/
theorem getRows_at [NeZero R] (X : (⟨2, ![R, N]⟩ : Shape).Idx → α) (d n : ℕ) (p : Fin n) (k : Fin N) (r : Fin R) (hr : r.val = d + p.val) :
    getRows X d n (ix2 p k) = X (ix2 r k) := by
  show X (ix2 (Fin.ofNat R (d + p.val)) k) = _
  refine congrArg X (congrArg (fun z => ix2 z k) (Fin.ext ?_))
  show (d + p.val) % R = r.val
  rw [← hr]; exact Nat.mod_eq_of_lt r.isLt

/-- Rows replaced one by one: a row holds what was last put there. -/
theorem puts_at (f : ℕ → (⟨2, ![R, N]⟩ : Shape).Idx → α) (d : ℕ → ℕ) (v : ℕ → (⟨2, ![1, N]⟩ : Shape).Idx → α)
    (hf : ∀ k, f (k + 1) = putRows (f k) (d k) 1 (v k)) (j : ℕ) (r : Fin R) (hr : r.val = d j) (n : Fin N) :
    ∀ m, j < m → (∀ k, j < k → k < m → d k ≠ d j) → f m (ix2 r n) = v j (ix2 0 n)
  | 0, h, _ => absurd h (Nat.not_lt_zero _)
  | m + 1, h, hd => by
    rw [hf m, putRow_at]
    by_cases hm : j = m
    · subst hm; rw [if_pos hr]
    · rw [if_neg (fun e => hd m (by omega) (by omega) (by rw [← e, hr]))]
      exact puts_at f d v hf j r hr n m (by omega) fun k h1 h2 => hd k h1 (by omega)

end Rows

variable (hs : Vec Ideal S1312x1024 .f32) (gs : Vec Ideal S1312x8 .f32) (wg wu : Vec Ideal S4x1024x256 .bf16)
  (wd : Vec Ideal S4x256x1024 .bf16) (ys : Vec Ideal S1312x1024 .f32)

/-- The feed-forward layer of the group on row `r` of the two row buffers. -/
def rowAt (r : Fin 1312) (n : Fin 1024) : EReal := row (fun k => hs (ix2 r k)) (fun e => gs (ix2 r e)) wg wu wd n

theorem rowAt_block (a m : ℕ) (p : Fin m) (r : Fin 1312) (hr : r.val = a + p.val) (n : Fin 1024) :
    row (fun k => getRows hs a m (ix2 p k)) (fun e => getRows gs a m (ix2 p e)) wg wu wd n = rowAt hs gs wg wu wd r n := by
  unfold rowAt
  rw [show (fun k => getRows hs a m (ix2 p k)) = fun k => hs (ix2 r k) from funext fun k => getRows_at hs a m p k r hr,
    show (fun e => getRows gs a m (ix2 p e)) = fun e => gs (ix2 r e) from funext fun k => getRows_at gs a m p k r hr]

/-- The full chunks leave the rows before the segment alone. -/
theorem chunks_before (a : ℕ) (r : Fin 1312) (h : r.val < a) (n : Fin 1024) :
    ∀ k, chunks a hs gs wg wu wd ys k (ix2 r n) = ys (ix2 r n)
  | 0 => rfl
  | k + 1 => by
    show putRows _ _ _ _ _ = _
    rw [putRows_of_not _ _ _ _ _ (show ¬ (a + 256 * k ≤ r.val ∧ r.val < a + 256 * k + 256) by omega)]
    exact chunks_before a r h n k

/-- The full chunks put the feed-forward layer into their rows. -/
theorem chunks_at (a : ℕ) (r : Fin 1312) (h : a ≤ r.val) (n : Fin 1024) :
    ∀ k, r.val < a + 256 * k → chunks a hs gs wg wu wd ys k (ix2 r n) = rowAt hs gs wg wu wd r n
  | 0, h' => absurd h (by omega)
  | k + 1, h' => by
    show putRows _ _ _ _ _ = _
    by_cases hk : r.val < a + 256 * k
    · rw [putRows_of_not _ _ _ _ _ (show ¬ (a + 256 * k ≤ r.val ∧ r.val < a + 256 * k + 256) by omega)]
      exact chunks_at a r h n k hk
    · rw [putRows_of_mem _ _ _ _ _ (show a + 256 * k ≤ r.val ∧ r.val < a + 256 * k + 256 by omega)]
      exact (ffn256_at _ _ _ _ _ _ _).trans (rowAt_block hs gs wg wu wd _ _ _ r (by show r.val = a + 256 * k + (r.val - (a + 256 * k)); omega) n)

/-- A segment leaves the rows before it alone. -/
theorem segment_before (a m : ℕ) (r : Fin 1312) (h : r.val < a) (n : Fin 1024) :
    segment a m hs gs wg wu wd ys (ix2 r n) = ys (ix2 r n) := by
  unfold segment
  split
  · rw [putRows_of_not _ _ _ _ _ (show ¬ (a + 256 * (m / 256) ≤ r.val ∧ r.val < a + 256 * (m / 256) + 256) by omega)]
    exact chunks_before hs gs wg wu wd ys a r h n _
  · split
    · rw [putRows_of_not _ _ _ _ _ (show ¬ (a + 256 * (m / 256) ≤ r.val ∧ r.val < a + 256 * (m / 256) + 128) by omega)]
      exact chunks_before hs gs wg wu wd ys a r h n _
    · exact chunks_before hs gs wg wu wd ys a r h n _

/-- A segment puts the feed-forward layer into its rows. -/
theorem segment_at (a m : ℕ) (r : Fin 1312) (h : a ≤ r.val) (h' : r.val < a + m) (n : Fin 1024) :
    segment a m hs gs wg wu wd ys (ix2 r n) = rowAt hs gs wg wu wd r n := by
  have hm := Nat.div_add_mod m 256
  have hl : m % 256 < 256 := Nat.mod_lt _ (by omega)
  unfold segment
  split
  · by_cases hk : r.val < a + 256 * (m / 256)
    · rw [putRows_of_not _ _ _ _ _ (show ¬ (a + 256 * (m / 256) ≤ r.val ∧ r.val < a + 256 * (m / 256) + 256) by omega)]
      exact chunks_at hs gs wg wu wd ys a r h n _ hk
    · rw [putRows_of_mem _ _ _ _ _ (show a + 256 * (m / 256) ≤ r.val ∧ r.val < a + 256 * (m / 256) + 256 by omega)]
      exact (tail256_at _ (by omega) _ _ _ _ _ _ (by show r.val - (a + 256 * (m / 256)) < m % 256; omega) _).trans
        (rowAt_block hs gs wg wu wd _ _ _ r (by show r.val = a + 256 * (m / 256) + (r.val - (a + 256 * (m / 256))); omega) n)
  · split
    · by_cases hk : r.val < a + 256 * (m / 256)
      · rw [putRows_of_not _ _ _ _ _ (show ¬ (a + 256 * (m / 256) ≤ r.val ∧ r.val < a + 256 * (m / 256) + 128) by omega)]
        exact chunks_at hs gs wg wu wd ys a r h n _ hk
      · rw [putRows_of_mem _ _ _ _ _ (show a + 256 * (m / 256) ≤ r.val ∧ r.val < a + 256 * (m / 256) + 128 by omega)]
        exact (tail128_at _ (by omega) _ _ _ _ _ _ (by show r.val - (a + 256 * (m / 256)) < m % 256; omega) _).trans
          (rowAt_block hs gs wg wu wd _ _ _ r (by show r.val = a + 256 * (m / 256) + (r.val - (a + 256 * (m / 256))); omega) n)
    · exact chunks_at hs gs wg wu wd ys a r h n _ (by omega)

/-- The four segments in order: a row of group `g`'s segment that lies before every later segment holds that group's
    feed-forward layer at the end. -/
theorem four (S C : Fin 4 → ℕ) (wg wu : Fin 4 → Vec Ideal S4x1024x256 .bf16) (wd : Fin 4 → Vec Ideal S4x256x1024 .bf16)
    (Y0 Y1 Y2 Y3 Y4 : Vec Ideal S1312x1024 .f32)
    (h0 : Y1 = segment (S 0) (C 0) hs gs (wg 0) (wu 0) (wd 0) Y0) (h1 : Y2 = segment (S 1) (C 1) hs gs (wg 1) (wu 1) (wd 1) Y1)
    (h2 : Y3 = segment (S 2) (C 2) hs gs (wg 2) (wu 2) (wd 2) Y2) (h3 : Y4 = segment (S 3) (C 3) hs gs (wg 3) (wu 3) (wd 3) Y3)
    (g : Fin 4) (r : Fin 1312) (ha : S g ≤ r.val) (hb : r.val < S g + C g) (hc : ∀ g', g < g' → r.val < S g') (n : Fin 1024) :
    Y4 (ix2 r n) = rowAt hs gs (wg g) (wu g) (wd g) r n := by
  match g with
  | 0 =>
    rw [h3, segment_before _ _ _ _ _ _ _ _ _ (hc 3 (by decide)), h2, segment_before _ _ _ _ _ _ _ _ _ (hc 2 (by decide)), h1,
      segment_before _ _ _ _ _ _ _ _ _ (hc 1 (by decide)), h0]
    exact segment_at _ _ _ _ _ _ _ _ _ ha hb n
  | 1 =>
    rw [h3, segment_before _ _ _ _ _ _ _ _ _ (hc 3 (by decide)), h2, segment_before _ _ _ _ _ _ _ _ _ (hc 2 (by decide)), h1]
    exact segment_at _ _ _ _ _ _ _ _ _ ha hb n
  | 2 =>
    rw [h3, segment_before _ _ _ _ _ _ _ _ _ (hc 3 (by decide)), h2]
    exact segment_at _ _ _ _ _ _ _ _ _ ha hb n
  | 3 =>
    rw [h3]
    exact segment_at _ _ _ _ _ _ _ _ _ ha hb n

/-- The tile's result at row `j`: the output row is the input row plus the gated feed-forward layer of the row's group. -/
theorem tile_at (d : ℕ → ℕ) (hd : ∀ j k, j < k → k < 1024 → d k ≠ d j) (x x0 : Vec Ideal S1024x1024 .f32) (ng : Vec Ideal S1x1024 .f32)
    (sc sh gate : Vec Ideal S1x1x1024 .f32) (rt : Vec Ideal S1024x8 .f32) (hs0 : Vec Ideal S1312x1024 .f32) (gs0 : Vec Ideal S1312x8 .f32)
    (S C : Fin 4 → ℕ) (wg wu : Fin 4 → Vec Ideal S4x1024x256 .bf16) (wd : Fin 4 → Vec Ideal S4x256x1024 .bf16)
    (Y0 Y1 Y2 Y3 Y4 : Vec Ideal S1312x1024 .f32) (o0 : Vec Ideal S1024x1024 .f32)
    (hhs : hs = moveH d (k0_pay32 x0 ng sc sh) hs0 1024) (hgs : gs = moveG d rt gs0 1024)
    (h0 : Y1 = segment (S 0) (C 0) hs gs (wg 0) (wu 0) (wd 0) Y0) (h1 : Y2 = segment (S 1) (C 1) hs gs (wg 1) (wu 1) (wd 1) Y1)
    (h2 : Y3 = segment (S 2) (C 2) hs gs (wg 2) (wu 2) (wd 2) Y2) (h3 : Y4 = segment (S 3) (C 3) hs gs (wg 3) (wu 3) (wd 3) Y3)
    (j : Fin 1024) (g : Fin 4) (hr : d j.val < 1312) (ha : S g ≤ d j.val) (hb : d j.val < S g + C g)
    (hc : ∀ g', g < g' → d j.val < S g') (n : Fin 1024) :
    k0_pay5 x gate (moveBack d Y4 o0 1024) (ix2 j n) = x (ix2 j n) + gate (ix3 0 0 n) *
      row (fun k => normed (fun k => x0 (ix2 j k)) (fun k => ng (ix2 0 k)) (fun k => sc (ix3 0 0 k)) (fun k => sh (ix3 0 0 k)) k)
        (fun e => rt (ix2 j e)) (wg g) (wu g) (wd g) n := by
  rw [pay5_at]
  have hback : moveBack d Y4 o0 1024 (ix2 j n) = Y4 (ix2 (⟨d j.val, hr⟩ : Fin 1312) n) :=
    (puts_at (fun k => moveBack d Y4 o0 k) (fun k => k) (fun k => getRows Y4 (d k) 1) (fun k => rfl) j.val j rfl n 1024 j.isLt
      (fun k h _ => by omega)).trans (getRows_at Y4 _ _ 0 n _ rfl)
  rw [hback, four hs gs S C wg wu wd Y0 Y1 Y2 Y3 Y4 h0 h1 h2 h3 g ⟨d j.val, hr⟩ ha hb hc n]
  unfold rowAt
  have hh : ∀ k, hs (ix2 (⟨d j.val, hr⟩ : Fin 1312) k) = k0_pay32 x0 ng sc sh (ix2 j k) := fun k => by
    rw [hhs]
    refine (puts_at (fun k => moveH d (k0_pay32 x0 ng sc sh) hs0 k) d (fun k => (k0_pay33 (F := Ideal) (getRows (k0_pay32 x0 ng sc sh) k 1) : Vec Ideal S1x1024 .f32))
      (fun k => by exact rfl) j.val ⟨d j.val, hr⟩ rfl k 1024 j.isLt (fun k h h' => hd _ _ h h')).trans ?_
    rw [pay33_at]
    exact getRows_at _ _ _ 0 k j rfl
  have hg : ∀ e, gs (ix2 (⟨d j.val, hr⟩ : Fin 1312) e) = rt (ix2 j e) := fun e => by
    rw [hgs]
    refine (puts_at (fun k => moveG d rt gs0 k) d (fun k => (k0_pay34 (F := Ideal) (getRows rt k 1) : Vec Ideal S1x8 .f32))
      (fun k => by exact rfl) j.val ⟨d j.val, hr⟩ rfl e 1024 j.isLt (fun k h h' => hd _ _ h h')).trans ?_
    rw [pay34_at]
    exact getRows_at _ _ _ 0 e j rfl
  simp only [hh, hg, pay32_at]

end Cert.KernelIdeal

end
-- ==== Proof.Blocks.lean ====
/-
  The kernel's blocks at coordinates: which rows of which array each window shows at a grid point.
-/
module

public import proofs.«01_k».proof.Proof.Run
public import Idealize.ShloMosaic.Lib.Pipeline.ArrRel

@[expose] public section

set_option maxRecDepth 16384

noncomputable section

namespace Cert.KernelIdeal

open Idealize.ShloMosaic Idealize.ShloMosaic.TcCoe
open Cert.KernelIdeal.Gen Cert.Proof

variable {F : FTy → Type} [FloatOps F]
variable (m : (ℓ : Loc nD τ sig) → Buf (Elt F) ℓ) (c : Dev nD)

theorem coord0 : ∀ t : Fin grid0.N, (grid0.coords t 0).val = t.val / 4 := by decide +kernel
theorem coord1 : ∀ t : Fin grid0.N, (grid0.coords t 1).val = t.val % 4 := by decide +kernel

theorem map0 : ∀ t : Fin grid0.N, cc0_transform_0 (grid0.coords t) = ![t.val / 4, 0] := by decide +kernel
theorem map1 : ∀ t : Fin grid0.N, cc0_transform_1 (grid0.coords t) = ![t.val / 8, 0, 4] := by decide +kernel
theorem map2 : ∀ t : Fin grid0.N, cc0_transform_2 (grid0.coords t) = ![t.val / 8, 0, 3] := by decide +kernel
theorem map3 : ∀ t : Fin grid0.N, cc0_transform_3 (grid0.coords t) = ![t.val / 8, 0, 5] := by decide +kernel
theorem map4 : ∀ t : Fin grid0.N, cc0_transform_4 (grid0.coords t) = ![0, 0] := by decide +kernel
theorem map5 : ∀ t : Fin grid0.N, cc0_transform_5 (grid0.coords t) = ![t.val / 4, 0] := by decide +kernel
theorem map6 : ∀ t : Fin grid0.N, cc0_transform_6 (grid0.coords t) = ![t.val % 4, 0, 0] := by decide +kernel
theorem map7 : ∀ t : Fin grid0.N, cc0_transform_7 (grid0.coords t) = ![t.val % 4, 0, 0] := by decide +kernel
theorem map8 : ∀ t : Fin grid0.N, cc0_transform_8 (grid0.coords t) = ![t.val % 4, 0, 0] := by decide +kernel
theorem map9 : ∀ t : Fin grid0.N, cc0_transform_9 (grid0.coords t) = ![t.val / 4, 0] := by decide +kernel

theorem lt64 (t : Fin (cfgM m).N) : t.val < 64 := t.isLt

/-- The tile of rows at point `t`. -/
theorem bx_at (t : Fin (cfgM m).N) (p n : Fin 1024) :
    bx m c t (ix2 p n) = (V m c main_v0 : Vec F S16384x1024 .f32) (ix2 ⟨1024 * (t.val / 4) + p.val, by have := lt64 m t; omega⟩ n) := by
  show (V m c main_v0 : Vec F S16384x1024 .f32) _ = _
  refine congrArg (V m c main_v0 : Vec F S16384x1024 .f32) ?_
  funext a; apply Fin.ext
  match a with
  | ⟨0, _⟩ =>
    show cc0_transform_0 (grid0.coords t) 0 * 1024 + 1 * p.val = 1024 * (t.val / 4) + p.val
    rw [map0 t]; show t.val / 4 * 1024 + 1 * p.val = _; omega
  | ⟨1, _⟩ =>
    show cc0_transform_0 (grid0.coords t) 1 * 1024 + 1 * n.val = n.val
    rw [map0 t]; show 0 * 1024 + 1 * n.val = _; omega

/-- The tile of the routing table at point `t`. -/
theorem br_at (t : Fin (cfgM m).N) (p : Fin 1024) (e : Fin 8) :
    br m c t (ix2 p e) = (V m c main_v37 : Vec F S16384x8 .f32) (ix2 ⟨1024 * (t.val / 4) + p.val, by have := lt64 m t; omega⟩ e) := by
  show (V m c main_v37 : Vec F S16384x8 .f32) _ = _
  refine congrArg (V m c main_v37 : Vec F S16384x8 .f32) ?_
  funext a; apply Fin.ext
  match a with
  | ⟨0, _⟩ =>
    show cc0_transform_5 (grid0.coords t) 0 * 1024 + 1 * p.val = 1024 * (t.val / 4) + p.val
    rw [map5 t]; show t.val / 4 * 1024 + 1 * p.val = _; omega
  | ⟨1, _⟩ =>
    show cc0_transform_5 (grid0.coords t) 1 * 8 + 1 * e.val = e.val
    rw [map5 t]; show 0 * 8 + 1 * e.val = _; omega

/-- The scale at point `t`: piece 4 of the tile's batch row of the modulation. -/
theorem bsc_at (t : Fin (cfgM m).N) (n : Fin 1024) :
    bsc m c t (ix3 0 0 n) = (V m c main_v1 : Vec F S8x1x6144 .f32) (ix3 ⟨t.val / 8, by have := lt64 m t; omega⟩ 0 ⟨4096 + n.val, by omega⟩) := by
  show (V m c main_v1 : Vec F S8x1x6144 .f32) _ = _
  refine congrArg (V m c main_v1 : Vec F S8x1x6144 .f32) ?_
  funext a; apply Fin.ext
  match a with
  | ⟨0, _⟩ =>
    show cc0_transform_1 (grid0.coords t) 0 * 1 + 1 * 0 = t.val / 8
    rw [map1 t]; show t.val / 8 * 1 + 1 * 0 = _; omega
  | ⟨1, _⟩ =>
    show cc0_transform_1 (grid0.coords t) 1 * 1 + 1 * 0 = 0
    rw [map1 t]; rfl
  | ⟨2, _⟩ =>
    show cc0_transform_1 (grid0.coords t) 2 * 1024 + 1 * n.val = 4096 + n.val
    rw [map1 t]; show 4 * 1024 + 1 * n.val = _; omega

/-- The shift at point `t`: piece 3. -/
theorem bsh_at (t : Fin (cfgM m).N) (n : Fin 1024) :
    bsh m c t (ix3 0 0 n) = (V m c main_v1 : Vec F S8x1x6144 .f32) (ix3 ⟨t.val / 8, by have := lt64 m t; omega⟩ 0 ⟨3072 + n.val, by omega⟩) := by
  show (V m c main_v1 : Vec F S8x1x6144 .f32) _ = _
  refine congrArg (V m c main_v1 : Vec F S8x1x6144 .f32) ?_
  funext a; apply Fin.ext
  match a with
  | ⟨0, _⟩ =>
    show cc0_transform_2 (grid0.coords t) 0 * 1 + 1 * 0 = t.val / 8
    rw [map2 t]; show t.val / 8 * 1 + 1 * 0 = _; omega
  | ⟨1, _⟩ =>
    show cc0_transform_2 (grid0.coords t) 1 * 1 + 1 * 0 = 0
    rw [map2 t]; rfl
  | ⟨2, _⟩ =>
    show cc0_transform_2 (grid0.coords t) 2 * 1024 + 1 * n.val = 3072 + n.val
    rw [map2 t]; show 3 * 1024 + 1 * n.val = _; omega

/-- The output gate at point `t`: piece 5. -/
theorem bgate_at (t : Fin (cfgM m).N) (n : Fin 1024) :
    bgate m c t (ix3 0 0 n) = (V m c main_v1 : Vec F S8x1x6144 .f32) (ix3 ⟨t.val / 8, by have := lt64 m t; omega⟩ 0 ⟨5120 + n.val, by omega⟩) := by
  show (V m c main_v1 : Vec F S8x1x6144 .f32) _ = _
  refine congrArg (V m c main_v1 : Vec F S8x1x6144 .f32) ?_
  funext a; apply Fin.ext
  match a with
  | ⟨0, _⟩ =>
    show cc0_transform_3 (grid0.coords t) 0 * 1 + 1 * 0 = t.val / 8
    rw [map3 t]; show t.val / 8 * 1 + 1 * 0 = _; omega
  | ⟨1, _⟩ =>
    show cc0_transform_3 (grid0.coords t) 1 * 1 + 1 * 0 = 0
    rw [map3 t]; rfl
  | ⟨2, _⟩ =>
    show cc0_transform_3 (grid0.coords t) 2 * 1024 + 1 * n.val = 5120 + n.val
    rw [map3 t]; show 5 * 1024 + 1 * n.val = _; omega

/-- The normalisation's gain. -/
theorem bg_at (t : Fin (cfgM m).N) (n : Fin 1024) :
    bg m c t (ix2 0 n) = (V m c main_v2 : Vec F S1x1024 .f32) (ix2 0 n) := by
  show (V m c main_v2 : Vec F S1x1024 .f32) _ = _
  refine congrArg (V m c main_v2 : Vec F S1x1024 .f32) ?_
  funext a; apply Fin.ext
  match a with
  | ⟨0, _⟩ =>
    show cc0_transform_4 (grid0.coords t) 0 * 1 + 1 * 0 = 0
    rw [map4 t]; rfl
  | ⟨1, _⟩ =>
    show cc0_transform_4 (grid0.coords t) 1 * 1024 + 1 * n.val = n.val
    rw [map4 t]; show 0 * 1024 + 1 * n.val = _; omega

/-- The gate projections of the point's group. -/
theorem bwg_at (t : Fin (cfgM m).N) (e : Fin 4) (k : Fin 1024) (f : Fin 256) :
    bwg m c t (ix3 e k f) = (V m c main_v3 : Vec F S16x1024x256 .bf16) (ix3 ⟨4 * (t.val % 4) + e.val, by omega⟩ k f) := by
  show (V m c main_v3 : Vec F S16x1024x256 .bf16) _ = _
  refine congrArg (V m c main_v3 : Vec F S16x1024x256 .bf16) ?_
  funext a; apply Fin.ext
  match a with
  | ⟨0, _⟩ =>
    show cc0_transform_6 (grid0.coords t) 0 * 4 + 1 * e.val = 4 * (t.val % 4) + e.val
    rw [map6 t]; show t.val % 4 * 4 + 1 * e.val = _; omega
  | ⟨1, _⟩ =>
    show cc0_transform_6 (grid0.coords t) 1 * 1024 + 1 * k.val = k.val
    rw [map6 t]; show 0 * 1024 + 1 * k.val = _; omega
  | ⟨2, _⟩ =>
    show cc0_transform_6 (grid0.coords t) 2 * 256 + 1 * f.val = f.val
    rw [map6 t]; show 0 * 256 + 1 * f.val = _; omega

/-- The up projections of the point's group. -/
theorem bwu_at (t : Fin (cfgM m).N) (e : Fin 4) (k : Fin 1024) (f : Fin 256) :
    bwu m c t (ix3 e k f) = (V m c main_v4 : Vec F S16x1024x256 .bf16) (ix3 ⟨4 * (t.val % 4) + e.val, by omega⟩ k f) := by
  show (V m c main_v4 : Vec F S16x1024x256 .bf16) _ = _
  refine congrArg (V m c main_v4 : Vec F S16x1024x256 .bf16) ?_
  funext a; apply Fin.ext
  match a with
  | ⟨0, _⟩ =>
    show cc0_transform_7 (grid0.coords t) 0 * 4 + 1 * e.val = 4 * (t.val % 4) + e.val
    rw [map7 t]; show t.val % 4 * 4 + 1 * e.val = _; omega
  | ⟨1, _⟩ =>
    show cc0_transform_7 (grid0.coords t) 1 * 1024 + 1 * k.val = k.val
    rw [map7 t]; show 0 * 1024 + 1 * k.val = _; omega
  | ⟨2, _⟩ =>
    show cc0_transform_7 (grid0.coords t) 2 * 256 + 1 * f.val = f.val
    rw [map7 t]; show 0 * 256 + 1 * f.val = _; omega

/-- The down projections of the point's group. -/
theorem bwd_at (t : Fin (cfgM m).N) (e : Fin 4) (f : Fin 256) (n : Fin 1024) :
    bwd m c t (ix3 e f n) = (V m c main_v5 : Vec F S16x256x1024 .bf16) (ix3 ⟨4 * (t.val % 4) + e.val, by omega⟩ f n) := by
  show (V m c main_v5 : Vec F S16x256x1024 .bf16) _ = _
  refine congrArg (V m c main_v5 : Vec F S16x256x1024 .bf16) ?_
  funext a; apply Fin.ext
  match a with
  | ⟨0, _⟩ =>
    show cc0_transform_8 (grid0.coords t) 0 * 4 + 1 * e.val = 4 * (t.val % 4) + e.val
    rw [map8 t]; show t.val % 4 * 4 + 1 * e.val = _; omega
  | ⟨1, _⟩ =>
    show cc0_transform_8 (grid0.coords t) 1 * 256 + 1 * f.val = f.val
    rw [map8 t]; show 0 * 256 + 1 * f.val = _; omega
  | ⟨2, _⟩ =>
    show cc0_transform_8 (grid0.coords t) 2 * 1024 + 1 * n.val = n.val
    rw [map8 t]; show 0 * 1024 + 1 * n.val = _; omega

end Cert.KernelIdeal

end
-- ==== Proof.Values.lean ====
/-
  What the kernel leaves in its output array, element by element: every row is its input row plus the gated feed-forward
  layer of the row's own group.
-/
module

public import proofs.«01_k».proof.Proof.Tile
public import proofs.«01_k».proof.Proof.Blocks
public import proofs.«01_k».proof.Proof.Slots

@[expose] public section

set_option maxRecDepth 16384

noncomputable section

namespace Cert.KernelIdeal

open Idealize.ShloMosaic Idealize.ShloMosaic.TcCoe
open Idealize.ShloMosaic.Pipeline (RDat)
open Cert.KernelIdeal.Gen Cert.Proof

/-- Row `r`, column `n` of the result, for a row of group `g`, of the arrays the kernel's windows show. -/
noncomputable def final (X : Vec Ideal S16384x1024 .f32) (mod : Vec Ideal S8x1x6144 .f32) (gain : Vec Ideal S1x1024 .f32) (rt : Vec Ideal S16384x8 .f32)
    (Wg Wu : Vec Ideal S16x1024x256 .bf16) (Wd : Vec Ideal S16x256x1024 .bf16) (r : Fin 16384) (g : Fin 4) (n : Fin 1024) : EReal :=
  X (ix2 r n) + mod (ix3 ⟨r.val / 2048, by omega⟩ 0 ⟨5120 + n.val, by omega⟩) * ∑ e : Fin 4, expert
    (normed (fun k => X (ix2 r k)) (fun k => gain (ix2 0 k)) (fun k => mod (ix3 ⟨r.val / 2048, by omega⟩ 0 ⟨4096 + k.val, by omega⟩))
      (fun k => mod (ix3 ⟨r.val / 2048, by omega⟩ 0 ⟨3072 + k.val, by omega⟩)))
    (rt (ix2 r ⟨e.val, by omega⟩)) (fun k f => Wg (ix3 ⟨4 * g.val + e.val, by omega⟩ k f))
    (fun k f => Wu (ix3 ⟨4 * g.val + e.val, by omega⟩ k f)) (fun f n => Wd (ix3 ⟨4 * g.val + e.val, by omega⟩ f n)) n

section Dest
variable (G : Fin 16 → Fin 1024 → BitVec 32) (hG : ∀ a b, ∃ g : Fin 4, G a b = BitVec.ofNat 32 g.val)
include hG

/-- Two rows of a tile never have the same destination. -/
theorem dest_ne (a : Fin 16) (j k : Fin 1024) (h : j < k) : destOf G a k ≠ destOf G a j := by
  obtain ⟨g, hg⟩ := hG a j
  obtain ⟨g', hg'⟩ := hG a k
  rw [dest_eq G a j g hg, dest_eq G a k g' hg']
  have h1 := rank_lt G a j g (if_pos hg)
  have h2 := rank_lt G a k g' (if_pos hg')
  have h3 := le_pad8 (cntOf G a g)
  have h4 := le_pad8 (cntOf G a g')
  rcases lt_trichotomy g g' with hl | he | hl
  · have := start_step G a g g' hl
    omega
  · subst he
    have := rank_mono G a j k g h (if_pos hg)
    omega
  · have := start_step G a g' g hl
    omega

end Dest

variable (m : (ℓ : Loc nD τ sig) → Buf (Elt Ideal) ℓ) (c : Dev nD)

/-- A later group's grid point keeps the moved rows and works its segment out. -/
theorem reach_keep (n : ℕ) (hn : n % 4 ≠ 0) (hs : Vec Ideal S1312x1024 .f32) (gs : Vec Ideal S1312x8 .f32) (ys : Vec Ideal S1312x1024 .f32)
    (h : Reach m c (n + 1) hs gs ys) : ∃ (hN : n < (cfgM m).N) (ys' : Vec Ideal S1312x1024 .f32), Reach m c n hs gs ys' ∧
      ys = segment (entry64 (tblS m) n) (entry64 (tblC m) n) hs gs (bwg m c ⟨n, hN⟩) (bwu m c ⟨n, hN⟩) (bwd m c ⟨n, hN⟩) ys' := by
  obtain ⟨hN, hs0, gs0, ys0, hR, hm, hy⟩ := h
  have h0 := coord0 ⟨n, hN⟩
  have h1 := coord1 ⟨n, hN⟩
  rw [show ((⟨n, hN⟩ : Fin grid0.N) : ℕ) = n from rfl] at h0 h1
  obtain ⟨rfl, rfl⟩ := hm.2 (by rw [h1]; exact hn)
  refine ⟨hN, ys0, hR, ?_⟩
  rw [h0, h1, Nat.div_add_mod] at hy
  exact hy

/-- The first group's grid point moves the tile's rows and works its segment out. -/
theorem reach_first (n : ℕ) (hn : n % 4 = 0) (hs : Vec Ideal S1312x1024 .f32) (gs : Vec Ideal S1312x8 .f32) (ys : Vec Ideal S1312x1024 .f32)
    (h : Reach m c (n + 1) hs gs ys) : ∃ (hN : n < (cfgM m).N) (hs0 : Vec Ideal S1312x1024 .f32) (gs0 : Vec Ideal S1312x8 .f32)
      (ys' : Vec Ideal S1312x1024 .f32),
      hs = moveH (fun j => entry (tblT m) (1024 * (n / 4) + j)) (k0_pay32 (bx m c ⟨n, hN⟩) (bg m c ⟨n, hN⟩) (bsc m c ⟨n, hN⟩) (bsh m c ⟨n, hN⟩)) hs0 1024 ∧
      gs = moveG (fun j => entry (tblT m) (1024 * (n / 4) + j)) (br m c ⟨n, hN⟩) gs0 1024 ∧
      ys = segment (entry64 (tblS m) n) (entry64 (tblC m) n) hs gs (bwg m c ⟨n, hN⟩) (bwu m c ⟨n, hN⟩) (bwd m c ⟨n, hN⟩) ys' := by
  obtain ⟨hN, hs0, gs0, ys0, hR, hm, hy⟩ := h
  have h0 := coord0 ⟨n, hN⟩
  have h1 := coord1 ⟨n, hN⟩
  rw [show ((⟨n, hN⟩ : Fin grid0.N) : ℕ) = n from rfl] at h0 h1
  obtain ⟨hs1, gs1, hA, hB⟩ := hm.1 (by rw [h1]; exact hn)
  rw [h0] at hA hB
  rw [h0, h1, Nat.div_add_mod] at hy
  exact ⟨hN, hs1, gs1, ys0, hA, hB, hy⟩

/-- The arrays the windows show, as the kernel finds them. -/
noncomputable abbrev vFinal (r : Fin 16384) (g : Fin 4) (n : Fin 1024) : EReal :=
  final (V m c main_v0) (V m c main_v1) (V m c main_v2) (V m c main_v37) (V m c main_v3) (V m c main_v4) (V m c main_v5) r g n

/-- The point of tile `i` and group `g`. -/
noncomputable def pt (i : Fin 16) (g : Fin 4) : Fin (cfgM m).N := ⟨4 * i.val + g.val, show 4 * i.val + g.val < 64 by omega⟩

/-- What the last group's grid point of tile `i` leaves in the output tile. -/
theorem out_at (hG : ∀ a b, ∃ g : Fin 4, grp m 0 a b = BitVec.ofNat 32 g.val) (i : Fin 16) (o : Vec Ideal S1024x1024 .f32)
    (h : OutRel m c (pt m i 3) o) (j : Fin 1024) (g : Fin 4) (hg : grp m 0 i j = BitVec.ofNat 32 g.val) (n : Fin 1024) :
    o (ix2 j n) = vFinal m c ⟨1024 * i.val + j.val, by omega⟩ g n := by
  obtain ⟨hs, gs, ys, hR, hL⟩ := h
  have c0 := coord0 (pt m i 3)
  have c1 := coord1 (pt m i 3)
  have e3 : (pt m i 3 : ℕ) = 4 * i.val + 3 := rfl
  rw [e3] at c0 c1
  obtain ⟨o0, ho⟩ := hL (by rw [c1]; omega)
  rw [c0, show (4 * i.val + 3) / 4 = i.val by omega] at ho
  obtain ⟨n3, y3, hR3, hy3⟩ := reach_keep m c (4 * i.val + 3) (by omega) hs gs ys hR
  obtain ⟨n2, y2, hR2, hy2⟩ := reach_keep m c (4 * i.val + 2) (by omega) hs gs y3 hR3
  obtain ⟨n1, y1, hR1, hy1⟩ := reach_keep m c (4 * i.val + 1) (by omega) hs gs y2 hR2
  obtain ⟨n0, hs0, gs0, y0, hhs, hgs, hy0⟩ := reach_first m c (4 * i.val) (by omega) hs gs y1 hR1
  rw [show 4 * i.val / 4 = i.val by omega] at hhs hgs
  have hS : ∀ g : Fin 4, entry64 (tblS m) (4 * i.val + g.val) = startOf (grp m 0) i g := fun g => start_entry m i g
  have hC : ∀ g : Fin 4, entry64 (tblC m) (4 * i.val + g.val) = cntOf (grp m 0) i g := fun g => cnt_entry m i g
  have hD : ∀ j : Fin 1024, entry (tblT m) (1024 * i.val + j.val) = destOf (grp m 0) i j := fun j => dest_entry m i j
  have hlt := rank_lt (grp m 0) i j g (if_pos hg)
  have hdj := dest_eq (grp m 0) i j g hg
  rw [ho]
  refine (tile_at hs gs (fun j => entry (tblT m) (1024 * i.val + j))
    (fun j k hjk hk => by
      have := dest_ne (grp m 0) hG i ⟨j, by omega⟩ ⟨k, hk⟩ hjk
      rw [← hD, ← hD] at this
      exact this)
    (bx m c (pt m i 3)) (bx m c (pt m i 0)) (bg m c (pt m i 0)) (bsc m c (pt m i 0)) (bsh m c (pt m i 0)) (bgate m c (pt m i 3)) (br m c (pt m i 0))
    hs0 gs0 (fun g => entry64 (tblS m) (4 * i.val + g.val)) (fun g => entry64 (tblC m) (4 * i.val + g.val))
    (fun g => bwg m c (pt m i g)) (fun g => bwu m c (pt m i g)) (fun g => bwd m c (pt m i g)) y0 y1 y2 y3 ys o0 hhs hgs hy0 hy1 hy2 hy3
    j g ?_ ?_ ?_ ?_ n).trans ?_
  · have := dest_lt (grp m 0) i j
    rw [hD]; omega
  · rw [hD, hS, hdj]; omega
  · rw [hD, hS, hC, hdj]; omega
  · intro g' hgg
    have h1 := start_step (grp m 0) i g g' hgg
    have h2 := le_pad8 (cntOf (grp m 0) i g)
    rw [hD, hS, hdj]; omega
  · have q3 : ((pt m i 3 : Fin (cfgM m).N) : ℕ) / 4 = i.val := by show (4 * i.val + 3) / 4 = i.val; omega
    have q0 : ((pt m i 0 : Fin (cfgM m).N) : ℕ) / 4 = i.val := by show (4 * i.val + 0) / 4 = i.val; omega
    have b3 : ((pt m i 3 : Fin (cfgM m).N) : ℕ) / 8 = (1024 * i.val + j.val) / 2048 := by show (4 * i.val + 3) / 8 = _; omega
    have b0 : ((pt m i 0 : Fin (cfgM m).N) : ℕ) / 8 = (1024 * i.val + j.val) / 2048 := by show (4 * i.val + 0) / 8 = _; omega
    have qg : ((pt m i g : Fin (cfgM m).N) : ℕ) % 4 = g.val := by show (4 * i.val + g.val) % 4 = _; omega
    unfold vFinal final row
    simp only [bx_at, br_at, bsc_at, bsh_at, bgate_at, bg_at, bwg_at, bwu_at, bwd_at, q3, q0, b3, b0, qg, Fin.sum_univ_four]
    rfl

end Cert.KernelIdeal

end
-- ==== Proof.Inputs.lean ====
/-
  The arrays the kernel's windows show, as entries of the program's arguments; and the group of each row.
-/
module

public import proofs.«01_k».proof.Proof.Values
public import proofs.«01_k».proof.Defs
public import Idealize.ShloMosaic.Lib.StableHlo.RunRead
public import Idealize.ShloMosaic.Lib.StableHlo.ReadAt
public import Idealize.ShloMosaic.Lib.Claim

@[expose] public section

set_option maxRecDepth 16384

noncomputable section

namespace Cert.KernelIdeal

open Idealize.ShloMosaic Idealize.ShloMosaic.TcCoe Idealize.ShloMosaic.Tactic
open Cert.KernelIdeal.Gen Cert.Proof

/-- Row `r`, column `n` of the layer's result, for a row of group `g`, from the program's arguments. -/
noncomputable def spec (x : Vec Ideal S8x2048x1024 .f32) (mod : Vec Ideal S8x6144 .f32) (gain : Vec Ideal S1024 .f32) (rt : Vec Ideal S8x16384 .f32)
    (Wg Wu : Vec Ideal S16x1024x256 .f32) (Wd : Vec Ideal S16x256x1024 .f32) (r : Fin 16384) (g : Fin 4) (n : Fin 1024) : EReal :=
  x (ix3 ⟨r.val / 2048, by omega⟩ ⟨r.val % 2048, by omega⟩ n) + mod (ix2 ⟨r.val / 2048, by omega⟩ ⟨5120 + n.val, by omega⟩) * ∑ e : Fin 4, expert
    (normed (fun k => x (ix3 ⟨r.val / 2048, by omega⟩ ⟨r.val % 2048, by omega⟩ k)) (fun k => gain (ix1 k))
      (fun k => mod (ix2 ⟨r.val / 2048, by omega⟩ ⟨4096 + k.val, by omega⟩)) (fun k => mod (ix2 ⟨r.val / 2048, by omega⟩ ⟨3072 + k.val, by omega⟩)))
    (rt (ix2 ⟨e.val, by omega⟩ r)) (fun k f => Wg (ix3 ⟨4 * g.val + e.val, by omega⟩ k f))
    (fun k f => Wu (ix3 ⟨4 * g.val + e.val, by omega⟩ k f)) (fun f n => Wd (ix3 ⟨4 * g.val + e.val, by omega⟩ f n)) n

/-- The batch's rows one after another: row `r` is row `r % 2048` of sequence `r / 2048`. -/
theorem rows_at (x : Vec Ideal S8x2048x1024 .f32) (h : S8x2048x1024.ShapeCasts S16384x1024) (r : Fin 16384) (n : Fin 1024) :
    shapeCast S16384x1024 x h (ix2 r n) = x (ix3 ⟨r.val / 2048, by omega⟩ ⟨r.val % 2048, by omega⟩ n) := by
  refine shapeCast_apply x h _ _ ?_
  rw [Shape.rowMajor_val_three, Shape.rowMajor_val_two]
  show (r.val / 2048 * 2048 + r.val % 2048) * 1024 + n.val = r.val * 1024 + n.val
  omega

variable (m : (ℓ : Loc nD τ sig) → Buf (Elt Ideal) ℓ) (c : Dev nD)

theorem V_v0 : (V m c main_v0 : Vec Ideal S16384x1024 .f32) = shapeCast S16384x1024 (m ((c : Thread nD τ).loc main_arg0) : Vec Ideal S8x2048x1024 .f32) shapeCasts_S8x2048x1024_S16384x1024 := by
  unfold V
  unfold_abbrev_sides
  after_reads_simp
  all_goals try simp -implicitDefEqProofs only [StableHlo.TRef.toBuf, StableHlo.TRef.ofBuf, cast_cast, cast_eq]
  all_goals try clean_types
  all_goals try rfl

theorem V_v1 : (V m c main_v1 : Vec Ideal S8x1x6144 .f32) = broadcastInDim S8x1x6144 ![0, 2] bcast_S8x6144_S8x1x6144_0_2 (m ((c : Thread nD τ).loc main_arg1) : Vec Ideal S8x6144 .f32) := by
  unfold V
  unfold_abbrev_sides
  after_reads_simp
  all_goals try simp -implicitDefEqProofs only [StableHlo.TRef.toBuf, StableHlo.TRef.ofBuf, cast_cast, cast_eq]
  all_goals try clean_types
  all_goals try rfl

theorem V_v2 : (V m c main_v2 : Vec Ideal S1x1024 .f32) = broadcastInDim S1x1024 ![1] bcast_S1024_S1x1024_1 (m ((c : Thread nD τ).loc main_arg2) : Vec Ideal S1024 .f32) := by
  unfold V
  unfold_abbrev_sides
  after_reads_simp
  all_goals try simp -implicitDefEqProofs only [StableHlo.TRef.toBuf, StableHlo.TRef.ofBuf, cast_cast, cast_eq]
  all_goals try clean_types
  all_goals try rfl

theorem V_v37 : (V m c main_v37 : Vec Ideal S16384x8 .f32) = transpose S16384x8 [1, 0] (m ((c : Thread nD τ).loc main_arg3) : Vec Ideal S8x16384 .f32) transposes_S8x16384_S16384x8_1_0 := by
  unfold V
  unfold_abbrev_sides
  after_reads_simp
  all_goals try simp -implicitDefEqProofs only [StableHlo.TRef.toBuf, StableHlo.TRef.ofBuf, cast_cast, cast_eq]
  all_goals try clean_types
  all_goals try rfl

theorem V_v3 : (V m c main_v3 : Vec Ideal S16x1024x256 .bf16) = truncf (F := Ideal) (φ := .f32) .bf16 (m ((c : Thread nD τ).loc main_arg4) : Vec Ideal S16x1024x256 .f32) bitsLt_bf16_f32 := by
  unfold V
  unfold_abbrev_sides
  after_reads_simp
  all_goals try simp -implicitDefEqProofs only [StableHlo.TRef.toBuf, StableHlo.TRef.ofBuf, cast_cast, cast_eq]
  all_goals try clean_types
  all_goals try rfl

theorem V_v4 : (V m c main_v4 : Vec Ideal S16x1024x256 .bf16) = truncf (F := Ideal) (φ := .f32) .bf16 (m ((c : Thread nD τ).loc main_arg5) : Vec Ideal S16x1024x256 .f32) bitsLt_bf16_f32 := by
  unfold V
  unfold_abbrev_sides
  after_reads_simp
  all_goals try simp -implicitDefEqProofs only [StableHlo.TRef.toBuf, StableHlo.TRef.ofBuf, cast_cast, cast_eq]
  all_goals try clean_types
  all_goals try rfl

theorem V_v5 : (V m c main_v5 : Vec Ideal S16x256x1024 .bf16) = truncf (F := Ideal) (φ := .f32) .bf16 (m ((c : Thread nD τ).loc main_arg6) : Vec Ideal S16x256x1024 .f32) bitsLt_bf16_f32 := by
  unfold V
  unfold_abbrev_sides
  after_reads_simp
  all_goals try simp -implicitDefEqProofs only [StableHlo.TRef.toBuf, StableHlo.TRef.ofBuf, cast_cast, cast_eq]
  all_goals try clean_types
  all_goals try rfl

theorem v0_at (r : Fin 16384) (n : Fin 1024) : (V m c main_v0 : Vec Ideal S16384x1024 .f32) (ix2 r n)
    = (m ((c : Thread nD τ).loc main_arg0) : Vec Ideal S8x2048x1024 .f32) (ix3 ⟨r.val / 2048, by omega⟩ ⟨r.val % 2048, by omega⟩ n) := by
  rw [V_v0]
  exact rows_at _ _ r n

theorem v1_at (b : Fin 8) (n : Fin 6144) : (V m c main_v1 : Vec Ideal S8x1x6144 .f32) (ix3 b 0 n)
    = (m ((c : Thread nD τ).loc main_arg1) : Vec Ideal S8x6144 .f32) (ix2 b n) := by
  rw [V_v1]
  pointwise

theorem v2_at (n : Fin 1024) : (V m c main_v2 : Vec Ideal S1x1024 .f32) (ix2 0 n)
    = (m ((c : Thread nD τ).loc main_arg2) : Vec Ideal S1024 .f32) (ix1 n) := by
  rw [V_v2]
  pointwise

theorem v37_at (r : Fin 16384) (e : Fin 8) : (V m c main_v37 : Vec Ideal S16384x8 .f32) (ix2 r e)
    = (m ((c : Thread nD τ).loc main_arg3) : Vec Ideal S8x16384 .f32) (ix2 e r) := by
  rw [V_v37]
  pointwise

theorem v3_at (e : Fin 16) (k : Fin 1024) (f : Fin 256) : (V m c main_v3 : Vec Ideal S16x1024x256 .bf16) (ix3 e k f)
    = (m ((c : Thread nD τ).loc main_arg4) : Vec Ideal S16x1024x256 .f32) (ix3 e k f) := by
  rw [V_v3]
  pointwise

theorem v4_at (e : Fin 16) (k : Fin 1024) (f : Fin 256) : (V m c main_v4 : Vec Ideal S16x1024x256 .bf16) (ix3 e k f)
    = (m ((c : Thread nD τ).loc main_arg5) : Vec Ideal S16x1024x256 .f32) (ix3 e k f) := by
  rw [V_v4]
  pointwise

theorem v5_at (e : Fin 16) (f : Fin 256) (n : Fin 1024) : (V m c main_v5 : Vec Ideal S16x256x1024 .bf16) (ix3 e f n)
    = (m ((c : Thread nD τ).loc main_arg6) : Vec Ideal S16x256x1024 .f32) (ix3 e f n) := by
  rw [V_v5]
  pointwise

/-- The group of row `1024 a + b`: the truncated entry of the routing table's group row. -/
theorem grp_at (a : Fin 16) (b : Fin 1024) : grp m c a b
    = (fptosi (F := Ideal) (φ := .f32) 32 (m ((c : Thread nD τ).loc main_arg3) : Vec Ideal S8x16384 .f32) : IVec S8x16384 32) (ix2 4 ⟨1024 * a.val + b.val, by omega⟩) := by
  unfold grp
  rw [V_v9]
  pointwise
  simp only [Nat.mul_comm a.val 1024]

theorem vFinal_eq (r : Fin 16384) (g : Fin 4) (n : Fin 1024) : vFinal m c r g n
    = spec (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) r g n := by
  unfold vFinal final spec
  simp only [v0_at, v1_at, v2_at, v37_at, v3_at, v4_at, v5_at]

end Cert.KernelIdeal

end
-- ==== Proof.Result.lean ====
/-
  The output array after a run of the kernel, from what each tile's last grid point leaves.
-/
module

public import proofs.«01_k».proof.Proof.Inputs
public import Idealize.ShloMosaic.Lib.Pipeline.ArrRel
public import Idealize.ShloMosaic.Lib.Pipeline.ValueKit

@[expose] public section

set_option maxRecDepth 16384

noncomputable section

namespace Cert.KernelIdeal

open Idealize.ShloMosaic Idealize.ShloMosaic.TcCoe
open Idealize.ShloMosaic.Pipeline (RDat)
open Cert.KernelIdeal.Gen Cert.Proof

/-- The output tile is written back after the last group of each tile. -/
theorem flush9 : ∀ t : Fin grid0.N, (true && (decide (t.val + 1 = grid0.N) || decide (∃ h : t.val + 1 < grid0.N,
    cc0_transform_9 (grid0.coords ⟨t.val + 1, h⟩) ≠ cc0_transform_9 (grid0.coords t)))) = decide (t.val % 4 = 3) := by decide +kernel

variable (m : (ℓ : Loc nD τ sig) → Buf (Elt Ideal) ℓ) (c : Dev nD)

theorem flush_iff (t : Fin (cfgM m).N) : ((cfgM m).win 9).flush t = true ↔ t.val % 4 = 3 := by
  have h : ((cfgM m).win 9).flush t = decide (t.val % 4 = 3) := flush9 t
  rw [h, decide_eq_true_iff]

theorem index9 (t : Fin (cfgM m).N) : ((cfgM m).win 9).index t = (![t.val / 4, 0] : Fin 2 → ℕ) := map9 t

theorem nblk9_0 : ((cfgM m).win 9).nblk (0 : Fin 2) = 16 := by
  show (16384 + 1024 - 1) / 1024 = 16
  norm_num

theorem nblk9_1 : ((cfgM m).win 9).nblk (1 : Fin 2) = 1 := by
  show (1024 + 1024 - 1) / 1024 = 1
  norm_num

/-- The tiles written back are the whole array. -/
theorem covers9 : ((cfgM m).win 9).Covers := by
  refine ⟨fun a => ?_, fun β => ?_⟩
  · match a with
    | ⟨0, _⟩ => show 0 < 1024; omega
    | ⟨1, _⟩ => show 0 < 1024; omega
  · have h0 : (β (0 : Fin 2)).val < 16 := lt_of_lt_of_eq (β (0 : Fin 2)).isLt (nblk9_0 m)
    have h1 : (β (1 : Fin 2)).val < 1 := lt_of_lt_of_eq (β (1 : Fin 2)).isLt (nblk9_1 m)
    refine ⟨pt m ⟨(β (0 : Fin 2)).val, h0⟩ 3, (flush_iff m _).2 (by show (4 * (β (0 : Fin 2)).val + 3) % 4 = 3; omega), fun a => ?_⟩
    rw [index9]
    match a with
    | ⟨0, _⟩ => exact ⟨by show (4 * (β (0 : Fin 2)).val + 3) / 4 = (β (0 : Fin 2)).val; omega, Or.inl rfl⟩
    | ⟨1, _⟩ => exact ⟨by show 0 = (β (1 : Fin 2)).val; omega, Or.inl rfl⟩

/-- The output array: every row is the layer's row for its group. -/
theorem result (gof : Fin 16384 → Fin 4)
    (hgof : ∀ (a : Fin 16) (b : Fin 1024), grp m 0 a b = BitVec.ofNat 32 (gof ⟨1024 * a.val + b.val, by omega⟩).val)
    {r : PUnit × MemSt nD τ sig (Elt Ideal)}
    (h : RDat.FramePost ((Pipeline.pin pcfgs fun _ => adm m) 0) (rdat m) (V m) r) :
    r.2.mem ((c : Thread nD τ).loc main_v38) = fun i : S16384x1024.Idx => vFinal m c (i 0) (gof (i 0)) (i 1) := by
  obtain ⟨after, hL, hA⟩ := RDat.FramePost.exists_exact h c
  refine (hA (9 : Fin 10)).trans ?_
  refine Pipeline.Dat.arrAt_eq_of_covers (cfg := cfgM m) ((rdat m c).withAfter after) (9 : Fin 10) _ (covers9 m) (fun t hf y => ?_) (harr0 (9 : Fin 10))
  have ht : t.val % 4 = 3 := (flush_iff m t).1 hf
  obtain ⟨Y, _, hO⟩ := hL (9 : Fin 10) t hf
  have htp : t = pt m ⟨t.val / 4, by have := lt64 m t; omega⟩ 3 := Fin.ext (by show t.val = 4 * (t.val / 4) + 3; omega)
  have hO' : OutRel m c t (after (9 : Fin 10) t) := hO
  have key : ∀ p n : Fin 1024, (after (9 : Fin 10) t : Vec Ideal S1024x1024 .f32) (ix2 p n)
      = vFinal m c ⟨1024 * (t.val / 4) + p.val, by have := lt64 m t; omega⟩ (gof ⟨1024 * (t.val / 4) + p.val, by have := lt64 m t; omega⟩) n := by
    intro p n
    refine out_at m c (fun a b => ⟨_, hgof a b⟩) ⟨t.val / 4, by have := lt64 m t; omega⟩ _ ?_ p _ (hgof ⟨t.val / 4, by have := lt64 m t; omega⟩ p) n
    rw [← htp]
    exact hO'
  have hp : (y (0 : Fin 2)).val < 1024 := (y (0 : Fin 2)).isLt
  have hn : (y (1 : Fin 2)).val < 1024 := (y (1 : Fin 2)).isLt
  have hx : ((cfgM m).win 9).xinj ((cfgM m).grid.coords t) y = (ix2 ⟨(y (0 : Fin 2)).val, hp⟩ ⟨(y (1 : Fin 2)).val, hn⟩ : S1024x1024.Idx) := by
    funext a
    match a with
    | ⟨0, _⟩ => rfl
    | ⟨1, _⟩ => rfl
  have he : (((cfgM m).win 9).blk t).view.emb y
      = (ix2 ⟨1024 * (t.val / 4) + (y (0 : Fin 2)).val, by have := lt64 m t; omega⟩ ⟨(y (1 : Fin 2)).val, hn⟩ : S16384x1024.Idx) := by
    funext a
    apply Fin.ext
    match a with
    | ⟨0, _⟩ =>
      show cc0_transform_9 (grid0.coords t) 0 * 1024 + 1 * (y (0 : Fin 2)).val = 1024 * (t.val / 4) + (y (0 : Fin 2)).val
      rw [map9 t]; show t.val / 4 * 1024 + 1 * (y (0 : Fin 2)).val = _; omega
    | ⟨1, _⟩ =>
      show cc0_transform_9 (grid0.coords t) 1 * 1024 + 1 * (y (1 : Fin 2)).val = (y (1 : Fin 2)).val
      rw [map9 t]; show 0 * 1024 + 1 * (y (1 : Fin 2)).val = _; omega
  refine Eq.trans ?_ (congrArg (fun i : S16384x1024.Idx => vFinal m c (i 0) (gof (i 0)) (i 1)) he).symm
  exact (congrArg (after (9 : Fin 10) t : Vec Ideal S1024x1024 .f32) hx).trans (key _ _)

end Cert.KernelIdeal

end
-- ==== Proof.Ref.lean ====
/-
  The reference's result at one element.
-/
module

public import proofs.«01_k».proof.Proof.Inputs
public import proofs.«01_k».proof.Proof.Gen.ReferenceIdeal
public import Idealize.ShloMosaic.Lib.Claim

@[expose] public section

set_option maxRecDepth 16384

noncomputable section

namespace Cert.ReferenceIdeal

open Idealize.ShloMosaic Idealize.ShloMosaic.TcCoe Idealize.SL.Sem
open Cert.ReferenceIdeal.Gen

/-- The normalised rows. -/
noncomputable def rows (x : FVec Ideal S8x2048x1024 .f32) (mod : FVec Ideal S8x6144 .f32) (gain : FVec Ideal S1024 .f32) : FVec Ideal S16384x1024 .f32 :=
  shapeCast S16384x1024 (addf (mulf (mulf (mulf x (broadcastInDim S8x2048x1024 ![0, 1, 2] bcast_S8x2048x1_S8x2048x1024_0_1_2
      (Host.rsqrt (addf (Host.divf (broadcastInDim S8x2048x1 ![0, 1] bcast_S8x2048_S8x2048x1_0_1
        (Host.reduceAdd (mulf x x) (constant S_ .f32 0x00000000#32) reducesTo_S8x2048x1024_S8x2048_d2 h_S_ : FVec Ideal S8x2048 .f32))
        (broadcastInDim S8x2048x1 ![] bcast_S_S8x2048x1 (constant S_ .f32 0x44800000#32)))
        (broadcastInDim S8x2048x1 ![] bcast_S_S8x2048x1 (constant S_ .f32 0x358637BD#32))) : FVec Ideal S8x2048x1 .f32)))
      (broadcastInDim S8x2048x1024 ![0, 1, 2] bcast_S1x1x1024_S8x2048x1024_0_1_2 (broadcastInDim S1x1x1024 ![2] bcast_S1024_S1x1x1024_2 gain)))
      (broadcastInDim S8x2048x1024 ![0, 1, 2] bcast_S8x1x1024_S8x2048x1024_0_1_2
        (addf (broadcastInDim S8x1x1024 ![] bcast_S_S8x1x1024 (constant S_ .f32 0x3F800000#32))
          (extractStridedSlice S8x1x1024 ![0, 0, 4096] (broadcastInDim S8x1x6144 ![0, 2] bcast_S8x6144_S8x1x6144_0_2 mod) slices_S8x1x6144_S8x1x1024_0_0_4096))))
      (broadcastInDim S8x2048x1024 ![0, 1, 2] bcast_S8x1x1024_S8x2048x1024_0_1_2
        (extractStridedSlice S8x1x1024 ![0, 0, 3072] (broadcastInDim S8x1x6144 ![0, 2] bcast_S8x6144_S8x1x6144_0_2 mod) slices_S8x1x6144_S8x1x1024_0_0_3072)) : FVec Ideal S8x2048x1024 .f32)
    shapeCasts_S8x2048x1024_S16384x1024

/-- The groups, truncated. -/
noncomputable def groups (rt : FVec Ideal S8x16384 .f32) : IVec S16384 32 :=
  fptosi 32 (shapeCast S16384 (extractStridedSlice S1x16384 ![4, 0] rt slices_S8x16384_S1x16384_4_0 : FVec Ideal S1x16384 .f32) shapeCasts_S1x16384_S16384 : FVec Ideal S16384 .f32)

/-- Whether a row is of a group. -/
noncomputable def hot (rt : FVec Ideal S8x16384 .f32) : FVec Ideal S16384x4 .f32 :=
  uitofp .f32 (cmpi .eq (broadcastInDim S16384x4 ![0, 1] bcast_S16384x1_S16384x4_0_1 (broadcastInDim S16384x1 ![0] bcast_S16384_S16384x1_0 (groups rt)))
    (broadcastInDim S16384x4 ![0, 1] bcast_S1x4_S16384x4_0_1 (iotaInDim S1x4 32 1)))

/-- The gate of each expert on each row: zero for the experts of the other groups. -/
noncomputable def gates (rt : FVec Ideal S8x16384 .f32) : FVec Ideal S16384x16 .f32 :=
  shapeCast S16384x16 (mulf (broadcastInDim S16384x4x4 ![0, 1, 2] bcast_S16384x4x1_S16384x4x4_0_1_2
      (broadcastInDim S16384x4x1 ![0, 1] bcast_S16384x4_S16384x4x1_0_1 (hot rt)))
    (broadcastInDim S16384x4x4 ![0, 1, 2] bcast_S16384x1x4_S16384x4x4_0_1_2 (broadcastInDim S16384x1x4 ![0, 2] bcast_S16384x4_S16384x1x4_0_2
      (transpose S16384x4 [1, 0] (extractStridedSlice S4x16384 ![0, 0] rt slices_S8x16384_S4x16384_0_0) transposes_S4x16384_S16384x4_1_0))) : FVec Ideal S16384x4x4 .f32)
    shapeCasts_S16384x4x4_S16384x16

/-- A projection of the rows into every expert's hidden layer. -/
noncomputable def proj (h : FVec Ideal S16384x1024 .f32) (W : FVec Ideal S16x1024x256 .f32) : FVec Ideal S16384x16x256 .f32 :=
  Host.dotGeneral dot_S16384x1024_S16x1024x256_S16384x16x256_1_1_0_02_n_n none h W

/-- The experts' hidden layers, gated. -/
noncomputable def hidden (h : FVec Ideal S16384x1024 .f32) (gt : FVec Ideal S16384x16 .f32) (Wg Wu : FVec Ideal S16x1024x256 .f32) : FVec Ideal S16384x16x256 .f32 :=
  mulf (mulf (mulf (proj h Wg) (Host.divf (broadcastInDim S16384x16x256 ![] bcast_S_S16384x16x256 (constant S_ .f32 0x3F800000#32))
      (addf (broadcastInDim S16384x16x256 ![] bcast_S_S16384x16x256 (constant S_ .f32 0x3F800000#32)) (Host.exp (Host.negf (proj h Wg)))))) (proj h Wu))
    (broadcastInDim S16384x16x256 ![0, 1, 2] bcast_S16384x16x1_S16384x16x256_0_1_2 (broadcastInDim S16384x16x1 ![0, 1] bcast_S16384x16_S16384x16x1_0_1 gt))

/-- The experts' outputs, summed. -/
noncomputable def experts (z : FVec Ideal S16384x16x256 .f32) (Wd : FVec Ideal S16x256x1024 .f32) : FVec Ideal S16384x1024 .f32 :=
  Host.dotGeneral dot_S16384x16x256_S16x256x1024_S16384x1024_12_01_0_2_n_n none z Wd

/-- The layer's result. -/
noncomputable def out (x : FVec Ideal S8x2048x1024 .f32) (mod : FVec Ideal S8x6144 .f32) (y : FVec Ideal S16384x1024 .f32) : FVec Ideal S16384x1024 .f32 :=
  shapeCast S16384x1024 (addf x (mulf (broadcastInDim S8x2048x1024 ![0, 1, 2] bcast_S8x1x1024_S8x2048x1024_0_1_2
      (extractStridedSlice S8x1x1024 ![0, 0, 5120] (broadcastInDim S8x1x6144 ![0, 2] bcast_S8x6144_S8x1x6144_0_2 mod) slices_S8x1x6144_S8x1x1024_0_0_5120))
    (shapeCast S8x2048x1024 y shapeCasts_S16384x1024_S8x2048x1024)) : FVec Ideal S8x2048x1024 .f32) shapeCasts_S8x2048x1024_S16384x1024

/-- The reference's result from its arguments. -/
noncomputable def layer (x : FVec Ideal S8x2048x1024 .f32) (mod : FVec Ideal S8x6144 .f32) (gain : FVec Ideal S1024 .f32) (rt : FVec Ideal S8x16384 .f32)
    (Wg Wu : FVec Ideal S16x1024x256 .f32) (Wd : FVec Ideal S16x256x1024 .f32) : FVec Ideal S16384x1024 .f32 :=
  out x mod (experts (hidden (rows x mod gain) (gates rt) Wg Wu) Wd)

/-- A run of the reference leaves the layer's result and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v51) = layer (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  hlo_run
  simp -implicitDefEqProofs only [StableHlo.TRef.toBuf, StableHlo.TRef.ofBuf, cast_cast, cast_eq]
  unfold layer out experts hidden proj gates hot groups rows
  rfl

end Cert.ReferenceIdeal

end
-- ==== Proof.RefAt.lean ====
/-
  The reference's result at one element: the gates of the other groups' experts are zero, and what is left is the row of
  the kernel's result.
-/
module

public import proofs.«01_k».proof.Proof.Ref
public import Idealize.ShloMosaic.Lib.Pointwise

@[expose] public section

set_option maxRecDepth 16384

noncomputable section

namespace Cert.ReferenceIdeal

open Idealize.ShloMosaic
open Cert.ReferenceIdeal.Gen
open Cert.KernelIdeal (normed up expert spec rows_at)

theorem normalised_at (x : FVec Ideal S8x2048x1024 .f32) (mod : FVec Ideal S8x6144 .f32) (gain : FVec Ideal S1024 .f32) (r : Fin 16384) (n : Fin 1024) :
    rows x mod gain (ix2 r n) = normed (fun k => x (ix3 ⟨r.val / 2048, by omega⟩ ⟨r.val % 2048, by omega⟩ k)) (fun k => gain (ix1 k))
      (fun k => mod (ix2 ⟨r.val / 2048, by omega⟩ ⟨4096 + k.val, by omega⟩)) (fun k => mod (ix2 ⟨r.val / 2048, by omega⟩ ⟨3072 + k.val, by omega⟩)) n := by
  unfold rows
  refine (rows_at _ _ r n).trans ?_
  unfold normed
  pointwise

theorem groups_at (rt : FVec Ideal S8x16384 .f32) (r : Fin 16384) : groups rt (ix1 r) = (fptosi 32 rt : IVec S8x16384 32) (ix2 4 r) := by
  unfold groups
  pointwise

theorem hot_at (rt : FVec Ideal S8x16384 .f32) (r : Fin 16384) (g : Fin 4) : hot rt (ix2 r g) = if groups rt (ix1 r) = BitVec.ofNat 32 g.val then 1 else 0 := by
  unfold hot
  pointwise
  unfold IntOp.cmpi
  by_cases h : groups rt (ix1 r) = BitVec.ofNat 32 g.val
  · rw [if_pos h]
    simp [h, FloatOps.uitofp]
  · rw [if_neg h]
    simp [h, FloatOps.uitofp]

theorem gates_at (rt : FVec Ideal S8x16384 .f32) (r : Fin 16384) (g e : Fin 4) :
    gates rt (ix2 r ⟨4 * g.val + e.val, by omega⟩) = hot rt (ix2 r g) * rt (ix2 ⟨e.val, by omega⟩ r) := by
  unfold gates
  refine (shapeCast_apply _ _ _ (ix3 r g e) ?_).trans ?_
  · rw [Shape.rowMajor_val_three, Shape.rowMajor_val_two]
    show (r.val * 4 + g.val) * 4 + e.val = r.val * 16 + (4 * g.val + e.val)
    omega
  · pointwise

theorem proj_at (h : FVec Ideal S16384x1024 .f32) (W : FVec Ideal S16x1024x256 .f32) (r : Fin 16384) (e : Fin 16) (f : Fin 256) :
    proj h W (ix3 r e f) = up (fun k => h (ix2 r k)) (fun k f => W (ix3 e k f)) f := by
  unfold proj up
  pointwise

theorem hidden_at (h : FVec Ideal S16384x1024 .f32) (gt : FVec Ideal S16384x16 .f32) (Wg Wu : FVec Ideal S16x1024x256 .f32) (r : Fin 16384) (e : Fin 16) (f : Fin 256) :
    hidden h gt Wg Wu (ix3 r e f) = proj h Wg (ix3 r e f) * Ideal.logistic (proj h Wg (ix3 r e f)) * proj h Wu (ix3 r e f) * gt (ix2 r e) := by
  unfold hidden
  pointwise
  rfl

theorem experts_at (z : FVec Ideal S16384x16x256 .f32) (Wd : FVec Ideal S16x256x1024 .f32) (r : Fin 16384) (n : Fin 1024) :
    experts z Wd (ix2 r n) = ∑ e : Fin 16, ∑ f : Fin 256, z (ix3 r e f) * Wd (ix3 e f n) := by
  unfold experts
  pointwise

theorem out_at (x : FVec Ideal S8x2048x1024 .f32) (mod : FVec Ideal S8x6144 .f32) (y : FVec Ideal S16384x1024 .f32) (r : Fin 16384) (n : Fin 1024) :
    out x mod y (ix2 r n) = x (ix3 ⟨r.val / 2048, by omega⟩ ⟨r.val % 2048, by omega⟩ n) + mod (ix2 ⟨r.val / 2048, by omega⟩ ⟨5120 + n.val, by omega⟩) * y (ix2 r n) := by
  unfold out
  refine (rows_at _ _ r n).trans ?_
  pointwise

/-- The sixteen experts, group by group. -/
theorem sum16 (A : Fin 16 → EReal) : ∑ e, A e = ∑ g : Fin 4, ∑ e : Fin 4, A ⟨4 * g.val + e.val, by omega⟩ := by
  rw [← Fintype.sum_prod_type']
  refine (Fintype.sum_equiv (finProdFinEquiv (m := 4) (n := 4)) _ _ ?_).symm
  intro p
  exact congrArg A (Fin.ext (by show 4 * p.1.val + p.2.val = p.2.val + 4 * p.1.val; omega))

/-- Row `r`, column `n` of the reference's result, for a row of group `g`. -/
theorem layer_at (x : FVec Ideal S8x2048x1024 .f32) (mod : FVec Ideal S8x6144 .f32) (gain : FVec Ideal S1024 .f32) (rt : FVec Ideal S8x16384 .f32)
    (Wg Wu : FVec Ideal S16x1024x256 .f32) (Wd : FVec Ideal S16x256x1024 .f32) (r : Fin 16384) (n : Fin 1024) (g : Fin 4)
    (hg : groups rt (ix1 r) = BitVec.ofNat 32 g.val) : layer x mod gain rt Wg Wu Wd (ix2 r n) = spec x mod gain rt Wg Wu Wd r g n := by
  have hot1 : hot rt (ix2 r g) = 1 := by rw [hot_at, if_pos hg]
  have hot0 : ∀ g' : Fin 4, g' ≠ g → hot rt (ix2 r g') = 0 := by
    intro g' h
    rw [hot_at, hg, if_neg]
    intro he
    have h1 : (BitVec.ofNat 32 g.val).toNat = g.val := by rw [BitVec.toNat_ofNat]; omega
    have h2 : (BitVec.ofNat 32 g'.val).toNat = g'.val := by rw [BitVec.toNat_ofNat]; omega
    exact h (Fin.ext (by rw [← h1, ← h2, he]))
  unfold layer
  rw [out_at, experts_at, sum16, Finset.sum_eq_single g]
  · unfold spec expert
    simp only [hidden_at, proj_at, gates_at, normalised_at, hot1, one_mul]
  · intro g' _ h
    refine Finset.sum_eq_zero fun e _ => Finset.sum_eq_zero fun f _ => ?_
    rw [hidden_at, gates_at, hot0 g' h, zero_mul, mul_zero, zero_mul]
  · exact fun h => absurd (Finset.mem_univ g) h

end Cert.ReferenceIdeal

end
-- ==== Proof.Groups.lean ====
/-
  What the precondition says: every row is of one of the four groups.
-/
module

public import proofs.«01_k».proof.Proof.RefAt
public import proofs.«01_k».proof.Pre_groups_named
public import Idealize.ShloMosaic.Lib.Pointwise

@[expose] public section

noncomputable section

namespace Cert.Proof

open Idealize.ShloMosaic

instance groupFacts : Cert.Pre_groups_named.Facts where
  slices_S8x16384_S1x16384_4_0 := by decide
  shapeCasts_S1x16384_S16384 := by decide
  bcast_S_S16384 := by decide

/-- A word that is at least zero and below four names a group. -/
theorem small_word (w : BitVec 32) (h : IntOp.andi (IntOp.cmpi .sge w 0#32) (IntOp.cmpi .slt w 4#32) = 1#1) :
    ∃ g : Fin 4, w = BitVec.ofNat 32 g.val := by
  have hb : (0#32).sle w = true ∧ w.slt 4#32 = true := by
    simp only [IntOp.andi, IntOp.cmpi] at h
    cases h0 : (0#32).sle w <;> cases h4 : w.slt 4#32 <;> simp [h0, h4] at h ⊢
  have i0 : 0 ≤ w.toInt := by simpa [BitVec.sle] using hb.1
  have i4 : w.toInt < 4 := by simpa [BitVec.slt] using hb.2
  have hc := BitVec.toInt_eq_toNat_cond w
  have hw := w.isLt
  have hn : w.toNat < 4 := by
    split at hc <;> omega
  refine ⟨⟨w.toNat, hn⟩, BitVec.eq_of_toNat_eq ?_⟩
  rw [BitVec.toNat_ofNat]
  show w.toNat = w.toNat % 2 ^ 32
  omega

/-- Under the precondition every row's truncated group names a group. -/
theorem named (x : FVec Ideal Cert.Pre_groups_named.S8x2048x1024 .f32) (mod : FVec Ideal Cert.Pre_groups_named.S8x6144 .f32)
    (gain : FVec Ideal Cert.Pre_groups_named.S1024 .f32) (rt : FVec Ideal Cert.Pre_groups_named.S8x16384 .f32)
    (Wg Wu : FVec Ideal Cert.Pre_groups_named.S16x1024x256 .f32) (Wd : FVec Ideal Cert.Pre_groups_named.S16x256x1024 .f32)
    (h : Cert.Pre_groups_named.fn x mod gain rt Wg Wu Wd = fun _ => 1#1) (r : Fin 16384) :
    ∃ g : Fin 4, Cert.ReferenceIdeal.groups rt (ix1 r) = BitVec.ofNat 32 g.val := by
  have hr := congrFun h (ix1 r)
  exact small_word _ hr

end Cert.Proof

end
-- ==== Proof.InSame.lean ====
/- The input projection as printed and its idealised program are one text: each definition of the one unfolds to the
   same term as the other's.  So the idealised program's run, read at machine words, is the frame of the kernel as
   printed. -/
module

public import proofs.«01_k».proof.Defs
public import proofs.«01_k».proof.Proof.Gen.Kernel2Ideal.Frame
public import proofs.«01_k».proof.Proof.Gen.Kernel2
public import proofs.«01_k».proof.Proof.Gen.Reference2Ideal
public import Idealize.ShloMosaic.Lib.Claim

@[expose] public section

set_option maxHeartbeats 2000000

noncomputable section

namespace Cert.Proof

open Idealize.ShloMosaic Idealize.ShloMosaic.TcCoe Idealize.SL.Sem

/-- The bodies of the two programs' kernels are one text. -/
theorem in_proj_eq : Cert.Kernel2.cc0__in_proj_kernel (F := Bits) = Cert.Kernel2Ideal.cc0__in_proj_kernel (F := Bits) := by
  delta Cert.Kernel2.cc0__in_proj_kernel Cert.Kernel2Ideal.cc0__in_proj_kernel
  rfl

/-- So are their tables of bodies. -/
theorem in_body_eq : Cert.Kernel2.defs₀ (F := Bits) = Cert.Kernel2Ideal.defs₀ (F := Bits) := by
  delta Cert.Kernel2.defs₀ Cert.Kernel2Ideal.defs₀
  refine congrArg Defs.onTc ?_
  funext x y
  match x, y with
  | 0, (t, s) =>
    show Cert.Kernel2.cc0__in_proj_kernel _ _ _ _ _ _ _ _ _ _ _ _ _ _ _ _ _ _ _ _ _ _ _ _ _ _ _ _ _ _ _ _ _ _ _ _ _ = _
    rw [in_proj_eq]
    rfl

/-- And the tables with each call's pipeline. -/
theorem in_defs_eq : Cert.Kernel2.defs (F := Bits) = Cert.Kernel2Ideal.defs (F := Bits) :=
  congrArg (Pipeline.defs Cert.Kernel2.pcfgs) in_body_eq

/-- The host parts are one text too. -/
theorem in_main_eq : Cert.Kernel2.main (F := Bits) = Cert.Kernel2Ideal.main (F := Bits) := by
  delta Cert.Kernel2.main Cert.Kernel2Ideal.main
  rfl

/-- The frame of the input projection as printed, at machine words. -/
theorem in_frame_kernel : Cert.quiescent_Kernel2 := fun m ρ _ => by
  rw [in_defs_eq, in_main_eq]
  exact (θ_run Cert.Kernel2Ideal.defs _ _).mono (fun _ h => h) (Cert.Kernel2Ideal.Gen.frame (F := Bits) m ρ)

/-- The frame of the idealised input projection. -/
theorem in_frame_ideal : Cert.quiescent_Kernel2Ideal := fun m ρ _ => Cert.Kernel2Ideal.Gen.frame (F := Ideal) m ρ

/-- The frame of its idealised reference. -/
theorem in_frame_reference : Cert.quiescent_Reference2Ideal := by
  intro m g _
  refine (θ_run Cert.Reference2Ideal.defs _ _).mono
    (fun r h => ⟨h, Idealize.ShloMosaic.sem_eq_zero_of_no_sems (by decide) r.2⟩) ?_
  hlo_run

end Cert.Proof

end
-- ==== Proof.InMath.lean ====
/-
  The arithmetic of the input projection on one row, over the extended reals: the normalised row, its product with a
  column, the normalisation of a head and the turning of a head by its position.
-/
module

public import Idealize.ShloMosaic.PureOps.Ideal
public import Idealize.ShloMosaic.Lib.IdealHost

@[expose] public section

noncomputable section

namespace Cert.Proof

open Idealize.ShloMosaic

/-- The small number added before the inverse root. -/
abbrev tiny : EReal := Ideal.ofBits FTy.f32 0x358637BD#32

/-- A normalised row, scaled and shifted. -/
def inNormed (x g sc sh : Fin 1024 → EReal) (n : Fin 1024) : EReal :=
  x n * Ideal.rsqrt (Ideal.div (∑ k, x k * x k) (Ideal.ofBits FTy.f32 0x44800000#32) + tiny) * g n * (1 + sc n) + sh n

/-- A head divided by the root of its mean square, times the gain. -/
def headNorm (a g : Fin 64 → EReal) (l : Fin 64) : EReal :=
  a l * Ideal.rsqrt (Ideal.div (∑ k, a k * a k) (Ideal.ofBits FTy.f32 0x42800000#32) + tiny) * g l

/-- A head turned: its first eight lanes and the next eight are the two coordinates of eight planes. -/
def turn (C S : Fin 8 → EReal) (a : Fin 64 → EReal) (l : Fin 64) : EReal :=
  if h : l.val < 8 then a l * C ⟨l.val, h⟩ - a ⟨l.val + 8, by omega⟩ * S ⟨l.val, h⟩
  else if h' : l.val < 16 then a l * C ⟨l.val - 8, by omega⟩ + a ⟨l.val - 8, by omega⟩ * S ⟨l.val - 8, by omega⟩
  else a l

/-- The table multiplying a lane itself. -/
def tab0 (C : Fin 8 → EReal) (l : Fin 64) : EReal :=
  if h : l.val < 8 then C ⟨l.val, h⟩ else if h' : l.val < 16 then C ⟨l.val - 8, by omega⟩ else 1

/-- The table multiplying the lane eight further. -/
def tab1 (S : Fin 8 → EReal) (l : Fin 64) : EReal := if h : l.val < 8 then -S ⟨l.val, h⟩ else 0

/-- The table multiplying the lane eight before. -/
def tab2 (S : Fin 8 → EReal) (l : Fin 64) : EReal :=
  if h : l.val < 8 then 0 else if h' : l.val < 16 then S ⟨l.val - 8, by omega⟩ else 0

/-- Three products with the tables are the turned head: where a neighbour lies in another head its factor is zero. -/
theorem turn_tables (C S : Fin 8 → EReal) (a : Fin 64 → EReal) (l : Fin 64) (y z : EReal)
    (hy : ∀ h : l.val < 8, y = a ⟨l.val + 8, by omega⟩) (hz : ∀ h : 8 ≤ l.val, z = a ⟨l.val - 8, by omega⟩) :
    a l * tab0 C l + y * tab1 S l + z * tab2 S l = turn C S a l := by
  unfold tab0 tab1 tab2 turn
  by_cases h : l.val < 8
  · simp only [dif_pos h]
    rw [hy h, mul_zero, add_zero, mul_neg, sub_eq_add_neg]
  · simp only [dif_neg h]
    rw [hz (by omega)]
    by_cases h' : l.val < 16
    · simp only [dif_pos h', mul_zero, add_zero]
    · simp only [dif_neg h', mul_zero, add_zero, mul_one]

/-- A sum of finite numbers is finite. -/
theorem isReal_add {a b : EReal} (ha : a ≠ ⊤ ∧ a ≠ ⊥) (hb : b ≠ ⊤ ∧ b ≠ ⊥) : a + b ≠ ⊤ ∧ a + b ≠ ⊥ := by
  lift a to ℝ using ⟨ha.1, ha.2⟩
  lift b to ℝ using ⟨hb.1, hb.2⟩
  rw [← EReal.coe_add]
  exact ⟨EReal.coe_ne_top _, EReal.coe_ne_bot _⟩

/-- A product of finite numbers is finite. -/
theorem isReal_mul {a b : EReal} (ha : a ≠ ⊤ ∧ a ≠ ⊥) (hb : b ≠ ⊤ ∧ b ≠ ⊥) : a * b ≠ ⊤ ∧ a * b ≠ ⊥ := by
  lift a to ℝ using ⟨ha.1, ha.2⟩
  lift b to ℝ using ⟨hb.1, hb.2⟩
  rw [← EReal.coe_mul]
  exact ⟨EReal.coe_ne_top _, EReal.coe_ne_bot _⟩

/-- A finite sum of finite numbers is finite. -/
theorem isReal_sum {ι : Type} (s : Finset ι) (f : ι → EReal) (h : ∀ i ∈ s, f i ≠ ⊤ ∧ f i ≠ ⊥) :
    ∑ i ∈ s, f i ≠ ⊤ ∧ ∑ i ∈ s, f i ≠ ⊥ := by
  classical
  induction s using Finset.induction_on with
  | empty => simp
  | insert a s ha ih =>
    rw [Finset.sum_insert ha]
    exact isReal_add (h a (Finset.mem_insert_self a s)) (ih fun i hi => h i (Finset.mem_insert_of_mem hi))

/-- A square is not negative. -/
theorem sq_nonneg' (a : EReal) : 0 ≤ a * a := by
  rcases le_total 0 a with h | h
  · exact mul_nonneg h h
  · rw [← neg_mul_neg]
    exact mul_nonneg (EReal.neg_nonneg.2 h) (EReal.neg_nonneg.2 h)

/-- The small number is a positive real. -/
theorem tiny_pos : ∃ r : ℝ, 0 < r ∧ tiny = (r : EReal) := by
  refine ⟨8796093 * (2 : ℝ) ^ (-43 : ℤ), by positivity, ?_⟩
  simp [tiny, Ideal.ofBits, Ideal.ieee, -EReal.coe_mul]

/-- The word of 1024. -/
theorem lit1024 : Ideal.ofBits FTy.f32 0x44800000#32 = ((1024 : ℝ) : EReal) := by
  simp [Ideal.ofBits, Ideal.ieee, -EReal.coe_mul]; norm_num

/-- The word of 64. -/
theorem lit64 : Ideal.ofBits FTy.f32 0x42800000#32 = ((64 : ℝ) : EReal) := by
  simp [Ideal.ofBits, Ideal.ieee, -EReal.coe_mul]; norm_num

/-- The word of one sixty-fourth. -/
theorem lit64th : Ideal.ofBits FTy.f32 0x3C800000#32 = ((1 / 64 : ℝ) : EReal) := by
  simp [Ideal.ofBits, Ideal.ieee, -EReal.coe_mul]; norm_num

/-- A number times the inverse root of the mean square of its row is finite whatever the row holds: a row with an
    infinite entry has an infinite mean, whose inverse root is zero. -/
theorem scaled_real (x : Fin 1024 → EReal) (n : Fin 1024) :
    x n * Ideal.rsqrt (Ideal.div (∑ k, x k * x k) (Ideal.ofBits FTy.f32 0x44800000#32) + tiny) ≠ ⊤
    ∧ x n * Ideal.rsqrt (Ideal.div (∑ k, x k * x k) (Ideal.ofBits FTy.f32 0x44800000#32) + tiny) ≠ ⊥ := by
  obtain ⟨e, he, hte⟩ := tiny_pos
  rw [lit1024, Ideal.div_coe (by norm_num), hte]
  have hle : x n * x n ≤ ∑ k, x k * x k := Finset.single_le_sum (f := fun k => x k * x k) (fun i _ => sq_nonneg' (x i)) (Finset.mem_univ n)
  have h0 : 0 ≤ ∑ k, x k * x k := Finset.sum_nonneg fun i _ => sq_nonneg' (x i)
  generalize (∑ k, x k * x k) = s at hle h0
  by_cases hs : s = ⊤
  · subst hs
    rw [EReal.top_mul_coe_of_pos (by norm_num), EReal.top_add_coe, Ideal.rsqrt_top, mul_zero]
    exact ⟨EReal.zero_ne_top, EReal.zero_ne_bot⟩
  · have hx : x n ≠ ⊤ ∧ x n ≠ ⊥ := by
      constructor
      · intro h; rw [h, EReal.top_mul_top] at hle; exact hs (top_le_iff.1 hle)
      · intro h; rw [h, EReal.bot_mul_bot] at hle; exact hs (top_le_iff.1 hle)
    have hb : s ≠ ⊥ := fun h => by rw [h] at h0; exact absurd h0 (by simp)
    lift s to ℝ using ⟨hs, hb⟩
    have hs0 : 0 ≤ s := EReal.coe_nonneg.1 h0
    refine isReal_mul hx ?_
    rw [← EReal.coe_mul, ← EReal.coe_add, Ideal.rsqrt_coe]
    have hp : 0 < s * (1 / 1024) + e := by positivity
    rw [if_neg (not_lt.2 hp.le), if_neg hp.ne']
    exact ⟨EReal.coe_ne_top _, EReal.coe_ne_bot _⟩

/-- So a normalised row is finite when its gain, scale and shift are. -/
theorem inNormed_real (x g sc sh : Fin 1024 → EReal) (n : Fin 1024) (hg : g n ≠ ⊤ ∧ g n ≠ ⊥) (hsc : sc n ≠ ⊤ ∧ sc n ≠ ⊥)
    (hsh : sh n ≠ ⊤ ∧ sh n ≠ ⊥) : inNormed x g sc sh n ≠ ⊤ ∧ inNormed x g sc sh n ≠ ⊥ :=
  isReal_add (isReal_mul (isReal_mul (scaled_real x n) hg)
    (isReal_add ⟨by rw [← EReal.coe_one]; exact EReal.coe_ne_top _, by rw [← EReal.coe_one]; exact EReal.coe_ne_bot _⟩ hsc)) hsh

/-- A factor may be taken into a sum of numbers that are not negative. -/
theorem sum_mul_nonneg {ι : Type} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    have h' : ∀ i ∈ s, 0 ≤ f i := fun i hi => hf i (Finset.mem_insert_of_mem hi)
    rw [Finset.sum_insert ha, Finset.sum_insert ha, EReal.right_distrib_of_nonneg (hf a (Finset.mem_insert_self a s)) (Finset.sum_nonneg h'), ih h']

/-- The product with the averaging matrix is the mean over the head's lanes. -/
theorem mean_lanes (H N : ℕ) (hN : H * 64 = N) (q : Fin N → EReal) (hq : ∀ k, 0 ≤ q k) (M : Fin N → EReal) (h : Fin H)
    (hM : ∀ k, M k = if k.val / 64 = h.val then Ideal.ofBits FTy.f32 0x3C800000#32 else 0) :
    ∑ k, q k * M k = Ideal.div (∑ l : Fin 64, q ⟨64 * h.val + l.val, by omega⟩) (Ideal.ofBits FTy.f32 0x42800000#32) := by
  subst hN
  rw [lit64, Ideal.div_coe (by norm_num), sum_mul_nonneg _ _ (fun i _ => hq _)]
  rw [← (finProdFinEquiv (m := H) (n := 64)).sum_comp (fun k => q k * M k), Fintype.sum_prod_type]
  rw [Finset.sum_eq_single h]
  · refine Finset.sum_congr rfl fun l _ => ?_
    rw [hM, if_pos (by show (l.val + 64 * h.val) / 64 = h.val; omega), lit64th]
    refine congrArg (fun k => q k * _) (Fin.ext ?_)
    show l.val + 64 * h.val = 64 * h.val + l.val
    omega
  · intro b _ hb
    refine Finset.sum_eq_zero fun l _ => ?_
    rw [hM, if_neg (by
      have := Fin.val_ne_of_ne hb
      show ¬ (l.val + 64 * b.val) / 64 = h.val
      omega), mul_zero]
  · intro hh; exact absurd (Finset.mem_univ h) hh

/-- The mean computed in two parts, of a square and of what the square loses in a cast: over the extended reals a finite
    square loses nothing. -/
theorem mean_parts (H N : ℕ) (hN : H * 64 = N) (p : Fin N → EReal) (hp : ∀ k, p k ≠ ⊤ ∧ p k ≠ ⊥) (M : Fin N → EReal) (h : Fin H)
    (hM : ∀ k, M k = if k.val / 64 = h.val then Ideal.ofBits FTy.f32 0x3C800000#32 else 0) :
    ∑ k, (p k * p k) * M k + ∑ k, (p k * p k - p k * p k) * M k
      = Ideal.div (∑ l : Fin 64, p ⟨64 * h.val + l.val, by omega⟩ * p ⟨64 * h.val + l.val, by omega⟩) (Ideal.ofBits FTy.f32 0x42800000#32) := by
  have h0 : ∑ k, (p k * p k - p k * p k) * M k = 0 := Finset.sum_eq_zero fun k _ => by
    rw [EReal.sub_self (isReal_mul (hp k) (hp k)).1 (isReal_mul (hp k) (hp k)).2, zero_mul]
  rw [h0, add_zero]
  exact mean_lanes H N hN (fun k => p k * p k) (fun k => sq_nonneg' _) M h hM

end Cert.Proof

end
-- ==== Proof.InPay.lean ====
/-
  The input projection's body at one element, over the extended reals.
-/
module

public import proofs.«01_k».proof.Proof.Gen.Kernel2Ideal.Frame
public import proofs.«01_k».proof.Proof.InMath
public import Idealize.ShloMosaic.Lib.Pointwise
public import Idealize.ShloMosaic.Lib.KernelVsHost

@[expose] public section

set_option maxRecDepth 16384

noncomputable section

namespace Cert.Kernel2Ideal

open Idealize.ShloMosaic Cert.Kernel2Ideal.Gen Cert.Proof

/-- The product of the normalised row with a column of the weights. -/
theorem pay4_at (x : Vec Ideal S512x1024 .f32) (g : Vec Ideal S1x1024 .f32) (sc sh : Vec Ideal S1x1x1024 .f32) (w : Vec Ideal S1024x1920 .bf16)
    (p : Fin 512) (n : Fin 1920) : k0_pay4 x g sc sh w (ix2 p n)
      = ∑ k, inNormed (fun k => x (ix2 p k)) (fun k => g (ix2 0 k)) (fun k => sc (ix3 0 0 k)) (fun k => sh (ix3 0 0 k)) k * w (ix2 k n) := by
  unfold k0_pay4
  pointwise
  rfl

/-- The mixer's columns of the projection. -/
theorem pay9_at (P : FVec Ideal S512x1920 .f32) (p : Fin 512) (n : Fin 512) : k0_pay9 P (ix2 p n) = P (ix2 p ⟨n.val, by omega⟩) := by
  unfold k0_pay9
  pointwise

/-- The values' columns of the projection. -/
theorem pay16_at (P : FVec Ideal S512x1920 .f32) (p : Fin 512) (n : Fin 128) : k0_pay16 P (ix2 p n) = P (ix2 p ⟨1152 + n.val, by omega⟩) := by
  unfold k0_pay16
  pointwise

/-- Four copies of a table side by side. -/
theorem four_at (T : FVec Ideal S512x128 .f32) (p : Fin 512) (n : Fin 512) :
    concatenate S512x512 1 [⟨S512x128, T⟩, ⟨S512x128, T⟩, ⟨S512x128, T⟩, ⟨S512x128, T⟩] concatenates_S512x128_S512x128_S512x128_S512x128_S512x512_d1 (ix2 p n)
      = T (ix2 p ⟨n.val % 128, by omega⟩) := by
  refine concatenate_replicate_apply (s₁ := S512x128) (t := S512x512) 1 4 T _ rfl _ _ rfl fun b hb => ?_
  match b with
  | ⟨0, _⟩ => rfl
  | ⟨1, _⟩ => exact absurd rfl hb

/-- A head of 512 lanes rotated back by eight. -/
theorem rot504_at (X : FVec Ideal S512x512 .f32) (p : Fin 512) (n : Fin 512) :
    dynamicRotate 1 504#32 none X rotates_S512x512_d1 (ix2 p n) = X (ix2 p ⟨(n.val + 8) % 512, by omega⟩) := by
  refine Idealize.ShloMosaic.dynamicRotate_apply _ _ _ _ _ _ fun b => ?_
  match b with
  | ⟨0, _⟩ => rfl
  | ⟨1, _⟩ =>
    show (n.val + 8) % 512 = (n.val + 512 - 504 % 512) % 512
    omega

/-- 512 lanes turned by 8. -/
theorem rot8_at (X : FVec Ideal S512x512 .f32) (p : Fin 512) (n : Fin 512) :
    dynamicRotate 1 8#32 none X rotates_S512x512_d1 (ix2 p n) = X (ix2 p ⟨(n.val + 504) % 512, by omega⟩) := by
  refine Idealize.ShloMosaic.dynamicRotate_apply _ _ _ _ _ _ fun b => ?_
  match b with
  | ⟨0, _⟩ => rfl
  | ⟨1, _⟩ =>
    show (n.val + 504) % 512 = (n.val + 512 - 8 % 512) % 512
    omega

/-- 128 lanes turned by 120. -/
theorem rot120_at (X : FVec Ideal S512x128 .f32) (p : Fin 512) (n : Fin 128) :
    dynamicRotate 1 120#32 none X rotates_S512x128_d1 (ix2 p n) = X (ix2 p ⟨(n.val + 8) % 128, by omega⟩) := by
  refine Idealize.ShloMosaic.dynamicRotate_apply _ _ _ _ _ _ fun b => ?_
  match b with
  | ⟨0, _⟩ => rfl
  | ⟨1, _⟩ =>
    show (n.val + 8) % 128 = (n.val + 128 - 120 % 128) % 128
    omega

/-- 128 lanes turned by 8. -/
theorem rot8s_at (X : FVec Ideal S512x128 .f32) (p : Fin 512) (n : Fin 128) :
    dynamicRotate 1 8#32 none X rotates_S512x128_d1 (ix2 p n) = X (ix2 p ⟨(n.val + 120) % 128, by omega⟩) := by
  refine Idealize.ShloMosaic.dynamicRotate_apply _ _ _ _ _ _ fun b => ?_
  match b with
  | ⟨0, _⟩ => rfl
  | ⟨1, _⟩ =>
    show (n.val + 120) % 128 = (n.val + 128 - 8 % 128) % 128
    omega

/-- The turned lanes of four groups of two heads. -/
def rope512 (X : FVec Ideal S512x512 .f32) (T0 T1 T2 : FVec Ideal S512x128 .f32) : FVec Ideal S512x512 .f32 :=
  addf (addf (mulf X (concatenate S512x512 1 [⟨S512x128, T0⟩, ⟨S512x128, T0⟩, ⟨S512x128, T0⟩, ⟨S512x128, T0⟩] concatenates_S512x128_S512x128_S512x128_S512x128_S512x512_d1))
    (mulf (dynamicRotate 1 504#32 none X rotates_S512x512_d1) (concatenate S512x512 1 [⟨S512x128, T1⟩, ⟨S512x128, T1⟩, ⟨S512x128, T1⟩, ⟨S512x128, T1⟩] concatenates_S512x128_S512x128_S512x128_S512x128_S512x512_d1)))
    (mulf (dynamicRotate 1 8#32 none X rotates_S512x512_d1) (concatenate S512x512 1 [⟨S512x128, T2⟩, ⟨S512x128, T2⟩, ⟨S512x128, T2⟩, ⟨S512x128, T2⟩] concatenates_S512x128_S512x128_S512x128_S512x128_S512x512_d1))

/-- The three products with the tables turn each of eight heads. -/
theorem rope512_at (X : FVec Ideal S512x512 .f32) (T0 T1 T2 : FVec Ideal S512x128 .f32) (C S : Fin 8 → EReal) (p : Fin 512)
    (h0 : ∀ n : Fin 128, T0 (ix2 p n) = tab0 C ⟨n.val % 64, by omega⟩) (h1 : ∀ n : Fin 128, T1 (ix2 p n) = tab1 S ⟨n.val % 64, by omega⟩)
    (h2 : ∀ n : Fin 128, T2 (ix2 p n) = tab2 S ⟨n.val % 64, by omega⟩) (h : Fin 8) (l : Fin 64) :
    rope512 X T0 T1 T2 (ix2 p ⟨64 * h.val + l.val, by omega⟩) = turn C S (fun l => X (ix2 p ⟨64 * h.val + l.val, by omega⟩)) l := by
  show X _ * concatenate S512x512 1 _ _ _ + dynamicRotate 1 504#32 none X _ _ * concatenate S512x512 1 _ _ _
    + dynamicRotate 1 8#32 none X _ _ * concatenate S512x512 1 _ _ _ = _
  rw [four_at, four_at, four_at, rot504_at, rot8_at, h0, h1, h2]
  have hl : (⟨(64 * h.val + l.val) % 128 % 64, by omega⟩ : Fin 64) = l := Fin.ext (by show (64 * h.val + l.val) % 128 % 64 = l.val; omega)
  simp only [hl]
  refine turn_tables C S (fun l => X (ix2 p ⟨64 * h.val + l.val, by omega⟩)) l _ _ (fun hh => ?_) (fun hh => ?_)
  · refine congrArg (fun n => X (ix2 p n)) (Fin.ext ?_)
    show (64 * h.val + l.val + 8) % 512 = 64 * h.val + (l.val + 8)
    omega
  · refine congrArg (fun n => X (ix2 p n)) (Fin.ext ?_)
    show (64 * h.val + l.val + 504) % 512 = 64 * h.val + (l.val - 8)
    omega

/-- The turned lanes of two heads. -/
def rope128 (X T0 T1 T2 : FVec Ideal S512x128 .f32) : FVec Ideal S512x128 .f32 :=
  addf (addf (mulf X T0) (mulf (dynamicRotate 1 120#32 none X rotates_S512x128_d1) T1)) (mulf (dynamicRotate 1 8#32 none X rotates_S512x128_d1) T2)

/-- The three products with the tables turn a head of 64 lanes. -/
theorem rope128_at (X T0 T1 T2 : FVec Ideal S512x128 .f32) (C S : Fin 8 → EReal) (p : Fin 512) (h : Fin 2)
    (h0 : ∀ l : Fin 64, T0 (ix2 p ⟨64 * h.val + l.val, by omega⟩) = tab0 C l) (h1 : ∀ l : Fin 64, T1 (ix2 p ⟨64 * h.val + l.val, by omega⟩) = tab1 S l)
    (h2 : ∀ l : Fin 64, T2 (ix2 p ⟨64 * h.val + l.val, by omega⟩) = tab2 S l) (l : Fin 64) :
    rope128 X T0 T1 T2 (ix2 p ⟨64 * h.val + l.val, by omega⟩) = turn C S (fun l => X (ix2 p ⟨64 * h.val + l.val, by omega⟩)) l := by
  show X _ * T0 _ + dynamicRotate 1 120#32 none X _ _ * T1 _ + dynamicRotate 1 8#32 none X _ _ * T2 _ = _
  rw [rot120_at, rot8s_at, h0, h1, h2]
  refine turn_tables C S (fun l => X (ix2 p ⟨64 * h.val + l.val, by omega⟩)) l _ _ (fun hh => ?_) (fun hh => ?_)
  · refine congrArg (fun n => X (ix2 p n)) (Fin.ext ?_)
    show (64 * h.val + l.val + 8) % 128 = 64 * h.val + (l.val + 8)
    omega
  · refine congrArg (fun n => X (ix2 p n)) (Fin.ext ?_)
    show (64 * h.val + l.val + 120) % 128 = 64 * h.val + (l.val - 8)
    omega

/-- Lanes that are only scaled: the second and third tables are zero there. -/
theorem rope128_scaled (X T0 T1 T2 : FVec Ideal S512x128 .f32) (p : Fin 512) (n : Fin 128) (z : EReal) (h0 : T0 (ix2 p n) = z)
    (h1 : T1 (ix2 p n) = 0) (h2 : T2 (ix2 p n) = 0) : rope128 X T0 T1 T2 (ix2 p n) = X (ix2 p n) * z := by
  show X _ * T0 _ + dynamicRotate 1 120#32 none X _ _ * T1 _ + dynamicRotate 1 8#32 none X _ _ * T2 _ = _
  rw [h0, h1, h2, mul_zero, mul_zero, add_zero, add_zero]

/-- The eight normalised query heads. -/
def norm512 (X : FVec Ideal S512x512 .f32) (M : FVec Ideal S512x512 .bf16) (g : FVec Ideal S1x512 .f32) : FVec Ideal S512x512 .f32 :=
  mulf (mulf X (rsqrt (addf (addf
      (matmul dot_S512x512_S512x512_S512x512_1_0_0_1_n_n none (truncf .bf16 (mulf X X) bitsLt_bf16_f32) M (constant S512x512 .f32 0x00000000#32))
      (matmul dot_S512x512_S512x512_S512x512_1_0_0_1_n_n none
        (truncf .bf16 (subf (mulf X X) (extf .f32 (truncf .bf16 (mulf X X) bitsLt_bf16_f32) bitsLt_bf16_f32)) bitsLt_bf16_f32) M (constant S512x512 .f32 0x00000000#32)))
      (broadcast S512x512 (Scalar.ofBits .f32 0x358637BD#32)) : FVec Ideal S512x512 .f32)))
    (broadcastTo S512x512 g broadcasts_S1x512_S512x512)

/-- With finite entries each of eight heads is divided by the root of its mean square. -/
theorem norm512_at (X : FVec Ideal S512x512 .f32) (M : FVec Ideal S512x512 .bf16) (g : FVec Ideal S1x512 .f32) (gg : Fin 64 → EReal) (p : Fin 512)
    (hX : ∀ n, X (ix2 p n) ≠ ⊤ ∧ X (ix2 p n) ≠ ⊥)
    (hM : ∀ k n : Fin 512, M (ix2 k n) = if k.val / 64 = n.val / 64 then Ideal.ofBits FTy.f32 0x3C800000#32 else 0) (h : Fin 8)
    (hg : ∀ l : Fin 64, g (ix2 0 ⟨64 * h.val + l.val, by omega⟩) = gg l) (l : Fin 64) :
    norm512 X M g (ix2 p ⟨64 * h.val + l.val, by omega⟩) = headNorm (fun l => X (ix2 p ⟨64 * h.val + l.val, by omega⟩)) gg l := by
  have e : norm512 X M g (ix2 p ⟨64 * h.val + l.val, by omega⟩)
      = X (ix2 p ⟨64 * h.val + l.val, by omega⟩) * Ideal.rsqrt (∑ k, (X (ix2 p k) * X (ix2 p k)) * M (ix2 k ⟨64 * h.val + l.val, by omega⟩)
          + ∑ k, (X (ix2 p k) * X (ix2 p k) - X (ix2 p k) * X (ix2 p k)) * M (ix2 k ⟨64 * h.val + l.val, by omega⟩) + tiny)
        * g (ix2 0 ⟨64 * h.val + l.val, by omega⟩) := by
    unfold norm512
    pointwise
  rw [e, mean_parts 8 512 rfl (fun k => X (ix2 p k)) hX _ h, hg]
  · rfl
  · intro k
    rw [hM]
    have : (64 * h.val + l.val) / 64 = h.val := by omega
    simp only [this]

/-- The two normalised key heads. -/
def norm128 (X : FVec Ideal S512x128 .f32) (M : FVec Ideal S128x128 .bf16) (g : FVec Ideal S1x128 .f32) : FVec Ideal S512x128 .f32 :=
  mulf (mulf X (rsqrt (addf (addf
      (matmul dot_S512x128_S128x128_S512x128_1_0_0_1_n_n none (truncf .bf16 (mulf X X) bitsLt_bf16_f32) M (constant S512x128 .f32 0x00000000#32))
      (matmul dot_S512x128_S128x128_S512x128_1_0_0_1_n_n none
        (truncf .bf16 (subf (mulf X X) (extf .f32 (truncf .bf16 (mulf X X) bitsLt_bf16_f32) bitsLt_bf16_f32)) bitsLt_bf16_f32) M (constant S512x128 .f32 0x00000000#32)))
      (broadcast S512x128 (Scalar.ofBits .f32 0x358637BD#32)) : FVec Ideal S512x128 .f32)))
    (broadcastTo S512x128 g broadcasts_S1x128_S512x128)

/-- With finite entries each of two heads is divided by the root of its mean square. -/
theorem norm128_at (X : FVec Ideal S512x128 .f32) (M : FVec Ideal S128x128 .bf16) (g : FVec Ideal S1x128 .f32) (gg : Fin 64 → EReal) (p : Fin 512)
    (hX : ∀ n, X (ix2 p n) ≠ ⊤ ∧ X (ix2 p n) ≠ ⊥)
    (hM : ∀ k n : Fin 128, M (ix2 k n) = if k.val / 64 = n.val / 64 then Ideal.ofBits FTy.f32 0x3C800000#32 else 0) (h : Fin 2)
    (hg : ∀ l : Fin 64, g (ix2 0 ⟨64 * h.val + l.val, by omega⟩) = gg l) (l : Fin 64) :
    norm128 X M g (ix2 p ⟨64 * h.val + l.val, by omega⟩) = headNorm (fun l => X (ix2 p ⟨64 * h.val + l.val, by omega⟩)) gg l := by
  have e : norm128 X M g (ix2 p ⟨64 * h.val + l.val, by omega⟩)
      = X (ix2 p ⟨64 * h.val + l.val, by omega⟩) * Ideal.rsqrt (∑ k, (X (ix2 p k) * X (ix2 p k)) * M (ix2 k ⟨64 * h.val + l.val, by omega⟩)
          + ∑ k, (X (ix2 p k) * X (ix2 p k) - X (ix2 p k) * X (ix2 p k)) * M (ix2 k ⟨64 * h.val + l.val, by omega⟩) + tiny)
        * g (ix2 0 ⟨64 * h.val + l.val, by omega⟩) := by
    unfold norm128
    pointwise
  rw [e, mean_parts 2 128 rfl (fun k => X (ix2 p k)) hX _ h, hg]
  · rfl
  · intro k
    rw [hM]
    have : (64 * h.val + l.val) / 64 = h.val := by omega
    simp only [this]

/-- The queries: normalised, turned and scaled. -/
theorem pay10_eq (P : FVec Ideal S512x1920 .f32) (T0 T1 : FVec Ideal S512x128 .f32) (T2 : Vec Ideal S1x512x128 .f32) (M : Vec Ideal S512x512 .bf16) (g : Vec Ideal S1x512 .f32) :
    k0_pay10 P T0 T1 T2 M g = truncf (φ := .f32) .bf16 (mulf (rope512 (norm512 (extractStridedSlice S512x512 ![0, 512] P slices_S512x1920_o0_512_S512x512) (k0_pay8 M)
      (shapeCast S1x512 g shapeCasts_S1x512_S1x512)) T0 T1 (k0_pay7 T2)) (broadcast S512x512 (Scalar.ofBits .f32 0x3E000000#32))) bitsLt_bf16_f32 := by
  unfold k0_pay10
  rfl

/-- The keys: normalised and turned. -/
theorem pay14_eq (T0 T1 T2 X : FVec Ideal S512x128 .f32) (M : FVec Ideal S128x128 .bf16) (g : FVec Ideal S1x128 .f32) :
    k0_pay14 T0 T1 T2 X M g = rope128 (norm128 X M g) T0 T1 T2 := by
  unfold k0_pay14
  rfl

/-- The indexer's queries: turned and scaled. -/
theorem pay1_eq (P : FVec Ideal S512x1920 .f32) (T0 T1 T2 : FVec Ideal S512x128 .f32) :
    k0_pay1 (k0_pay19 T2) (k0_pay20 P T0 T1) (k0_pay21 P) = truncf (φ := .f32) .bf16 (mulf (rope512 (k0_pay18 P) T0 T1 T2) (broadcast S512x512 (Scalar.ofBits .f32 0x3E000000#32))) bitsLt_bf16_f32 := by
  unfold k0_pay1 k0_pay19 k0_pay20 k0_pay21
  rfl

/-- The indexer's key and weights: turned, and scaled by the tables' tails. -/
theorem pay2_eq (P : FVec Ideal S512x1920 .f32) (T0 T1 T2 : Vec Ideal S1x512x128 .f32) :
    k0_pay2 P T0 T1 T2 = rope128 (extractStridedSlice S512x128 ![0, 1792] P slices_S512x1920_o0_1792_S512x128) (k0_pay5 T0) (k0_pay6 T1) (k0_pay7 T2) := by
  unfold k0_pay2
  rfl

end Cert.Kernel2Ideal

end
-- ==== Proof.InHost.lean ====
/-
  The arrays the host prepares for the input projection, read off its arguments.
-/
module

public import proofs.«01_k».proof.Proof.InPay
public import Idealize.ShloMosaic.Lib.StableHlo.RunRead
public import Idealize.ShloMosaic.Lib.StableHlo.ReadAt

@[expose] public section

set_option maxRecDepth 16384
set_option maxHeartbeats 1000000

noncomputable section

namespace Cert.Kernel2Ideal

open Idealize.ShloMosaic Idealize.ShloMosaic.TcCoe Idealize.ShloMosaic.Tactic
open Cert.Kernel2Ideal.Gen Cert.Proof

variable {F : FTy → Type} [FloatOps F]
variable (m : (ℓ : Loc nD τ sig) → Buf (Elt F) ℓ) (c : Dev nD)

/-- The rows of the batch one after another. -/
theorem V_v50 : (V m c main_v50 : Vec F S16384x1024 .f32) = shapeCast S16384x1024 (m ((c : Thread nD τ).loc main_arg0) : Vec F S8x2048x1024 .f32) shapeCasts_S8x2048x1024_S16384x1024 := by
  unfold V V0
  unfold_abbrev_sides
  after_reads_simp
  all_goals try simp -implicitDefEqProofs only [StableHlo.TRef.toBuf, StableHlo.TRef.ofBuf, cast_cast, cast_eq]
  all_goals try clean_types
  all_goals try rfl

/-- The modulation rows with a middle axis of one. -/
theorem V_v51 : (V m c main_v51 : Vec F S8x1x6144 .f32) = broadcastInDim S8x1x6144 ![0, 2] bcast_S8x6144_S8x1x6144_0_2 (m ((c : Thread nD τ).loc main_arg1) : Vec F S8x6144 .f32) := by
  unfold V V0
  unfold_abbrev_sides
  after_reads_simp
  all_goals try simp -implicitDefEqProofs only [StableHlo.TRef.toBuf, StableHlo.TRef.ofBuf, cast_cast, cast_eq]
  all_goals try clean_types
  all_goals try rfl

/-- The gain as a row. -/
theorem V_v52 : (V m c main_v52 : Vec F S1x1024 .f32) = broadcastInDim S1x1024 ![1] bcast_S1024_S1x1024_1 (m ((c : Thread nD τ).loc main_arg2) : Vec F S1024 .f32) := by
  unfold V V0
  unfold_abbrev_sides
  after_reads_simp
  all_goals try simp -implicitDefEqProofs only [StableHlo.TRef.toBuf, StableHlo.TRef.ofBuf, cast_cast, cast_eq]
  all_goals try clean_types
  all_goals try rfl

/-- The queries' gain repeated for eight heads. -/
theorem V_v56 : (V m c main_v56 : Vec F S1x512 .f32) = broadcastInDim S1x512 ![1] bcast_S512_S1x512_1 (shapeCast S512 (broadcastInDim S8x64 ![0, 1] bcast_S1x64_S8x64_0_1 (shapeCast S1x64 (m ((c : Thread nD τ).loc main_arg4) : Vec F S64 .f32) shapeCasts_S64_S1x64)) shapeCasts_S8x64_S512) := by
  unfold V V0
  unfold_abbrev_sides
  after_reads_simp
  all_goals try simp -implicitDefEqProofs only [StableHlo.TRef.toBuf, StableHlo.TRef.ofBuf, cast_cast, cast_eq]
  all_goals try clean_types
  all_goals try rfl

/-- The keys' gain repeated for two heads. -/
theorem V_v60 : (V m c main_v60 : Vec F S1x128 .f32) = broadcastInDim S1x128 ![1] bcast_S128_S1x128_1 (shapeCast S128 (broadcastInDim S2x64 ![0, 1] bcast_S1x64_S2x64_0_1 (shapeCast S1x64 (m ((c : Thread nD τ).loc main_arg5) : Vec F S64 .f32) shapeCasts_S64_S1x64)) shapeCasts_S2x64_S128) := by
  unfold V V0
  unfold_abbrev_sides
  after_reads_simp
  all_goals try simp -implicitDefEqProofs only [StableHlo.TRef.toBuf, StableHlo.TRef.ofBuf, cast_cast, cast_eq]
  all_goals try clean_types
  all_goals try rfl

/-- The weights, padded to 1920 columns. -/
theorem V_v49 : (V m c main_v49 : Vec F S1024x1920 .bf16) = truncf (φ := .f32) .bf16 (pad S1024x1920 ![0, 0] ![0, 56] ![0, 0] (m ((c : Thread nD τ).loc main_arg3) : Vec F S1024x1864 .f32) (sitofp .f32 (constantI S_ 32 0#32) : FVec F S_ .f32) pads_S1024x1864_S1024x1920_000_0560 h_S_) bitsLt_bf16_f32 := by
  unfold V V0
  unfold_abbrev_sides
  after_reads_simp
  all_goals try simp -implicitDefEqProofs only [StableHlo.TRef.toBuf, StableHlo.TRef.ofBuf, cast_cast, cast_eq]
  all_goals try clean_types
  all_goals try rfl

/-- The head of each lane: the floor of a quotient by 64. -/
theorem V_v1 : (V m c main_v1 : IVec S512 32) = select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32))) (broadcastInDim S512 ![] bcast_S_S512 (constantI S_ 32 0#32))))
      (subi (Host.divsi (iotaInDim S512 32 0) (broadcastInDim S512 ![] bcast_S_S512 (constantI S_ 32 64#32))) (broadcastInDim S512 ![] bcast_S_S512 (constantI S_ 32 1#32)))
      (Host.divsi (iotaInDim S512 32 0) (broadcastInDim S512 ![] bcast_S_S512 (constantI S_ 32 64#32))) := by
  unfold V V0
  unfold_abbrev_sides
  after_reads_simp
  all_goals try simp -implicitDefEqProofs only [StableHlo.TRef.toBuf, StableHlo.TRef.ofBuf, cast_cast, cast_eq]
  all_goals try clean_types
  all_goals try rfl

/-- The averaging matrix: where two lanes are of one head. -/
theorem V_v8 : (V m c main_v8 : Vec F S512x512 .bf16) = truncf (φ := .f32) .bf16 (select (cmpi .eq (broadcastInDim S512x512 ![0, 1] bcast_S512x1_S512x512_0_1 (broadcastInDim S512x1 ![0] bcast_S512_S512x1_0 (V m c main_v1 : IVec S512 32)))
      (broadcastInDim S512x512 ![0, 1] bcast_S1x512_S512x512_0_1 (broadcastInDim S1x512 ![1] bcast_S512_S1x512_1 (V m c main_v1 : IVec S512 32))))
      (broadcastInDim S512x512 ![] bcast_S_S512x512 (constant S_ .f32 0x3C800000#32)) (broadcastInDim S512x512 ![] bcast_S_S512x512 (constant S_ .f32 0x00000000#32)) : FVec F S512x512 .f32) bitsLt_bf16_f32 := by
  unfold V V0
  unfold_abbrev_sides
  after_reads_simp
  all_goals try simp -implicitDefEqProofs only [StableHlo.TRef.toBuf, StableHlo.TRef.ofBuf, cast_cast, cast_eq]
  all_goals try clean_types
  all_goals try rfl

/-- The angle of each position and plane. -/
def angles : FVec F S2048x8 .f32 :=
  mulf (broadcastInDim S2048x8 ![0, 1] bcast_S2048x1_S2048x8_0_1 (broadcastInDim S2048x1 ![0] bcast_S2048_S2048x1_0 (sitofp .f32 (iotaInDim S2048 32 0) : FVec F S2048 .f32)))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (Host.divf (Host.negf (sitofp .f32 (iotaInDim S8 32 0) : FVec F S8 .f32)) (broadcastInDim S8 ![] bcast_S_S8 (constant S_ .f32 0x41000000#32))))))

/-- The cosines of the angles. -/
theorem V_v22 : (V m c main_v22 : Vec F S2048x8 .f32) = Host.cos (angles (F := F)) := by
  unfold V V0
  unfold_abbrev_sides
  after_reads_simp
  all_goals try simp -implicitDefEqProofs only [StableHlo.TRef.toBuf, StableHlo.TRef.ofBuf, cast_cast, cast_eq]
  all_goals try clean_types
  all_goals try rfl

/-- The sines of the angles. -/
theorem V_v23 : (V m c main_v23 : Vec F S2048x8 .f32) = Host.sin (angles (F := F)) := by
  unfold V V0
  unfold_abbrev_sides
  after_reads_simp
  all_goals try simp -implicitDefEqProofs only [StableHlo.TRef.toBuf, StableHlo.TRef.ofBuf, cast_cast, cast_eq]
  all_goals try clean_types
  all_goals try rfl

/-- The table of cosines: twice the cosines, then ones. -/
theorem V_v27 : (V m c main_v27 : Vec F S2048x64 .f32) = concatenate S2048x64 1 [⟨S2048x8, (V m c main_v22 : FVec F S2048x8 .f32)⟩, ⟨S2048x8, (V m c main_v22 : FVec F S2048x8 .f32)⟩, ⟨S2048x48, (broadcastInDim S2048x48 ![] bcast_S_S2048x48 (constant S_ .f32 0x3F800000#32) : FVec F S2048x48 .f32)⟩] concatenates_S2048x8_S2048x8_S2048x48_S2048x64_d1 := by
  unfold V V0
  unfold_abbrev_sides
  after_reads_simp
  all_goals try simp -implicitDefEqProofs only [StableHlo.TRef.toBuf, StableHlo.TRef.ofBuf, cast_cast, cast_eq]
  all_goals try clean_types
  all_goals try rfl

/-- The table of negated sines, then zeros. -/
theorem V_v29 : (V m c main_v29 : Vec F S2048x64 .f32) = concatenate S2048x64 1 [⟨S2048x8, (Host.negf (V m c main_v23 : FVec F S2048x8 .f32) : FVec F S2048x8 .f32)⟩, ⟨S2048x8, (broadcastInDim S2048x8 ![] bcast_S_S2048x8 (constant S_ .f32 0x00000000#32) : FVec F S2048x8 .f32)⟩, ⟨S2048x48, (broadcastInDim S2048x48 ![] bcast_S_S2048x48 (constant S_ .f32 0x00000000#32) : FVec F S2048x48 .f32)⟩] concatenates_S2048x8_S2048x8_S2048x48_S2048x64_d1 := by
  unfold V V0
  unfold_abbrev_sides
  after_reads_simp
  all_goals try simp -implicitDefEqProofs only [StableHlo.TRef.toBuf, StableHlo.TRef.ofBuf, cast_cast, cast_eq]
  all_goals try clean_types
  all_goals try rfl

/-- Zeros, the table of sines, then zeros. -/
theorem V_v30 : (V m c main_v30 : Vec F S2048x64 .f32) = concatenate S2048x64 1 [⟨S2048x8, (broadcastInDim S2048x8 ![] bcast_S_S2048x8 (constant S_ .f32 0x00000000#32) : FVec F S2048x8 .f32)⟩, ⟨S2048x8, (V m c main_v23 : FVec F S2048x8 .f32)⟩, ⟨S2048x48, (broadcastInDim S2048x48 ![] bcast_S_S2048x48 (constant S_ .f32 0x00000000#32) : FVec F S2048x48 .f32)⟩] concatenates_S2048x8_S2048x8_S2048x48_S2048x64_d1 := by
  unfold V V0
  unfold_abbrev_sides
  after_reads_simp
  all_goals try simp -implicitDefEqProofs only [StableHlo.TRef.toBuf, StableHlo.TRef.ofBuf, cast_cast, cast_eq]
  all_goals try clean_types
  all_goals try rfl

/-- The cosines for two heads. -/
theorem V_v41 : (V m c main_v41 : Vec F S1x2048x128 .f32) = broadcastInDim S1x2048x128 ![1, 2] bcast_S2048x128_S1x2048x128_1_2 (concatenate S2048x128 1 [⟨S2048x64, (V m c main_v27 : FVec F S2048x64 .f32)⟩, ⟨S2048x64, (V m c main_v27 : FVec F S2048x64 .f32)⟩] concatenates_S2048x64_S2048x64_S2048x128_d1 : FVec F S2048x128 .f32) := by
  unfold V V0
  unfold_abbrev_sides
  after_reads_simp
  all_goals try simp -implicitDefEqProofs only [StableHlo.TRef.toBuf, StableHlo.TRef.ofBuf, cast_cast, cast_eq]
  all_goals try rfl

/-- The negated sines for two heads. -/
theorem V_v42 : (V m c main_v42 : Vec F S1x2048x128 .f32) = broadcastInDim S1x2048x128 ![1, 2] bcast_S2048x128_S1x2048x128_1_2 (concatenate S2048x128 1 [⟨S2048x64, (V m c main_v29 : FVec F S2048x64 .f32)⟩, ⟨S2048x64, (V m c main_v29 : FVec F S2048x64 .f32)⟩] concatenates_S2048x64_S2048x64_S2048x128_d1 : FVec F S2048x128 .f32) := by
  unfold V V0
  unfold_abbrev_sides
  after_reads_simp
  all_goals try simp -implicitDefEqProofs only [StableHlo.TRef.toBuf, StableHlo.TRef.ofBuf, cast_cast, cast_eq]
  all_goals try rfl

/-- The sines for two heads. -/
theorem V_v43 : (V m c main_v43 : Vec F S1x2048x128 .f32) = broadcastInDim S1x2048x128 ![1, 2] bcast_S2048x128_S1x2048x128_1_2 (concatenate S2048x128 1 [⟨S2048x64, (V m c main_v30 : FVec F S2048x64 .f32)⟩, ⟨S2048x64, (V m c main_v30 : FVec F S2048x64 .f32)⟩] concatenates_S2048x64_S2048x64_S2048x128_d1 : FVec F S2048x128 .f32) := by
  unfold V V0
  unfold_abbrev_sides
  after_reads_simp
  all_goals try simp -implicitDefEqProofs only [StableHlo.TRef.toBuf, StableHlo.TRef.ofBuf, cast_cast, cast_eq]
  all_goals try rfl

/-- The cosines for one head, then the scale of the weights. -/
theorem V_v44 : (V m c main_v44 : Vec F S1x2048x128 .f32) = broadcastInDim S1x2048x128 ![1, 2] bcast_S2048x128_S1x2048x128_1_2 (concatenate S2048x128 1 [⟨S2048x64, (V m c main_v27 : FVec F S2048x64 .f32)⟩, ⟨S2048x64, (concatenate S2048x64 1 [⟨S2048x8, (broadcastInDim S2048x8 ![] bcast_S_S2048x8 (constant S_ .f32 0x3EB504F3#32) : FVec F S2048x8 .f32)⟩, ⟨S2048x56, (broadcastInDim S2048x56 ![] bcast_S_S2048x56 (constant S_ .f32 0x3F800000#32) : FVec F S2048x56 .f32)⟩] concatenates_S2048x8_S2048x56_S2048x64_d1 : FVec F S2048x64 .f32)⟩] concatenates_S2048x64_S2048x64_S2048x128_d1 : FVec F S2048x128 .f32) := by
  unfold V V0
  unfold_abbrev_sides
  after_reads_simp
  all_goals try simp -implicitDefEqProofs only [StableHlo.TRef.toBuf, StableHlo.TRef.ofBuf, cast_cast, cast_eq]
  all_goals try rfl

/-- The negated sines for one head, then zeros. -/
theorem V_v45 : (V m c main_v45 : Vec F S1x2048x128 .f32) = broadcastInDim S1x2048x128 ![1, 2] bcast_S2048x128_S1x2048x128_1_2 (concatenate S2048x128 1 [⟨S2048x64, (V m c main_v29 : FVec F S2048x64 .f32)⟩, ⟨S2048x64, (broadcastInDim S2048x64 ![] bcast_S_S2048x64 (constant S_ .f32 0x00000000#32) : FVec F S2048x64 .f32)⟩] concatenates_S2048x64_S2048x64_S2048x128_d1 : FVec F S2048x128 .f32) := by
  unfold V V0
  unfold_abbrev_sides
  after_reads_simp
  all_goals try simp -implicitDefEqProofs only [StableHlo.TRef.toBuf, StableHlo.TRef.ofBuf, cast_cast, cast_eq]
  all_goals try rfl

/-- The sines for one head, then zeros. -/
theorem V_v46 : (V m c main_v46 : Vec F S1x2048x128 .f32) = broadcastInDim S1x2048x128 ![1, 2] bcast_S2048x128_S1x2048x128_1_2 (concatenate S2048x128 1 [⟨S2048x64, (V m c main_v30 : FVec F S2048x64 .f32)⟩, ⟨S2048x64, (broadcastInDim S2048x64 ![] bcast_S_S2048x64 (constant S_ .f32 0x00000000#32) : FVec F S2048x64 .f32)⟩] concatenates_S2048x64_S2048x64_S2048x128_d1 : FVec F S2048x128 .f32) := by
  unfold V V0
  unfold_abbrev_sides
  after_reads_simp
  all_goals try simp -implicitDefEqProofs only [StableHlo.TRef.toBuf, StableHlo.TRef.ofBuf, cast_cast, cast_eq]
  all_goals try rfl

/-- The six tables one after another. -/
theorem V_v47 : (V m c main_v47 : Vec F S6x2048x128 .f32) = concatenate S6x2048x128 0 [⟨S1x2048x128, (V m c main_v41 : FVec F S1x2048x128 .f32)⟩, ⟨S1x2048x128, (V m c main_v42 : FVec F S1x2048x128 .f32)⟩, ⟨S1x2048x128, (V m c main_v43 : FVec F S1x2048x128 .f32)⟩, ⟨S1x2048x128, (V m c main_v44 : FVec F S1x2048x128 .f32)⟩, ⟨S1x2048x128, (V m c main_v45 : FVec F S1x2048x128 .f32)⟩, ⟨S1x2048x128, (V m c main_v46 : FVec F S1x2048x128 .f32)⟩] concatenates_S1x2048x128_S1x2048x128_S1x2048x128_S1x2048x128_S1x2048x128_S1x2048x128_S6x2048x128_d0 := by
  unfold V V0
  unfold_abbrev_sides
  after_reads_simp
  all_goals try simp -implicitDefEqProofs only [StableHlo.TRef.toBuf, StableHlo.TRef.ofBuf, cast_cast, cast_eq]
  all_goals try rfl

end Cert.Kernel2Ideal

end
-- ==== Proof.InArr.lean ====
/-
  The arrays the host prepares for the input projection, at one element, over the extended reals.
-/
module

public import proofs.«01_k».proof.Proof.InHost

@[expose] public section

set_option maxRecDepth 16384

noncomputable section

namespace Cert.Kernel2Ideal

open Idealize.ShloMosaic Idealize.ShloMosaic.TcCoe
open Cert.Kernel2Ideal.Gen Cert.Proof

variable (m : (ℓ : Loc nD τ sig) → Buf (Elt Ideal) ℓ) (c : Dev nD)

/-- The batch's rows one after another. -/
theorem in_rows_at (x : FVec Ideal S8x2048x1024 .f32) (b : Fin 8) (t : Fin 2048) (k : Fin 1024) :
    shapeCast S16384x1024 x shapeCasts_S8x2048x1024_S16384x1024 (ix2 ⟨2048 * b.val + t.val, by omega⟩ k) = x (ix3 b t k) := by
  refine shapeCast_apply _ _ _ _ ?_
  rw [Shape.rowMajor_val_three, Shape.rowMajor_val_two]
  show (b.val * 2048 + t.val) * 1024 + k.val = (2048 * b.val + t.val) * 1024 + k.val
  omega

/-- The reshaped rows at one element. -/
theorem v50_at (b : Fin 8) (t : Fin 2048) (k : Fin 1024) : (V m c main_v50 : Vec Ideal S16384x1024 .f32) (ix2 ⟨2048 * b.val + t.val, by omega⟩ k)
    = (m ((c : Thread nD τ).loc main_arg0) : Vec Ideal S8x2048x1024 .f32) (ix3 b t k) := by
  rw [V_v50]
  exact in_rows_at _ b t k

/-- The modulation rows at one element. -/
theorem v51_at (b : Fin 8) (n : Fin 6144) : (V m c main_v51 : Vec Ideal S8x1x6144 .f32) (ix3 b 0 n)
    = (m ((c : Thread nD τ).loc main_arg1) : Vec Ideal S8x6144 .f32) (ix2 b n) := by
  rw [V_v51]
  pointwise

/-- The gain of the rows at one element. -/
theorem v52_at (n : Fin 1024) : (V m c main_v52 : Vec Ideal S1x1024 .f32) (ix2 0 n)
    = (m ((c : Thread nD τ).loc main_arg2) : Vec Ideal S1024 .f32) (ix1 n) := by
  rw [V_v52]
  pointwise

/-- The queries' gain, once per head. -/
theorem v56_at (h : Fin 8) (l : Fin 64) : (V m c main_v56 : Vec Ideal S1x512 .f32) (ix2 0 ⟨64 * h.val + l.val, by omega⟩)
    = (m ((c : Thread nD τ).loc main_arg4) : Vec Ideal S64 .f32) (ix1 l) := by
  rw [V_v56]
  show shapeCast S512 _ _ (ix1 ⟨64 * h.val + l.val, by omega⟩) = _
  refine (shapeCast_apply _ _ _ (ix2 h l) ?_).trans ?_
  · rw [Shape.rowMajor_val_one, Shape.rowMajor_val_two]
    show h.val * 64 + l.val = 64 * h.val + l.val
    omega
  · pointwise

/-- The keys' gain, once per head. -/
theorem v60_at (h : Fin 2) (l : Fin 64) : (V m c main_v60 : Vec Ideal S1x128 .f32) (ix2 0 ⟨64 * h.val + l.val, by omega⟩)
    = (m ((c : Thread nD τ).loc main_arg5) : Vec Ideal S64 .f32) (ix1 l) := by
  rw [V_v60]
  show shapeCast S128 _ _ (ix1 ⟨64 * h.val + l.val, by omega⟩) = _
  refine (shapeCast_apply _ _ _ (ix2 h l) ?_).trans ?_
  · rw [Shape.rowMajor_val_one, Shape.rowMajor_val_two]
    show h.val * 64 + l.val = 64 * h.val + l.val
    omega
  · pointwise

/-- Padding keeps what was there. -/
theorem padded_at (w : FVec Ideal S1024x1864 .f32) (v : FVec Ideal S_ .f32) (k : Fin 1024) (n : Fin 1864) :
    pad S1024x1920 ![0, 0] ![0, 56] ![0, 0] w v pads_S1024x1864_S1024x1920_000_0560 h_S_ (ix2 k ⟨n.val, by omega⟩) = w (ix2 k n) := by
  refine pad_apply_of_inside ![0, 0] ![0, 56] ![0, 0] w v _ _ _ (ix2 k n) fun a => ?_
  match a with
  | ⟨0, _⟩ => show k.val = 0 + k.val * (0 + 1); omega
  | ⟨1, _⟩ => show n.val = 0 + n.val * (0 + 1); omega

/-- The padded weights, inside. -/
theorem v49_at (k : Fin 1024) (n : Fin 1864) : (V m c main_v49 : Vec Ideal S1024x1920 .bf16) (ix2 k ⟨n.val, by omega⟩)
    = (m ((c : Thread nD τ).loc main_arg3) : Vec Ideal S1024x1864 .f32) (ix2 k n) := by
  rw [V_v49]
  exact padded_at _ _ k n

/-- The integers the averaging matrix compares. -/
theorem quotient64 : ∀ n : Fin 512, Scalar.select
      (IntOp.andi
        (IntOp.cmpi CmpIPredicate.ne
          (if BitVec.ofNat 32 n.val = 0 then (0 : BitVec 32) else if (BitVec.ofNat 32 n.val).msb = true then -1 else 1)
          (if 64#32 = 0 then (0 : BitVec 32) else if (64#32).msb = true then -1 else 1))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32) = BitVec.ofNat 32 (n.val / 64) := by decide +kernel

/-- The head of a lane. -/
theorem v1_at (n : Fin 512) : (V m c main_v1 : IVec S512 32) (ix1 n) = BitVec.ofNat 32 (n.val / 64) := by
  rw [V_v1]
  pointwise
  exact quotient64 n

/-- The averaging matrix: one sixty-fourth within a head, zero between heads. -/
theorem v8_at (k n : Fin 512) : (V m c main_v8 : Vec Ideal S512x512 .bf16) (ix2 k n)
    = if k.val / 64 = n.val / 64 then Ideal.ofBits FTy.f32 0x3C800000#32 else 0 := by
  rw [V_v8]
  pointwise
  rw [v1_at, v1_at]
  unfold IntOp.cmpi
  by_cases h : k.val / 64 = n.val / 64
  · rw [if_pos h, h]
    simp [Scalar.select]
  · rw [if_neg h]
    have h' : BitVec.ofNat 32 (k.val / 64) ≠ BitVec.ofNat 32 (n.val / 64) := by
      intro e
      have := congrArg BitVec.toNat e
      rw [BitVec.toNat_ofNat, BitVec.toNat_ofNat] at this
      omega
    have hb : (BitVec.ofNat 32 (k.val / 64) == BitVec.ofNat 32 (n.val / 64)) = false := beq_eq_false_iff_ne.2 h'
    simp only [Scalar.select, hb]
    rfl

/-- The cosines of a position's angles. -/
def cosAt (t : Fin 2048) (j : Fin 8) : EReal := Ideal.cos (angles (F := Ideal) (ix2 t j))

/-- The sines of a position's angles. -/
def sinAt (t : Fin 2048) (j : Fin 8) : EReal := Ideal.sin (angles (F := Ideal) (ix2 t j))

/-- The first table: cosines on the first sixteen lanes, then ones. -/
theorem v27_at (t : Fin 2048) (l : Fin 64) : (V m c main_v27 : Vec Ideal S2048x64 .f32) (ix2 t l) = tab0 (cosAt t) l := by
  rw [V_v27, V_v22]
  unfold tab0 cosAt
  pointwise
  by_cases h : l.val < 8
  · simp only [dif_pos h]
  · simp only [dif_neg h]
    by_cases h' : l.val < 16
    · simp only [dif_pos h', dif_pos (show l.val - 8 < 8 by omega)]
    · simp only [dif_neg h', dif_neg (show ¬ l.val - 8 < 8 by omega)]

/-- The second table: sines with the sign turned on the first eight lanes. -/
theorem v29_at (t : Fin 2048) (l : Fin 64) : (V m c main_v29 : Vec Ideal S2048x64 .f32) (ix2 t l) = tab1 (sinAt t) l := by
  rw [V_v29, V_v23]
  unfold tab1 sinAt
  pointwise
  by_cases h : l.val < 8
  · simp only [dif_pos h]
  · simp only [dif_neg h, dite_eq_ite, ite_self]

/-- The third table: sines on the next eight lanes. -/
theorem v30_at (t : Fin 2048) (l : Fin 64) : (V m c main_v30 : Vec Ideal S2048x64 .f32) (ix2 t l) = tab2 (sinAt t) l := by
  rw [V_v30, V_v23]
  unfold tab2 sinAt
  pointwise
  by_cases h : l.val < 8
  · simp only [dif_pos h]
  · simp only [dif_neg h]
    by_cases h' : l.val < 16
    · simp only [dif_pos h', dif_pos (show l.val - 8 < 8 by omega)]
    · simp only [dif_neg h', dif_neg (show ¬ l.val - 8 < 8 by omega)]

/-- The six tables, one after another. -/
def table (r : Fin 6) (t : Fin 2048) (n : Fin 128) : EReal := (V m c main_v47 : Vec Ideal S6x2048x128 .f32) (ix3 r t n)

/-- The first of the six tables: the cosines, for two heads side by side. -/
theorem table0_at (t : Fin 2048) (n : Fin 128) : table m c 0 t n = tab0 (cosAt t) ⟨n.val % 64, by omega⟩ := by
  have e : table m c 0 t n = (V m c main_v41 : Vec Ideal S1x2048x128 .f32) (ix3 0 t n) := by
    unfold table
    rw [V_v47]
    pointwise
  rw [e, V_v41]
  pointwise
  by_cases h : n.val < 64
  · rw [dif_pos h, v27_at]
    exact congrArg (tab0 (cosAt t)) (Fin.ext (by show n.val = n.val % 64; omega))
  · rw [dif_neg h, v27_at]
    exact congrArg (tab0 (cosAt t)) (Fin.ext (by show n.val - 64 = n.val % 64; omega))

/-- The second: the negated sines on the first eight lanes of each head. -/
theorem table1_at (t : Fin 2048) (n : Fin 128) : table m c 1 t n = tab1 (sinAt t) ⟨n.val % 64, by omega⟩ := by
  have e : table m c 1 t n = (V m c main_v42 : Vec Ideal S1x2048x128 .f32) (ix3 0 t n) := by
    unfold table
    rw [V_v47]
    pointwise
  rw [e, V_v42]
  pointwise
  by_cases h : n.val < 64
  · rw [dif_pos h, v29_at]
    exact congrArg (tab1 (sinAt t)) (Fin.ext (by show n.val = n.val % 64; omega))
  · rw [dif_neg h, v29_at]
    exact congrArg (tab1 (sinAt t)) (Fin.ext (by show n.val - 64 = n.val % 64; omega))

/-- The third: the sines on the next eight lanes of each head. -/
theorem table2_at (t : Fin 2048) (n : Fin 128) : table m c 2 t n = tab2 (sinAt t) ⟨n.val % 64, by omega⟩ := by
  have e : table m c 2 t n = (V m c main_v43 : Vec Ideal S1x2048x128 .f32) (ix3 0 t n) := by
    unfold table
    rw [V_v47]
    pointwise
  rw [e, V_v43]
  pointwise
  by_cases h : n.val < 64
  · rw [dif_pos h, v30_at]
    exact congrArg (tab2 (sinAt t)) (Fin.ext (by show n.val = n.val % 64; omega))
  · rw [dif_neg h, v30_at]
    exact congrArg (tab2 (sinAt t)) (Fin.ext (by show n.val - 64 = n.val % 64; omega))

/-- The fourth holds the cosines of one head, for the indexer's key. -/
theorem table3_at (t : Fin 2048) (l : Fin 64) : table m c 3 t ⟨l.val, by omega⟩ = tab0 (cosAt t) l := by
  have e : table m c 3 t ⟨l.val, by omega⟩ = (V m c main_v44 : Vec Ideal S1x2048x128 .f32) (ix3 0 t ⟨l.val, by omega⟩) := by
    unfold table
    rw [V_v47]
    pointwise
  rw [e, V_v44]
  pointwise
  exact v27_at m c t l

/-- After them the fourth holds the scale of the indexer's weights. -/
theorem table3_tail (t : Fin 2048) (j : Fin 8) : table m c 3 t ⟨64 + j.val, by omega⟩ = Ideal.ofBits FTy.f32 0x3EB504F3#32 := by
  have e : table m c 3 t ⟨64 + j.val, by omega⟩ = (V m c main_v44 : Vec Ideal S1x2048x128 .f32) (ix3 0 t ⟨64 + j.val, by omega⟩) := by
    unfold table
    rw [V_v47]
    pointwise
  rw [e, V_v44]
  pointwise

/-- The fifth holds the negated sines of one head. -/
theorem table4_at (t : Fin 2048) (l : Fin 64) : table m c 4 t ⟨l.val, by omega⟩ = tab1 (sinAt t) l := by
  have e : table m c 4 t ⟨l.val, by omega⟩ = (V m c main_v45 : Vec Ideal S1x2048x128 .f32) (ix3 0 t ⟨l.val, by omega⟩) := by
    unfold table
    rw [V_v47]
    pointwise
  rw [e, V_v45]
  pointwise
  exact v29_at m c t l

/-- After them the fifth is zero. -/
theorem table4_tail (t : Fin 2048) (j : Fin 8) : table m c 4 t ⟨64 + j.val, by omega⟩ = 0 := by
  have e : table m c 4 t ⟨64 + j.val, by omega⟩ = (V m c main_v45 : Vec Ideal S1x2048x128 .f32) (ix3 0 t ⟨64 + j.val, by omega⟩) := by
    unfold table
    rw [V_v47]
    pointwise
  rw [e, V_v45]
  pointwise

/-- The sixth holds the sines of one head. -/
theorem table5_at (t : Fin 2048) (l : Fin 64) : table m c 5 t ⟨l.val, by omega⟩ = tab2 (sinAt t) l := by
  have e : table m c 5 t ⟨l.val, by omega⟩ = (V m c main_v46 : Vec Ideal S1x2048x128 .f32) (ix3 0 t ⟨l.val, by omega⟩) := by
    unfold table
    rw [V_v47]
    pointwise
  rw [e, V_v46]
  pointwise
  exact v30_at m c t l

/-- After them the sixth is zero. -/
theorem table5_tail (t : Fin 2048) (j : Fin 8) : table m c 5 t ⟨64 + j.val, by omega⟩ = 0 := by
  have e : table m c 5 t ⟨64 + j.val, by omega⟩ = (V m c main_v46 : Vec Ideal S1x2048x128 .f32) (ix3 0 t ⟨64 + j.val, by omega⟩) := by
    unfold table
    rw [V_v47]
    pointwise
  rw [e, V_v46]
  pointwise

/-- The projection of row `s` of sequence `b` onto column `n`: the normalised row times the column of the weights. -/
def prj (x : Vec Ideal S8x2048x1024 .f32) (mod : Vec Ideal S8x6144 .f32) (g : Vec Ideal S1024 .f32) (w : Vec Ideal S1024x1864 .f32)
    (b : Fin 8) (s : Fin 2048) (n : Fin 1864) : EReal :=
  ∑ k, inNormed (fun k => x (ix3 b s k)) (fun k => g (ix1 k)) (fun k => mod (ix2 b ⟨1024 + k.val, by omega⟩)) (fun k => mod (ix2 b ⟨k.val, by omega⟩)) k
    * w (ix2 k n)

/-- The scale of the queries. -/
abbrev eighth : EReal := Ideal.ofBits FTy.f32 0x3E000000#32

/-- A query head: normalised, turned and scaled. -/
def specQ (P : Fin 1864 → EReal) (s : Fin 2048) (g : Vec Ideal S64 .f32) (h : Fin 8) (l : Fin 64) : EReal :=
  turn (cosAt s) (sinAt s) (headNorm (fun l => P ⟨512 + 64 * h.val + l.val, by omega⟩) (fun l => g (ix1 l))) l * eighth

/-- A key head: normalised and turned. -/
def specK (P : Fin 1864 → EReal) (s : Fin 2048) (g : Vec Ideal S64 .f32) (h : Fin 2) (l : Fin 64) : EReal :=
  turn (cosAt s) (sinAt s) (headNorm (fun l => P ⟨1024 + 64 * h.val + l.val, by omega⟩) (fun l => g (ix1 l))) l

/-- A query head of the indexer: turned and scaled. -/
def specQi (P : Fin 1864 → EReal) (s : Fin 2048) (h : Fin 8) (l : Fin 64) : EReal :=
  turn (cosAt s) (sinAt s) (fun l => P ⟨1280 + 64 * h.val + l.val, by omega⟩) l * eighth

/-- The indexer's key: turned. -/
def specKi (P : Fin 1864 → EReal) (s : Fin 2048) (l : Fin 64) : EReal :=
  turn (cosAt s) (sinAt s) (fun l => P ⟨1792 + l.val, by omega⟩) l

/-- The indexer's weight of a head. -/
def specWi (P : Fin 1864 → EReal) (j : Fin 8) : EReal := P ⟨1856 + j.val, by omega⟩ * Ideal.ofBits FTy.f32 0x3EB504F3#32

end Cert.Kernel2Ideal

end
-- ==== Proof.InBlk.lean ====
/-
  The blocks of the input projection's windows at one element, and what a grid point leaves of them.
-/
module

public import proofs.«01_k».proof.Proof.InArr
public import Idealize.ShloMosaic.Lib.Pipeline.ArrRel
public import Idealize.ShloMosaic.Lib.Pipeline.ValueKit

@[expose] public section

set_option maxRecDepth 16384

noncomputable section

namespace Cert.Kernel2Ideal

open Idealize.ShloMosaic Idealize.ShloMosaic.TcCoe
open Cert.Kernel2Ideal.Gen Cert.Proof

variable (m : (ℓ : Loc nD τ sig) → Buf (Elt Ideal) ℓ) (c : Dev nD)

/-- The rows: one tile of 512 per point. -/
theorem map0 : ∀ t : Fin grid0.N, cc0_transform_0 (grid0.coords t) = ![t.val, 0] := by decide +kernel
/-- The scale of the sequence of the tile. -/
theorem map1 : ∀ t : Fin grid0.N, cc0_transform_1 (grid0.coords t) = ![t.val / 4, 0, 1] := by decide +kernel
/-- The shift of the sequence of the tile. -/
theorem map2 : ∀ t : Fin grid0.N, cc0_transform_2 (grid0.coords t) = ![t.val / 4, 0, 0] := by decide +kernel
/-- The gain, whole. -/
theorem map3 : ∀ t : Fin grid0.N, cc0_transform_3 (grid0.coords t) = ![0, 0] := by decide +kernel
/-- The weights, whole. -/
theorem map4 : ∀ t : Fin grid0.N, cc0_transform_4 (grid0.coords t) = ![0, 0] := by decide +kernel
/-- The queries' gain, whole. -/
theorem map5 : ∀ t : Fin grid0.N, cc0_transform_5 (grid0.coords t) = ![0, 0] := by decide +kernel
/-- The keys' gain, whole. -/
theorem map6 : ∀ t : Fin grid0.N, cc0_transform_6 (grid0.coords t) = ![0, 0] := by decide +kernel
/-- The averaging matrix, whole. -/
theorem map7 : ∀ t : Fin grid0.N, cc0_transform_7 (grid0.coords t) = ![0, 0] := by decide +kernel
/-- The six tables at the positions of the tile. -/
theorem map8 : ∀ t : Fin grid0.N, cc0_transform_8 (grid0.coords t) = ![0, t.val % 4, 0] := by decide +kernel

/-- There are 32 points. -/
theorem lt32 (t : Fin cfg0.N) : t.val < 32 := t.isLt

/-- The sequence of a point's tile. -/
abbrev seqOf (t : Fin cfg0.N) : Fin 8 := ⟨t.val / 4, by have := lt32 t; omega⟩

/-- The position of row `p` of a point's tile in its sequence. -/
abbrev posOf (t : Fin cfg0.N) (p : Fin 512) : Fin 2048 := ⟨512 * (t.val % 4) + p.val, by omega⟩

/-- The rows at a point. -/
abbrev bX (t : Fin cfg0.N) : Vec Ideal S512x1024 .f32 := iblk m c 0 t
/-- The scale at a point. -/
abbrev bSc (t : Fin cfg0.N) : Vec Ideal S1x1x1024 .f32 := iblk m c 1 t
/-- The shift at a point. -/
abbrev bSh (t : Fin cfg0.N) : Vec Ideal S1x1x1024 .f32 := iblk m c 2 t
/-- The gain at a point. -/
abbrev bG (t : Fin cfg0.N) : Vec Ideal S1x1024 .f32 := iblk m c 3 t
/-- The weights at a point. -/
abbrev bW (t : Fin cfg0.N) : Vec Ideal S1024x1920 .bf16 := iblk m c 4 t
/-- The queries' gain at a point. -/
abbrev bQg (t : Fin cfg0.N) : Vec Ideal S1x512 .f32 := iblk m c 5 t
/-- The keys' gain at a point. -/
abbrev bKg (t : Fin cfg0.N) : Vec Ideal S1x128 .f32 := iblk m c 6 t
/-- The averaging matrix at a point. -/
abbrev bM (t : Fin cfg0.N) : Vec Ideal S512x512 .bf16 := iblk m c 7 t
/-- The tables at a point. -/
abbrev bT (t : Fin cfg0.N) : Vec Ideal S6x512x128 .f32 := iblk m c 8 t

/-- The tile of rows at a point. -/
theorem bX_at (t : Fin cfg0.N) (p : Fin 512) (k : Fin 1024) : bX m c t (ix2 p k) = (V m c main_v50 : Vec Ideal S16384x1024 .f32) (ix2 ⟨2048 * (seqOf t).val + (posOf t p).val, by omega⟩ k) := by
  show (V m c main_v50 : Vec Ideal S16384x1024 .f32) _ = _
  refine congrArg (V m c main_v50 : Vec Ideal S16384x1024 .f32) ?_
  funext a; apply Fin.ext
  match a with
  | ⟨0, _⟩ =>
    show cc0_transform_0 (grid0.coords t) 0 * 512 + 1 * p.val = 2048 * (t.val / 4) + (512 * (t.val % 4) + p.val)
    rw [map0 t]; show t.val * 512 + 1 * p.val = _; omega
  | ⟨1, _⟩ =>
    show cc0_transform_0 (grid0.coords t) 1 * 1024 + 1 * k.val = k.val
    rw [map0 t]; show 0 * 1024 + 1 * k.val = _; omega

/-- The scale at a point. -/
theorem bSc_at (t : Fin cfg0.N) (k : Fin 1024) : bSc m c t (ix3 0 0 k) = (V m c main_v51 : Vec Ideal S8x1x6144 .f32) (ix3 (seqOf t) 0 ⟨1024 + k.val, by omega⟩) := by
  show (V m c main_v51 : Vec Ideal S8x1x6144 .f32) _ = _
  refine congrArg (V m c main_v51 : Vec Ideal S8x1x6144 .f32) ?_
  funext a; apply Fin.ext
  match a with
  | ⟨0, _⟩ =>
    show cc0_transform_1 (grid0.coords t) 0 * 1 + 1 * 0 = t.val / 4
    rw [map1 t]; show t.val / 4 * 1 + 1 * 0 = _; omega
  | ⟨1, _⟩ =>
    show cc0_transform_1 (grid0.coords t) 1 * 1 + 1 * 0 = 0
    rw [map1 t]; show 0 * 1 + 1 * 0 = _; omega
  | ⟨2, _⟩ =>
    show cc0_transform_1 (grid0.coords t) 2 * 1024 + 1 * k.val = 1024 + k.val
    rw [map1 t]; show 1 * 1024 + 1 * k.val = _; omega

/-- The shift at a point. -/
theorem bSh_at (t : Fin cfg0.N) (k : Fin 1024) : bSh m c t (ix3 0 0 k) = (V m c main_v51 : Vec Ideal S8x1x6144 .f32) (ix3 (seqOf t) 0 ⟨k.val, by omega⟩) := by
  show (V m c main_v51 : Vec Ideal S8x1x6144 .f32) _ = _
  refine congrArg (V m c main_v51 : Vec Ideal S8x1x6144 .f32) ?_
  funext a; apply Fin.ext
  match a with
  | ⟨0, _⟩ =>
    show cc0_transform_2 (grid0.coords t) 0 * 1 + 1 * 0 = t.val / 4
    rw [map2 t]; show t.val / 4 * 1 + 1 * 0 = _; omega
  | ⟨1, _⟩ =>
    show cc0_transform_2 (grid0.coords t) 1 * 1 + 1 * 0 = 0
    rw [map2 t]; show 0 * 1 + 1 * 0 = _; omega
  | ⟨2, _⟩ =>
    show cc0_transform_2 (grid0.coords t) 2 * 1024 + 1 * k.val = k.val
    rw [map2 t]; show 0 * 1024 + 1 * k.val = _; omega

/-- The gain at a point. -/
theorem bG_at (t : Fin cfg0.N) (i : Fin 1) (k : Fin 1024) : bG m c t (ix2 i k) = (V m c main_v52 : Vec Ideal S1x1024 .f32) (ix2 i k) := by
  show (V m c main_v52 : Vec Ideal S1x1024 .f32) _ = _
  refine congrArg (V m c main_v52 : Vec Ideal S1x1024 .f32) ?_
  funext a; apply Fin.ext
  match a with
  | ⟨0, _⟩ =>
    show cc0_transform_3 (grid0.coords t) 0 * 1 + 1 * i.val = i.val
    rw [map3 t]; show 0 * 1 + 1 * i.val = _; omega
  | ⟨1, _⟩ =>
    show cc0_transform_3 (grid0.coords t) 1 * 1024 + 1 * k.val = k.val
    rw [map3 t]; show 0 * 1024 + 1 * k.val = _; omega

/-- The weights at a point. -/
theorem bW_at (t : Fin cfg0.N) (i : Fin 1024) (k : Fin 1920) : bW m c t (ix2 i k) = (V m c main_v49 : Vec Ideal S1024x1920 .bf16) (ix2 i k) := by
  show (V m c main_v49 : Vec Ideal S1024x1920 .bf16) _ = _
  refine congrArg (V m c main_v49 : Vec Ideal S1024x1920 .bf16) ?_
  funext a; apply Fin.ext
  match a with
  | ⟨0, _⟩ =>
    show cc0_transform_4 (grid0.coords t) 0 * 1024 + 1 * i.val = i.val
    rw [map4 t]; show 0 * 1024 + 1 * i.val = _; omega
  | ⟨1, _⟩ =>
    show cc0_transform_4 (grid0.coords t) 1 * 1920 + 1 * k.val = k.val
    rw [map4 t]; show 0 * 1920 + 1 * k.val = _; omega

/-- The queries' gain at a point. -/
theorem bQg_at (t : Fin cfg0.N) (i : Fin 1) (k : Fin 512) : bQg m c t (ix2 i k) = (V m c main_v56 : Vec Ideal S1x512 .f32) (ix2 i k) := by
  show (V m c main_v56 : Vec Ideal S1x512 .f32) _ = _
  refine congrArg (V m c main_v56 : Vec Ideal S1x512 .f32) ?_
  funext a; apply Fin.ext
  match a with
  | ⟨0, _⟩ =>
    show cc0_transform_5 (grid0.coords t) 0 * 1 + 1 * i.val = i.val
    rw [map5 t]; show 0 * 1 + 1 * i.val = _; omega
  | ⟨1, _⟩ =>
    show cc0_transform_5 (grid0.coords t) 1 * 512 + 1 * k.val = k.val
    rw [map5 t]; show 0 * 512 + 1 * k.val = _; omega

/-- The keys' gain at a point. -/
theorem bKg_at (t : Fin cfg0.N) (i : Fin 1) (k : Fin 128) : bKg m c t (ix2 i k) = (V m c main_v60 : Vec Ideal S1x128 .f32) (ix2 i k) := by
  show (V m c main_v60 : Vec Ideal S1x128 .f32) _ = _
  refine congrArg (V m c main_v60 : Vec Ideal S1x128 .f32) ?_
  funext a; apply Fin.ext
  match a with
  | ⟨0, _⟩ =>
    show cc0_transform_6 (grid0.coords t) 0 * 1 + 1 * i.val = i.val
    rw [map6 t]; show 0 * 1 + 1 * i.val = _; omega
  | ⟨1, _⟩ =>
    show cc0_transform_6 (grid0.coords t) 1 * 128 + 1 * k.val = k.val
    rw [map6 t]; show 0 * 128 + 1 * k.val = _; omega

/-- The averaging matrix at a point. -/
theorem bM_at (t : Fin cfg0.N) (i : Fin 512) (k : Fin 512) : bM m c t (ix2 i k) = (V m c main_v8 : Vec Ideal S512x512 .bf16) (ix2 i k) := by
  show (V m c main_v8 : Vec Ideal S512x512 .bf16) _ = _
  refine congrArg (V m c main_v8 : Vec Ideal S512x512 .bf16) ?_
  funext a; apply Fin.ext
  match a with
  | ⟨0, _⟩ =>
    show cc0_transform_7 (grid0.coords t) 0 * 512 + 1 * i.val = i.val
    rw [map7 t]; show 0 * 512 + 1 * i.val = _; omega
  | ⟨1, _⟩ =>
    show cc0_transform_7 (grid0.coords t) 1 * 512 + 1 * k.val = k.val
    rw [map7 t]; show 0 * 512 + 1 * k.val = _; omega

/-- The tables at a point. -/
theorem bT_at (t : Fin cfg0.N) (r : Fin 6) (p : Fin 512) (n : Fin 128) : bT m c t (ix3 r p n) = (V m c main_v47 : Vec Ideal S6x2048x128 .f32) (ix3 r (posOf t p) n) := by
  show (V m c main_v47 : Vec Ideal S6x2048x128 .f32) _ = _
  refine congrArg (V m c main_v47 : Vec Ideal S6x2048x128 .f32) ?_
  funext a; apply Fin.ext
  match a with
  | ⟨0, _⟩ =>
    show cc0_transform_8 (grid0.coords t) 0 * 6 + 1 * r.val = r.val
    rw [map8 t]; show 0 * 6 + 1 * r.val = _; omega
  | ⟨1, _⟩ =>
    show cc0_transform_8 (grid0.coords t) 1 * 512 + 1 * p.val = 512 * (t.val % 4) + p.val
    rw [map8 t]; show t.val % 4 * 512 + 1 * p.val = _; omega
  | ⟨2, _⟩ =>
    show cc0_transform_8 (grid0.coords t) 2 * 128 + 1 * n.val = n.val
    rw [map8 t]; show 0 * 128 + 1 * n.val = _; omega

/-- A load through a whole window reads its block. -/
theorem ldX (X : Vec Ideal S512x1024 .f32) : View.ld X r0_0 = X := View.ld_unit_lit' _ X (by decide)
/-- The gain is read whole. -/
theorem ldG (X : Vec Ideal S1x1024 .f32) : View.ld X r0_1 = X := View.ld_unit_lit' _ X (by decide)
/-- A modulation row is read whole. -/
theorem ldSc (X : Vec Ideal S1x1x1024 .f32) : View.ld X r0_2 = X := View.ld_unit_lit' _ X (by decide)
/-- The weights are read whole. -/
theorem ldW (X : Vec Ideal S1024x1920 .bf16) : View.ld X r0_3 = X := View.ld_unit_lit' _ X (by decide)
/-- The averaging matrix is read whole. -/
theorem ldM (X : Vec Ideal S512x512 .bf16) : View.ld X r0_7 = X := View.ld_unit_lit' _ X (by decide)
/-- The queries' gain is read whole. -/
theorem ldQg (X : Vec Ideal S1x512 .f32) : View.ld X r0_8 = X := View.ld_unit_lit' _ X (by decide)
/-- The keys' gain is read whole. -/
theorem ldKg (X : Vec Ideal S1x128 .f32) : View.ld X r0_9 = X := View.ld_unit_lit' _ X (by decide)

/-- A store through a whole window leaves what it stores. -/
theorem st512 {e : EltTy} (X : Vec Ideal S512x512 e) : View.canon [⟨r0_7, X⟩] = X := View.canon_cons_unit_lit' _ X _ (by decide)
/-- A tile of 128 lanes is stored whole. -/
theorem st128 {e : EltTy} (X : Vec Ideal S512x128 e) : View.canon [⟨r0_10, X⟩] = X := View.canon_cons_unit_lit' _ X _ (by decide)

/-- A point's projection. -/
abbrev bP (t : Fin cfg0.N) : FVec Ideal S512x1920 .f32 :=
  k0_pay22 (iblk m c 0 t) (iblk m c 1 t) (iblk m c 2 t) (iblk m c 3 t) (iblk m c 4 t) (iblk m c 5 t) (iblk m c 6 t) (iblk m c 7 t) (iblk m c 8 t)

/-- The projection of the call's arguments. -/
abbrev prjM (b : Fin 8) (s : Fin 2048) (n : Fin 1864) : EReal :=
  prj (m ((c : Thread nD τ).loc main_arg0)) (m ((c : Thread nD τ).loc main_arg1)) (m ((c : Thread nD τ).loc main_arg2)) (m ((c : Thread nD τ).loc main_arg3)) b s n

/-- A point's projection is the projection of its rows. -/
theorem bP_at (t : Fin cfg0.N) (p : Fin 512) (n : Fin 1864) : bP m c t (ix2 p ⟨n.val, by omega⟩) = prjM m c (seqOf t) (posOf t p) n := by
  have e : bP m c t = k0_pay4 (bX m c t) (bG m c t) (bSc m c t) (bSh m c t) (bW m c t) := by
    unfold bP k0_pay22
    rw [ldX, ldG, ldSc, ldSc, ldW]
  have hX : (fun k => bX m c t (ix2 p k)) = fun k => (m ((c : Thread nD τ).loc main_arg0) : Vec Ideal S8x2048x1024 .f32) (ix3 (seqOf t) (posOf t p) k) :=
    funext fun k => (bX_at m c t p k).trans (v50_at m c _ _ k)
  have hG : (fun k => bG m c t (ix2 0 k)) = fun k => (m ((c : Thread nD τ).loc main_arg2) : Vec Ideal S1024 .f32) (ix1 k) :=
    funext fun k => (bG_at m c t 0 k).trans (v52_at m c k)
  have hSc : (fun k => bSc m c t (ix3 0 0 k)) = fun k : Fin 1024 => (m ((c : Thread nD τ).loc main_arg1) : Vec Ideal S8x6144 .f32) (ix2 (seqOf t) ⟨1024 + k.val, by omega⟩) :=
    funext fun k => (bSc_at m c t k).trans (v51_at m c _ _)
  have hSh : (fun k => bSh m c t (ix3 0 0 k)) = fun k : Fin 1024 => (m ((c : Thread nD τ).loc main_arg1) : Vec Ideal S8x6144 .f32) (ix2 (seqOf t) ⟨k.val, by omega⟩) :=
    funext fun k => (bSh_at m c t k).trans (v51_at m c _ _)
  rw [e, pay4_at, hX, hG, hSc, hSh]
  exact Finset.sum_congr rfl fun k _ => congrArg _ ((bW_at m c t k _).trans (v49_at m c k n))

end Cert.Kernel2Ideal

end
-- ==== Proof.InOut.lean ====
/-
  What a grid point of the input projection leaves of its output windows, at one element.
-/
module

public import proofs.«01_k».proof.Proof.InBlk

@[expose] public section

set_option maxRecDepth 16384

noncomputable section

namespace Cert.Kernel2Ideal

open Idealize.ShloMosaic Idealize.ShloMosaic.TcCoe
open Cert.Kernel2Ideal.Gen Cert.Proof

variable (m : (ℓ : Loc nD τ sig) → Buf (Elt Ideal) ℓ) (c : Dev nD)

/-- One table of a block of six, as a matrix. -/
theorem pay5_at (T : Vec Ideal S1x512x128 .f32) (p : Fin 512) (n : Fin 128) : k0_pay5 T (ix2 p n) = T (ix3 0 p n) := by
  unfold k0_pay5
  pointwise

/-- The second of them. -/
theorem pay6_at (T : Vec Ideal S1x512x128 .f32) (p : Fin 512) (n : Fin 128) : k0_pay6 T (ix2 p n) = T (ix3 0 p n) := by
  unfold k0_pay6
  pointwise

/-- The third of them. -/
theorem pay7_at (T : Vec Ideal S1x512x128 .f32) (p : Fin 512) (n : Fin 128) : k0_pay7 T (ix2 p n) = T (ix3 0 p n) := by
  unfold k0_pay7
  pointwise

/-- The averaging matrix as it is. -/
theorem pay8_at (M : Vec Ideal S512x512 .bf16) (k n : Fin 512) : k0_pay8 M (ix2 k n) = M (ix2 k n) := by
  unfold k0_pay8
  pointwise

/-- The keys' columns of the projection. -/
theorem pay11_at (P : FVec Ideal S512x1920 .f32) (p : Fin 512) (n : Fin 128) : k0_pay11 P (ix2 p n) = P (ix2 p ⟨1024 + n.val, by omega⟩) := by
  unfold k0_pay11
  pointwise

/-- The averaging matrix's first 128 rows and columns. -/
theorem pay12_at (M : Vec Ideal S512x512 .bf16) (k n : Fin 128) : k0_pay12 M (ix2 k n) = M (ix2 ⟨k.val, by omega⟩ ⟨n.val, by omega⟩) := by
  unfold k0_pay12 k0_pay8
  pointwise

/-- The keys' gain as it is. -/
theorem pay13_at (g : Vec Ideal S1x128 .f32) (n : Fin 128) : k0_pay13 g (ix2 0 n) = g (ix2 0 n) := by
  unfold k0_pay13
  pointwise

/-- The columns of the indexer's queries. -/
theorem pay18_at (P : FVec Ideal S512x1920 .f32) (p : Fin 512) (n : Fin 512) : k0_pay18 P (ix2 p n) = P (ix2 p ⟨1280 + n.val, by omega⟩) := by
  unfold k0_pay18
  pointwise

/-- The queries' columns of the projection. -/
theorem cols512_at (P : FVec Ideal S512x1920 .f32) (p : Fin 512) (n : Fin 512) :
    extractStridedSlice S512x512 ![0, 512] P slices_S512x1920_o0_512_S512x512 (ix2 p n) = P (ix2 p ⟨512 + n.val, by omega⟩) := by
  pointwise

/-- The columns of the indexer's key and weights. -/
theorem cols1792_at (P : FVec Ideal S512x1920 .f32) (p : Fin 512) (n : Fin 128) :
    extractStridedSlice S512x128 ![0, 1792] P slices_S512x1920_o0_1792_S512x128 (ix2 p n) = P (ix2 p ⟨1792 + n.val, by omega⟩) := by
  pointwise

/-- The queries' gain as it is. -/
theorem same512_at (g : Vec Ideal S1x512 .f32) (n : Fin 512) : shapeCast S1x512 g shapeCasts_S1x512_S1x512 (ix2 0 n) = g (ix2 0 n) := by
  pointwise

/-- Table 0 as read at a point. -/
theorem row0_at (t : Fin cfg0.N) (p : Fin 512) (n : Fin 128) : View.ld (bT m c t) r0_4 (ix3 0 p n) = table m c 0 (posOf t p) n := by
  refine (View.ld_unit_apply_of (bT m c t) _ _ _ _ (ix3 0 p n : S6x512x128.Idx) fun a => ?_).trans (bT_at m c t 0 p n)
  match a with
  | ⟨0, _⟩ => rfl
  | ⟨1, _⟩ => show p.val = 0 + p.val; omega
  | ⟨2, _⟩ => show n.val = 0 + n.val; omega

/-- Table 1 as read at a point. -/
theorem row1_at (t : Fin cfg0.N) (p : Fin 512) (n : Fin 128) : View.ld (bT m c t) r0_5 (ix3 0 p n) = table m c 1 (posOf t p) n := by
  refine (View.ld_unit_apply_of (bT m c t) _ _ _ _ (ix3 1 p n : S6x512x128.Idx) fun a => ?_).trans (bT_at m c t 1 p n)
  match a with
  | ⟨0, _⟩ => rfl
  | ⟨1, _⟩ => show p.val = 0 + p.val; omega
  | ⟨2, _⟩ => show n.val = 0 + n.val; omega

/-- Table 2 as read at a point. -/
theorem row2_at (t : Fin cfg0.N) (p : Fin 512) (n : Fin 128) : View.ld (bT m c t) r0_6 (ix3 0 p n) = table m c 2 (posOf t p) n := by
  refine (View.ld_unit_apply_of (bT m c t) _ _ _ _ (ix3 2 p n : S6x512x128.Idx) fun a => ?_).trans (bT_at m c t 2 p n)
  match a with
  | ⟨0, _⟩ => rfl
  | ⟨1, _⟩ => show p.val = 0 + p.val; omega
  | ⟨2, _⟩ => show n.val = 0 + n.val; omega

/-- Table 3 as read at a point. -/
theorem row3_at (t : Fin cfg0.N) (p : Fin 512) (n : Fin 128) : View.ld (bT m c t) r0_12 (ix3 0 p n) = table m c 3 (posOf t p) n := by
  refine (View.ld_unit_apply_of (bT m c t) _ _ _ _ (ix3 3 p n : S6x512x128.Idx) fun a => ?_).trans (bT_at m c t 3 p n)
  match a with
  | ⟨0, _⟩ => rfl
  | ⟨1, _⟩ => show p.val = 0 + p.val; omega
  | ⟨2, _⟩ => show n.val = 0 + n.val; omega

/-- Table 4 as read at a point. -/
theorem row4_at (t : Fin cfg0.N) (p : Fin 512) (n : Fin 128) : View.ld (bT m c t) r0_13 (ix3 0 p n) = table m c 4 (posOf t p) n := by
  refine (View.ld_unit_apply_of (bT m c t) _ _ _ _ (ix3 4 p n : S6x512x128.Idx) fun a => ?_).trans (bT_at m c t 4 p n)
  match a with
  | ⟨0, _⟩ => rfl
  | ⟨1, _⟩ => show p.val = 0 + p.val; omega
  | ⟨2, _⟩ => show n.val = 0 + n.val; omega

/-- Table 5 as read at a point. -/
theorem row5_at (t : Fin cfg0.N) (p : Fin 512) (n : Fin 128) : View.ld (bT m c t) r0_14 (ix3 0 p n) = table m c 5 (posOf t p) n := by
  refine (View.ld_unit_apply_of (bT m c t) _ _ _ _ (ix3 5 p n : S6x512x128.Idx) fun a => ?_).trans (bT_at m c t 5 p n)
  match a with
  | ⟨0, _⟩ => rfl
  | ⟨1, _⟩ => show p.val = 0 + p.val; omega
  | ⟨2, _⟩ => show n.val = 0 + n.val; omega

/-- The tables turning the heads at a point. -/
abbrev bT0 (t : Fin cfg0.N) : FVec Ideal S512x128 .f32 := k0_pay5 (View.ld (bT m c t) r0_4)
/-- The negated sines at a point. -/
abbrev bT1 (t : Fin cfg0.N) : FVec Ideal S512x128 .f32 := k0_pay6 (View.ld (bT m c t) r0_5)
/-- The sines at a point. -/
abbrev bT2 (t : Fin cfg0.N) : FVec Ideal S512x128 .f32 := k0_pay7 (View.ld (bT m c t) r0_6)

/-- The cosines at one element. -/
theorem bT0_at (t : Fin cfg0.N) (p : Fin 512) (n : Fin 128) : bT0 m c t (ix2 p n) = tab0 (cosAt (posOf t p)) ⟨n.val % 64, by omega⟩ :=
  (pay5_at _ p n).trans ((row0_at m c t p n).trans (table0_at m c (posOf t p) n))

/-- The cosines at a lane of a head. -/
theorem bT0_head (t : Fin cfg0.N) (p : Fin 512) (h : Fin 2) (l : Fin 64) : bT0 m c t (ix2 p ⟨64 * h.val + l.val, by omega⟩) = tab0 (cosAt (posOf t p)) l :=
  (bT0_at m c t p _).trans (congrArg _ (Fin.ext (by show (64 * h.val + l.val) % 64 = l.val; omega)))

/-- The negated sines at one element. -/
theorem bT1_at (t : Fin cfg0.N) (p : Fin 512) (n : Fin 128) : bT1 m c t (ix2 p n) = tab1 (sinAt (posOf t p)) ⟨n.val % 64, by omega⟩ :=
  (pay6_at _ p n).trans ((row1_at m c t p n).trans (table1_at m c (posOf t p) n))

/-- The negated sines at a lane of a head. -/
theorem bT1_head (t : Fin cfg0.N) (p : Fin 512) (h : Fin 2) (l : Fin 64) : bT1 m c t (ix2 p ⟨64 * h.val + l.val, by omega⟩) = tab1 (sinAt (posOf t p)) l :=
  (bT1_at m c t p _).trans (congrArg _ (Fin.ext (by show (64 * h.val + l.val) % 64 = l.val; omega)))

/-- The sines at one element. -/
theorem bT2_at (t : Fin cfg0.N) (p : Fin 512) (n : Fin 128) : bT2 m c t (ix2 p n) = tab2 (sinAt (posOf t p)) ⟨n.val % 64, by omega⟩ :=
  (pay7_at _ p n).trans ((row2_at m c t p n).trans (table2_at m c (posOf t p) n))

/-- The sines at a lane of a head. -/
theorem bT2_head (t : Fin cfg0.N) (p : Fin 512) (h : Fin 2) (l : Fin 64) : bT2 m c t (ix2 p ⟨64 * h.val + l.val, by omega⟩) = tab2 (sinAt (posOf t p)) l :=
  (bT2_at m c t p _).trans (congrArg _ (Fin.ext (by show (64 * h.val + l.val) % 64 = l.val; omega)))

/-- What a point leaves of the mixer's input. -/
theorem out9_eq (t : Fin cfg0.N) : out0_9 (iblk m c 0 t) (iblk m c 1 t) (iblk m c 2 t) (iblk m c 3 t) (iblk m c 4 t) (iblk m c 5 t) (iblk m c 6 t) (iblk m c 7 t) (iblk m c 8 t) = (k0_pay9 (bP m c t) : Vec Ideal S512x512 .f32) := by
  unfold out0_9
  rw [st512]

/-- What a point leaves of the values. -/
theorem out12_eq (t : Fin cfg0.N) : out0_12 (iblk m c 0 t) (iblk m c 1 t) (iblk m c 2 t) (iblk m c 3 t) (iblk m c 4 t) (iblk m c 5 t) (iblk m c 6 t) (iblk m c 7 t) (iblk m c 8 t) = (k0_pay16 (bP m c t) : Vec Ideal S512x128 .f32) := by
  unfold out0_12
  rw [st128]

/-- What a point leaves of the queries. -/
theorem out10_eq (t : Fin cfg0.N) : out0_10 (iblk m c 0 t) (iblk m c 1 t) (iblk m c 2 t) (iblk m c 3 t) (iblk m c 4 t) (iblk m c 5 t) (iblk m c 6 t) (iblk m c 7 t) (iblk m c 8 t) = (truncf (φ := .f32) .bf16 (mulf (rope512 (norm512 (extractStridedSlice S512x512 ![0, 512] (bP m c t) slices_S512x1920_o0_512_S512x512) (k0_pay8 (bM m c t)) (shapeCast S1x512 (bQg m c t) shapeCasts_S1x512_S1x512)) (bT0 m c t) (bT1 m c t) (bT2 m c t)) (broadcast S512x512 (Scalar.ofBits .f32 0x3E000000#32)) : FVec Ideal S512x512 .f32) bitsLt_bf16_f32 : Vec Ideal S512x512 .bf16) := by
  unfold out0_10
  rw [st512]
  rw [pay10_eq]
  unfold k0_pay23 k0_pay24
  simp only [ldM, ldQg, ldKg]

/-- What a point leaves of the keys. -/
theorem out11_eq (t : Fin cfg0.N) : out0_11 (iblk m c 0 t) (iblk m c 1 t) (iblk m c 2 t) (iblk m c 3 t) (iblk m c 4 t) (iblk m c 5 t) (iblk m c 6 t) (iblk m c 7 t) (iblk m c 8 t) = (rope128 (norm128 (k0_pay11 (bP m c t)) (k0_pay12 (bM m c t)) (k0_pay13 (bKg m c t))) (bT0 m c t) (bT1 m c t) (bT2 m c t) : Vec Ideal S512x128 .f32) := by
  unfold out0_11
  rw [st128]
  rw [pay14_eq]
  unfold k0_pay23 k0_pay24 k0_pay25 k0_pay26 k0_pay27 k0_pay28
  simp only [ldM, ldQg, ldKg]

/-- What a point leaves of the indexer's queries. -/
theorem out13_eq (t : Fin cfg0.N) : out0_13 (iblk m c 0 t) (iblk m c 1 t) (iblk m c 2 t) (iblk m c 3 t) (iblk m c 4 t) (iblk m c 5 t) (iblk m c 6 t) (iblk m c 7 t) (iblk m c 8 t) = (truncf (φ := .f32) .bf16 (mulf (rope512 (k0_pay18 (bP m c t)) (bT0 m c t) (bT1 m c t) (bT2 m c t)) (broadcast S512x512 (Scalar.ofBits .f32 0x3E000000#32)) : FVec Ideal S512x512 .f32) bitsLt_bf16_f32 : Vec Ideal S512x512 .bf16) := by
  unfold out0_13
  rw [st512]
  rw [pay1_eq]
  unfold k0_pay23 k0_pay24 k0_pay25
  rfl

/-- What a point leaves of the indexer's key and weights. -/
theorem out14_eq (t : Fin cfg0.N) : out0_14 (iblk m c 0 t) (iblk m c 1 t) (iblk m c 2 t) (iblk m c 3 t) (iblk m c 4 t) (iblk m c 5 t) (iblk m c 6 t) (iblk m c 7 t) (iblk m c 8 t) = (rope128 (extractStridedSlice S512x128 ![0, 1792] (bP m c t) slices_S512x1920_o0_1792_S512x128) (k0_pay5 (View.ld (bT m c t) r0_12)) (k0_pay6 (View.ld (bT m c t) r0_13)) (k0_pay7 (View.ld (bT m c t) r0_14)) : Vec Ideal S512x128 .f32) := by
  unfold out0_14
  rw [st128]
  rw [pay2_eq]

/-- The mixer's input. -/
theorem out9_at (t : Fin cfg0.N) (p : Fin 512) (n : Fin 512) : (out0_9 (iblk m c 0 t) (iblk m c 1 t) (iblk m c 2 t) (iblk m c 3 t) (iblk m c 4 t) (iblk m c 5 t) (iblk m c 6 t) (iblk m c 7 t) (iblk m c 8 t) : Vec Ideal S512x512 .f32) (ix2 p n)
    = prjM m c (seqOf t) (posOf t p) ⟨n.val, by omega⟩ := by
  rw [out9_eq, pay9_at]
  exact bP_at m c t p ⟨n.val, by omega⟩

/-- The values. -/
theorem out12_at (t : Fin cfg0.N) (p : Fin 512) (n : Fin 128) : (out0_12 (iblk m c 0 t) (iblk m c 1 t) (iblk m c 2 t) (iblk m c 3 t) (iblk m c 4 t) (iblk m c 5 t) (iblk m c 6 t) (iblk m c 7 t) (iblk m c 8 t) : Vec Ideal S512x128 .f32) (ix2 p n)
    = prjM m c (seqOf t) (posOf t p) ⟨1152 + n.val, by omega⟩ := by
  rw [out12_eq, pay16_at]
  exact bP_at m c t p ⟨1152 + n.val, by omega⟩

/-- Finite arguments have a finite projection. -/
theorem prj_real (x : Vec Ideal S8x2048x1024 .f32) (mod : Vec Ideal S8x6144 .f32) (g : Vec Ideal S1024 .f32) (w : Vec Ideal S1024x1864 .f32)
    (hmod : ∀ (b : Fin 8) (k : Fin 2048), mod (ix2 b ⟨k.val, by omega⟩) ≠ ⊤ ∧ mod (ix2 b ⟨k.val, by omega⟩) ≠ ⊥)
    (hg : ∀ k : Fin 1024, g (ix1 k) ≠ ⊤ ∧ g (ix1 k) ≠ ⊥) (hw : ∀ (k : Fin 1024) (n : Fin 1864), w (ix2 k n) ≠ ⊤ ∧ w (ix2 k n) ≠ ⊥)
    (b : Fin 8) (s : Fin 2048) (n : Fin 1864) : prj x mod g w b s n ≠ ⊤ ∧ prj x mod g w b s n ≠ ⊥ :=
  isReal_sum _ _ fun k _ => isReal_mul (inNormed_real _ _ _ _ k (hg k) (hmod b ⟨1024 + k.val, by omega⟩) (hmod b ⟨k.val, by omega⟩)) (hw k n)

/-- The queries. -/
theorem out10_at (hP : ∀ b s n, prjM m c b s n ≠ ⊤ ∧ prjM m c b s n ≠ ⊥) (t : Fin cfg0.N) (p : Fin 512) (h : Fin 8) (l : Fin 64) :
    (out0_10 (iblk m c 0 t) (iblk m c 1 t) (iblk m c 2 t) (iblk m c 3 t) (iblk m c 4 t) (iblk m c 5 t) (iblk m c 6 t) (iblk m c 7 t) (iblk m c 8 t) : Vec Ideal S512x512 .bf16) (ix2 p ⟨64 * h.val + l.val, by omega⟩)
    = specQ (prjM m c (seqOf t) (posOf t p)) (posOf t p) (m ((c : Thread nD τ).loc main_arg4)) h l := by
  rw [out10_eq]
  show rope512 _ _ _ _ _ * eighth = _
  unfold specQ
  have hX : ∀ n : Fin 512, extractStridedSlice S512x512 ![0, 512] (bP m c t) slices_S512x1920_o0_512_S512x512 (ix2 p n)
      = prjM m c (seqOf t) (posOf t p) ⟨512 + n.val, by omega⟩ := fun n => (cols512_at _ p n).trans (bP_at m c t p ⟨512 + n.val, by omega⟩)
  rw [rope512_at _ _ _ _ (cosAt (posOf t p)) (sinAt (posOf t p)) p (bT0_at m c t p) (bT1_at m c t p) (bT2_at m c t p)]
  refine congrArg (fun f => turn (cosAt (posOf t p)) (sinAt (posOf t p)) f l * eighth) (funext fun l => ?_)
  rw [norm512_at _ _ _ (fun l => (m ((c : Thread nD τ).loc main_arg4) : Vec Ideal S64 .f32) (ix1 l)) p (fun n => by rw [hX]; exact hP _ _ _)
    (fun k n => (pay8_at _ k n).trans ((bM_at m c t k n).trans (v8_at m c k n))) h
    (fun l => (same512_at _ _).trans ((bQg_at m c t 0 _).trans (v56_at m c h l)))]
  refine congrArg (fun f => headNorm f _ l) (funext fun l => ?_)
  rw [hX]
  exact congrArg (prjM m c (seqOf t) (posOf t p)) (Fin.ext (by show 512 + (64 * h.val + l.val) = 512 + 64 * h.val + l.val; omega))

/-- The keys. -/
theorem out11_at (hP : ∀ b s n, prjM m c b s n ≠ ⊤ ∧ prjM m c b s n ≠ ⊥) (t : Fin cfg0.N) (p : Fin 512) (h : Fin 2) (l : Fin 64) :
    (out0_11 (iblk m c 0 t) (iblk m c 1 t) (iblk m c 2 t) (iblk m c 3 t) (iblk m c 4 t) (iblk m c 5 t) (iblk m c 6 t) (iblk m c 7 t) (iblk m c 8 t) : Vec Ideal S512x128 .f32) (ix2 p ⟨64 * h.val + l.val, by omega⟩)
    = specK (prjM m c (seqOf t) (posOf t p)) (posOf t p) (m ((c : Thread nD τ).loc main_arg5)) h l := by
  rw [out11_eq]
  unfold specK
  have hX : ∀ n : Fin 128, k0_pay11 (bP m c t) (ix2 p n) = prjM m c (seqOf t) (posOf t p) ⟨1024 + n.val, by omega⟩ :=
    fun n => (pay11_at _ p n).trans (bP_at m c t p ⟨1024 + n.val, by omega⟩)
  rw [rope128_at _ _ _ _ (cosAt (posOf t p)) (sinAt (posOf t p)) p h (bT0_head m c t p h) (bT1_head m c t p h) (bT2_head m c t p h)]
  refine congrArg (fun f => turn (cosAt (posOf t p)) (sinAt (posOf t p)) f l) (funext fun l => ?_)
  rw [norm128_at _ _ _ (fun l => (m ((c : Thread nD τ).loc main_arg5) : Vec Ideal S64 .f32) (ix1 l)) p (fun n => by rw [hX]; exact hP _ _ _)
    (fun k n => (pay12_at _ k n).trans ((bM_at m c t _ _).trans (v8_at m c _ _))) h
    (fun l => (pay13_at _ _).trans ((bKg_at m c t 0 _).trans (v60_at m c h l)))]
  refine congrArg (fun f => headNorm f _ l) (funext fun l => ?_)
  rw [hX]
  exact congrArg (prjM m c (seqOf t) (posOf t p)) (Fin.ext (by show 1024 + (64 * h.val + l.val) = 1024 + 64 * h.val + l.val; omega))

/-- The indexer's queries. -/
theorem out13_at (t : Fin cfg0.N) (p : Fin 512) (h : Fin 8) (l : Fin 64) :
    (out0_13 (iblk m c 0 t) (iblk m c 1 t) (iblk m c 2 t) (iblk m c 3 t) (iblk m c 4 t) (iblk m c 5 t) (iblk m c 6 t) (iblk m c 7 t) (iblk m c 8 t) : Vec Ideal S512x512 .bf16) (ix2 p ⟨64 * h.val + l.val, by omega⟩)
    = specQi (prjM m c (seqOf t) (posOf t p)) (posOf t p) h l := by
  rw [out13_eq]
  show rope512 _ _ _ _ _ * eighth = _
  unfold specQi
  rw [rope512_at _ _ _ _ (cosAt (posOf t p)) (sinAt (posOf t p)) p (bT0_at m c t p) (bT1_at m c t p) (bT2_at m c t p)]
  refine congrArg (fun f => turn (cosAt (posOf t p)) (sinAt (posOf t p)) f l * eighth) (funext fun l => ?_)
  rw [pay18_at]
  refine (bP_at m c t p ⟨1280 + (64 * h.val + l.val), by omega⟩).trans ?_
  exact congrArg (prjM m c (seqOf t) (posOf t p)) (Fin.ext (by show 1280 + (64 * h.val + l.val) = 1280 + 64 * h.val + l.val; omega))

/-- The indexer's keys. -/
theorem out14_at (t : Fin cfg0.N) (p : Fin 512) (l : Fin 64) : (out0_14 (iblk m c 0 t) (iblk m c 1 t) (iblk m c 2 t) (iblk m c 3 t) (iblk m c 4 t) (iblk m c 5 t) (iblk m c 6 t) (iblk m c 7 t) (iblk m c 8 t) : Vec Ideal S512x128 .f32) (ix2 p ⟨l.val, by omega⟩)
    = specKi (prjM m c (seqOf t) (posOf t p)) (posOf t p) l := by
  rw [out14_eq]
  unfold specKi
  have hl : (⟨l.val, by omega⟩ : Fin 128) = ⟨64 * (0 : Fin 2).val + l.val, by show 64 * 0 + l.val < 128; omega⟩ := Fin.ext (by show l.val = 64 * 0 + l.val; omega)
  have e : ∀ l : Fin 64, (⟨64 * (0 : Fin 2).val + l.val, by show 64 * 0 + l.val < 128; omega⟩ : Fin 128) = ⟨l.val, by omega⟩ :=
    fun l => Fin.ext (by show 64 * 0 + l.val = l.val; omega)
  rw [hl, rope128_at _ _ _ _ (cosAt (posOf t p)) (sinAt (posOf t p)) p 0
    (fun l => by rw [e l]; exact (pay5_at _ p _).trans ((row3_at m c t p _).trans (table3_at m c (posOf t p) l)))
    (fun l => by rw [e l]; exact (pay6_at _ p _).trans ((row4_at m c t p _).trans (table4_at m c (posOf t p) l)))
    (fun l => by rw [e l]; exact (pay7_at _ p _).trans ((row5_at m c t p _).trans (table5_at m c (posOf t p) l)))]
  refine congrArg (fun f => turn (cosAt (posOf t p)) (sinAt (posOf t p)) f l) (funext fun l => ?_)
  rw [e l, cols1792_at]
  exact bP_at m c t p ⟨1792 + l.val, by omega⟩

/-- The indexer's weights. -/
theorem out14_tail (t : Fin cfg0.N) (p : Fin 512) (j : Fin 8) : (out0_14 (iblk m c 0 t) (iblk m c 1 t) (iblk m c 2 t) (iblk m c 3 t) (iblk m c 4 t) (iblk m c 5 t) (iblk m c 6 t) (iblk m c 7 t) (iblk m c 8 t) : Vec Ideal S512x128 .f32) (ix2 p ⟨64 + j.val, by omega⟩)
    = specWi (prjM m c (seqOf t) (posOf t p)) j := by
  rw [out14_eq]
  unfold specWi
  rw [rope128_scaled _ _ _ _ p _ _
    ((pay5_at _ p _).trans ((row3_at m c t p _).trans (table3_tail m c (posOf t p) j)))
    ((pay6_at _ p _).trans ((row4_at m c t p _).trans (table4_tail m c (posOf t p) j)))
    ((pay7_at _ p _).trans ((row5_at m c t p _).trans (table5_tail m c (posOf t p) j))), cols1792_at]
  refine congrArg (· * Ideal.ofBits FTy.f32 0x3EB504F3#32) ?_
  refine (bP_at m c t p ⟨1792 + (64 + j.val), by omega⟩).trans ?_
  exact congrArg (prjM m c (seqOf t) (posOf t p)) (Fin.ext (by show 1792 + (64 + j.val) = 1856 + j.val; omega))

end Cert.Kernel2Ideal

end
-- ==== Proof.InResult.lean ====
/-
  The arrays and results a run of the input projection leaves, at one element.
-/
module

public import proofs.«01_k».proof.Proof.InOut
public import Idealize.ShloMosaic.Lib.Pipeline.ArrRel
public import Idealize.ShloMosaic.Lib.Pipeline.ValueKit

@[expose] public section

set_option maxRecDepth 65536
set_option maxHeartbeats 4000000

noncomputable section

namespace Cert.Kernel2Ideal

open Idealize.ShloMosaic Idealize.ShloMosaic.TcCoe
open Cert.Kernel2Ideal.Gen Cert.Proof

variable (m : (ℓ : Loc nD τ sig) → Buf (Elt Ideal) ℓ) (c : Dev nD)

/-- The grid point whose tile holds a row of a sequence. -/
abbrev ptOf (b : Fin 8) (s : Fin 2048) : Fin cfg0.N := (⟨4 * b.val + s.val / 512, by omega⟩ : Fin 32)

/-- The row's place in that tile. -/
abbrev inTile (s : Fin 2048) : Fin 512 := ⟨s.val % 512, by omega⟩

/-- Its sequence. -/
theorem seqOf_ptOf (b : Fin 8) (s : Fin 2048) : seqOf (ptOf b s) = b := Fin.ext (by show (4 * b.val + s.val / 512) / 4 = b.val; omega)

/-- Its position. -/
theorem posOf_ptOf (b : Fin 8) (s : Fin 2048) : posOf (ptOf b s) (inTile s) = s :=
  Fin.ext (by show 512 * ((4 * b.val + s.val / 512) % 4) + s.val % 512 = s.val; omega)

/-- An array whose tiles of 512 rows are `f` of their points. -/
def tiled {α : Type} {N : ℕ} (f : Fin cfg0.N → (⟨2, ![512, N]⟩ : Shape).Idx → α) : (⟨2, ![16384, N]⟩ : Shape).Idx → α := fun i =>
  f (⟨(i 0).val / 512, by have : (i 0).val < 16384 := (i 0).isLt; omega⟩ : Fin 32) (ix2 ⟨(i 0).val % 512, by omega⟩ (i 1))

/-- Such an array at row `p` of tile `t`. -/
theorem tiled_in {α : Type} {N : ℕ} (f : Fin cfg0.N → (⟨2, ![512, N]⟩ : Shape).Idx → α) (t : Fin cfg0.N) (p : Fin 512) (n : Fin N)
    (h : 512 * t.val + p.val < 16384) : tiled f (ix2 ⟨512 * t.val + p.val, h⟩ n) = f t (ix2 p n) := by
  have ht := lt32 t
  have e1 : ((⟨(512 * t.val + p.val) / 512, by omega⟩ : Fin 32) : Fin cfg0.N) = t := Fin.ext (by show (512 * t.val + p.val) / 512 = t.val; omega)
  have e2 : (⟨(512 * t.val + p.val) % 512, by omega⟩ : Fin 512) = p := Fin.ext (by show (512 * t.val + p.val) % 512 = p.val; omega)
  exact congr (congrArg f e1) (congrArg (fun p => (ix2 p n : (⟨2, ![512, N]⟩ : Shape).Idx)) e2)

/-- Such an array at position `s` of sequence `b`. -/
theorem tiled_at {α : Type} {N : ℕ} (f : Fin cfg0.N → (⟨2, ![512, N]⟩ : Shape).Idx → α) (b : Fin 8) (s : Fin 2048) (n : Fin N) :
    tiled f (ix2 ⟨2048 * b.val + s.val, by omega⟩ n) = f (ptOf b s) (ix2 (inTile s) n) := by
  have e1 : ((⟨(2048 * b.val + s.val) / 512, by omega⟩ : Fin 32) : Fin cfg0.N) = ptOf b s := Fin.ext (by show (2048 * b.val + s.val) / 512 = 4 * b.val + s.val / 512; omega)
  have e2 : (⟨(2048 * b.val + s.val) % 512, by omega⟩ : Fin 512) = inTile s := Fin.ext (by show (2048 * b.val + s.val) % 512 = s.val % 512; omega)
  exact congr (congrArg f e1) (congrArg (fun p => (ix2 p n : (⟨2, ![512, N]⟩ : Shape).Idx)) e2)

/-- The mixer's input: one tile of 512 rows per point. -/
theorem index9 : ∀ t : Fin grid0.N, cc0_transform_9 (grid0.coords t) = ![t.val, 0] := by decide +kernel

/-- The tiles of the mixer's input are the whole array. -/
theorem covers9 : (cfg0.win 9).Covers := by decide +kernel

/-- What point `t` leaves of the mixer's input. -/
abbrev left9 (t : Fin cfg0.N) : Vec Ideal S512x512 .f32 :=
  out0_9 (iblk m c 0 t) (iblk m c 1 t) (iblk m c 2 t) (iblk m c 3 t) (iblk m c 4 t) (iblk m c 5 t) (iblk m c 6 t) (iblk m c 7 t) (iblk m c 8 t)

/-- The array of the mixer's input after the run: each tile is what its point left. -/
theorem arr9 : (dats m 0 c).arrAt 9 (cfgs 0).N = (tiled (left9 m c) : Vec Ideal S16384x512 .f32) := by
  refine Pipeline.Dat.arrAt_eq_of_covers (cfg := cfg0) (dats m 0 c) (9 : Fin 18) _ covers9 (fun t hf y => ?_)
  have ht := lt32 t
  have hp : (y (0 : Fin 2)).val < 512 := (y (0 : Fin 2)).isLt
  have hx : (cfg0.win 9).xinj (cfg0.grid.coords t) y = (ix2 ⟨(y (0 : Fin 2)).val, hp⟩ (y (1 : Fin 2)) : S512x512.Idx) := by
    funext a
    match a with
    | ⟨0, _⟩ => rfl
    | ⟨1, _⟩ => rfl
  have he : ((cfg0.win 9).blk t).view.emb y = (ix2 ⟨512 * t.val + (y (0 : Fin 2)).val, by omega⟩ (y (1 : Fin 2)) : S16384x512.Idx) := by
    funext a
    apply Fin.ext
    match a with
    | ⟨0, _⟩ =>
      show cc0_transform_9 (grid0.coords t) 0 * 512 + 1 * (y (0 : Fin 2)).val = 512 * t.val + (y (0 : Fin 2)).val
      rw [index9 t]; show t.val * 512 + 1 * (y (0 : Fin 2)).val = _; omega
    | ⟨1, _⟩ =>
      show cc0_transform_9 (grid0.coords t) 1 * 512 + 1 * (y (1 : Fin 2)).val = (y (1 : Fin 2)).val
      rw [index9 t]; show 0 * 512 + 1 * (y (1 : Fin 2)).val = _; omega
  refine Eq.trans ?_ (congrArg (tiled (left9 m c) : Vec Ideal S16384x512 .f32) he).symm
  exact ((congrArg ((dats m 0 c).after 9 t : Vec Ideal S512x512 .f32) hx).trans (congrFun (after0_9 m c t) _)).trans (tiled_in (left9 m c) t ⟨(y (0 : Fin 2)).val, hp⟩ (y (1 : Fin 2)) (by show 512 * t.val + (y (0 : Fin 2)).val < 16384; omega)).symm

/-- The array of the mixer's input at one element. -/
theorem arr9_at (b : Fin 8) (s : Fin 2048) (n : Fin 512) : ((dats m 0 c).arrAt 9 (cfgs 0).N : Vec Ideal S16384x512 .f32) (ix2 ⟨2048 * b.val + s.val, by omega⟩ n)
    = left9 m c (ptOf b s) (ix2 (inTile s) n) :=
  (congrFun (arr9 m c) _).trans (tiled_at (left9 m c) b s n)

/-- The queries: one tile of 512 rows per point. -/
theorem index10 : ∀ t : Fin grid0.N, cc0_transform_10 (grid0.coords t) = ![t.val, 0] := by decide +kernel

/-- The tiles of the queries are the whole array. -/
theorem covers10 : (cfg0.win 10).Covers := by decide +kernel

/-- What point `t` leaves of the queries. -/
abbrev left10 (t : Fin cfg0.N) : Vec Ideal S512x512 .bf16 :=
  out0_10 (iblk m c 0 t) (iblk m c 1 t) (iblk m c 2 t) (iblk m c 3 t) (iblk m c 4 t) (iblk m c 5 t) (iblk m c 6 t) (iblk m c 7 t) (iblk m c 8 t)

/-- The array of the queries after the run: each tile is what its point left. -/
theorem arr10 : (dats m 0 c).arrAt 10 (cfgs 0).N = (tiled (left10 m c) : Vec Ideal S16384x512 .bf16) := by
  refine Pipeline.Dat.arrAt_eq_of_covers (cfg := cfg0) (dats m 0 c) (10 : Fin 18) _ covers10 (fun t hf y => ?_)
  have ht := lt32 t
  have hp : (y (0 : Fin 2)).val < 512 := (y (0 : Fin 2)).isLt
  have hx : (cfg0.win 10).xinj (cfg0.grid.coords t) y = (ix2 ⟨(y (0 : Fin 2)).val, hp⟩ (y (1 : Fin 2)) : S512x512.Idx) := by
    funext a
    match a with
    | ⟨0, _⟩ => rfl
    | ⟨1, _⟩ => rfl
  have he : ((cfg0.win 10).blk t).view.emb y = (ix2 ⟨512 * t.val + (y (0 : Fin 2)).val, by omega⟩ (y (1 : Fin 2)) : S16384x512.Idx) := by
    funext a
    apply Fin.ext
    match a with
    | ⟨0, _⟩ =>
      show cc0_transform_10 (grid0.coords t) 0 * 512 + 1 * (y (0 : Fin 2)).val = 512 * t.val + (y (0 : Fin 2)).val
      rw [index10 t]; show t.val * 512 + 1 * (y (0 : Fin 2)).val = _; omega
    | ⟨1, _⟩ =>
      show cc0_transform_10 (grid0.coords t) 1 * 512 + 1 * (y (1 : Fin 2)).val = (y (1 : Fin 2)).val
      rw [index10 t]; show 0 * 512 + 1 * (y (1 : Fin 2)).val = _; omega
  refine Eq.trans ?_ (congrArg (tiled (left10 m c) : Vec Ideal S16384x512 .bf16) he).symm
  exact ((congrArg ((dats m 0 c).after 10 t : Vec Ideal S512x512 .bf16) hx).trans (congrFun (after0_10 m c t) _)).trans (tiled_in (left10 m c) t ⟨(y (0 : Fin 2)).val, hp⟩ (y (1 : Fin 2)) (by show 512 * t.val + (y (0 : Fin 2)).val < 16384; omega)).symm

/-- The array of the queries at one element. -/
theorem arr10_at (b : Fin 8) (s : Fin 2048) (n : Fin 512) : ((dats m 0 c).arrAt 10 (cfgs 0).N : Vec Ideal S16384x512 .bf16) (ix2 ⟨2048 * b.val + s.val, by omega⟩ n)
    = left10 m c (ptOf b s) (ix2 (inTile s) n) :=
  (congrFun (arr10 m c) _).trans (tiled_at (left10 m c) b s n)

/-- The keys: one tile of 512 rows per point. -/
theorem index11 : ∀ t : Fin grid0.N, cc0_transform_11 (grid0.coords t) = ![t.val, 0] := by decide +kernel

/-- The tiles of the keys are the whole array. -/
theorem covers11 : (cfg0.win 11).Covers := by decide +kernel

/-- What point `t` leaves of the keys. -/
abbrev left11 (t : Fin cfg0.N) : Vec Ideal S512x128 .f32 :=
  out0_11 (iblk m c 0 t) (iblk m c 1 t) (iblk m c 2 t) (iblk m c 3 t) (iblk m c 4 t) (iblk m c 5 t) (iblk m c 6 t) (iblk m c 7 t) (iblk m c 8 t)

/-- The array of the keys after the run: each tile is what its point left. -/
theorem arr11 : (dats m 0 c).arrAt 11 (cfgs 0).N = (tiled (left11 m c) : Vec Ideal S16384x128 .f32) := by
  refine Pipeline.Dat.arrAt_eq_of_covers (cfg := cfg0) (dats m 0 c) (11 : Fin 18) _ covers11 (fun t hf y => ?_)
  have ht := lt32 t
  have hp : (y (0 : Fin 2)).val < 512 := (y (0 : Fin 2)).isLt
  have hx : (cfg0.win 11).xinj (cfg0.grid.coords t) y = (ix2 ⟨(y (0 : Fin 2)).val, hp⟩ (y (1 : Fin 2)) : S512x128.Idx) := by
    funext a
    match a with
    | ⟨0, _⟩ => rfl
    | ⟨1, _⟩ => rfl
  have he : ((cfg0.win 11).blk t).view.emb y = (ix2 ⟨512 * t.val + (y (0 : Fin 2)).val, by omega⟩ (y (1 : Fin 2)) : S16384x128.Idx) := by
    funext a
    apply Fin.ext
    match a with
    | ⟨0, _⟩ =>
      show cc0_transform_11 (grid0.coords t) 0 * 512 + 1 * (y (0 : Fin 2)).val = 512 * t.val + (y (0 : Fin 2)).val
      rw [index11 t]; show t.val * 512 + 1 * (y (0 : Fin 2)).val = _; omega
    | ⟨1, _⟩ =>
      show cc0_transform_11 (grid0.coords t) 1 * 128 + 1 * (y (1 : Fin 2)).val = (y (1 : Fin 2)).val
      rw [index11 t]; show 0 * 128 + 1 * (y (1 : Fin 2)).val = _; omega
  refine Eq.trans ?_ (congrArg (tiled (left11 m c) : Vec Ideal S16384x128 .f32) he).symm
  exact ((congrArg ((dats m 0 c).after 11 t : Vec Ideal S512x128 .f32) hx).trans (congrFun (after0_11 m c t) _)).trans (tiled_in (left11 m c) t ⟨(y (0 : Fin 2)).val, hp⟩ (y (1 : Fin 2)) (by show 512 * t.val + (y (0 : Fin 2)).val < 16384; omega)).symm

/-- The array of the keys at one element. -/
theorem arr11_at (b : Fin 8) (s : Fin 2048) (n : Fin 128) : ((dats m 0 c).arrAt 11 (cfgs 0).N : Vec Ideal S16384x128 .f32) (ix2 ⟨2048 * b.val + s.val, by omega⟩ n)
    = left11 m c (ptOf b s) (ix2 (inTile s) n) :=
  (congrFun (arr11 m c) _).trans (tiled_at (left11 m c) b s n)

/-- The values: one tile of 512 rows per point. -/
theorem index12 : ∀ t : Fin grid0.N, cc0_transform_12 (grid0.coords t) = ![t.val, 0] := by decide +kernel

/-- The tiles of the values are the whole array. -/
theorem covers12 : (cfg0.win 12).Covers := by decide +kernel

/-- What point `t` leaves of the values. -/
abbrev left12 (t : Fin cfg0.N) : Vec Ideal S512x128 .f32 :=
  out0_12 (iblk m c 0 t) (iblk m c 1 t) (iblk m c 2 t) (iblk m c 3 t) (iblk m c 4 t) (iblk m c 5 t) (iblk m c 6 t) (iblk m c 7 t) (iblk m c 8 t)

/-- The array of the values after the run: each tile is what its point left. -/
theorem arr12 : (dats m 0 c).arrAt 12 (cfgs 0).N = (tiled (left12 m c) : Vec Ideal S16384x128 .f32) := by
  refine Pipeline.Dat.arrAt_eq_of_covers (cfg := cfg0) (dats m 0 c) (12 : Fin 18) _ covers12 (fun t hf y => ?_)
  have ht := lt32 t
  have hp : (y (0 : Fin 2)).val < 512 := (y (0 : Fin 2)).isLt
  have hx : (cfg0.win 12).xinj (cfg0.grid.coords t) y = (ix2 ⟨(y (0 : Fin 2)).val, hp⟩ (y (1 : Fin 2)) : S512x128.Idx) := by
    funext a
    match a with
    | ⟨0, _⟩ => rfl
    | ⟨1, _⟩ => rfl
  have he : ((cfg0.win 12).blk t).view.emb y = (ix2 ⟨512 * t.val + (y (0 : Fin 2)).val, by omega⟩ (y (1 : Fin 2)) : S16384x128.Idx) := by
    funext a
    apply Fin.ext
    match a with
    | ⟨0, _⟩ =>
      show cc0_transform_12 (grid0.coords t) 0 * 512 + 1 * (y (0 : Fin 2)).val = 512 * t.val + (y (0 : Fin 2)).val
      rw [index12 t]; show t.val * 512 + 1 * (y (0 : Fin 2)).val = _; omega
    | ⟨1, _⟩ =>
      show cc0_transform_12 (grid0.coords t) 1 * 128 + 1 * (y (1 : Fin 2)).val = (y (1 : Fin 2)).val
      rw [index12 t]; show 0 * 128 + 1 * (y (1 : Fin 2)).val = _; omega
  refine Eq.trans ?_ (congrArg (tiled (left12 m c) : Vec Ideal S16384x128 .f32) he).symm
  exact ((congrArg ((dats m 0 c).after 12 t : Vec Ideal S512x128 .f32) hx).trans (congrFun (after0_12 m c t) _)).trans (tiled_in (left12 m c) t ⟨(y (0 : Fin 2)).val, hp⟩ (y (1 : Fin 2)) (by show 512 * t.val + (y (0 : Fin 2)).val < 16384; omega)).symm

/-- The array of the values at one element. -/
theorem arr12_at (b : Fin 8) (s : Fin 2048) (n : Fin 128) : ((dats m 0 c).arrAt 12 (cfgs 0).N : Vec Ideal S16384x128 .f32) (ix2 ⟨2048 * b.val + s.val, by omega⟩ n)
    = left12 m c (ptOf b s) (ix2 (inTile s) n) :=
  (congrFun (arr12 m c) _).trans (tiled_at (left12 m c) b s n)

/-- The indexer's queries: one tile of 512 rows per point. -/
theorem index13 : ∀ t : Fin grid0.N, cc0_transform_13 (grid0.coords t) = ![t.val, 0] := by decide +kernel

/-- The tiles of the indexer's queries are the whole array. -/
theorem covers13 : (cfg0.win 13).Covers := by decide +kernel

/-- What point `t` leaves of the indexer's queries. -/
abbrev left13 (t : Fin cfg0.N) : Vec Ideal S512x512 .bf16 :=
  out0_13 (iblk m c 0 t) (iblk m c 1 t) (iblk m c 2 t) (iblk m c 3 t) (iblk m c 4 t) (iblk m c 5 t) (iblk m c 6 t) (iblk m c 7 t) (iblk m c 8 t)

/-- The array of the indexer's queries after the run: each tile is what its point left. -/
theorem arr13 : (dats m 0 c).arrAt 13 (cfgs 0).N = (tiled (left13 m c) : Vec Ideal S16384x512 .bf16) := by
  refine Pipeline.Dat.arrAt_eq_of_covers (cfg := cfg0) (dats m 0 c) (13 : Fin 18) _ covers13 (fun t hf y => ?_)
  have ht := lt32 t
  have hp : (y (0 : Fin 2)).val < 512 := (y (0 : Fin 2)).isLt
  have hx : (cfg0.win 13).xinj (cfg0.grid.coords t) y = (ix2 ⟨(y (0 : Fin 2)).val, hp⟩ (y (1 : Fin 2)) : S512x512.Idx) := by
    funext a
    match a with
    | ⟨0, _⟩ => rfl
    | ⟨1, _⟩ => rfl
  have he : ((cfg0.win 13).blk t).view.emb y = (ix2 ⟨512 * t.val + (y (0 : Fin 2)).val, by omega⟩ (y (1 : Fin 2)) : S16384x512.Idx) := by
    funext a
    apply Fin.ext
    match a with
    | ⟨0, _⟩ =>
      show cc0_transform_13 (grid0.coords t) 0 * 512 + 1 * (y (0 : Fin 2)).val = 512 * t.val + (y (0 : Fin 2)).val
      rw [index13 t]; show t.val * 512 + 1 * (y (0 : Fin 2)).val = _; omega
    | ⟨1, _⟩ =>
      show cc0_transform_13 (grid0.coords t) 1 * 512 + 1 * (y (1 : Fin 2)).val = (y (1 : Fin 2)).val
      rw [index13 t]; show 0 * 512 + 1 * (y (1 : Fin 2)).val = _; omega
  refine Eq.trans ?_ (congrArg (tiled (left13 m c) : Vec Ideal S16384x512 .bf16) he).symm
  exact ((congrArg ((dats m 0 c).after 13 t : Vec Ideal S512x512 .bf16) hx).trans (congrFun (after0_13 m c t) _)).trans (tiled_in (left13 m c) t ⟨(y (0 : Fin 2)).val, hp⟩ (y (1 : Fin 2)) (by show 512 * t.val + (y (0 : Fin 2)).val < 16384; omega)).symm

/-- The array of the indexer's queries at one element. -/
theorem arr13_at (b : Fin 8) (s : Fin 2048) (n : Fin 512) : ((dats m 0 c).arrAt 13 (cfgs 0).N : Vec Ideal S16384x512 .bf16) (ix2 ⟨2048 * b.val + s.val, by omega⟩ n)
    = left13 m c (ptOf b s) (ix2 (inTile s) n) :=
  (congrFun (arr13 m c) _).trans (tiled_at (left13 m c) b s n)

/-- The indexer's keys and weights: one tile of 512 rows per point. -/
theorem index14 : ∀ t : Fin grid0.N, cc0_transform_14 (grid0.coords t) = ![t.val, 0] := by decide +kernel

/-- The tiles of the indexer's keys and weights are the whole array. -/
theorem covers14 : (cfg0.win 14).Covers := by decide +kernel

/-- What point `t` leaves of the indexer's keys and weights. -/
abbrev left14 (t : Fin cfg0.N) : Vec Ideal S512x128 .f32 :=
  out0_14 (iblk m c 0 t) (iblk m c 1 t) (iblk m c 2 t) (iblk m c 3 t) (iblk m c 4 t) (iblk m c 5 t) (iblk m c 6 t) (iblk m c 7 t) (iblk m c 8 t)

/-- The array of the indexer's keys and weights after the run: each tile is what its point left. -/
theorem arr14 : (dats m 0 c).arrAt 14 (cfgs 0).N = (tiled (left14 m c) : Vec Ideal S16384x128 .f32) := by
  refine Pipeline.Dat.arrAt_eq_of_covers (cfg := cfg0) (dats m 0 c) (14 : Fin 18) _ covers14 (fun t hf y => ?_)
  have ht := lt32 t
  have hp : (y (0 : Fin 2)).val < 512 := (y (0 : Fin 2)).isLt
  have hx : (cfg0.win 14).xinj (cfg0.grid.coords t) y = (ix2 ⟨(y (0 : Fin 2)).val, hp⟩ (y (1 : Fin 2)) : S512x128.Idx) := by
    funext a
    match a with
    | ⟨0, _⟩ => rfl
    | ⟨1, _⟩ => rfl
  have he : ((cfg0.win 14).blk t).view.emb y = (ix2 ⟨512 * t.val + (y (0 : Fin 2)).val, by omega⟩ (y (1 : Fin 2)) : S16384x128.Idx) := by
    funext a
    apply Fin.ext
    match a with
    | ⟨0, _⟩ =>
      show cc0_transform_14 (grid0.coords t) 0 * 512 + 1 * (y (0 : Fin 2)).val = 512 * t.val + (y (0 : Fin 2)).val
      rw [index14 t]; show t.val * 512 + 1 * (y (0 : Fin 2)).val = _; omega
    | ⟨1, _⟩ =>
      show cc0_transform_14 (grid0.coords t) 1 * 128 + 1 * (y (1 : Fin 2)).val = (y (1 : Fin 2)).val
      rw [index14 t]; show 0 * 128 + 1 * (y (1 : Fin 2)).val = _; omega
  refine Eq.trans ?_ (congrArg (tiled (left14 m c) : Vec Ideal S16384x128 .f32) he).symm
  exact ((congrArg ((dats m 0 c).after 14 t : Vec Ideal S512x128 .f32) hx).trans (congrFun (after0_14 m c t) _)).trans (tiled_in (left14 m c) t ⟨(y (0 : Fin 2)).val, hp⟩ (y (1 : Fin 2)) (by show 512 * t.val + (y (0 : Fin 2)).val < 16384; omega)).symm

/-- The array of the indexer's keys and weights at one element. -/
theorem arr14_at (b : Fin 8) (s : Fin 2048) (n : Fin 128) : ((dats m 0 c).arrAt 14 (cfgs 0).N : Vec Ideal S16384x128 .f32) (ix2 ⟨2048 * b.val + s.val, by omega⟩ n)
    = left14 m c (ptOf b s) (ix2 (inTile s) n) :=
  (congrFun (arr14 m c) _).trans (tiled_at (left14 m c) b s n)

end Cert.Kernel2Ideal

end
-- ==== Proof.InTail.lean ====
/-
  The results the host hands back after the region of the input projection, at one element.
-/
module

public import proofs.«01_k».proof.Proof.InResult
public import Idealize.ShloMosaic.Lib.StableHlo.RunRead

@[expose] public section

set_option maxRecDepth 65536
set_option maxHeartbeats 4000000

noncomputable section

namespace Cert.Kernel2Ideal

open Idealize.ShloMosaic Idealize.ShloMosaic.TcCoe
open Cert.Kernel2Ideal.Gen Cert.Proof

variable (m : (ℓ : Loc nD τ sig) → Buf (Elt Ideal) ℓ) (c : Dev nD)

/-- After the region a window's array is what the points left of it. -/
theorem out_arr (w : Fin 18) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  Pipeline.withArrays_arr_shared (cfgs 0).spec c (V0 m c) (fun w => (dats m 0 c).arrAt w (cfgs 0).N)
    ((dats m 0 c).arrAt_sharedIn sharedIn0 (V0 m c) (fun w => A_eq m c w) (cfgs 0).N) w

/-- What the host leaves of a reference. -/
abbrev ends (b : Ref sig .tc) : Buf (Elt Ideal) ((c.tc : Thread nD τ).loc b) := Pipeline.afterTail₀ cfgs (dats m) 0 (V0 m) [hostOps1] c b

/-- The reshaped array of window 9. -/
theorem ends62 : (ends m c main_v62 : Vec Ideal S8x2048x512 .f32) = shapeCast S8x2048x512 ((dats m 0 c).arrAt 9 (cfgs 0).N : Vec Ideal S16384x512 .f32) shapeCasts_S16384x512_S8x2048x512 := by
  unfold ends Pipeline.afterTail₀
  simp only [List.flatten_cons, List.flatten_nil, List.append_nil]
  after_reads_simp
  exact congrArg (fun x : Vec Ideal S16384x512 .f32 => shapeCast S8x2048x512 x shapeCasts_S16384x512_S8x2048x512) (out_arr m c 9)

/-- The reshaped array of window 10. -/
theorem ends63 : (ends m c main_v63 : Vec Ideal S8x2048x8x64 .bf16) = shapeCast S8x2048x8x64 ((dats m 0 c).arrAt 10 (cfgs 0).N : Vec Ideal S16384x512 .bf16) shapeCasts_S16384x512_S8x2048x8x64 := by
  unfold ends Pipeline.afterTail₀
  simp only [List.flatten_cons, List.flatten_nil, List.append_nil]
  after_reads_simp
  exact congrArg (fun x : Vec Ideal S16384x512 .bf16 => shapeCast S8x2048x8x64 x shapeCasts_S16384x512_S8x2048x8x64) (out_arr m c 10)

/-- The reshaped array of window 11. -/
theorem ends64 : (ends m c main_v64 : Vec Ideal S8x2048x2x64 .f32) = shapeCast S8x2048x2x64 ((dats m 0 c).arrAt 11 (cfgs 0).N : Vec Ideal S16384x128 .f32) shapeCasts_S16384x128_S8x2048x2x64 := by
  unfold ends Pipeline.afterTail₀
  simp only [List.flatten_cons, List.flatten_nil, List.append_nil]
  after_reads_simp
  exact congrArg (fun x : Vec Ideal S16384x128 .f32 => shapeCast S8x2048x2x64 x shapeCasts_S16384x128_S8x2048x2x64) (out_arr m c 11)

/-- The reshaped array of window 12. -/
theorem ends65 : (ends m c main_v65 : Vec Ideal S8x2048x2x64 .f32) = shapeCast S8x2048x2x64 ((dats m 0 c).arrAt 12 (cfgs 0).N : Vec Ideal S16384x128 .f32) shapeCasts_S16384x128_S8x2048x2x64 := by
  unfold ends Pipeline.afterTail₀
  simp only [List.flatten_cons, List.flatten_nil, List.append_nil]
  after_reads_simp
  exact congrArg (fun x : Vec Ideal S16384x128 .f32 => shapeCast S8x2048x2x64 x shapeCasts_S16384x128_S8x2048x2x64) (out_arr m c 12)

/-- The reshaped array of window 13. -/
theorem ends66 : (ends m c main_v66 : Vec Ideal S8x2048x8x64 .bf16) = shapeCast S8x2048x8x64 ((dats m 0 c).arrAt 13 (cfgs 0).N : Vec Ideal S16384x512 .bf16) shapeCasts_S16384x512_S8x2048x8x64 := by
  unfold ends Pipeline.afterTail₀
  simp only [List.flatten_cons, List.flatten_nil, List.append_nil]
  after_reads_simp
  exact congrArg (fun x : Vec Ideal S16384x512 .bf16 => shapeCast S8x2048x8x64 x shapeCasts_S16384x512_S8x2048x8x64) (out_arr m c 13)

/-- Lanes 0 to 63 of the array of window 14, reshaped. -/
theorem ends68 : (ends m c main_v68 : Vec Ideal S8x2048x64 .f32)
    = shapeCast S8x2048x64 (extractStridedSlice S16384x64 ![0, 0] ((dats m 0 c).arrAt 14 (cfgs 0).N : Vec Ideal S16384x128 .f32) slices_S16384x128_S16384x64_0_0) shapeCasts_S16384x64_S8x2048x64 := by
  unfold ends Pipeline.afterTail₀
  simp only [List.flatten_cons, List.flatten_nil, List.append_nil]
  after_reads_simp
  exact congrArg (fun x : Vec Ideal S16384x128 .f32 => shapeCast S8x2048x64 (extractStridedSlice S16384x64 ![0, 0] x slices_S16384x128_S16384x64_0_0) shapeCasts_S16384x64_S8x2048x64) (out_arr m c 14)

/-- Lanes 64 to 71 of the array of window 14, reshaped. -/
theorem ends70 : (ends m c main_v70 : Vec Ideal S8x2048x8 .f32)
    = shapeCast S8x2048x8 (extractStridedSlice S16384x8 ![0, 64] ((dats m 0 c).arrAt 14 (cfgs 0).N : Vec Ideal S16384x128 .f32) slices_S16384x128_S16384x8_0_64) shapeCasts_S16384x8_S8x2048x8 := by
  unfold ends Pipeline.afterTail₀
  simp only [List.flatten_cons, List.flatten_nil, List.append_nil]
  after_reads_simp
  exact congrArg (fun x : Vec Ideal S16384x128 .f32 => shapeCast S8x2048x8 (extractStridedSlice S16384x8 ![0, 64] x slices_S16384x128_S16384x8_0_64) shapeCasts_S16384x8_S8x2048x8) (out_arr m c 14)

/-- Rows of 512 lanes, sequence by sequence. -/
theorem seqs512 (x : FVec Ideal S16384x512 .f32) (b : Fin 8) (s : Fin 2048) (n : Fin 512) :
    shapeCast S8x2048x512 x shapeCasts_S16384x512_S8x2048x512 (ix3 b s n) = x (ix2 ⟨2048 * b.val + s.val, by omega⟩ n) := by
  refine shapeCast_apply _ _ _ _ ?_
  rw [Shape.rowMajor_val_three, Shape.rowMajor_val_two]
  show (2048 * b.val + s.val) * 512 + n.val = (b.val * 2048 + s.val) * 512 + n.val
  omega

/-- Rows of 64 lanes, sequence by sequence. -/
theorem seqs64 (x : FVec Ideal S16384x64 .f32) (b : Fin 8) (s : Fin 2048) (n : Fin 64) :
    shapeCast S8x2048x64 x shapeCasts_S16384x64_S8x2048x64 (ix3 b s n) = x (ix2 ⟨2048 * b.val + s.val, by omega⟩ n) := by
  refine shapeCast_apply _ _ _ _ ?_
  rw [Shape.rowMajor_val_three, Shape.rowMajor_val_two]
  show (2048 * b.val + s.val) * 64 + n.val = (b.val * 2048 + s.val) * 64 + n.val
  omega

/-- Rows of 8 lanes, sequence by sequence. -/
theorem seqs8 (x : FVec Ideal S16384x8 .f32) (b : Fin 8) (s : Fin 2048) (n : Fin 8) :
    shapeCast S8x2048x8 x shapeCasts_S16384x8_S8x2048x8 (ix3 b s n) = x (ix2 ⟨2048 * b.val + s.val, by omega⟩ n) := by
  refine shapeCast_apply _ _ _ _ ?_
  rw [Shape.rowMajor_val_three, Shape.rowMajor_val_two]
  show (2048 * b.val + s.val) * 8 + n.val = (b.val * 2048 + s.val) * 8 + n.val
  omega

/-- Rows of 512 lanes, sequence by sequence and head by head. -/
theorem heads8 (x : FVec Ideal S16384x512 .bf16) (b : Fin 8) (s : Fin 2048) (h : Fin 8) (l : Fin 64) :
    shapeCast S8x2048x8x64 x shapeCasts_S16384x512_S8x2048x8x64 (ix4 b s h l) = x (ix2 ⟨2048 * b.val + s.val, by omega⟩ ⟨64 * h.val + l.val, by omega⟩) := by
  refine shapeCast_apply _ _ _ _ ?_
  rw [Shape.rowMajor_val_four, Shape.rowMajor_val_two]
  show (2048 * b.val + s.val) * 512 + (64 * h.val + l.val) = ((b.val * 2048 + s.val) * 8 + h.val) * 64 + l.val
  omega

/-- Rows of 128 lanes, sequence by sequence and head by head. -/
theorem heads2 (x : FVec Ideal S16384x128 .f32) (b : Fin 8) (s : Fin 2048) (h : Fin 2) (l : Fin 64) :
    shapeCast S8x2048x2x64 x shapeCasts_S16384x128_S8x2048x2x64 (ix4 b s h l) = x (ix2 ⟨2048 * b.val + s.val, by omega⟩ ⟨64 * h.val + l.val, by omega⟩) := by
  refine shapeCast_apply _ _ _ _ ?_
  rw [Shape.rowMajor_val_four, Shape.rowMajor_val_two]
  show (2048 * b.val + s.val) * 128 + (64 * h.val + l.val) = ((b.val * 2048 + s.val) * 2 + h.val) * 64 + l.val
  omega

variable (b : Fin 8) (s : Fin 2048)

/-- The mixer's input. -/
theorem resU (n : Fin 512) : (ends m c main_v62 : Vec Ideal S8x2048x512 .f32) (ix3 b s n) = prjM m c b s ⟨n.val, by omega⟩ := by
  rw [ends62]
  refine (seqs512 _ b s n).trans ((arr9_at m c b s n).trans ((out9_at m c (ptOf b s) (inTile s) n).trans ?_))
  rw [seqOf_ptOf, posOf_ptOf]

/-- The queries. -/
theorem resQ (hP : ∀ b s n, prjM m c b s n ≠ ⊤ ∧ prjM m c b s n ≠ ⊥) (h : Fin 8) (l : Fin 64) :
    (ends m c main_v63 : Vec Ideal S8x2048x8x64 .bf16) (ix4 b s h l) = specQ (prjM m c b s) s (m ((c : Thread nD τ).loc main_arg4)) h l := by
  rw [ends63]
  refine (heads8 _ b s h l).trans ((arr10_at m c b s _).trans ((out10_at m c hP (ptOf b s) (inTile s) h l).trans ?_))
  rw [seqOf_ptOf, posOf_ptOf]

/-- The keys. -/
theorem resK (hP : ∀ b s n, prjM m c b s n ≠ ⊤ ∧ prjM m c b s n ≠ ⊥) (h : Fin 2) (l : Fin 64) :
    (ends m c main_v64 : Vec Ideal S8x2048x2x64 .f32) (ix4 b s h l) = specK (prjM m c b s) s (m ((c : Thread nD τ).loc main_arg5)) h l := by
  rw [ends64]
  refine (heads2 _ b s h l).trans ((arr11_at m c b s _).trans ((out11_at m c hP (ptOf b s) (inTile s) h l).trans ?_))
  rw [seqOf_ptOf, posOf_ptOf]

/-- The values. -/
theorem resV (h : Fin 2) (l : Fin 64) :
    (ends m c main_v65 : Vec Ideal S8x2048x2x64 .f32) (ix4 b s h l) = prjM m c b s ⟨1152 + (64 * h.val + l.val), by omega⟩ := by
  rw [ends65]
  refine (heads2 _ b s h l).trans ((arr12_at m c b s _).trans ((out12_at m c (ptOf b s) (inTile s) _).trans ?_))
  rw [seqOf_ptOf, posOf_ptOf]

/-- The indexer's queries. -/
theorem resQi (h : Fin 8) (l : Fin 64) : (ends m c main_v66 : Vec Ideal S8x2048x8x64 .bf16) (ix4 b s h l) = specQi (prjM m c b s) s h l := by
  rw [ends66]
  refine (heads8 _ b s h l).trans ((arr13_at m c b s _).trans ((out13_at m c (ptOf b s) (inTile s) h l).trans ?_))
  rw [seqOf_ptOf, posOf_ptOf]

/-- The indexer's keys. -/
theorem resKi (l : Fin 64) : (ends m c main_v68 : Vec Ideal S8x2048x64 .f32) (ix3 b s l) = specKi (prjM m c b s) s l := by
  rw [ends68]
  refine (seqs64 _ b s l).trans (Eq.trans ?_ ((arr14_at m c b s ⟨l.val, by omega⟩).trans ((out14_at m c (ptOf b s) (inTile s) l).trans ?_)))
  · generalize (dats m 0 c).arrAt 14 (cfgs 0).N = A
    pointwise
  · rw [seqOf_ptOf, posOf_ptOf]

/-- The indexer's weights. -/
theorem resWi (j : Fin 8) : (ends m c main_v70 : Vec Ideal S8x2048x8 .f32) (ix3 b s j) = specWi (prjM m c b s) j := by
  rw [ends70]
  refine (seqs8 _ b s j).trans (Eq.trans ?_ ((arr14_at m c b s ⟨64 + j.val, by omega⟩).trans ((out14_tail m c (ptOf b s) (inTile s) j).trans ?_)))
  · generalize (dats m 0 c).arrAt 14 (cfgs 0).N = A
    pointwise
  · rw [seqOf_ptOf, posOf_ptOf]

end Cert.Kernel2Ideal

end
-- ==== Proof.InRef.lean ====
/-
  The reference of the input projection: what a run of it leaves.
-/
module

public import proofs.«01_k».proof.Proof.InHost
public import proofs.«01_k».proof.Proof.Gen.Reference2Ideal
public import Idealize.ShloMosaic.Lib.Claim
public import Idealize.ShloMosaic.Lib.StableHlo.RunRead

@[expose] public section

set_option maxRecDepth 65536
set_option maxHeartbeats 8000000

noncomputable section

namespace Cert.Reference2Ideal

open Idealize.ShloMosaic Idealize.ShloMosaic.TcCoe Idealize.SL.Sem
open Cert.Reference2Ideal.Gen

/-- The normalised rows. -/
noncomputable def rows (x : FVec Ideal S8x2048x1024 .f32) (mod : FVec Ideal S8x6144 .f32) (gain : FVec Ideal S1024 .f32) : FVec Ideal S8x2048x1024 .f32 :=
  addf (mulf (mulf (mulf x (broadcastInDim S8x2048x1024 ![0, 1, 2] bcast_S8x2048x1_S8x2048x1024_0_1_2
      (Host.rsqrt (addf (Host.divf (broadcastInDim S8x2048x1 ![0, 1] bcast_S8x2048_S8x2048x1_0_1
        (Host.reduceAdd (mulf x x) (constant S_ .f32 0x00000000#32) reducesTo_S8x2048x1024_S8x2048_d2 h_S_ : FVec Ideal S8x2048 .f32))
        (broadcastInDim S8x2048x1 ![] bcast_S_S8x2048x1 (constant S_ .f32 0x44800000#32)))
        (broadcastInDim S8x2048x1 ![] bcast_S_S8x2048x1 (constant S_ .f32 0x358637BD#32))) : FVec Ideal S8x2048x1 .f32)))
      (broadcastInDim S8x2048x1024 ![0, 1, 2] bcast_S1x1x1024_S8x2048x1024_0_1_2 (broadcastInDim S1x1x1024 ![2] bcast_S1024_S1x1x1024_2 gain)))
      (broadcastInDim S8x2048x1024 ![0, 1, 2] bcast_S8x1x1024_S8x2048x1024_0_1_2
        (addf (broadcastInDim S8x1x1024 ![] bcast_S_S8x1x1024 (constant S_ .f32 0x3F800000#32))
          (extractStridedSlice S8x1x1024 ![0, 0, 1024] (broadcastInDim S8x1x6144 ![0, 2] bcast_S8x6144_S8x1x6144_0_2 mod) slices_S8x1x6144_S8x1x1024_0_0_1024))))
      (broadcastInDim S8x2048x1024 ![0, 1, 2] bcast_S8x1x1024_S8x2048x1024_0_1_2
        (extractStridedSlice S8x1x1024 ![0, 0, 0] (broadcastInDim S8x1x6144 ![0, 2] bcast_S8x6144_S8x1x6144_0_2 mod) slices_S8x1x6144_S8x1x1024_0_0_0))

/-- The projection: the rows times the weights. -/
noncomputable def proj (x : FVec Ideal S8x2048x1024 .f32) (mod : FVec Ideal S8x6144 .f32) (gain : FVec Ideal S1024 .f32) (w : FVec Ideal S1024x1864 .f32) : FVec Ideal S8x2048x1864 .f32 :=
  Host.dotGeneral dot_S8x2048x1024_S1024x1864_S8x2048x1864_2_0_01_1_n_n none (rows x mod gain) w

/-- The angle of each position and plane. -/
noncomputable def angles : FVec Ideal S2048x8 .f32 :=
  mulf (broadcastInDim S2048x8 ![0, 1] bcast_S2048x1_S2048x8_0_1 (broadcastInDim S2048x1 ![0] bcast_S2048_S2048x1_0 (sitofp .f32 (iotaInDim S2048 32 0) : FVec Ideal S2048 .f32)))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (Host.divf (Host.negf (sitofp .f32 (iotaInDim S8 32 0) : FVec Ideal S8 .f32)) (broadcastInDim S8 ![] bcast_S_S8 (constant S_ .f32 0x41000000#32))))))

/-- 8 heads, each divided by the root of its mean square, times the gain. -/
noncomputable def norm8 (a : FVec Ideal S8x2048x8x64 .f32) (g : FVec Ideal S64 .f32) : FVec Ideal S8x2048x8x64 .f32 :=
  mulf (mulf a (broadcastInDim S8x2048x8x64 ![0, 1, 2, 3] bcast_S8x2048x8x1_S8x2048x8x64_0_1_2_3
      (Host.rsqrt (addf (Host.divf (broadcastInDim S8x2048x8x1 ![0, 1, 2] bcast_S8x2048x8_S8x2048x8x1_0_1_2
        (Host.reduceAdd (mulf a a) (constant S_ .f32 0x00000000#32) reducesTo_S8x2048x8x64_S8x2048x8_d3 h_S_ : FVec Ideal S8x2048x8 .f32))
        (broadcastInDim S8x2048x8x1 ![] bcast_S_S8x2048x8x1 (constant S_ .f32 0x42800000#32)))
        (broadcastInDim S8x2048x8x1 ![] bcast_S_S8x2048x8x1 (constant S_ .f32 0x358637BD#32))) : FVec Ideal S8x2048x8x1 .f32)))
    (broadcastInDim S8x2048x8x64 ![0, 1, 2, 3] bcast_S1x1x1x64_S8x2048x8x64_0_1_2_3 (broadcastInDim S1x1x1x64 ![3] bcast_S64_S1x1x1x64_3 g))

/-- 2 heads, each divided by the root of its mean square, times the gain. -/
noncomputable def norm2 (a : FVec Ideal S8x2048x2x64 .f32) (g : FVec Ideal S64 .f32) : FVec Ideal S8x2048x2x64 .f32 :=
  mulf (mulf a (broadcastInDim S8x2048x2x64 ![0, 1, 2, 3] bcast_S8x2048x2x1_S8x2048x2x64_0_1_2_3
      (Host.rsqrt (addf (Host.divf (broadcastInDim S8x2048x2x1 ![0, 1, 2] bcast_S8x2048x2_S8x2048x2x1_0_1_2
        (Host.reduceAdd (mulf a a) (constant S_ .f32 0x00000000#32) reducesTo_S8x2048x2x64_S8x2048x2_d3 h_S_ : FVec Ideal S8x2048x2 .f32))
        (broadcastInDim S8x2048x2x1 ![] bcast_S_S8x2048x2x1 (constant S_ .f32 0x42800000#32)))
        (broadcastInDim S8x2048x2x1 ![] bcast_S_S8x2048x2x1 (constant S_ .f32 0x358637BD#32))) : FVec Ideal S8x2048x2x1 .f32)))
    (broadcastInDim S8x2048x2x64 ![0, 1, 2, 3] bcast_S1x1x1x64_S8x2048x2x64_0_1_2_3 (broadcastInDim S1x1x1x64 ![3] bcast_S64_S1x1x1x64_3 g))

/-- The turned lanes of 8 heads. -/
noncomputable def turned8 (a : FVec Ideal S8x2048x8x64 .f32) : FVec Ideal S8x2048x8x16 .f32 :=
  concatenate S8x2048x8x16 3 [⟨S8x2048x8x8, (subf (mulf (extractStridedSlice S8x2048x8x8 ![0, 0, 0, 0] (extractStridedSlice S8x2048x8x16 ![0, 0, 0, 0] a slices_S8x2048x8x64_S8x2048x8x16_0_0_0_0) slices_S8x2048x8x16_S8x2048x8x8_0_0_0_0) (broadcastInDim S8x2048x8x8 ![0, 1, 2, 3] bcast_S1x2048x1x8_S8x2048x8x8_0_1_2_3 (broadcastInDim S1x2048x1x8 ![1, 3] bcast_S2048x8_S1x2048x1x8_1_3 (Host.cos angles : FVec Ideal S2048x8 .f32)))) (mulf (extractStridedSlice S8x2048x8x8 ![0, 0, 0, 8] (extractStridedSlice S8x2048x8x16 ![0, 0, 0, 0] a slices_S8x2048x8x64_S8x2048x8x16_0_0_0_0) slices_S8x2048x8x16_S8x2048x8x8_0_0_0_8) (broadcastInDim S8x2048x8x8 ![0, 1, 2, 3] bcast_S1x2048x1x8_S8x2048x8x8_0_1_2_3 (broadcastInDim S1x2048x1x8 ![1, 3] bcast_S2048x8_S1x2048x1x8_1_3 (Host.sin angles : FVec Ideal S2048x8 .f32)))) : FVec Ideal S8x2048x8x8 .f32)⟩,
    ⟨S8x2048x8x8, (addf (mulf (extractStridedSlice S8x2048x8x8 ![0, 0, 0, 8] (extractStridedSlice S8x2048x8x16 ![0, 0, 0, 0] a slices_S8x2048x8x64_S8x2048x8x16_0_0_0_0) slices_S8x2048x8x16_S8x2048x8x8_0_0_0_8) (broadcastInDim S8x2048x8x8 ![0, 1, 2, 3] bcast_S1x2048x1x8_S8x2048x8x8_0_1_2_3 (broadcastInDim S1x2048x1x8 ![1, 3] bcast_S2048x8_S1x2048x1x8_1_3 (Host.cos angles : FVec Ideal S2048x8 .f32)))) (mulf (extractStridedSlice S8x2048x8x8 ![0, 0, 0, 0] (extractStridedSlice S8x2048x8x16 ![0, 0, 0, 0] a slices_S8x2048x8x64_S8x2048x8x16_0_0_0_0) slices_S8x2048x8x16_S8x2048x8x8_0_0_0_0) (broadcastInDim S8x2048x8x8 ![0, 1, 2, 3] bcast_S1x2048x1x8_S8x2048x8x8_0_1_2_3 (broadcastInDim S1x2048x1x8 ![1, 3] bcast_S2048x8_S1x2048x1x8_1_3 (Host.sin angles : FVec Ideal S2048x8 .f32)))) : FVec Ideal S8x2048x8x8 .f32)⟩] concatenates_S8x2048x8x8_S8x2048x8x8_S8x2048x8x16_d3

/-- 8 heads turned by their positions. -/
noncomputable def rope8 (a : FVec Ideal S8x2048x8x64 .f32) : FVec Ideal S8x2048x8x64 .f32 :=
  concatenate S8x2048x8x64 3 [⟨S8x2048x8x16, turned8 a⟩, ⟨S8x2048x8x48, (extractStridedSlice S8x2048x8x48 ![0, 0, 0, 16] a slices_S8x2048x8x64_S8x2048x8x48_0_0_0_16 : FVec Ideal S8x2048x8x48 .f32)⟩] concatenates_S8x2048x8x16_S8x2048x8x48_S8x2048x8x64_d3

/-- The turned lanes of 2 heads. -/
noncomputable def turned2 (a : FVec Ideal S8x2048x2x64 .f32) : FVec Ideal S8x2048x2x16 .f32 :=
  concatenate S8x2048x2x16 3 [⟨S8x2048x2x8, (subf (mulf (extractStridedSlice S8x2048x2x8 ![0, 0, 0, 0] (extractStridedSlice S8x2048x2x16 ![0, 0, 0, 0] a slices_S8x2048x2x64_S8x2048x2x16_0_0_0_0) slices_S8x2048x2x16_S8x2048x2x8_0_0_0_0) (broadcastInDim S8x2048x2x8 ![0, 1, 2, 3] bcast_S1x2048x1x8_S8x2048x2x8_0_1_2_3 (broadcastInDim S1x2048x1x8 ![1, 3] bcast_S2048x8_S1x2048x1x8_1_3 (Host.cos angles : FVec Ideal S2048x8 .f32)))) (mulf (extractStridedSlice S8x2048x2x8 ![0, 0, 0, 8] (extractStridedSlice S8x2048x2x16 ![0, 0, 0, 0] a slices_S8x2048x2x64_S8x2048x2x16_0_0_0_0) slices_S8x2048x2x16_S8x2048x2x8_0_0_0_8) (broadcastInDim S8x2048x2x8 ![0, 1, 2, 3] bcast_S1x2048x1x8_S8x2048x2x8_0_1_2_3 (broadcastInDim S1x2048x1x8 ![1, 3] bcast_S2048x8_S1x2048x1x8_1_3 (Host.sin angles : FVec Ideal S2048x8 .f32)))) : FVec Ideal S8x2048x2x8 .f32)⟩,
    ⟨S8x2048x2x8, (addf (mulf (extractStridedSlice S8x2048x2x8 ![0, 0, 0, 8] (extractStridedSlice S8x2048x2x16 ![0, 0, 0, 0] a slices_S8x2048x2x64_S8x2048x2x16_0_0_0_0) slices_S8x2048x2x16_S8x2048x2x8_0_0_0_8) (broadcastInDim S8x2048x2x8 ![0, 1, 2, 3] bcast_S1x2048x1x8_S8x2048x2x8_0_1_2_3 (broadcastInDim S1x2048x1x8 ![1, 3] bcast_S2048x8_S1x2048x1x8_1_3 (Host.cos angles : FVec Ideal S2048x8 .f32)))) (mulf (extractStridedSlice S8x2048x2x8 ![0, 0, 0, 0] (extractStridedSlice S8x2048x2x16 ![0, 0, 0, 0] a slices_S8x2048x2x64_S8x2048x2x16_0_0_0_0) slices_S8x2048x2x16_S8x2048x2x8_0_0_0_0) (broadcastInDim S8x2048x2x8 ![0, 1, 2, 3] bcast_S1x2048x1x8_S8x2048x2x8_0_1_2_3 (broadcastInDim S1x2048x1x8 ![1, 3] bcast_S2048x8_S1x2048x1x8_1_3 (Host.sin angles : FVec Ideal S2048x8 .f32)))) : FVec Ideal S8x2048x2x8 .f32)⟩] concatenates_S8x2048x2x8_S8x2048x2x8_S8x2048x2x16_d3

/-- 2 heads turned by their positions. -/
noncomputable def rope2 (a : FVec Ideal S8x2048x2x64 .f32) : FVec Ideal S8x2048x2x64 .f32 :=
  concatenate S8x2048x2x64 3 [⟨S8x2048x2x16, turned2 a⟩, ⟨S8x2048x2x48, (extractStridedSlice S8x2048x2x48 ![0, 0, 0, 16] a slices_S8x2048x2x64_S8x2048x2x48_0_0_0_16 : FVec Ideal S8x2048x2x48 .f32)⟩] concatenates_S8x2048x2x16_S8x2048x2x48_S8x2048x2x64_d3

/-- The turned lanes of 1 heads. -/
noncomputable def turned1 (a : FVec Ideal S8x2048x1x64 .f32) : FVec Ideal S8x2048x1x16 .f32 :=
  concatenate S8x2048x1x16 3 [⟨S8x2048x1x8, (subf (mulf (extractStridedSlice S8x2048x1x8 ![0, 0, 0, 0] (extractStridedSlice S8x2048x1x16 ![0, 0, 0, 0] a slices_S8x2048x1x64_S8x2048x1x16_0_0_0_0) slices_S8x2048x1x16_S8x2048x1x8_0_0_0_0) (broadcastInDim S8x2048x1x8 ![0, 1, 2, 3] bcast_S1x2048x1x8_S8x2048x1x8_0_1_2_3 (broadcastInDim S1x2048x1x8 ![1, 3] bcast_S2048x8_S1x2048x1x8_1_3 (Host.cos angles : FVec Ideal S2048x8 .f32)))) (mulf (extractStridedSlice S8x2048x1x8 ![0, 0, 0, 8] (extractStridedSlice S8x2048x1x16 ![0, 0, 0, 0] a slices_S8x2048x1x64_S8x2048x1x16_0_0_0_0) slices_S8x2048x1x16_S8x2048x1x8_0_0_0_8) (broadcastInDim S8x2048x1x8 ![0, 1, 2, 3] bcast_S1x2048x1x8_S8x2048x1x8_0_1_2_3 (broadcastInDim S1x2048x1x8 ![1, 3] bcast_S2048x8_S1x2048x1x8_1_3 (Host.sin angles : FVec Ideal S2048x8 .f32)))) : FVec Ideal S8x2048x1x8 .f32)⟩,
    ⟨S8x2048x1x8, (addf (mulf (extractStridedSlice S8x2048x1x8 ![0, 0, 0, 8] (extractStridedSlice S8x2048x1x16 ![0, 0, 0, 0] a slices_S8x2048x1x64_S8x2048x1x16_0_0_0_0) slices_S8x2048x1x16_S8x2048x1x8_0_0_0_8) (broadcastInDim S8x2048x1x8 ![0, 1, 2, 3] bcast_S1x2048x1x8_S8x2048x1x8_0_1_2_3 (broadcastInDim S1x2048x1x8 ![1, 3] bcast_S2048x8_S1x2048x1x8_1_3 (Host.cos angles : FVec Ideal S2048x8 .f32)))) (mulf (extractStridedSlice S8x2048x1x8 ![0, 0, 0, 0] (extractStridedSlice S8x2048x1x16 ![0, 0, 0, 0] a slices_S8x2048x1x64_S8x2048x1x16_0_0_0_0) slices_S8x2048x1x16_S8x2048x1x8_0_0_0_0) (broadcastInDim S8x2048x1x8 ![0, 1, 2, 3] bcast_S1x2048x1x8_S8x2048x1x8_0_1_2_3 (broadcastInDim S1x2048x1x8 ![1, 3] bcast_S2048x8_S1x2048x1x8_1_3 (Host.sin angles : FVec Ideal S2048x8 .f32)))) : FVec Ideal S8x2048x1x8 .f32)⟩] concatenates_S8x2048x1x8_S8x2048x1x8_S8x2048x1x16_d3

/-- 1 heads turned by their positions. -/
noncomputable def rope1 (a : FVec Ideal S8x2048x1x64 .f32) : FVec Ideal S8x2048x1x64 .f32 :=
  concatenate S8x2048x1x64 3 [⟨S8x2048x1x16, turned1 a⟩, ⟨S8x2048x1x48, (extractStridedSlice S8x2048x1x48 ![0, 0, 0, 16] a slices_S8x2048x1x64_S8x2048x1x48_0_0_0_16 : FVec Ideal S8x2048x1x48 .f32)⟩] concatenates_S8x2048x1x16_S8x2048x1x48_S8x2048x1x64_d3

/-- The mixer's input. -/
noncomputable def outU (P : FVec Ideal S8x2048x1864 .f32) : FVec Ideal S8x2048x512 .f32 :=
  extractStridedSlice S8x2048x512 ![0, 0, 0] P slices_S8x2048x1864_S8x2048x512_0_0_0

/-- The queries. -/
noncomputable def outQ (P : FVec Ideal S8x2048x1864 .f32) (g : FVec Ideal S64 .f32) : FVec Ideal S8x2048x8x64 .bf16 :=
  truncf (φ := .f32) .bf16 (mulf (rope8 (norm8 (shapeCast S8x2048x8x64 (extractStridedSlice S8x2048x512 ![0, 0, 512] P slices_S8x2048x1864_S8x2048x512_0_0_512)
    shapeCasts_S8x2048x512_S8x2048x8x64) g)) (broadcastInDim S8x2048x8x64 ![] bcast_S_S8x2048x8x64 (constant S_ .f32 0x3E000000#32))) bitsLt_bf16_f32

/-- The keys. -/
noncomputable def outK (P : FVec Ideal S8x2048x1864 .f32) (g : FVec Ideal S64 .f32) : FVec Ideal S8x2048x2x64 .f32 :=
  rope2 (norm2 (shapeCast S8x2048x2x64 (extractStridedSlice S8x2048x128 ![0, 0, 1024] P slices_S8x2048x1864_S8x2048x128_0_0_1024) shapeCasts_S8x2048x128_S8x2048x2x64) g)

/-- The values. -/
noncomputable def outV (P : FVec Ideal S8x2048x1864 .f32) : FVec Ideal S8x2048x2x64 .f32 :=
  shapeCast S8x2048x2x64 (extractStridedSlice S8x2048x128 ![0, 0, 1152] P slices_S8x2048x1864_S8x2048x128_0_0_1152) shapeCasts_S8x2048x128_S8x2048x2x64

/-- The indexer's queries. -/
noncomputable def outQi (P : FVec Ideal S8x2048x1864 .f32) : FVec Ideal S8x2048x8x64 .bf16 :=
  truncf (φ := .f32) .bf16 (mulf (rope8 (shapeCast S8x2048x8x64 (extractStridedSlice S8x2048x512 ![0, 0, 1280] P slices_S8x2048x1864_S8x2048x512_0_0_1280)
    shapeCasts_S8x2048x512_S8x2048x8x64)) (broadcastInDim S8x2048x8x64 ![] bcast_S_S8x2048x8x64 (constant S_ .f32 0x3E000000#32))) bitsLt_bf16_f32

/-- The indexer's keys. -/
noncomputable def outKi (P : FVec Ideal S8x2048x1864 .f32) : FVec Ideal S8x2048x64 .f32 :=
  shapeCast S8x2048x64 (rope1 (shapeCast S8x2048x1x64 (extractStridedSlice S8x2048x64 ![0, 0, 1792] P slices_S8x2048x1864_S8x2048x64_0_0_1792)
    shapeCasts_S8x2048x64_S8x2048x1x64)) shapeCasts_S8x2048x1x64_S8x2048x64

/-- The indexer's weights. -/
noncomputable def outWi (P : FVec Ideal S8x2048x1864 .f32) : FVec Ideal S8x2048x8 .f32 :=
  mulf (extractStridedSlice S8x2048x8 ![0, 0, 1856] P slices_S8x2048x1864_S8x2048x8_0_0_1856) (broadcastInDim S8x2048x8 ![] bcast_S_S8x2048x8 (constant S_ .f32 0x3EB504F3#32))

/-- A run of the reference leaves these and keeps its arguments. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v28) = outU (proj (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v199) = outQ (proj (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_v126) = outK (proj (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg5))
      ∧ r.2.mem ((c.tc : Thread nD τ).loc main_v127) = outV (proj (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v202) = outQi (proj (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v194) = outKi (proj (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v196) = outWi (proj (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  hlo_run
  all_goals rfl

end Cert.Reference2Ideal

end
-- ==== Proof.InRefAt.lean ====
/-
  The reference of the input projection at one element.
-/
module

public import proofs.«01_k».proof.Proof.InRef
public import proofs.«01_k».proof.Proof.InArr
public import Idealize.ShloMosaic.Lib.Pointwise

@[expose] public section

set_option maxRecDepth 16384

noncomputable section

namespace Cert.Reference2Ideal

open Idealize.ShloMosaic
open Cert.Reference2Ideal.Gen
open Cert.Proof (inNormed headNorm turn tiny)
open Cert.Kernel2Ideal (prj cosAt sinAt eighth specQ specK specQi specKi specWi)

/-- The normalised rows at one element. -/
theorem rows_at (x : FVec Ideal S8x2048x1024 .f32) (mod : FVec Ideal S8x6144 .f32) (gain : FVec Ideal S1024 .f32) (b : Fin 8) (s : Fin 2048) (k : Fin 1024) :
    rows x mod gain (ix3 b s k) = inNormed (fun k => x (ix3 b s k)) (fun k => gain (ix1 k)) (fun k => mod (ix2 b ⟨1024 + k.val, by omega⟩))
      (fun k => mod (ix2 b ⟨k.val, by omega⟩)) k := by
  unfold rows inNormed tiny
  pointwise

/-- The projection at one element. -/
theorem proj_at (x : FVec Ideal S8x2048x1024 .f32) (mod : FVec Ideal S8x6144 .f32) (gain : FVec Ideal S1024 .f32) (w : FVec Ideal S1024x1864 .f32)
    (b : Fin 8) (s : Fin 2048) (n : Fin 1864) : proj x mod gain w (ix3 b s n) = prj x mod gain w b s n := by
  unfold proj prj
  simp only [← rows_at]
  generalize rows x mod gain = r
  pointwise

/-- The angles are those of the other program. -/
theorem angles_eq : angles = Cert.Kernel2Ideal.angles (F := Ideal) := rfl

/-- The normalised heads (eight heads) at one element. -/
theorem norm8_at (a : FVec Ideal S8x2048x8x64 .f32) (g : FVec Ideal S64 .f32) (b : Fin 8) (s : Fin 2048) (h : Fin 8) (l : Fin 64) :
    norm8 a g (ix4 b s h l) = headNorm (fun l => a (ix4 b s h l)) (fun l => g (ix1 l)) l := by
  unfold norm8 headNorm tiny
  pointwise

/-- The normalised heads (two heads) at one element. -/
theorem norm2_at (a : FVec Ideal S8x2048x2x64 .f32) (g : FVec Ideal S64 .f32) (b : Fin 8) (s : Fin 2048) (h : Fin 2) (l : Fin 64) :
    norm2 a g (ix4 b s h l) = headNorm (fun l => a (ix4 b s h l)) (fun l => g (ix1 l)) l := by
  unfold norm2 headNorm tiny
  pointwise

/-- The turned heads (eight heads) at one element. -/
theorem rope8_at (a : FVec Ideal S8x2048x8x64 .f32) (b : Fin 8) (s : Fin 2048) (h : Fin 8) (l : Fin 64) :
    rope8 a (ix4 b s h l) = turn (cosAt s) (sinAt s) (fun l => a (ix4 b s h l)) l := by
  unfold rope8 turned8 turn cosAt sinAt
  rw [angles_eq]
  generalize Cert.Kernel2Ideal.angles (F := Ideal) = A
  pointwise
  by_cases h0 : l.val < 8
  · have h1 : l.val < 16 := by omega
    simp only [dif_pos h0, dif_pos h1]
    exact congrArg (fun n => a (ix4 b s h l) * Ideal.cos (A (ix2 s ⟨l.val, h0⟩)) - a (ix4 b s h n) * Ideal.sin (A (ix2 s ⟨l.val, h0⟩))) (Fin.ext (Nat.add_comm _ _))
  · by_cases h1 : l.val < 16
    · simp only [dif_neg h0, dif_pos h1]
      exact congrArg (fun n => a (ix4 b s h n) * Ideal.cos (A (ix2 s ⟨l.val - 8, by omega⟩)) + a (ix4 b s h ⟨l.val - 8, by omega⟩) * Ideal.sin (A (ix2 s ⟨l.val - 8, by omega⟩)))
        (Fin.ext (Nat.add_sub_cancel' (Nat.le_of_not_lt h0)))
    · simp only [dif_neg h0, dif_neg h1]
      exact congrArg (fun n => a (ix4 b s h n)) (Fin.ext (Nat.add_sub_cancel' (Nat.le_of_not_lt h1)))

/-- The turned heads (two heads) at one element. -/
theorem rope2_at (a : FVec Ideal S8x2048x2x64 .f32) (b : Fin 8) (s : Fin 2048) (h : Fin 2) (l : Fin 64) :
    rope2 a (ix4 b s h l) = turn (cosAt s) (sinAt s) (fun l => a (ix4 b s h l)) l := by
  unfold rope2 turned2 turn cosAt sinAt
  rw [angles_eq]
  generalize Cert.Kernel2Ideal.angles (F := Ideal) = A
  pointwise
  by_cases h0 : l.val < 8
  · have h1 : l.val < 16 := by omega
    simp only [dif_pos h0, dif_pos h1]
    exact congrArg (fun n => a (ix4 b s h l) * Ideal.cos (A (ix2 s ⟨l.val, h0⟩)) - a (ix4 b s h n) * Ideal.sin (A (ix2 s ⟨l.val, h0⟩))) (Fin.ext (Nat.add_comm _ _))
  · by_cases h1 : l.val < 16
    · simp only [dif_neg h0, dif_pos h1]
      exact congrArg (fun n => a (ix4 b s h n) * Ideal.cos (A (ix2 s ⟨l.val - 8, by omega⟩)) + a (ix4 b s h ⟨l.val - 8, by omega⟩) * Ideal.sin (A (ix2 s ⟨l.val - 8, by omega⟩)))
        (Fin.ext (Nat.add_sub_cancel' (Nat.le_of_not_lt h0)))
    · simp only [dif_neg h0, dif_neg h1]
      exact congrArg (fun n => a (ix4 b s h n)) (Fin.ext (Nat.add_sub_cancel' (Nat.le_of_not_lt h1)))

/-- The turned heads (one head) at one element. -/
theorem rope1_at (a : FVec Ideal S8x2048x1x64 .f32) (b : Fin 8) (s : Fin 2048) (l : Fin 64) :
    rope1 a (ix4 b s 0 l) = turn (cosAt s) (sinAt s) (fun l => a (ix4 b s 0 l)) l := by
  unfold rope1 turned1 turn cosAt sinAt
  rw [angles_eq]
  generalize Cert.Kernel2Ideal.angles (F := Ideal) = A
  pointwise
  by_cases h0 : l.val < 8
  · have h1 : l.val < 16 := by omega
    simp only [dif_pos h0, dif_pos h1]
    exact congrArg (fun n => a (ix4 b s 0 l) * Ideal.cos (A (ix2 s ⟨l.val, h0⟩)) - a (ix4 b s 0 n) * Ideal.sin (A (ix2 s ⟨l.val, h0⟩))) (Fin.ext (Nat.add_comm _ _))
  · by_cases h1 : l.val < 16
    · simp only [dif_neg h0, dif_pos h1]
      exact congrArg (fun n => a (ix4 b s 0 n) * Ideal.cos (A (ix2 s ⟨l.val - 8, by omega⟩)) + a (ix4 b s 0 ⟨l.val - 8, by omega⟩) * Ideal.sin (A (ix2 s ⟨l.val - 8, by omega⟩)))
        (Fin.ext (Nat.add_sub_cancel' (Nat.le_of_not_lt h0)))
    · simp only [dif_neg h0, dif_neg h1]
      exact congrArg (fun n => a (ix4 b s 0 n)) (Fin.ext (Nat.add_sub_cancel' (Nat.le_of_not_lt h1)))

/-- The lanes of a row as 8 heads. -/
theorem heads8 (x : FVec Ideal S8x2048x512 .f32) (b : Fin 8) (s : Fin 2048) (h : Fin 8) (l : Fin 64) :
    shapeCast S8x2048x8x64 x shapeCasts_S8x2048x512_S8x2048x8x64 (ix4 b s h l) = x (ix3 b s ⟨64 * h.val + l.val, by omega⟩) := by
  refine shapeCast_apply _ _ _ _ ?_
  rw [Shape.rowMajor_val_three, Shape.rowMajor_val_four]
  show (b.val * 2048 + s.val) * 512 + (64 * h.val + l.val) = ((b.val * 2048 + s.val) * 8 + h.val) * 64 + l.val
  omega

/-- The lanes of a row as 2 heads. -/
theorem heads2 (x : FVec Ideal S8x2048x128 .f32) (b : Fin 8) (s : Fin 2048) (h : Fin 2) (l : Fin 64) :
    shapeCast S8x2048x2x64 x shapeCasts_S8x2048x128_S8x2048x2x64 (ix4 b s h l) = x (ix3 b s ⟨64 * h.val + l.val, by omega⟩) := by
  refine shapeCast_apply _ _ _ _ ?_
  rw [Shape.rowMajor_val_three, Shape.rowMajor_val_four]
  show (b.val * 2048 + s.val) * 128 + (64 * h.val + l.val) = ((b.val * 2048 + s.val) * 2 + h.val) * 64 + l.val
  omega

variable (P : FVec Ideal S8x2048x1864 .f32) (b : Fin 8) (s : Fin 2048)

/-- The mixer's input at one element. -/
theorem outU_at (n : Fin 512) : outU P (ix3 b s n) = P (ix3 b s ⟨n.val, by omega⟩) := by
  unfold outU
  pointwise

/-- The queries at one element. -/
theorem outQ_at (g : FVec Ideal S64 .f32) (h : Fin 8) (l : Fin 64) : outQ P g (ix4 b s h l) = specQ (fun n => P (ix3 b s n)) s g h l := by
  have e : outQ P g (ix4 b s h l) = rope8 (norm8 (shapeCast S8x2048x8x64 (extractStridedSlice S8x2048x512 ![0, 0, 512] P slices_S8x2048x1864_S8x2048x512_0_0_512) shapeCasts_S8x2048x512_S8x2048x8x64) g) (ix4 b s h l) * eighth := by
    unfold outQ
    generalize rope8 _ = r
    pointwise
  rw [e, rope8_at]
  unfold specQ
  refine congrArg (fun a => turn (cosAt s) (sinAt s) a l * eighth) (funext fun l => ?_)
  refine (norm8_at _ _ _ _ _ _).trans (congrArg (fun a => headNorm a (fun l => g (ix1 l)) l) (funext fun l => ?_))
  refine (heads8 _ b s h l).trans ?_
  pointwise
  exact congrArg (fun n => P (ix3 b s n)) (Fin.ext (Nat.add_assoc _ _ _).symm)

/-- The keys at one element. -/
theorem outK_at (g : FVec Ideal S64 .f32) (h : Fin 2) (l : Fin 64) : outK P g (ix4 b s h l) = specK (fun n => P (ix3 b s n)) s g h l := by
  unfold outK specK
  rw [rope2_at]
  refine congrArg (fun a => turn (cosAt s) (sinAt s) a l) (funext fun l => ?_)
  refine (norm2_at _ _ _ _ _ _).trans (congrArg (fun a => headNorm a (fun l => g (ix1 l)) l) (funext fun l => ?_))
  refine (heads2 _ b s h l).trans ?_
  pointwise
  exact congrArg (fun n => P (ix3 b s n)) (Fin.ext (Nat.add_assoc _ _ _).symm)

/-- The values at one element. -/
theorem outV_at (h : Fin 2) (l : Fin 64) : outV P (ix4 b s h l) = P (ix3 b s ⟨1152 + (64 * h.val + l.val), by omega⟩) := by
  unfold outV
  refine (heads2 _ b s h l).trans ?_
  pointwise

/-- The indexer's queries at one element. -/
theorem outQi_at (h : Fin 8) (l : Fin 64) : outQi P (ix4 b s h l) = specQi (fun n => P (ix3 b s n)) s h l := by
  have e : outQi P (ix4 b s h l) = rope8 (shapeCast S8x2048x8x64 (extractStridedSlice S8x2048x512 ![0, 0, 1280] P slices_S8x2048x1864_S8x2048x512_0_0_1280) shapeCasts_S8x2048x512_S8x2048x8x64) (ix4 b s h l) * eighth := by
    unfold outQi
    generalize rope8 _ = r
    pointwise
  rw [e, rope8_at]
  unfold specQi
  refine congrArg (fun a => turn (cosAt s) (sinAt s) a l * eighth) (funext fun l => ?_)
  refine (heads8 _ b s h l).trans ?_
  pointwise
  exact congrArg (fun n => P (ix3 b s n)) (Fin.ext (Nat.add_assoc _ _ _).symm)

/-- The indexer's keys at one element. -/
theorem outKi_at (l : Fin 64) : outKi P (ix3 b s l) = specKi (fun n => P (ix3 b s n)) s l := by
  have e : outKi P (ix3 b s l) = rope1 (shapeCast S8x2048x1x64 (extractStridedSlice S8x2048x64 ![0, 0, 1792] P slices_S8x2048x1864_S8x2048x64_0_0_1792) shapeCasts_S8x2048x64_S8x2048x1x64) (ix4 b s 0 l) := by
    unfold outKi
    generalize rope1 _ = r
    pointwise
  rw [e, rope1_at]
  unfold specKi
  refine congrArg (fun a => turn (cosAt s) (sinAt s) a l) (funext fun l => ?_)
  pointwise

/-- The indexer's weights at one element. -/
theorem outWi_at (j : Fin 8) : outWi P (ix3 b s j) = specWi (fun n => P (ix3 b s n)) j := by
  unfold outWi specWi
  pointwise

end Cert.Reference2Ideal

end
-- ==== Proof.InFinite.lean ====
/-
  What the precondition of the input projection says: the gain, the weights and the modulation's first two pieces are
  finite.
-/
module

public import proofs.«01_k».proof.Pre_finite
public import Idealize.ShloMosaic.PureOps.Ideal
public import Idealize.ShloMosaic.Lib.Pointwise
public import Idealize.ShloMosaic.Lib.ReduceAll
public import Idealize.ShloMosaic.Lib.ValueIdx

@[expose] public section

set_option maxRecDepth 16384

noncomputable section

namespace Cert.Proof

open Idealize.ShloMosaic

instance finiteFacts : Cert.Pre_finite.Facts where
  slices_S8x6144_S8x2048_0_0 := by decide
  bcast_S_S8x2048 := by decide
  reducesTo_S8x2048_S_d0_1 := by decide
  h_S_ := by decide
  bcast_S_S1024 := by decide
  reducesTo_S1024_S_d0 := by decide
  bcast_S_S1024x1864 := by decide
  reducesTo_S1024x1864_S_d0_1 := by decide

/-- A number whose absolute value is below infinity is finite. -/
theorem real_of_abs (x : EReal) (h : Ideal.cmp .olt (max x (-x)) (Ideal.ofBits FTy.f32 0x7F800000#32) = 1#1) : x ≠ ⊤ ∧ x ≠ ⊥ := by
  have ht : Ideal.ofBits FTy.f32 0x7F800000#32 = ⊤ := by simp [Ideal.ofBits, Ideal.ieee]
  rw [ht] at h
  constructor
  · rintro rfl
    simp [Ideal.cmp] at h
  · rintro rfl
    simp [Ideal.cmp] at h

variable (x : FVec Ideal Cert.Pre_finite.S8x2048x1024 .f32) (mod : FVec Ideal Cert.Pre_finite.S8x6144 .f32)
    (g : FVec Ideal Cert.Pre_finite.S1024 .f32) (w : FVec Ideal Cert.Pre_finite.S1024x1864 .f32) (qg kg : FVec Ideal Cert.Pre_finite.S64 .f32)

/-- The scalars' shape has one index. -/
instance : Subsingleton Cert.Pre_finite.S_.Idx := ⟨fun a b => funext fun k => k.elim0⟩

/-- Under the precondition the entries it speaks of are finite. -/
theorem finite_all (h : Cert.Pre_finite.fn x mod g w qg kg = fun _ => 1#1) :
    (∀ (b : Fin 8) (k : Fin 2048), mod (ix2 b ⟨k.val, by omega⟩) ≠ ⊤ ∧ mod (ix2 b ⟨k.val, by omega⟩) ≠ ⊥)
    ∧ (∀ k : Fin 1024, g (ix1 k) ≠ ⊤ ∧ g (ix1 k) ≠ ⊥) ∧ ∀ (k : Fin 1024) (n : Fin 1864), w (ix2 k n) ≠ ⊤ ∧ w (ix2 k n) ≠ ⊥ := by
  have h0 := congrFun h (Idealize.ShloMosaic.ValueIdx.ix0)
  obtain ⟨h1, h2⟩ := IntOp.andi_eq_one.1 h0
  obtain ⟨h3, h4⟩ := IntOp.andi_eq_one.1 h1
  refine ⟨fun b k => ?_, fun k => ?_, fun k n => ?_⟩
  · have := Host.reduce_andi_all _ _ _ _ _ h3 (ix2 b k)
    refine real_of_abs _ (Eq.trans ?_ this)
    pointwise
    rfl
  · have := Host.reduce_andi_all _ _ _ _ _ h4 (ix1 k)
    refine real_of_abs _ (Eq.trans ?_ this)
    pointwise
    rfl
  · have := Host.reduce_andi_all _ _ _ _ _ h2 (ix2 k n)
    refine real_of_abs _ (Eq.trans ?_ this)
    pointwise
    rfl

end Cert.Proof

end
-- ==== Proof.InClaim.lean ====
/-
  The input projection: the kernel and the reference leave the same results.
-/
module

public import proofs.«01_k».proof.Defs
public import proofs.«01_k».proof.Proof.InTail
public import proofs.«01_k».proof.Proof.InRefAt
public import proofs.«01_k».proof.Proof.InFinite
public import Idealize.ShloMosaic.Lib.Claim

@[expose] public section

set_option maxRecDepth 65536

noncomputable section

namespace Cert.Proof

open Idealize.ShloMosaic Idealize.ShloMosaic.TcCoe Idealize.SL.Sem
open Cert.Kernel2Ideal (nD τ sig ends prjM)

variable (m : (ℓ : Loc nD τ sig) → Buf (Elt Ideal) ℓ) (c : Dev nD)

/-- The reference's projection of the kernel's arguments. -/
abbrev refP : FVec Ideal Cert.Reference2Ideal.S8x2048x1864 .f32 :=
  Cert.Reference2Ideal.proj (m ((c : Thread nD τ).loc Cert.Kernel2Ideal.main_arg0)) (m ((c : Thread nD τ).loc Cert.Kernel2Ideal.main_arg1)) (m ((c : Thread nD τ).loc Cert.Kernel2Ideal.main_arg2)) (m ((c : Thread nD τ).loc Cert.Kernel2Ideal.main_arg3))

/-- It is the kernel's projection. -/
theorem refP_at (b : Fin 8) (s : Fin 2048) : (fun n => refP m c (ix3 b s n)) = prjM m c b s :=
  funext fun n => Cert.Reference2Ideal.proj_at _ _ _ _ b s n

/-- The mixer's input. -/
theorem sameU : Cert.Reference2Ideal.outU (refP m c) = (ends m c Cert.Kernel2Ideal.main_v62 : Vec Ideal Cert.Kernel2Ideal.S8x2048x512 .f32) := by
  funext i
  obtain ⟨b, s, l, rfl⟩ : ∃ b s l, i = ix3 b s l := ⟨i 0, i 1, i 2, eq_ix3 i⟩
  exact (Cert.Reference2Ideal.outU_at (refP m c) b s l).trans ((congrFun (refP_at m c b s) _).trans (Cert.Kernel2Ideal.resU m c b s l).symm)

/-- The queries. -/
theorem sameQ (hP : ∀ b s n, prjM m c b s n ≠ ⊤ ∧ prjM m c b s n ≠ ⊥) : Cert.Reference2Ideal.outQ (refP m c) (m ((c : Thread nD τ).loc Cert.Kernel2Ideal.main_arg4)) = (ends m c Cert.Kernel2Ideal.main_v63 : Vec Ideal Cert.Kernel2Ideal.S8x2048x8x64 .bf16) := by
  funext i
  obtain ⟨b, s, h, l, rfl⟩ : ∃ b s h l, i = ix4 b s h l := ⟨i 0, i 1, i 2, i 3, eq_ix4 i⟩
  exact (Cert.Reference2Ideal.outQ_at (refP m c) b s _ h l).trans ((congrArg (fun P => Cert.Kernel2Ideal.specQ P s (m ((c : Thread nD τ).loc Cert.Kernel2Ideal.main_arg4)) h l) (refP_at m c b s)).trans (Cert.Kernel2Ideal.resQ m c b s hP h l).symm)

/-- The keys. -/
theorem sameK (hP : ∀ b s n, prjM m c b s n ≠ ⊤ ∧ prjM m c b s n ≠ ⊥) : Cert.Reference2Ideal.outK (refP m c) (m ((c : Thread nD τ).loc Cert.Kernel2Ideal.main_arg5)) = (ends m c Cert.Kernel2Ideal.main_v64 : Vec Ideal Cert.Kernel2Ideal.S8x2048x2x64 .f32) := by
  funext i
  obtain ⟨b, s, h, l, rfl⟩ : ∃ b s h l, i = ix4 b s h l := ⟨i 0, i 1, i 2, i 3, eq_ix4 i⟩
  exact (Cert.Reference2Ideal.outK_at (refP m c) b s _ h l).trans ((congrArg (fun P => Cert.Kernel2Ideal.specK P s (m ((c : Thread nD τ).loc Cert.Kernel2Ideal.main_arg5)) h l) (refP_at m c b s)).trans (Cert.Kernel2Ideal.resK m c b s hP h l).symm)

/-- The values. -/
theorem sameV : Cert.Reference2Ideal.outV (refP m c) = (ends m c Cert.Kernel2Ideal.main_v65 : Vec Ideal Cert.Kernel2Ideal.S8x2048x2x64 .f32) := by
  funext i
  obtain ⟨b, s, h, l, rfl⟩ : ∃ b s h l, i = ix4 b s h l := ⟨i 0, i 1, i 2, i 3, eq_ix4 i⟩
  exact (Cert.Reference2Ideal.outV_at (refP m c) b s h l).trans ((congrFun (refP_at m c b s) _).trans (Cert.Kernel2Ideal.resV m c b s h l).symm)

/-- The indexer's queries. -/
theorem sameQi : Cert.Reference2Ideal.outQi (refP m c) = (ends m c Cert.Kernel2Ideal.main_v66 : Vec Ideal Cert.Kernel2Ideal.S8x2048x8x64 .bf16) := by
  funext i
  obtain ⟨b, s, h, l, rfl⟩ : ∃ b s h l, i = ix4 b s h l := ⟨i 0, i 1, i 2, i 3, eq_ix4 i⟩
  exact (Cert.Reference2Ideal.outQi_at (refP m c) b s h l).trans ((congrArg (fun P => Cert.Kernel2Ideal.specQi P s h l) (refP_at m c b s)).trans (Cert.Kernel2Ideal.resQi m c b s h l).symm)

/-- The indexer's keys. -/
theorem sameKi : Cert.Reference2Ideal.outKi (refP m c) = (ends m c Cert.Kernel2Ideal.main_v68 : Vec Ideal Cert.Kernel2Ideal.S8x2048x64 .f32) := by
  funext i
  obtain ⟨b, s, l, rfl⟩ : ∃ b s l, i = ix3 b s l := ⟨i 0, i 1, i 2, eq_ix3 i⟩
  exact (Cert.Reference2Ideal.outKi_at (refP m c) b s l).trans ((congrArg (fun P => Cert.Kernel2Ideal.specKi P s l) (refP_at m c b s)).trans (Cert.Kernel2Ideal.resKi m c b s l).symm)

/-- The indexer's weights. -/
theorem sameWi : Cert.Reference2Ideal.outWi (refP m c) = (ends m c Cert.Kernel2Ideal.main_v70 : Vec Ideal Cert.Kernel2Ideal.S8x2048x8 .f32) := by
  funext i
  obtain ⟨b, s, l, rfl⟩ : ∃ b s l, i = ix3 b s l := ⟨i 0, i 1, i 2, eq_ix3 i⟩
  exact (Cert.Reference2Ideal.outWi_at (refP m c) b s l).trans ((congrArg (fun P => Cert.Kernel2Ideal.specWi P l) (refP_at m c b s)).trans (Cert.Kernel2Ideal.resWi m c b s l).symm)

/-- Under the precondition every entry of the projection is finite. -/
theorem prj_finite (h : Cert.Pre_Kernel2Ideal_finite m) : ∀ b s n, prjM m c b s n ≠ ⊤ ∧ prjM m c b s n ≠ ⊥ := by
  obtain ⟨hmod, hg, hw⟩ := finite_all _ _ _ _ _ _ (h c)
  exact fun b s n => Cert.Kernel2Ideal.prj_real _ _ _ _ hmod hg hw b s n

/-- The kernel and the reference of the input projection leave the same seven results. -/
theorem in_same_result : Cert.algebraic_Kernel2Ideal_Reference2Ideal_pre_finite := by
  intro m g m' g' hpre hagree
  refine ⟨fun c => ends m c Cert.Kernel2Ideal.main_v62, fun c => ends m c Cert.Kernel2Ideal.main_v63, fun c => ends m c Cert.Kernel2Ideal.main_v64, fun c => ends m c Cert.Kernel2Ideal.main_v65, fun c => ends m c Cert.Kernel2Ideal.main_v66, fun c => ends m c Cert.Kernel2Ideal.main_v68, fun c => ends m c Cert.Kernel2Ideal.main_v70, ?_, ?_⟩
  · refine (θ_run Cert.Kernel2Ideal.defs _ _).mono (fun r h c => ⟨(h c).2 Cert.Kernel2Ideal.main_v62 (Pipeline.mem_restRefs_of Cert.Kernel2Ideal.main_v62 (by decide) (by decide)),
      (h c).2 Cert.Kernel2Ideal.main_v63 (Pipeline.mem_restRefs_of Cert.Kernel2Ideal.main_v63 (by decide) (by decide)),
      (h c).2 Cert.Kernel2Ideal.main_v64 (Pipeline.mem_restRefs_of Cert.Kernel2Ideal.main_v64 (by decide) (by decide)),
      (h c).2 Cert.Kernel2Ideal.main_v65 (Pipeline.mem_restRefs_of Cert.Kernel2Ideal.main_v65 (by decide) (by decide)),
      (h c).2 Cert.Kernel2Ideal.main_v66 (Pipeline.mem_restRefs_of Cert.Kernel2Ideal.main_v66 (by decide) (by decide)),
      (h c).2 Cert.Kernel2Ideal.main_v68 (Pipeline.mem_restRefs_of Cert.Kernel2Ideal.main_v68 (by decide) (by decide)),
      (h c).2 Cert.Kernel2Ideal.main_v70 (Pipeline.mem_restRefs_of Cert.Kernel2Ideal.main_v70 (by decide) (by decide)),
      ((h c).2 Cert.Kernel2Ideal.main_arg0 (Pipeline.mem_restRefs_of Cert.Kernel2Ideal.main_arg0 (by decide) (by decide))).trans (Cert.Kernel2Ideal.Gen.W_main_arg0 m _ c),
      ((h c).2 Cert.Kernel2Ideal.main_arg1 (Pipeline.mem_restRefs_of Cert.Kernel2Ideal.main_arg1 (by decide) (by decide))).trans (Cert.Kernel2Ideal.Gen.W_main_arg1 m _ c),
      ((h c).2 Cert.Kernel2Ideal.main_arg2 (Pipeline.mem_restRefs_of Cert.Kernel2Ideal.main_arg2 (by decide) (by decide))).trans (Cert.Kernel2Ideal.Gen.W_main_arg2 m _ c),
      ((h c).2 Cert.Kernel2Ideal.main_arg3 (Pipeline.mem_restRefs_of Cert.Kernel2Ideal.main_arg3 (by decide) (by decide))).trans (Cert.Kernel2Ideal.Gen.W_main_arg3 m _ c),
      ((h c).2 Cert.Kernel2Ideal.main_arg4 (Pipeline.mem_restRefs_of Cert.Kernel2Ideal.main_arg4 (by decide) (by decide))).trans (Cert.Kernel2Ideal.Gen.W_main_arg4 m _ c),
      ((h c).2 Cert.Kernel2Ideal.main_arg5 (Pipeline.mem_restRefs_of Cert.Kernel2Ideal.main_arg5 (by decide) (by decide))).trans (Cert.Kernel2Ideal.Gen.W_main_arg5 m _ c)⟩)
      (Cert.Kernel2Ideal.Gen.run_main (F := Ideal) m g)
  · refine (θ_run Cert.Reference2Ideal.defs _ _).mono (fun r h c => ?_) (Cert.Reference2Ideal.run m' g')
    obtain rfl : c = 0 := Subsingleton.elim _ _
    obtain ⟨h0, h1, h2, h3, h4, h5, h6, hargs⟩ := h 0
    obtain ⟨a0, a1, a2, a3, a4, a5⟩ := hagree 0
    have hP := prj_finite m 0 hpre
    refine ⟨h0.trans ?_, h1.trans ?_, h2.trans ?_, h3.trans ?_, h4.trans ?_, h5.trans ?_, h6.trans ?_, hargs⟩
    · rw [a0, a1, a2, a3]; exact sameU m 0
    · rw [a0, a1, a2, a3, a4]; exact sameQ m 0 hP
    · rw [a0, a1, a2, a3, a5]; exact sameK m 0 hP
    · rw [a0, a1, a2, a3]; exact sameV m 0
    · rw [a0, a1, a2, a3]; exact sameQi m 0
    · rw [a0, a1, a2, a3]; exact sameKi m 0
    · rw [a0, a1, a2, a3]; exact sameWi m 0

end Cert.Proof

end
-- ==== Proof.Ada.lean ====
/-
  The modulation parameters: `silu(c) @ w_ada + b_ada` for every layer.  What a grid point of the kernel computes, the
  array its 16 points leave, and the reference's array, each at one element; then the claims of this program.
-/
module

public import proofs.«01_k».proof.Defs
public import proofs.«01_k».proof.Proof.Gen.Kernel3
public import proofs.«01_k».proof.Proof.Gen.Kernel3Ideal.Value
public import proofs.«01_k».proof.Proof.Gen.Reference3Ideal.Run
public import Idealize.ShloMosaic.Lib.Claim
public import Idealize.ShloMosaic.Lib.Pointwise
public import Idealize.ShloMosaic.Lib.KernelVsHost
public import Idealize.ShloMosaic.Lib.Pipeline.ArrRel
public import Idealize.ShloMosaic.Lib.Pipeline.ValueKit

@[expose] public section

set_option maxRecDepth 16384
set_option maxHeartbeats 4000000

noncomputable section

namespace Cert.Kernel3Ideal

open Idealize.ShloMosaic Idealize.ShloMosaic.TcCoe
open Cert.Kernel3Ideal.Gen

/-- One modulation parameter: the silu of the conditioning row `C` against a column `W` of the weights, plus the bias. -/
def param (C W : Fin 1024 → EReal) (b : EReal) : EReal := (∑ k, C k * Ideal.logistic (C k) * W k) + b

/-- The block a grid point computes, at one element. -/
theorem pay_at (C : Vec Ideal S40x1024 .f32) (W : Vec Ideal S1x1024x1536 .f32) (b : Vec Ideal S1x1x1536 .f32) (r : Fin 40) (n : Fin 1536) :
    k0_pay1 C W b (ix3 0 r n) = param (fun k => C (ix2 r k)) (fun k => W (ix3 0 k n)) (b (ix3 0 0 n)) := by
  unfold k0_pay1 param
  pointwise

variable (m : (ℓ : Loc nD τ sig) → Buf (Elt Ideal) ℓ) (c : Dev nD)

/-- The prompts' conditioning rows, then the samples'. -/
def cond : Vec Ideal S40x1024 .f32 :=
  concatenate S40x1024 0 [⟨S8x1024, (m ((c : Thread nD τ).loc main_arg0) : Vec Ideal S8x1024 .f32)⟩,
    ⟨S32x1024, (m ((c : Thread nD τ).loc main_arg1) : Vec Ideal S32x1024 .f32)⟩] concatenates_S8x1024_S32x1024_S40x1024_d0

/-- The kernel finds these rows as its first operand. -/
theorem V_v0 : (V m c main_v0 : Vec Ideal S40x1024 .f32) = cond m c := by
  unfold V cond
  simp only [hostOps0]
  after_results

/-- And the bias with an axis of one row in the middle. -/
theorem V_v1 : (V m c main_v1 : Vec Ideal S4x1x6144 .f32) = shapeCast S4x1x6144 (m ((c : Thread nD τ).loc main_arg3) : Vec Ideal S4x6144 .f32) shapeCasts_S4x6144_S4x1x6144 := by
  unfold V
  simp only [hostOps0]
  after_results
  rfl

/-- The bias the kernel finds, at one element. -/
theorem v1_at (l : Fin 4) (n : Fin 6144) : (V m c main_v1 : Vec Ideal S4x1x6144 .f32) (ix3 l 0 n)
    = (m ((c : Thread nD τ).loc main_arg3) : Vec Ideal S4x6144 .f32) (ix2 l n) := by
  rw [V_v1]
  refine shapeCast_apply (s := S4x6144) _ _ _ _ ?_
  rw [Shape.rowMajor_val_three, Shape.rowMajor_val_two]
  show l.val * 6144 + n.val = (l.val * 1 + 0) * 6144 + n.val
  omega

/-- The conditioning rows, whole. -/
theorem map0 : ∀ t : Fin grid0.N, cc0_transform_0 (grid0.coords t) = ![0, 0] := by decide +kernel
/-- The weights: a quarter of a layer's columns per point. -/
theorem map1 : ∀ t : Fin grid0.N, cc0_transform_1 (grid0.coords t) = ![t.val / 4, 0, t.val % 4] := by decide +kernel
/-- The bias: likewise. -/
theorem map2 : ∀ t : Fin grid0.N, cc0_transform_2 (grid0.coords t) = ![t.val / 4, 0, t.val % 4] := by decide +kernel
/-- The result: likewise. -/
theorem map3 : ∀ t : Fin grid0.N, cc0_transform_3 (grid0.coords t) = ![t.val / 4, 0, t.val % 4] := by decide +kernel
/-- The blocks of the result are the whole array. -/
theorem covers3 : (cfg0.win 3).Covers := by decide +kernel
/-- There are 16 points. -/
theorem lt16 (t : Fin cfg0.N) : t.val < 16 := t.isLt

/-- The layer of a point. -/
abbrev layerOf (t : Fin cfg0.N) : Fin 4 := ⟨t.val / 4, by have := lt16 t; omega⟩
/-- The column of the layer's parameters that is column `n` of a point's block. -/
abbrev colOf (t : Fin cfg0.N) (n : Fin 1536) : Fin 6144 := ⟨1536 * (t.val % 4) + n.val, by omega⟩

/-- The conditioning rows at a point. -/
abbrev bC (t : Fin cfg0.N) : Vec Ideal S40x1024 .f32 := iblk m c 0 t
/-- The weights at a point. -/
abbrev bW (t : Fin cfg0.N) : Vec Ideal S1x1024x1536 .f32 := iblk m c 1 t
/-- The bias at a point. -/
abbrev bB (t : Fin cfg0.N) : Vec Ideal S1x1x1536 .f32 := iblk m c 2 t

/-- The conditioning rows at a point, at one element. -/
theorem bC_at (t : Fin cfg0.N) (r : Fin 40) (k : Fin 1024) : bC m c t (ix2 r k) = cond m c (ix2 r k) := by
  rw [← V_v0 m c]
  show (V m c main_v0 : Vec Ideal S40x1024 .f32) _ = _
  refine congrArg (V m c main_v0 : Vec Ideal S40x1024 .f32) ?_
  funext a; apply Fin.ext
  match a with
  | ⟨0, _⟩ =>
    show cc0_transform_0 (grid0.coords t) 0 * 40 + 1 * r.val = r.val
    rw [map0 t]; show 0 * 40 + 1 * r.val = _; omega
  | ⟨1, _⟩ =>
    show cc0_transform_0 (grid0.coords t) 1 * 1024 + 1 * k.val = k.val
    rw [map0 t]; show 0 * 1024 + 1 * k.val = _; omega

/-- The weights at a point, at one element. -/
theorem bW_at (t : Fin cfg0.N) (k : Fin 1024) (n : Fin 1536) : bW m c t (ix3 0 k n)
    = (m ((c : Thread nD τ).loc main_arg2) : Vec Ideal S4x1024x6144 .f32) (ix3 (layerOf t) k (colOf t n)) := by
  rw [← V_main_arg2 m c]
  show (V m c main_arg2 : Vec Ideal S4x1024x6144 .f32) _ = _
  refine congrArg (V m c main_arg2 : Vec Ideal S4x1024x6144 .f32) ?_
  funext a; apply Fin.ext
  match a with
  | ⟨0, _⟩ =>
    show cc0_transform_1 (grid0.coords t) 0 * 1 + 1 * 0 = t.val / 4
    rw [map1 t]; show t.val / 4 * 1 + 1 * 0 = _; omega
  | ⟨1, _⟩ =>
    show cc0_transform_1 (grid0.coords t) 1 * 1024 + 1 * k.val = k.val
    rw [map1 t]; show 0 * 1024 + 1 * k.val = _; omega
  | ⟨2, _⟩ =>
    show cc0_transform_1 (grid0.coords t) 2 * 1536 + 1 * n.val = 1536 * (t.val % 4) + n.val
    rw [map1 t]; show t.val % 4 * 1536 + 1 * n.val = _; omega

/-- The bias at a point, at one element. -/
theorem bB_at (t : Fin cfg0.N) (n : Fin 1536) : bB m c t (ix3 0 0 n)
    = (m ((c : Thread nD τ).loc main_arg3) : Vec Ideal S4x6144 .f32) (ix2 (layerOf t) (colOf t n)) := by
  refine Eq.trans ?_ (v1_at m c (layerOf t) (colOf t n))
  show (V m c main_v1 : Vec Ideal S4x1x6144 .f32) _ = _
  refine congrArg (V m c main_v1 : Vec Ideal S4x1x6144 .f32) ?_
  funext a; apply Fin.ext
  match a with
  | ⟨0, _⟩ =>
    show cc0_transform_2 (grid0.coords t) 0 * 1 + 1 * 0 = t.val / 4
    rw [map2 t]; show t.val / 4 * 1 + 1 * 0 = _; omega
  | ⟨1, _⟩ =>
    show cc0_transform_2 (grid0.coords t) 1 * 1 + 1 * 0 = 0
    rw [map2 t]; show 0 * 1 + 1 * 0 = _; omega
  | ⟨2, _⟩ =>
    show cc0_transform_2 (grid0.coords t) 2 * 1536 + 1 * n.val = 1536 * (t.val % 4) + n.val
    rw [map2 t]; show t.val % 4 * 1536 + 1 * n.val = _; omega

/-- All the modulation parameters, of the launch's arguments. -/
def params (i : S4x40x6144.Idx) : EReal :=
  param (fun k => cond m c (ix2 (i 1) k)) (fun k => (m ((c : Thread nD τ).loc main_arg2) : Vec Ideal S4x1024x6144 .f32) (ix3 (i 0) k (i 2)))
    ((m ((c : Thread nD τ).loc main_arg3) : Vec Ideal S4x6144 .f32) (ix2 (i 0) (i 2)))

/-- What a point leaves, at one element. -/
theorem out_at (t : Fin cfg0.N) (r : Fin 40) (n : Fin 1536) :
    out0_3 (bC m c t) (bW m c t) (bB m c t) (ix3 0 r n) = params m c (ix3 (layerOf t) r (colOf t n)) := by
  have e : out0_3 (bC m c t) (bW m c t) (bB m c t) = k0_pay1 (bC m c t) (bW m c t) (bB m c t) := by
    unfold out0_3
    rw [View.canon_cons_unit_lit' _ _ _ (by decide), View.ld_unit_lit' _ (bC m c t) (by decide), View.ld_unit_lit' _ (bW m c t) (by decide), View.ld_unit_lit' _ (bB m c t) (by decide)]
  rw [e, pay_at]
  simp only [bC_at, bW_at, bB_at]
  rfl

/-- The array after the run. -/
theorem arr3 : (dats m 0 c).arrAt 3 cfg0.N = (params m c : Vec Ideal S4x40x6144 .f32) := by
  refine Pipeline.Dat.arrAt_eq_of_covers (cfg := cfg0) (dats m 0 c) (3 : Fin 4) _ covers3 (fun t hf y => ?_)
  have h0 : (y (0 : Fin 3)).val < 1 := (y (0 : Fin 3)).isLt
  have h1 : (y (1 : Fin 3)).val < 40 := (y (1 : Fin 3)).isLt
  have h2 : (y (2 : Fin 3)).val < 1536 := (y (2 : Fin 3)).isLt
  have hx : (cfg0.win 3).xinj (cfg0.grid.coords t) y = (ix3 0 ⟨(y (1 : Fin 3)).val, h1⟩ ⟨(y (2 : Fin 3)).val, h2⟩ : S1x40x1536.Idx) := by
    funext a
    apply Fin.ext
    match a with
    | ⟨0, _⟩ => show (y (0 : Fin 3)).val = 0; omega
    | ⟨1, _⟩ => rfl
    | ⟨2, _⟩ => rfl
  have he : ((cfg0.win 3).blk t).view.emb y = (ix3 (layerOf t) ⟨(y (1 : Fin 3)).val, h1⟩ (colOf t ⟨(y (2 : Fin 3)).val, h2⟩) : S4x40x6144.Idx) := by
    funext a
    apply Fin.ext
    match a with
    | ⟨0, _⟩ =>
      show cc0_transform_3 (grid0.coords t) 0 * 1 + 1 * (y (0 : Fin 3)).val = t.val / 4
      rw [map3 t]; show t.val / 4 * 1 + 1 * (y (0 : Fin 3)).val = _; omega
    | ⟨1, _⟩ =>
      show cc0_transform_3 (grid0.coords t) 1 * 40 + 1 * (y (1 : Fin 3)).val = (y (1 : Fin 3)).val
      rw [map3 t]; show 0 * 40 + 1 * (y (1 : Fin 3)).val = _; omega
    | ⟨2, _⟩ =>
      show cc0_transform_3 (grid0.coords t) 2 * 1536 + 1 * (y (2 : Fin 3)).val = 1536 * (t.val % 4) + (y (2 : Fin 3)).val
      rw [map3 t]; show t.val % 4 * 1536 + 1 * (y (2 : Fin 3)).val = _; omega
  refine Eq.trans ?_ (congrArg (params m c : Vec Ideal S4x40x6144 .f32) he).symm
  exact ((congrArg ((dats m 0 c).after 3 t : Vec Ideal S1x40x1536 .f32) hx).trans (congrFun (after0_3 m c t) _)).trans (out_at m c t _ _)

end Cert.Kernel3Ideal

namespace Cert.Reference3Ideal

open Idealize.ShloMosaic Idealize.ShloMosaic.TcCoe
open Cert.Reference3Ideal.Gen

/-- The silu of the conditioning rows. -/
def silu (C : FVec Ideal S40x1024 .f32) : FVec Ideal S40x1024 .f32 :=
  mulf C (Host.divf (broadcastInDim S40x1024 ![] bcast_S_S40x1024 (constant S_ .f32 0x3F800000#32))
    (addf (broadcastInDim S40x1024 ![] bcast_S_S40x1024 (constant S_ .f32 0x3F800000#32)) (Host.exp (Host.negf C))))

/-- The reference's array, of the conditioning rows, the weights and the bias. -/
def out (C : FVec Ideal S40x1024 .f32) (W : FVec Ideal S4x1024x6144 .f32) (b : FVec Ideal S4x6144 .f32) : FVec Ideal S4x40x6144 .f32 :=
  addf (transpose S4x40x6144 [0, 2, 1] (Host.dotGeneral dot_S4x1024x6144_S40x1024_S4x6144x40_1_1_02_0_n_n none W (silu C)) transposes_S4x6144x40_S4x40x6144_0_2_1)
    (broadcastInDim S4x40x6144 ![0, 1, 2] bcast_S4x1x6144_S4x40x6144_0_1_2 (broadcastInDim S4x1x6144 ![0, 2] bcast_S4x6144_S4x1x6144_0_2 b))

/-- The silu at one element. -/
theorem silu_at (C : FVec Ideal S40x1024 .f32) (r : Fin 40) (k : Fin 1024) : silu C (ix2 r k) = C (ix2 r k) * Ideal.logistic (C (ix2 r k)) := by
  unfold silu
  pointwise
  rfl

/-- The reference's array at one element. -/
theorem out_at (C : FVec Ideal S40x1024 .f32) (W : FVec Ideal S4x1024x6144 .f32) (b : FVec Ideal S4x6144 .f32) (l : Fin 4) (r : Fin 40) (n : Fin 6144) :
    out C W b (ix3 l r n) = Cert.Kernel3Ideal.param (fun k => C (ix2 r k)) (fun k => W (ix3 l k n)) (b (ix2 l n)) := by
  have hs := silu_at C r
  unfold out Cert.Kernel3Ideal.param
  generalize silu C = s at hs
  simp only [← hs]
  pointwise
  simp only [mul_comm]

end Cert.Reference3Ideal

namespace Cert.Proof

open Idealize.ShloMosaic Idealize.ShloMosaic.TcCoe Idealize.SL.Sem

/-- The bodies of the printed and the idealised kernel are one text. -/
theorem ada_eq : Cert.Kernel3.cc0__ada_kernel (F := Bits) = Cert.Kernel3Ideal.cc0__ada_kernel (F := Bits) := by
  delta Cert.Kernel3.cc0__ada_kernel Cert.Kernel3Ideal.cc0__ada_kernel
  rfl

/-- So are their tables of bodies. -/
theorem ada_body_eq : Cert.Kernel3.defs₀ (F := Bits) = Cert.Kernel3Ideal.defs₀ (F := Bits) := by
  delta Cert.Kernel3.defs₀ Cert.Kernel3Ideal.defs₀
  refine congrArg Defs.onTc ?_
  funext x y
  match x, y with
  | 0, (t, s) =>
    show Cert.Kernel3.cc0__ada_kernel _ _ _ _ _ _ _ _ _ = _
    rw [ada_eq]
    rfl

/-- And the tables with the call's pipeline. -/
theorem ada_defs_eq : Cert.Kernel3.defs (F := Bits) = Cert.Kernel3Ideal.defs (F := Bits) :=
  congrArg (Pipeline.defs Cert.Kernel3.pcfgs) ada_body_eq

/-- The host parts are one text too. -/
theorem ada_main_eq : Cert.Kernel3.main (F := Bits) = Cert.Kernel3Ideal.main (F := Bits) := by
  delta Cert.Kernel3.main Cert.Kernel3Ideal.main
  rfl

/-- The frame of the modulation parameters as printed, at machine words. -/
theorem ada_frame_kernel : Cert.quiescent_Kernel3 := fun m ρ _ => by
  rw [ada_defs_eq, ada_main_eq]
  exact (θ_run Cert.Kernel3Ideal.defs _ _).mono (fun _ h => h) (Cert.Kernel3Ideal.Gen.frame (F := Bits) m ρ)

/-- The frame of the idealised program. -/
theorem ada_frame_ideal : Cert.quiescent_Kernel3Ideal := fun m ρ _ => Cert.Kernel3Ideal.Gen.frame (F := Ideal) m ρ

/-- The frame of its idealised reference. -/
theorem ada_frame_reference : Cert.quiescent_Reference3Ideal := by
  intro m g _
  refine (θ_run Cert.Reference3Ideal.defs _ _).mono
    (fun r h => ⟨fun c => (h c).2, Idealize.ShloMosaic.sem_eq_zero_of_no_sems (by decide) r.2⟩) (Cert.Reference3Ideal.Value.run m g)

/-- The reference's array is the kernel's. -/
theorem ada_same (m : (ℓ : Loc Cert.Kernel3Ideal.nD Cert.Kernel3Ideal.τ Cert.Kernel3Ideal.sig) → Buf (Elt Ideal) ℓ) (c : Dev Cert.Kernel3Ideal.nD) :
    Cert.Reference3Ideal.out (Cert.Kernel3Ideal.cond m c) (m ((c : Thread Cert.Kernel3Ideal.nD Cert.Kernel3Ideal.τ).loc Cert.Kernel3Ideal.main_arg2))
      (m ((c : Thread Cert.Kernel3Ideal.nD Cert.Kernel3Ideal.τ).loc Cert.Kernel3Ideal.main_arg3)) = Cert.Kernel3Ideal.params m c := by
  funext i
  obtain ⟨l, r, n, rfl⟩ : ∃ l r n, i = ix3 l r n := ⟨i 0, i 1, i 2, eq_ix3 i⟩
  exact Cert.Reference3Ideal.out_at _ _ _ l r n

/-- The kernel and the reference of the modulation parameters leave the same array. -/
theorem ada_same_result : Cert.algebraic_Kernel3Ideal_Reference3Ideal := by
  intro m g m' g' _ hagree
  refine ⟨fun c => (Cert.Kernel3Ideal.params m c : Vec Ideal Cert.Kernel3Ideal.S4x40x6144 .f32), ?_, ?_⟩
  · exact (θ_run Cert.Kernel3Ideal.defs _ _).mono (fun r h c => ⟨(h c).1.trans (Cert.Kernel3Ideal.arr3 m c), (h c).2⟩)
      (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    obtain ⟨a0, a1, a2, a3⟩ := hagree c
    rw [a0, a1, a2, a3]
    exact ada_same m c

end Cert.Proof

end
-- ==== Proof.OutProj.lean ====
/-
  The output projection: the residual plus the gate times the mixers' outputs against the output weights.  What a grid
  point of the kernel computes, the array its 32 points leave, and the reference's array, each at one element; then the
  claims of this program.
-/
module

public import proofs.«01_k».proof.Defs
public import proofs.«01_k».proof.Proof.Gen.Kernel4
public import proofs.«01_k».proof.Proof.Gen.Kernel4Ideal.Value
public import proofs.«01_k».proof.Proof.Gen.Reference4Ideal.Run
public import Idealize.ShloMosaic.Lib.Claim
public import Idealize.ShloMosaic.Lib.Pointwise
public import Idealize.ShloMosaic.Lib.KernelVsHost
public import Idealize.ShloMosaic.Lib.Pipeline.ArrRel
public import Idealize.ShloMosaic.Lib.Pipeline.ValueKit
public import Idealize.ShloMosaic.Lib.StableHlo.RunRead
public import Idealize.ShloMosaic.Lib.StableHlo.ReadAt

@[expose] public section

set_option maxRecDepth 16384
set_option maxHeartbeats 4000000

noncomputable section

namespace Cert.Kernel4Ideal

open Idealize.ShloMosaic Idealize.ShloMosaic.TcCoe Idealize.ShloMosaic.Tactic
open Cert.Kernel4Ideal.Gen

/-- One element of the residual stream after a mixer: the two halves of the mixers' outputs `A` and `B` against the
    upper and the lower half of a column of the weights. -/
def mixed (x g : EReal) (A B T L : Fin 512 → EReal) : EReal := x + g * ((∑ k, A k * T k) + ∑ k, B k * L k)

/-- The block a grid point computes, at one element. -/
theorem pay_at (A : Vec Ideal S512x512 .f32) (T : Vec Ideal S512x1024 .bf16) (B : Vec Ideal S512x512 .bf16) (L : Vec Ideal S512x1024 .bf16)
    (X : Vec Ideal S512x1024 .f32) (G : Vec Ideal S1x1x1024 .f32) (p : Fin 512) (n : Fin 1024) :
    k0_pay2 A T B L X G (ix2 p n) = mixed (X (ix2 p n)) (G (ix3 0 0 n)) (fun k => A (ix2 p k)) (fun k => B (ix2 p k)) (fun k => T (ix2 k n)) (fun k => L (ix2 k n)) := by
  unfold k0_pay2 mixed
  pointwise

variable (m : (ℓ : Loc nD τ sig) → Buf (Elt Ideal) ℓ) (c : Dev nD)

/-- The batch's rows one after another. -/
theorem V_v0 : (V m c main_v0 : Vec Ideal S16384x1024 .f32) = shapeCast S16384x1024 (m ((c : Thread nD τ).loc main_arg0) : Vec Ideal S8x2048x1024 .f32) shapeCasts_S8x2048x1024_S16384x1024 := by
  unfold V
  unfold_abbrev_sides
  after_reads_simp
  all_goals try simp -implicitDefEqProofs only [StableHlo.TRef.toBuf, StableHlo.TRef.ofBuf, cast_cast, cast_eq]
  all_goals try clean_types
  all_goals try rfl

/-- The modulation rows with a middle axis of one. -/
theorem V_v1 : (V m c main_v1 : Vec Ideal S8x1x6144 .f32) = broadcastInDim S8x1x6144 ![0, 2] bcast_S8x6144_S8x1x6144_0_2 (m ((c : Thread nD τ).loc main_arg1) : Vec Ideal S8x6144 .f32) := by
  unfold V
  unfold_abbrev_sides
  after_reads_simp
  all_goals try simp -implicitDefEqProofs only [StableHlo.TRef.toBuf, StableHlo.TRef.ofBuf, cast_cast, cast_eq]
  all_goals try clean_types
  all_goals try rfl

/-- The output weights in bf16. -/
theorem V_v2 : (V m c main_v2 : Vec Ideal S1024x1024 .bf16) = (truncf (F := Ideal) (φ := .f32) .bf16 (m ((c : Thread nD τ).loc main_arg4) : Vec Ideal S1024x1024 .f32) bitsLt_bf16_f32 : Vec Ideal S1024x1024 .bf16) := by
  unfold V
  unfold_abbrev_sides
  after_reads_simp
  all_goals try simp -implicitDefEqProofs only [StableHlo.TRef.toBuf, StableHlo.TRef.ofBuf, cast_cast, cast_eq]
  all_goals try clean_types
  all_goals try rfl

/-- The rows at one element. -/
theorem v0_at (R : Fin 16384) (k : Fin 1024) : (V m c main_v0 : Vec Ideal S16384x1024 .f32) (ix2 R k)
    = (m ((c : Thread nD τ).loc main_arg0) : Vec Ideal S8x2048x1024 .f32) (ix3 ⟨R.val / 2048, by omega⟩ ⟨R.val % 2048, by omega⟩ k) := by
  rw [V_v0]
  refine shapeCast_apply (s := S8x2048x1024) _ _ _ _ ?_
  rw [Shape.rowMajor_val_three, Shape.rowMajor_val_two]
  show (R.val / 2048 * 2048 + R.val % 2048) * 1024 + k.val = R.val * 1024 + k.val
  omega

/-- The modulation rows at one element. -/
theorem v1_at (b : Fin 8) (n : Fin 6144) : (V m c main_v1 : Vec Ideal S8x1x6144 .f32) (ix3 b 0 n)
    = (m ((c : Thread nD τ).loc main_arg1) : Vec Ideal S8x6144 .f32) (ix2 b n) := by
  rw [V_v1]
  pointwise

/-- The output weights at one element. -/
theorem v2_at (k n : Fin 1024) : (V m c main_v2 : Vec Ideal S1024x1024 .bf16) (ix2 k n)
    = (m ((c : Thread nD τ).loc main_arg4) : Vec Ideal S1024x1024 .f32) (ix2 k n) := by
  rw [V_v2]
  rfl

/-- The rows: one tile of 512 per point. -/
theorem map0 : ∀ t : Fin grid0.N, cc0_transform_0 (grid0.coords t) = ![t.val, 0] := by decide +kernel
/-- The first mixer's output: likewise. -/
theorem map1 : ∀ t : Fin grid0.N, cc0_transform_1 (grid0.coords t) = ![t.val, 0] := by decide +kernel
/-- The second mixer's output: likewise. -/
theorem map2 : ∀ t : Fin grid0.N, cc0_transform_2 (grid0.coords t) = ![t.val, 0] := by decide +kernel
/-- The gate of the sequence of the tile. -/
theorem map3 : ∀ t : Fin grid0.N, cc0_transform_3 (grid0.coords t) = ![t.val / 4, 0, 2] := by decide +kernel
/-- The weights, whole. -/
theorem map4 : ∀ t : Fin grid0.N, cc0_transform_4 (grid0.coords t) = ![0, 0] := by decide +kernel
/-- The result: one tile of 512 rows per point. -/
theorem map10 : ∀ t : Fin grid0.N, cc0_transform_10 (grid0.coords t) = ![t.val, 0] := by decide +kernel
/-- The tiles of the result are the whole array. -/
theorem covers10 : (cfg0.win 10).Covers := by decide +kernel
/-- There are 32 points. -/
theorem lt32 (t : Fin cfg0.N) : t.val < 32 := t.isLt

/-- The row of the batch that is row `p` of a point's tile. -/
abbrev rowOf (t : Fin cfg0.N) (p : Fin 512) : Fin 16384 := ⟨512 * t.val + p.val, by have := lt32 t; omega⟩
/-- The sequence of a row. -/
abbrev seqOf (R : Fin 16384) : Fin 8 := ⟨R.val / 2048, by omega⟩
/-- The position of a row in its sequence. -/
abbrev posOf (R : Fin 16384) : Fin 2048 := ⟨R.val % 2048, by omega⟩

/-- The rows at a point. -/
abbrev bX (t : Fin cfg0.N) : Vec Ideal S512x1024 .f32 := iblk m c 0 t
/-- The first mixer's output at a point. -/
abbrev bA (t : Fin cfg0.N) : Vec Ideal S512x512 .f32 := iblk m c 1 t
/-- The second mixer's output at a point. -/
abbrev bB (t : Fin cfg0.N) : Vec Ideal S512x512 .bf16 := iblk m c 2 t
/-- The gate at a point. -/
abbrev bG (t : Fin cfg0.N) : Vec Ideal S1x1x1024 .f32 := iblk m c 3 t
/-- The weights at a point. -/
abbrev bW (t : Fin cfg0.N) : Vec Ideal S1024x1024 .bf16 := iblk m c 4 t

/-- The rows at a point, at one element. -/
theorem bX_at (t : Fin cfg0.N) (p : Fin 512) (k : Fin 1024) : bX m c t (ix2 p k)
    = (m ((c : Thread nD τ).loc main_arg0) : Vec Ideal S8x2048x1024 .f32) (ix3 (seqOf (rowOf t p)) (posOf (rowOf t p)) k) := by
  refine Eq.trans ?_ (v0_at m c (rowOf t p) k)
  show (V m c main_v0 : Vec Ideal S16384x1024 .f32) _ = _
  refine congrArg (V m c main_v0 : Vec Ideal S16384x1024 .f32) ?_
  funext a; apply Fin.ext
  match a with
  | ⟨0, _⟩ =>
    show cc0_transform_0 (grid0.coords t) 0 * 512 + 1 * p.val = 512 * t.val + p.val
    rw [map0 t]; show t.val * 512 + 1 * p.val = _; omega
  | ⟨1, _⟩ =>
    show cc0_transform_0 (grid0.coords t) 1 * 1024 + 1 * k.val = k.val
    rw [map0 t]; show 0 * 1024 + 1 * k.val = _; omega

/-- The first mixer's output at a point, at one element. -/
theorem bA_at (t : Fin cfg0.N) (p k : Fin 512) : bA m c t (ix2 p k) = (m ((c : Thread nD τ).loc main_arg2) : Vec Ideal S16384x512 .f32) (ix2 (rowOf t p) k) := by
  rw [← V_main_arg2 m c]
  show (V m c main_arg2 : Vec Ideal S16384x512 .f32) _ = _
  refine congrArg (V m c main_arg2 : Vec Ideal S16384x512 .f32) ?_
  funext a; apply Fin.ext
  match a with
  | ⟨0, _⟩ =>
    show cc0_transform_1 (grid0.coords t) 0 * 512 + 1 * p.val = 512 * t.val + p.val
    rw [map1 t]; show t.val * 512 + 1 * p.val = _; omega
  | ⟨1, _⟩ =>
    show cc0_transform_1 (grid0.coords t) 1 * 512 + 1 * k.val = k.val
    rw [map1 t]; show 0 * 512 + 1 * k.val = _; omega

/-- The second mixer's output at a point, at one element. -/
theorem bB_at (t : Fin cfg0.N) (p k : Fin 512) : bB m c t (ix2 p k) = (m ((c : Thread nD τ).loc main_arg3) : Vec Ideal S16384x512 .bf16) (ix2 (rowOf t p) k) := by
  rw [← V_main_arg3 m c]
  show (V m c main_arg3 : Vec Ideal S16384x512 .bf16) _ = _
  refine congrArg (V m c main_arg3 : Vec Ideal S16384x512 .bf16) ?_
  funext a; apply Fin.ext
  match a with
  | ⟨0, _⟩ =>
    show cc0_transform_2 (grid0.coords t) 0 * 512 + 1 * p.val = 512 * t.val + p.val
    rw [map2 t]; show t.val * 512 + 1 * p.val = _; omega
  | ⟨1, _⟩ =>
    show cc0_transform_2 (grid0.coords t) 1 * 512 + 1 * k.val = k.val
    rw [map2 t]; show 0 * 512 + 1 * k.val = _; omega

/-- The gate at a point, at one element. -/
theorem bG_at (t : Fin cfg0.N) (p : Fin 512) (k : Fin 1024) : bG m c t (ix3 0 0 k)
    = (m ((c : Thread nD τ).loc main_arg1) : Vec Ideal S8x6144 .f32) (ix2 (seqOf (rowOf t p)) ⟨2048 + k.val, by omega⟩) := by
  refine Eq.trans ?_ (v1_at m c (seqOf (rowOf t p)) ⟨2048 + k.val, by omega⟩)
  show (V m c main_v1 : Vec Ideal S8x1x6144 .f32) _ = _
  refine congrArg (V m c main_v1 : Vec Ideal S8x1x6144 .f32) ?_
  funext a; apply Fin.ext
  match a with
  | ⟨0, _⟩ =>
    show cc0_transform_3 (grid0.coords t) 0 * 1 + 1 * 0 = (512 * t.val + p.val) / 2048
    rw [map3 t]; show t.val / 4 * 1 + 1 * 0 = _; omega
  | ⟨1, _⟩ =>
    show cc0_transform_3 (grid0.coords t) 1 * 1 + 1 * 0 = 0
    rw [map3 t]; show 0 * 1 + 1 * 0 = _; omega
  | ⟨2, _⟩ =>
    show cc0_transform_3 (grid0.coords t) 2 * 1024 + 1 * k.val = 2048 + k.val
    rw [map3 t]; show 2 * 1024 + 1 * k.val = _; omega

/-- The weights at a point, at one element. -/
theorem bW_at (t : Fin cfg0.N) (k n : Fin 1024) : bW m c t (ix2 k n) = (m ((c : Thread nD τ).loc main_arg4) : Vec Ideal S1024x1024 .f32) (ix2 k n) := by
  refine Eq.trans ?_ (v2_at m c k n)
  show (V m c main_v2 : Vec Ideal S1024x1024 .bf16) _ = _
  refine congrArg (V m c main_v2 : Vec Ideal S1024x1024 .bf16) ?_
  funext a; apply Fin.ext
  match a with
  | ⟨0, _⟩ =>
    show cc0_transform_4 (grid0.coords t) 0 * 1024 + 1 * k.val = k.val
    rw [map4 t]; show 0 * 1024 + 1 * k.val = _; omega
  | ⟨1, _⟩ =>
    show cc0_transform_4 (grid0.coords t) 1 * 1024 + 1 * n.val = n.val
    rw [map4 t]; show 0 * 1024 + 1 * n.val = _; omega

/-- The upper half of the weights, at one element. -/
theorem top_at (t : Fin cfg0.N) (k : Fin 512) (n : Fin 1024) : View.ld (bW m c t) r0_1 (ix2 k n)
    = (m ((c : Thread nD τ).loc main_arg4) : Vec Ideal S1024x1024 .f32) (ix2 ⟨k.val, by omega⟩ n) := by
  refine (View.ld_unit_apply_of (bW m c t) _ _ _ _ (ix2 ⟨k.val, by omega⟩ n : S1024x1024.Idx) fun a => ?_).trans (bW_at m c t ⟨k.val, by omega⟩ n)
  match a with
  | ⟨0, _⟩ => show k.val = 0 + k.val; omega
  | ⟨1, _⟩ => show n.val = 0 + n.val; omega

/-- The lower half of the weights, at one element. -/
theorem low_at (t : Fin cfg0.N) (k : Fin 512) (n : Fin 1024) : View.ld (bW m c t) r0_2 (ix2 k n)
    = (m ((c : Thread nD τ).loc main_arg4) : Vec Ideal S1024x1024 .f32) (ix2 ⟨512 + k.val, by omega⟩ n) := by
  refine (View.ld_unit_apply_of (bW m c t) _ _ _ _ (ix2 ⟨512 + k.val, by omega⟩ n : S1024x1024.Idx) fun a => ?_).trans (bW_at m c t ⟨512 + k.val, by omega⟩ n)
  match a with
  | ⟨0, _⟩ => show 512 + k.val = 512 + k.val; omega
  | ⟨1, _⟩ => show n.val = 0 + n.val; omega

/-- One element of the result, of the arguments. -/
def elem (x : FVec Ideal S8x2048x1024 .f32) (mod : FVec Ideal S8x6144 .f32) (A : FVec Ideal S16384x512 .f32) (B : FVec Ideal S16384x512 .bf16)
    (W : FVec Ideal S1024x1024 .f32) (R : Fin 16384) (n : Fin 1024) : EReal :=
  mixed (x (ix3 (seqOf R) (posOf R) n)) (mod (ix2 (seqOf R) ⟨2048 + n.val, by omega⟩)) (fun k => A (ix2 R k)) (fun k => B (ix2 R k))
    (fun k => W (ix2 ⟨k.val, by omega⟩ n)) (fun k => W (ix2 ⟨512 + k.val, by omega⟩ n))

/-- The result, of the launch's arguments. -/
def stream (i : S16384x1024.Idx) : EReal :=
  elem (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- What a point leaves, at one element. -/
theorem out_at (t : Fin cfg0.N) (p : Fin 512) (n : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix2 p n)
      = stream m c (ix2 (rowOf t p) n) := by
  have e : out0_10 (iblk m c 0 t) (iblk m c 1 t) (iblk m c 2 t) (iblk m c 3 t) (iblk m c 4 t) (iblk m c 5 t) (iblk m c 6 t) (iblk m c 7 t) (iblk m c 8 t) (iblk m c 9 t)
      = k0_pay2 (bA m c t) (View.ld (bW m c t) r0_1) (bB m c t) (View.ld (bW m c t) r0_2) (bX m c t) (bG m c t) := by
    unfold out0_10
    rw [View.canon_cons_unit_lit' _ _ _ (by decide), View.ld_unit_lit' _ (bA m c t) (by decide), View.ld_unit_lit' _ (bB m c t) (by decide), View.ld_unit_lit' _ (bX m c t) (by decide), View.ld_unit_lit' _ (bG m c t) (by decide)]
  rw [e, pay_at]
  simp only [bX_at, bA_at, bB_at, top_at, low_at, bG_at m c t p]
  rfl

/-- The array after the run. -/
theorem arr10 : (dats m 0 c).arrAt 10 cfg0.N = (stream m c : Vec Ideal S16384x1024 .f32) := by
  refine Pipeline.Dat.arrAt_eq_of_covers (cfg := cfg0) (dats m 0 c) (10 : Fin 12) _ covers10 (fun t hf y => ?_)
  have h0 : (y (0 : Fin 2)).val < 512 := (y (0 : Fin 2)).isLt
  have h1 : (y (1 : Fin 2)).val < 1024 := (y (1 : Fin 2)).isLt
  have hx : (cfg0.win 10).xinj (cfg0.grid.coords t) y = (ix2 ⟨(y (0 : Fin 2)).val, h0⟩ ⟨(y (1 : Fin 2)).val, h1⟩ : S512x1024.Idx) := by
    funext a
    match a with
    | ⟨0, _⟩ => rfl
    | ⟨1, _⟩ => rfl
  have he : ((cfg0.win 10).blk t).view.emb y = (ix2 (rowOf t ⟨(y (0 : Fin 2)).val, h0⟩) ⟨(y (1 : Fin 2)).val, h1⟩ : S16384x1024.Idx) := by
    funext a
    apply Fin.ext
    match a with
    | ⟨0, _⟩ =>
      show cc0_transform_10 (grid0.coords t) 0 * 512 + 1 * (y (0 : Fin 2)).val = 512 * t.val + (y (0 : Fin 2)).val
      rw [map10 t]; show t.val * 512 + 1 * (y (0 : Fin 2)).val = _; omega
    | ⟨1, _⟩ =>
      show cc0_transform_10 (grid0.coords t) 1 * 1024 + 1 * (y (1 : Fin 2)).val = (y (1 : Fin 2)).val
      rw [map10 t]; show 0 * 1024 + 1 * (y (1 : Fin 2)).val = _; omega
  refine Eq.trans ?_ (congrArg (stream m c : Vec Ideal S16384x1024 .f32) he).symm
  exact ((congrArg ((dats m 0 c).after 10 t : Vec Ideal S512x1024 .f32) hx).trans (congrFun (after0_10 m c t) _)).trans (out_at m c t _ _)

end Cert.Kernel4Ideal

namespace Cert.Reference4Ideal

open Idealize.ShloMosaic Idealize.ShloMosaic.TcCoe
open Cert.Reference4Ideal.Gen

/-- The mixers' outputs side by side, against the weights. -/
def prod (A : FVec Ideal S16384x512 .f32) (B : FVec Ideal S16384x512 .bf16) (W : FVec Ideal S1024x1024 .f32) : FVec Ideal S16384x1024 .f32 :=
  Host.dotGeneral dot_S16384x1024_S1024x1024_S16384x1024_1_0_0_1_n_n none
    (concatenate S16384x1024 1 [⟨S16384x512, A⟩, ⟨S16384x512, extf .f32 B bitsLt_bf16_f32⟩] concatenates_S16384x512_S16384x512_S16384x1024_d1) W

/-- The product at one element. -/
theorem prod_at (A : FVec Ideal S16384x512 .f32) (B : FVec Ideal S16384x512 .bf16) (W : FVec Ideal S1024x1024 .f32) (R : Fin 16384) (n : Fin 1024) :
    prod A B W (ix2 R n) = (∑ k : Fin 512, A (ix2 R k) * W (ix2 ⟨k.val, by omega⟩ n)) + ∑ k : Fin 512, B (ix2 R k) * W (ix2 ⟨512 + k.val, by omega⟩ n) := by
  unfold prod
  pointwise

/-- The reference's array. -/
def out (x : FVec Ideal S8x2048x1024 .f32) (mod : FVec Ideal S8x6144 .f32) (A : FVec Ideal S16384x512 .f32) (B : FVec Ideal S16384x512 .bf16)
    (W : FVec Ideal S1024x1024 .f32) : FVec Ideal S16384x1024 .f32 :=
  shapeCast _ (addf x (mulf (broadcastInDim S8x2048x1024 ![0, 1, 2] bcast_S8x1x1024_S8x2048x1024_0_1_2 (extractStridedSlice S8x1x1024 ![0, 0, 2048]
    (broadcastInDim S8x1x6144 ![0, 2] bcast_S8x6144_S8x1x6144_0_2 mod) slices_S8x1x6144_S8x1x1024_0_0_2048))
    (shapeCast _ (prod A B W) shapeCasts_S16384x1024_S8x2048x1024))) shapeCasts_S8x2048x1024_S16384x1024

/-- The reference's array at one element. -/
theorem out_at (x : FVec Ideal S8x2048x1024 .f32) (mod : FVec Ideal S8x6144 .f32) (A : FVec Ideal S16384x512 .f32) (B : FVec Ideal S16384x512 .bf16)
    (W : FVec Ideal S1024x1024 .f32) (R : Fin 16384) (n : Fin 1024) : out x mod A B W (ix2 R n) = Cert.Kernel4Ideal.elem x mod A B W R n := by
  unfold out
  refine (shapeCast_apply _ _ _ (ix3 (Cert.Kernel4Ideal.seqOf R) (Cert.Kernel4Ideal.posOf R) n) ?_).trans ?_
  · rw [Shape.rowMajor_val_three, Shape.rowMajor_val_two]
    show (R.val / 2048 * 2048 + R.val % 2048) * 1024 + n.val = R.val * 1024 + n.val
    omega
  have e : shapeCast S8x2048x1024 (prod A B W) shapeCasts_S16384x1024_S8x2048x1024 (ix3 (Cert.Kernel4Ideal.seqOf R) (Cert.Kernel4Ideal.posOf R) n) = prod A B W (ix2 R n) := by
    refine shapeCast_apply _ _ _ _ ?_
    rw [Shape.rowMajor_val_three, Shape.rowMajor_val_two]
    show R.val * 1024 + n.val = (R.val / 2048 * 2048 + R.val % 2048) * 1024 + n.val
    omega
  rw [prod_at] at e
  generalize shapeCast S8x2048x1024 (prod A B W) shapeCasts_S16384x1024_S8x2048x1024 = P at e
  unfold Cert.Kernel4Ideal.elem Cert.Kernel4Ideal.mixed
  rw [← e]
  pointwise

end Cert.Reference4Ideal

namespace Cert.Proof

open Idealize.ShloMosaic Idealize.ShloMosaic.TcCoe Idealize.SL.Sem

/-- The bodies of the printed and the idealised kernel are one text. -/
theorem out_proj_eq : Cert.Kernel4.cc0__out_proj_kernel (F := Bits) = Cert.Kernel4Ideal.cc0__out_proj_kernel (F := Bits) := by
  delta Cert.Kernel4.cc0__out_proj_kernel Cert.Kernel4Ideal.cc0__out_proj_kernel
  rfl

/-- So are their tables of bodies. -/
theorem out_proj_body_eq : Cert.Kernel4.defs₀ (F := Bits) = Cert.Kernel4Ideal.defs₀ (F := Bits) := by
  delta Cert.Kernel4.defs₀ Cert.Kernel4Ideal.defs₀
  refine congrArg Defs.onTc ?_
  funext x y
  match x, y with
  | 0, (t, s) =>
    show Cert.Kernel4.cc0__out_proj_kernel _ _ _ _ _ _ _ _ _ _ _ _ _ _ _ _ _ _ _ _ _ _ _ _ _ = _
    rw [out_proj_eq]
    rfl

/-- And the tables with the call's pipeline. -/
theorem out_proj_defs_eq : Cert.Kernel4.defs (F := Bits) = Cert.Kernel4Ideal.defs (F := Bits) :=
  congrArg (Pipeline.defs Cert.Kernel4.pcfgs) out_proj_body_eq

/-- The host parts are one text too. -/
theorem out_proj_main_eq : Cert.Kernel4.main (F := Bits) = Cert.Kernel4Ideal.main (F := Bits) := by
  delta Cert.Kernel4.main Cert.Kernel4Ideal.main
  rfl

/-- The frame of the output projection as printed, at machine words. -/
theorem out_proj_frame_kernel : Cert.quiescent_Kernel4 := fun m ρ _ => by
  rw [out_proj_defs_eq, out_proj_main_eq]
  exact (θ_run Cert.Kernel4Ideal.defs _ _).mono (fun _ h => h) (Cert.Kernel4Ideal.Gen.frame (F := Bits) m ρ)

/-- The frame of the idealised program. -/
theorem out_proj_frame_ideal : Cert.quiescent_Kernel4Ideal := fun m ρ _ => Cert.Kernel4Ideal.Gen.frame (F := Ideal) m ρ

/-- The frame of its idealised reference. -/
theorem out_proj_frame_reference : Cert.quiescent_Reference4Ideal := by
  intro m g _
  refine (θ_run Cert.Reference4Ideal.defs _ _).mono
    (fun r h => ⟨fun c => (h c).2, Idealize.ShloMosaic.sem_eq_zero_of_no_sems (by decide) r.2⟩) (Cert.Reference4Ideal.Value.run m g)

/-- The kernel and the reference of the output projection leave the same array. -/
theorem out_proj_same_result : Cert.algebraic_Kernel4Ideal_Reference4Ideal := by
  intro m g m' g' _ hagree
  refine ⟨fun c => (Cert.Kernel4Ideal.stream m c : Vec Ideal Cert.Kernel4Ideal.S16384x1024 .f32), ?_, ?_⟩
  · exact (θ_run Cert.Kernel4Ideal.defs _ _).mono (fun r h c => ⟨(h c).1.trans (Cert.Kernel4Ideal.arr10 m c), (h c).2.2⟩)
      (Cert.Kernel4Ideal.Value.run_blocks (F := Ideal) m g)
  · refine (θ_run Cert.Reference4Ideal.defs _ _).mono (fun r h c => ⟨(h c).1.trans ?_, (h c).2⟩) (Cert.Reference4Ideal.Value.run (F := Ideal) m' g')
    obtain ⟨a0, a1, a2, a3, a4, a5, a6, a7, a8, a9⟩ := hagree c
    rw [a0, a1, a2, a3, a4]
    funext i
    obtain ⟨R, n, rfl⟩ : ∃ R n, i = ix2 R n := ⟨i 0, i 1, eq_ix2 i⟩
    exact Cert.Reference4Ideal.out_at _ _ _ _ _ R n

end Cert.Proof

end
-- ==== Proof.Pool.lean ====
/-
  The pooling mixer's norm and the state it hands on: the last fifteen normalised rows of each sequence.  What a grid point
  leaves, the array its 32 points leave, and the reference's array, each at one element; then the frames of the kernel.
-/
module

public import proofs.«01_k».proof.Defs
public import proofs.«01_k».proof.Proof.InMath
public import proofs.«01_k».proof.Proof.Gen.Kernel5
public import proofs.«01_k».proof.Proof.Gen.Kernel5Ideal.Frame
public import proofs.«01_k».proof.Proof.Gen.Reference5Ideal.Run
public import Idealize.ShloMosaic.Lib.Claim
public import Idealize.ShloMosaic.Lib.Pointwise
public import Idealize.ShloMosaic.Lib.KernelVsHost
public import Idealize.ShloMosaic.Lib.Pipeline.ArrRel
public import Idealize.ShloMosaic.Lib.Pipeline.ValueKit
public import Idealize.ShloMosaic.Lib.StableHlo.RunRead
public import Idealize.ShloMosaic.Lib.StableHlo.ReadAt

@[expose] public section

set_option maxRecDepth 16384
set_option maxHeartbeats 4000000

noncomputable section

namespace Cert.Kernel5Ideal

open Idealize.ShloMosaic Idealize.ShloMosaic.TcCoe Idealize.ShloMosaic.Tactic
open Cert.Kernel5Ideal.Gen Cert.Proof

/-- A tile's normalised rows, at one element. -/
theorem norm_at (X : Vec Ideal S512x1024 .f32) (G : Vec Ideal S1x1024 .f32) (SC SH : Vec Ideal S1x1x1024 .f32) (p : Fin 512) (k : Fin 1024) :
    k0_pay3 X G SC SH (ix2 p k) = inNormed (fun k => X (ix2 p k)) (fun k => G (ix2 0 k)) (fun k => SC (ix3 0 0 k)) (fun k => SH (ix3 0 0 k)) k := by
  unfold k0_pay3 k0_pay2 inNormed tiny
  pointwise

/-- Sixteen rows above a tile. -/
def stack (H : FVec Ideal S16x1024 .f32) (T : FVec Ideal S512x1024 .f32) : FVec Ideal S528x1024 .f32 :=
  concatenate S528x1024 0 [⟨S16x1024, H⟩, ⟨S512x1024, T⟩] concatenates_S16x1024_S512x1024_S528x1024_d0

/-- The last sixteen of the rows before and in a tile are the tile's own last sixteen. -/
theorem stack_last (H : FVec Ideal S16x1024 .f32) (T : FVec Ideal S512x1024 .f32) (r : Fin 16) (k : Fin 1024) :
    k0_pay18 (stack H T) (ix3 0 r k) = T (ix2 ⟨496 + r.val, by omega⟩ k) := by
  unfold k0_pay18 stack
  pointwise
  simp only [dif_neg (show ¬ (512 + r.val < 16) by omega)]
  exact congrArg T (funext fun a => Fin.ext (by match a with | ⟨0, _⟩ => (show 512 + r.val - 16 = 496 + r.val; omega) | ⟨1, _⟩ => rfl))

/-- The same of what a point leaves. -/
theorem state_at (i : BitVec 32) (v25 : FVec Ideal S512x1024 .f32) (v27 : FVec Ideal S16x1024 .f32) (v29 v31 v33 : FVec Ideal S1x1024 .f32) (v34 : FVec Ideal S16x1024 .f32)
    (r : Fin 16) (k : Fin 1024) : k0_pay18 (k0_pay9 i v25 v27 v29 v31 v33 v34) (ix3 0 r k) = v25 (ix2 ⟨496 + r.val, by omega⟩ k) := by
  obtain ⟨H, hH⟩ : ∃ H, k0_pay9 i v25 v27 v29 v31 v33 v34 = stack H v25 := ⟨_, rfl⟩
  rw [hH, stack_last]

variable (m : (ℓ : Loc nD τ sig) → Buf (Elt Ideal) ℓ) (c : Dev nD)

/-- The batch's rows one after another. -/
theorem V_v0 : (V m c main_v0 : Vec Ideal S16384x1024 .f32) = shapeCast S16384x1024 (m ((c : Thread nD τ).loc main_arg0) : Vec Ideal S8x2048x1024 .f32) shapeCasts_S8x2048x1024_S16384x1024 := by
  unfold V
  unfold_abbrev_sides
  after_reads_simp
  all_goals try simp -implicitDefEqProofs only [StableHlo.TRef.toBuf, StableHlo.TRef.ofBuf, cast_cast, cast_eq]
  all_goals try clean_types
  all_goals try rfl

/-- The modulation rows with a middle axis of one. -/
theorem V_v1 : (V m c main_v1 : Vec Ideal S8x1x6144 .f32) = broadcastInDim S8x1x6144 ![0, 2] bcast_S8x6144_S8x1x6144_0_2 (m ((c : Thread nD τ).loc main_arg1) : Vec Ideal S8x6144 .f32) := by
  unfold V
  unfold_abbrev_sides
  after_reads_simp
  all_goals try simp -implicitDefEqProofs only [StableHlo.TRef.toBuf, StableHlo.TRef.ofBuf, cast_cast, cast_eq]
  all_goals try clean_types
  all_goals try rfl

/-- The gain as one row. -/
theorem V_v2 : (V m c main_v2 : Vec Ideal S1x1024 .f32) = broadcastInDim S1x1024 ![1] bcast_S1024_S1x1024_1 (m ((c : Thread nD τ).loc main_arg2) : Vec Ideal S1024 .f32) := by
  unfold V
  unfold_abbrev_sides
  after_reads_simp
  all_goals try simp -implicitDefEqProofs only [StableHlo.TRef.toBuf, StableHlo.TRef.ofBuf, cast_cast, cast_eq]
  all_goals try clean_types
  all_goals try rfl

/-- The rows at one element. -/
theorem v0_at (R : Fin 16384) (k : Fin 1024) : (V m c main_v0 : Vec Ideal S16384x1024 .f32) (ix2 R k)
    = (m ((c : Thread nD τ).loc main_arg0) : Vec Ideal S8x2048x1024 .f32) (ix3 ⟨R.val / 2048, by omega⟩ ⟨R.val % 2048, by omega⟩ k) := by
  rw [V_v0]
  refine shapeCast_apply (s := S8x2048x1024) _ _ _ _ ?_
  rw [Shape.rowMajor_val_three, Shape.rowMajor_val_two]
  show (R.val / 2048 * 2048 + R.val % 2048) * 1024 + k.val = R.val * 1024 + k.val
  omega

/-- The modulation rows at one element. -/
theorem v1_at (b : Fin 8) (n : Fin 6144) : (V m c main_v1 : Vec Ideal S8x1x6144 .f32) (ix3 b 0 n)
    = (m ((c : Thread nD τ).loc main_arg1) : Vec Ideal S8x6144 .f32) (ix2 b n) := by
  rw [V_v1]
  pointwise

/-- The gain at one element. -/
theorem v2_at (n : Fin 1024) : (V m c main_v2 : Vec Ideal S1x1024 .f32) (ix2 0 n) = (m ((c : Thread nD τ).loc main_arg2) : Vec Ideal S1024 .f32) (ix1 n) := by
  rw [V_v2]
  pointwise

/-- The rows: one tile of 512 per point. -/
theorem map0 : ∀ t : Fin grid0.N, cc0_transform_0 (grid0.coords t) = ![t.val, 0] := by decide +kernel
/-- The scale of the sequence of the tile. -/
theorem map2 : ∀ t : Fin grid0.N, cc0_transform_2 (grid0.coords t) = ![t.val / 4, 0, 1] := by decide +kernel
/-- The shift of the sequence of the tile. -/
theorem map3 : ∀ t : Fin grid0.N, cc0_transform_3 (grid0.coords t) = ![t.val / 4, 0, 0] := by decide +kernel
/-- The gain, whole. -/
theorem map5 : ∀ t : Fin grid0.N, cc0_transform_5 (grid0.coords t) = ![0, 0] := by decide +kernel
/-- The state: one block per sequence. -/
theorem map14 : ∀ t : Fin grid0.N, cc0_transform_14 (grid0.coords t) = ![t.val / 4, 0, 0] := by decide +kernel
/-- Its block is written back after a sequence's last tile. -/
theorem flush14 : ∀ t : Fin grid0.N, (cfg0.win 14).flush t = true → t.val % 4 = 3 := by decide +kernel
/-- The blocks of the state are the whole array. -/
theorem covers14 : (cfg0.win 14).Covers := by decide +kernel
/-- There are 32 points. -/
theorem lt32 (t : Fin cfg0.N) : t.val < 32 := t.isLt

/-- The row of the batch that is row `p` of a point's tile. -/
abbrev rowOf (t : Fin cfg0.N) (p : Fin 512) : Fin 16384 := ⟨512 * t.val + p.val, by have := lt32 t; omega⟩
/-- The sequence of a row. -/
abbrev seqOf (R : Fin 16384) : Fin 8 := ⟨R.val / 2048, by omega⟩
/-- The position of a row in its sequence. -/
abbrev posOf (R : Fin 16384) : Fin 2048 := ⟨R.val % 2048, by omega⟩

/-- The rows at a point. -/
abbrev bX (t : Fin cfg0.N) : Vec Ideal S512x1024 .f32 := iblk m c 0 t
/-- The scale at a point. -/
abbrev bSc (t : Fin cfg0.N) : Vec Ideal S1x1x1024 .f32 := iblk m c 2 t
/-- The shift at a point. -/
abbrev bSh (t : Fin cfg0.N) : Vec Ideal S1x1x1024 .f32 := iblk m c 3 t
/-- The gain at a point. -/
abbrev bG (t : Fin cfg0.N) : Vec Ideal S1x1024 .f32 := iblk m c 5 t

/-- The rows at a point, at one element. -/
theorem bX_at (t : Fin cfg0.N) (p : Fin 512) (k : Fin 1024) : bX m c t (ix2 p k)
    = (m ((c : Thread nD τ).loc main_arg0) : Vec Ideal S8x2048x1024 .f32) (ix3 (seqOf (rowOf t p)) (posOf (rowOf t p)) k) := by
  refine Eq.trans ?_ (v0_at m c (rowOf t p) k)
  show (V m c main_v0 : Vec Ideal S16384x1024 .f32) _ = _
  refine congrArg (V m c main_v0 : Vec Ideal S16384x1024 .f32) ?_
  funext a; apply Fin.ext
  match a with
  | ⟨0, _⟩ =>
    show cc0_transform_0 (grid0.coords t) 0 * 512 + 1 * p.val = 512 * t.val + p.val
    rw [map0 t]; show t.val * 512 + 1 * p.val = _; omega
  | ⟨1, _⟩ =>
    show cc0_transform_0 (grid0.coords t) 1 * 1024 + 1 * k.val = k.val
    rw [map0 t]; show 0 * 1024 + 1 * k.val = _; omega

/-- The scale at a point, at one element. -/
theorem bSc_at (t : Fin cfg0.N) (p : Fin 512) (k : Fin 1024) : bSc m c t (ix3 0 0 k)
    = (m ((c : Thread nD τ).loc main_arg1) : Vec Ideal S8x6144 .f32) (ix2 (seqOf (rowOf t p)) ⟨1024 + k.val, by omega⟩) := by
  refine Eq.trans ?_ (v1_at m c (seqOf (rowOf t p)) ⟨1024 + k.val, by omega⟩)
  show (V m c main_v1 : Vec Ideal S8x1x6144 .f32) _ = _
  refine congrArg (V m c main_v1 : Vec Ideal S8x1x6144 .f32) ?_
  funext a; apply Fin.ext
  match a with
  | ⟨0, _⟩ =>
    show cc0_transform_2 (grid0.coords t) 0 * 1 + 1 * 0 = (512 * t.val + p.val) / 2048
    rw [map2 t]; show t.val / 4 * 1 + 1 * 0 = _; omega
  | ⟨1, _⟩ =>
    show cc0_transform_2 (grid0.coords t) 1 * 1 + 1 * 0 = 0
    rw [map2 t]; show 0 * 1 + 1 * 0 = _; omega
  | ⟨2, _⟩ =>
    show cc0_transform_2 (grid0.coords t) 2 * 1024 + 1 * k.val = 1024 + k.val
    rw [map2 t]; show 1 * 1024 + 1 * k.val = _; omega

/-- The shift at a point, at one element. -/
theorem bSh_at (t : Fin cfg0.N) (p : Fin 512) (k : Fin 1024) : bSh m c t (ix3 0 0 k)
    = (m ((c : Thread nD τ).loc main_arg1) : Vec Ideal S8x6144 .f32) (ix2 (seqOf (rowOf t p)) ⟨k.val, by omega⟩) := by
  refine Eq.trans ?_ (v1_at m c (seqOf (rowOf t p)) ⟨k.val, by omega⟩)
  show (V m c main_v1 : Vec Ideal S8x1x6144 .f32) _ = _
  refine congrArg (V m c main_v1 : Vec Ideal S8x1x6144 .f32) ?_
  funext a; apply Fin.ext
  match a with
  | ⟨0, _⟩ =>
    show cc0_transform_3 (grid0.coords t) 0 * 1 + 1 * 0 = (512 * t.val + p.val) / 2048
    rw [map3 t]; show t.val / 4 * 1 + 1 * 0 = _; omega
  | ⟨1, _⟩ =>
    show cc0_transform_3 (grid0.coords t) 1 * 1 + 1 * 0 = 0
    rw [map3 t]; show 0 * 1 + 1 * 0 = _; omega
  | ⟨2, _⟩ =>
    show cc0_transform_3 (grid0.coords t) 2 * 1024 + 1 * k.val = k.val
    rw [map3 t]; show 0 * 1024 + 1 * k.val = _; omega

/-- The gain at a point, at one element. -/
theorem bG_at (t : Fin cfg0.N) (k : Fin 1024) : bG m c t (ix2 0 k) = (m ((c : Thread nD τ).loc main_arg2) : Vec Ideal S1024 .f32) (ix1 k) := by
  refine Eq.trans ?_ (v2_at m c k)
  show (V m c main_v2 : Vec Ideal S1x1024 .f32) _ = _
  refine congrArg (V m c main_v2 : Vec Ideal S1x1024 .f32) ?_
  funext a; apply Fin.ext
  match a with
  | ⟨0, _⟩ =>
    show cc0_transform_5 (grid0.coords t) 0 * 1 + 1 * 0 = 0
    rw [map5 t]; show 0 * 1 + 1 * 0 = _; omega
  | ⟨1, _⟩ =>
    show cc0_transform_5 (grid0.coords t) 1 * 1024 + 1 * k.val = k.val
    rw [map5 t]; show 0 * 1024 + 1 * k.val = _; omega

/-- One element of the normalised rows, of the arguments. -/
def hrow (x : FVec Ideal S8x2048x1024 .f32) (mod : FVec Ideal S8x6144 .f32) (g : FVec Ideal S1024 .f32) (b : Fin 8) (s : Fin 2048) (k : Fin 1024) : EReal :=
  inNormed (fun k => x (ix3 b s k)) (fun k => g (ix1 k)) (fun k => mod (ix2 b ⟨1024 + k.val, by omega⟩)) (fun k => mod (ix2 b ⟨k.val, by omega⟩)) k

/-- One element of the normalised rows, of the launch's arguments. -/
abbrev hm (b : Fin 8) (s : Fin 2048) (k : Fin 1024) : EReal :=
  hrow (m ((c : Thread nD τ).loc main_arg0)) (m ((c : Thread nD τ).loc main_arg1)) (m ((c : Thread nD τ).loc main_arg2)) b s k

/-- A tile's normalised rows at a point, at one element. -/
theorem tile_at (t : Fin cfg0.N) (p : Fin 512) (k : Fin 1024) :
    k0_pay3 (bX m c t) (bG m c t) (bSc m c t) (bSh m c t) (ix2 p k) = hm m c (seqOf (rowOf t p)) (posOf (rowOf t p)) k := by
  rw [norm_at]
  simp only [bX_at, bG_at, bSc_at m c t p, bSh_at m c t p]
  rfl

/-- The state, of the launch's arguments: sixteen rows of each sequence. -/
def last16 (i : S8x16x1024.Idx) : EReal := hm m c (i 0) ⟨2032 + (i 1).val, by have : (i 1).val < 16 := (i 1).isLt; omega⟩ (i 2)

/-- What the last tile of a sequence leaves, at one element. -/
theorem out_at (t : Fin cfg0.N) (ht : t.val % 4 = 3) (r : Fin 16) (k : Fin 1024) :
    out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r k)
      = last16 m c (ix3 ⟨t.val / 4, by have := lt32 t; omega⟩ r k) := by
  unfold_out out0_14
  rw [View.canon_cons_unit_lit' _ _ _ (by decide), state_at, View.ld_unit_lit' _ (bX m c t) (by decide), View.ld_unit_lit' _ (bG m c t) (by decide), View.ld_unit_lit' _ (bSc m c t) (by decide), View.ld_unit_lit' _ (bSh m c t) (by decide), tile_at]
  unfold last16
  have := lt32 t
  have e1 : seqOf (rowOf t ⟨496 + r.val, by omega⟩) = ⟨t.val / 4, by omega⟩ := Fin.ext (by show (512 * t.val + (496 + r.val)) / 2048 = t.val / 4; omega)
  have e2 : posOf (rowOf t ⟨496 + r.val, by omega⟩) = ⟨2032 + r.val, by omega⟩ := Fin.ext (by show (512 * t.val + (496 + r.val)) % 2048 = 2032 + r.val; omega)
  rw [e1, e2]
  rfl

/-- The state's array after the run. -/
theorem arr14 : (dats m 0 c).arrAt 14 cfg0.N = (last16 m c : Vec Ideal S8x16x1024 .f32) := by
  refine Pipeline.Dat.arrAt_eq_of_covers (cfg := cfg0) (dats m 0 c) (14 : Fin 16) _ covers14 (fun t hf y => ?_)
  have ht := flush14 t hf
  have h0 : (y (0 : Fin 3)).val < 1 := (y (0 : Fin 3)).isLt
  have h1 : (y (1 : Fin 3)).val < 16 := (y (1 : Fin 3)).isLt
  have h2 : (y (2 : Fin 3)).val < 1024 := (y (2 : Fin 3)).isLt
  have hx : (cfg0.win 14).xinj (cfg0.grid.coords t) y = (ix3 0 ⟨(y (1 : Fin 3)).val, h1⟩ ⟨(y (2 : Fin 3)).val, h2⟩ : S1x16x1024.Idx) := by
    funext a
    match a with
    | ⟨0, _⟩ => exact Fin.ext (by show (y (0 : Fin 3)).val = 0; omega)
    | ⟨1, _⟩ => rfl
    | ⟨2, _⟩ => rfl
  have he : ((cfg0.win 14).blk t).view.emb y = (ix3 ⟨t.val / 4, by have := lt32 t; omega⟩ ⟨(y (1 : Fin 3)).val, h1⟩ ⟨(y (2 : Fin 3)).val, h2⟩ : S8x16x1024.Idx) := by
    funext a
    apply Fin.ext
    match a with
    | ⟨0, _⟩ =>
      show cc0_transform_14 (grid0.coords t) 0 * 1 + 1 * (y (0 : Fin 3)).val = t.val / 4
      rw [map14 t]; show t.val / 4 * 1 + 1 * (y (0 : Fin 3)).val = _; omega
    | ⟨1, _⟩ =>
      show cc0_transform_14 (grid0.coords t) 1 * 16 + 1 * (y (1 : Fin 3)).val = (y (1 : Fin 3)).val
      rw [map14 t]; show 0 * 16 + 1 * (y (1 : Fin 3)).val = _; omega
    | ⟨2, _⟩ =>
      show cc0_transform_14 (grid0.coords t) 2 * 1024 + 1 * (y (2 : Fin 3)).val = (y (2 : Fin 3)).val
      rw [map14 t]; show 0 * 1024 + 1 * (y (2 : Fin 3)).val = _; omega
  refine Eq.trans ?_ (congrArg (last16 m c : Vec Ideal S8x16x1024 .f32) he).symm
  exact ((congrArg ((dats m 0 c).after 14 t : Vec Ideal S1x16x1024 .f32) hx).trans (congrFun (after0_14 m c t) _)).trans (out_at m c t ht _ _)

/-- After the region a window's array is what the points left of it. -/
theorem out_arr (w : Fin 16) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  Pipeline.withArrays_arr_shared (cfgs 0).spec c (V0 m c) (fun w => (dats m 0 c).arrAt w (cfgs 0).N)
    ((dats m 0 c).arrAt_sharedIn sharedIn0 (V0 m c) (fun w => A_eq m c w) (cfgs 0).N) w

/-- What the host leaves of a reference. -/
abbrev ends (b : Ref sig .tc) : Buf (Elt Ideal) ((c.tc : Thread nD τ).loc b) := Pipeline.afterTail₀ cfgs (dats m) 0 (V0 m) [hostOps1] c b

/-- The last fifteen of the sixteen rows. -/
theorem ends12 : (ends m c main_v12 : Vec Ideal S8x15x1024 .f32) = extractStridedSlice S8x15x1024 ![0, 1, 0] (last16 m c : Vec Ideal S8x16x1024 .f32) slices_S8x16x1024_S8x15x1024_0_1_0 := by
  rw [← arr14 m c]
  unfold ends Pipeline.afterTail₀
  simp only [List.flatten_cons, List.flatten_nil, List.append_nil]
  after_reads_simp
  exact congrArg (fun x : Vec Ideal S8x16x1024 .f32 => extractStridedSlice S8x15x1024 ![0, 1, 0] x slices_S8x16x1024_S8x15x1024_0_1_0) (out_arr m c 14)

/-- The state handed on, at one element. -/
theorem ends12_at (b : Fin 8) (r : Fin 15) (k : Fin 1024) : (ends m c main_v12 : Vec Ideal S8x15x1024 .f32) (ix3 b r k) = hm m c b ⟨2033 + r.val, by omega⟩ k := by
  rw [ends12]
  have e : extractStridedSlice S8x15x1024 ![0, 1, 0] (last16 m c : Vec Ideal S8x16x1024 .f32) slices_S8x16x1024_S8x15x1024_0_1_0 (ix3 b r k)
      = (last16 m c : Vec Ideal S8x16x1024 .f32) (ix3 b ⟨1 + r.val, by omega⟩ k) := by
    generalize (last16 m c : Vec Ideal S8x16x1024 .f32) = L
    pointwise
  rw [e]
  show hm m c b ⟨2032 + (1 + r.val), by omega⟩ k = _
  exact congrArg (fun s => hm m c b s k) (Fin.ext (by show 2032 + (1 + r.val) = 2033 + r.val; omega))

end Cert.Kernel5Ideal

namespace Cert.Reference5Ideal

open Idealize.ShloMosaic Idealize.ShloMosaic.TcCoe
open Cert.Reference5Ideal.Gen Cert.Proof

/-- The normalised rows. -/
noncomputable def rows (x : FVec Ideal S8x2048x1024 .f32) (mod : FVec Ideal S8x6144 .f32) (gain : FVec Ideal S1024 .f32) : FVec Ideal S8x2048x1024 .f32 :=
  addf (mulf (mulf (mulf x (broadcastInDim S8x2048x1024 ![0, 1, 2] bcast_S8x2048x1_S8x2048x1024_0_1_2
      (Host.rsqrt (addf (Host.divf (broadcastInDim S8x2048x1 ![0, 1] bcast_S8x2048_S8x2048x1_0_1
        (Host.reduceAdd (mulf x x) (constant S_ .f32 0x00000000#32) reducesTo_S8x2048x1024_S8x2048_d2 h_S_ : FVec Ideal S8x2048 .f32))
        (broadcastInDim S8x2048x1 ![] bcast_S_S8x2048x1 (constant S_ .f32 0x44800000#32)))
        (broadcastInDim S8x2048x1 ![] bcast_S_S8x2048x1 (constant S_ .f32 0x358637BD#32))) : FVec Ideal S8x2048x1 .f32)))
      (broadcastInDim S8x2048x1024 ![0, 1, 2] bcast_S1x1x1024_S8x2048x1024_0_1_2 (broadcastInDim S1x1x1024 ![2] bcast_S1024_S1x1x1024_2 gain)))
      (broadcastInDim S8x2048x1024 ![0, 1, 2] bcast_S8x1x1024_S8x2048x1024_0_1_2
        (addf (broadcastInDim S8x1x1024 ![] bcast_S_S8x1x1024 (constant S_ .f32 0x3F800000#32))
          (extractStridedSlice S8x1x1024 ![0, 0, 1024] (broadcastInDim S8x1x6144 ![0, 2] bcast_S8x6144_S8x1x6144_0_2 mod) slices_S8x1x6144_S8x1x1024_0_0_1024))))
      (broadcastInDim S8x2048x1024 ![0, 1, 2] bcast_S8x1x1024_S8x2048x1024_0_1_2
        (extractStridedSlice S8x1x1024 ![0, 0, 0] (broadcastInDim S8x1x6144 ![0, 2] bcast_S8x6144_S8x1x6144_0_2 mod) slices_S8x1x6144_S8x1x1024_0_0_0))

/-- The normalised rows at one element. -/
theorem rows_at (x : FVec Ideal S8x2048x1024 .f32) (mod : FVec Ideal S8x6144 .f32) (gain : FVec Ideal S1024 .f32) (b : Fin 8) (s : Fin 2048) (k : Fin 1024) :
    rows x mod gain (ix3 b s k) = Cert.Kernel5Ideal.hrow x mod gain b s k := by
  unfold rows Cert.Kernel5Ideal.hrow inNormed tiny
  pointwise

/-- The state. -/
def state (x : FVec Ideal S8x2048x1024 .f32) (mod : FVec Ideal S8x6144 .f32) (gain : FVec Ideal S1024 .f32) : FVec Ideal S8x15x1024 .f32 :=
  extractStridedSlice S8x15x1024 ![0, 2033, 0] (rows x mod gain) slices_S8x2048x1024_S8x15x1024_0_2033_0

/-- The state at one element. -/
theorem state_at (x : FVec Ideal S8x2048x1024 .f32) (mod : FVec Ideal S8x6144 .f32) (gain : FVec Ideal S1024 .f32) (b : Fin 8) (r : Fin 15) (k : Fin 1024) :
    state x mod gain (ix3 b r k) = Cert.Kernel5Ideal.hrow x mod gain b ⟨2033 + r.val, by omega⟩ k := by
  rw [← rows_at]
  unfold state
  generalize rows x mod gain = H
  pointwise

end Cert.Reference5Ideal

namespace Cert.Proof

open Idealize.ShloMosaic Idealize.ShloMosaic.TcCoe Idealize.SL.Sem

/-- The bodies of the printed and the idealised kernel are one text. -/
theorem pool_eq : Cert.Kernel5.cc0__pool_kernel (F := Bits) = Cert.Kernel5Ideal.cc0__pool_kernel (F := Bits) := by
  delta Cert.Kernel5.cc0__pool_kernel Cert.Kernel5Ideal.cc0__pool_kernel
  rfl

/-- So are their tables of bodies. -/
theorem pool_body_eq : Cert.Kernel5.defs₀ (F := Bits) = Cert.Kernel5Ideal.defs₀ (F := Bits) := by
  delta Cert.Kernel5.defs₀ Cert.Kernel5Ideal.defs₀
  refine congrArg Defs.onTc ?_
  funext x y
  match x, y with
  | 0, (t, s) =>
    show Cert.Kernel5.cc0__pool_kernel _ _ _ _ _ _ _ _ _ _ _ _ _ _ _ _ _ _ _ _ _ _ _ _ _ _ _ _ _ _ _ _ _ = _
    rw [pool_eq]
    rfl

/-- And the tables with the call's pipeline. -/
theorem pool_defs_eq : Cert.Kernel5.defs (F := Bits) = Cert.Kernel5Ideal.defs (F := Bits) :=
  congrArg (Pipeline.defs Cert.Kernel5.pcfgs) pool_body_eq

/-- The host parts are one text too. -/
theorem pool_main_eq : Cert.Kernel5.main (F := Bits) = Cert.Kernel5Ideal.main (F := Bits) := by
  delta Cert.Kernel5.main Cert.Kernel5Ideal.main
  rfl

/-- The frame of the pooling mixer as printed, at machine words. -/
theorem pool_frame_kernel : Cert.quiescent_Kernel5 := fun m ρ _ => by
  rw [pool_defs_eq, pool_main_eq]
  exact (θ_run Cert.Kernel5Ideal.defs _ _).mono (fun _ h => h) (Cert.Kernel5Ideal.Gen.frame (F := Bits) m ρ)

/-- The frame of the idealised program. -/
theorem pool_frame_ideal : Cert.quiescent_Kernel5Ideal := fun m ρ _ => Cert.Kernel5Ideal.Gen.frame (F := Ideal) m ρ

end Cert.Proof

end
-- ==== Proof.PoolMath.lean ====
/-
  The arithmetic of the pooling mixer over the extended reals: a window's sum, taken directly and as the difference of two
  running sums, and the doubling of a window.
-/
module

public import proofs.«01_k».proof.Proof.InMath

@[expose] public section

noncomputable section

namespace Cert.Proof

open Idealize.ShloMosaic

/-- A sequence's entry at a natural position, zero past its end. -/
def entry (a : Fin 2048 → EReal) (i : ℕ) : EReal := if h : i < 2048 then a ⟨i, h⟩ else 0

/-- The entry `i` places before `s`, zero before the first. -/
def back (a : Fin 2048 → EReal) (s i : ℕ) : EReal := if i ≤ s then entry a (s - i) else 0

/-- The sum of the last `w` entries up to `s`. -/
def window (a : Fin 2048 → EReal) (s w : ℕ) : EReal := ∑ i ∈ Finset.range w, back a s i

/-- The sum of the first `n` entries. -/
def upto (a : Fin 2048 → EReal) (n : ℕ) : EReal := ∑ i ∈ Finset.range n, entry a i

/-- A finite sum of reals is the real of the sum. -/
theorem coe_range_sum (f : ℕ → ℝ) (n : ℕ) : ∑ i ∈ Finset.range n, ((f i : ℝ) : EReal) = ((∑ i ∈ Finset.range n, f i : ℝ) : EReal) := by
  induction n with
  | zero => simp
  | succ n ih => rw [Finset.sum_range_succ, Finset.sum_range_succ, ih, EReal.coe_add]

/-- Of finite entries, the difference of two running sums is the window's sum. -/
theorem upto_sub (a : Fin 2048 → EReal) (ha : ∀ i, a i ≠ ⊤ ∧ a i ≠ ⊥) (s w k c : ℕ) (hc : c = min (s + 1) w) (hk : k + c = s + 1) :
    upto a (s + 1) - upto a k = window a s w := by
  have hr : ∀ i, ∃ r : ℝ, entry a i = (r : EReal) := by
    intro i
    unfold entry
    split
    · next h => exact ⟨(a ⟨i, h⟩).toReal, (EReal.coe_toReal (ha _).1 (ha _).2).symm⟩
    · exact ⟨0, by simp⟩
  choose r hr using hr
  have hw : window a s w = ∑ i ∈ Finset.range c, entry a (k + i) := by
    unfold window
    have hcw : c ≤ w := by omega
    refine Eq.trans ?_ (Finset.sum_range_reflect (fun i => entry a (k + i)) c)
    refine Eq.trans (Finset.sum_subset (Finset.range_subset_range.2 hcw) fun i hi hn => ?_).symm (Finset.sum_congr rfl fun i hi => ?_)
    · rw [Finset.mem_range] at hi hn
      unfold back
      rw [if_neg (by omega)]
    · rw [Finset.mem_range] at hi
      unfold back
      rw [if_pos (by omega), show s - i = k + (c - 1 - i) by omega]
  rw [hw]
  unfold upto
  rw [← hk, Finset.sum_range_add]
  simp only [hr]
  rw [coe_range_sum, coe_range_sum (fun i => r (k + i)), ← EReal.coe_add, ← EReal.coe_sub, add_sub_cancel_left]

/-- A sum with minus infinity in it is minus infinity. -/
theorem sum_bot (f : ℕ → EReal) (n i : ℕ) (hi : i < n) (h : f i = ⊥) : ∑ i ∈ Finset.range n, f i = ⊥ := by
  rw [← Finset.add_sum_erase _ _ (Finset.mem_range.2 hi), h, EReal.bot_add]

/-- A column's entries are finite, or all one infinity. -/
def Uniform (a : Fin 2048 → EReal) : Prop := (∀ i, a i ≠ ⊤ ∧ a i ≠ ⊥) ∨ (∀ i, a i = ⊥) ∨ ∀ i, a i = ⊤

/-- Of such a column the mean by running sums and the window's mean differ from the entry alike. -/
theorem uniform_sub (a : Fin 2048 → EReal) (ha : Uniform a) (s : Fin 2048) (w : ℕ) (hw : 0 < w) (z : EReal) :
    Ideal.div (upto a (s.val + 1) - upto a (s.val + 1 - min (s.val + 1) w)) z - a s = Ideal.div (window a s.val w) z - a s := by
  rcases ha with ha | ha | ha
  · rw [upto_sub a ha s.val w _ _ rfl (by show s.val + 1 - min (s.val + 1) w + min (s.val + 1) w = s.val + 1; omega)]
  · have hs := s.isLt
    have h1 : upto a (s.val + 1) = ⊥ := sum_bot _ _ 0 (by omega) (by unfold entry; rw [dif_pos (by omega)]; exact ha _)
    have h2 : window a s.val w = ⊥ := sum_bot _ _ 0 hw (by unfold back entry; rw [if_pos (by omega), dif_pos (by omega)]; exact ha _)
    rw [h1, h2, EReal.bot_sub]
  · rw [ha, EReal.sub_top, EReal.sub_top]

/-- Two windows one after the other are a window of twice the length. -/
theorem doubled (z : ℕ → EReal) (q w : ℕ) : (∑ i ∈ Finset.range w, z (q - i)) + (∑ i ∈ Finset.range w, z (q - w - i)) = ∑ i ∈ Finset.range (w + w), z (q - i) := by
  rw [Finset.sum_range_add]
  exact congrArg (_ + ·) (Finset.sum_congr rfl fun i _ => by rw [Nat.sub_sub])

end Cert.Proof

end
-- ==== Proof.PoolPay.lean ====
/-
  The payloads of the pooling mixer's window means: the rows of a tile with the sixteen before it, the sums of their windows
  by doubling, the counts of a window, and the product of the means with a group's weights.
-/
module

public import proofs.«01_k».proof.Proof.Pool
public import proofs.«01_k».proof.Proof.PoolMath

@[expose] public section

set_option maxRecDepth 16384
set_option maxHeartbeats 4000000

noncomputable section

namespace Cert.Kernel5Ideal

open Idealize.ShloMosaic Idealize.ShloMosaic.TcCoe Idealize.ShloMosaic.Tactic
open Cert.Kernel5Ideal.Gen Cert.Proof

/-- One column of the rows at a natural position, zero past the end. -/
def col (Z : FVec Ideal S528x256 .f32) (n : Fin 256) (q : ℕ) : EReal := if h : q < 528 then Z (ix2 ⟨q, h⟩ n) else 0

/-- Rows turned down. -/
theorem roll_at (A : FVec Ideal S528x256 .f32) (sb : BitVec 32) (w : ℕ) (hw : sb.toNat = w) (h1 : w ≤ 16) (q : ℕ) (hq : q < 528) (hqw : w ≤ q) (n : Fin 256) :
    dynamicRotate 0 sb none A rotates_S528x256_d0 (ix2 ⟨q, hq⟩ n) = A (ix2 ⟨q - w, by omega⟩ n) := by
  refine Idealize.ShloMosaic.dynamicRotate_apply _ _ _ _ _ _ fun b => ?_
  match b with
  | ⟨0, _⟩ =>
    show q - w = (q + 528 - sb.toNat % 528) % 528
    rw [hw]
    omega
  | ⟨1, _⟩ => rfl

/-- Rows plus themselves turned down. -/
def turned (sb : BitVec 32) (A : FVec Ideal S528x256 .f32) : FVec Ideal S528x256 .f32 := addf A (dynamicRotate 0 sb none A rotates_S528x256_d0)

/-- An array holds the sums of `w` rows, where there are so many. -/
def Sums (Z A : FVec Ideal S528x256 .f32) (w : ℕ) : Prop :=
  ∀ (q : ℕ) (hq : q < 528) (n : Fin 256), w ≤ q + 1 → A (ix2 ⟨q, hq⟩ n) = ∑ i ∈ Finset.range w, col Z n (q - i)

/-- The rows are their own sums of one. -/
theorem sums_one (Z : FVec Ideal S528x256 .f32) : Sums Z Z 1 := fun q hq n _ => by
  rw [Finset.sum_range_one]
  unfold col
  rw [dif_pos (by omega)]
  rfl

/-- A turn by the length doubles the length. -/
theorem sums_turned (Z A : FVec Ideal S528x256 .f32) (w : ℕ) (sb : BitVec 32) (hw : sb.toNat = w) (h0 : 1 ≤ w) (h1 : w ≤ 16) (hA : Sums Z A w) :
    Sums Z (turned sb A) (w + w) := by
  intro q hq n hq2
  show A (ix2 ⟨q, hq⟩ n) + dynamicRotate 0 sb none A rotates_S528x256_d0 (ix2 ⟨q, hq⟩ n) = _
  rw [roll_at A sb w hw h1 q hq (by omega), hA q hq n (by omega), hA (q - w) (by omega) n (by omega)]
  exact doubled _ _ _

/-- The sums of two rows. -/
theorem sums2 (Z : FVec Ideal S528x256 .f32) : Sums Z (turned 1#32 Z) 2 := sums_turned Z Z 1 _ (by decide) (by omega) (by omega) (sums_one Z)
/-- The sums of four rows. -/
theorem sums4 (Z : FVec Ideal S528x256 .f32) : Sums Z (turned 2#32 (turned 1#32 Z)) 4 := sums_turned Z _ 2 _ (by decide) (by omega) (by omega) (sums2 Z)
/-- The sums of eight rows. -/
theorem sums8 (Z : FVec Ideal S528x256 .f32) : Sums Z (turned 4#32 (turned 2#32 (turned 1#32 Z))) 8 := sums_turned Z _ 4 _ (by decide) (by omega) (by omega) (sums4 Z)
/-- The sums of sixteen rows. -/
theorem sums16 (Z : FVec Ideal S528x256 .f32) : Sums Z (turned 8#32 (turned 4#32 (turned 2#32 (turned 1#32 Z)))) 16 := sums_turned Z _ 8 _ (by decide) (by omega) (by omega) (sums8 Z)

/-- The means less the rows, times a group's weights. -/
def dotTail (S : FVec Ideal S528x256 .f32) (C : IVec S512x1 32) (H : FVec Ideal S512x256 .f32) (W : Vec Ideal S1x256x256 .bf16) : FVec Ideal S512x256 .f32 :=
  matmul dot_S512x256_S256x256_S512x256_1_0_0_1_n_n none
    (truncf (F := Ideal) .bf16 (subf (divf (extractStridedSlice S512x256 ![16, 0] S slices_S528x256_o16_0_S512x256)
      (broadcastTo S512x256 (sitofp (F := Ideal) .f32 C : FVec Ideal S512x1 .f32) broadcasts_S512x1_S512x256)) H) bitsLt_bf16_f32 : Vec Ideal S512x256 .bf16)
    (shapeCast S256x256 W shapeCasts_S1x256x256_S256x256 : FVec Ideal S256x256 .bf16) (constant S512x256 .f32 0x00000000#32)

/-- The same at one element. -/
theorem dotTail_at (S : FVec Ideal S528x256 .f32) (C : IVec S512x1 32) (H : FVec Ideal S512x256 .f32) (W : Vec Ideal S1x256x256 .bf16) (p : Fin 512) (n : Fin 256) :
    dotTail S C H W (ix2 p n) = ∑ c : Fin 256, (Ideal.div (S (ix2 ⟨16 + p.val, by omega⟩ c)) (((C (ix2 p 0)).toInt : ℝ) : EReal) - H (ix2 p c)) * W (ix3 0 c n) := by
  unfold dotTail
  pointwise
  rfl

/-- The counts of a window of `w`. -/
def cnt (a : BitVec 32) (w : BitVec 32) : IVec S512x1 32 := minsi (addi (k0_pay10 a 512#32) (broadcast S512x1 1#32)) (broadcast S512x1 w)

/-- The count at a position. -/
abbrev cntWord (s : ℕ) (w : BitVec 32) : BitVec 32 := IntOp.minsi (BitVec.ofNat 32 (s + 1)) w

/-- The counts at one element. -/
theorem cnt_at (a : ℕ) (w : BitVec 32) (p : Fin 512) : cnt (BitVec.ofNat 32 a) w (ix2 p 0) = cntWord (512 * a + p.val) w := by
  unfold cnt k0_pay10
  have e : (0#32 + BitVec.ofNat 32 a * 512#32 + BitVec.ofNat 32 p.val) + 1#32 = BitVec.ofNat 32 (512 * a + p.val + 1) := by
    rw [BitVec.zero_add, show (512#32 : BitVec 32) = BitVec.ofNat 32 512 from rfl, ← BitVec.ofNat_mul, ← BitVec.ofNat_add, show (1#32 : BitVec 32) = BitVec.ofNat 32 1 from rfl,
      ← BitVec.ofNat_add, Nat.mul_comm]
  refine Eq.trans ?_ (congrArg (fun x => IntOp.minsi x w) e)
  pointwise
  rfl

/-- The tile's number in its sequence, as the kernel computes it of the point's number. -/
def tileWord (a : BitVec 32) : BitVec 32 := (Scalar.select (Scalar.andi (Scalar.xori (Scalar.cmpi .slt (Scalar.remsi a (Scalar.select (Scalar.cmpi .eq 4#32 0#32) 1#32 4#32)) 0#32) (Scalar.cmpi .slt (Scalar.select (Scalar.cmpi .eq 4#32 0#32) 1#32 4#32) 0#32)) (Scalar.cmpi .ne (Scalar.remsi a (Scalar.select (Scalar.cmpi .eq 4#32 0#32) 1#32 4#32)) 0#32)) (Scalar.addi (Scalar.remsi a (Scalar.select (Scalar.cmpi .eq 4#32 0#32) 1#32 4#32)) (Scalar.select (Scalar.cmpi .eq 4#32 0#32) 1#32 4#32)) (Scalar.remsi a (Scalar.select (Scalar.cmpi .eq 4#32 0#32) 1#32 4#32)))

/-- Sixteen rows normalised, from their parts. -/
def norm16 (v27 : FVec Ideal S16x1024 .f32) (v29 v31 v33 : FVec Ideal S1x1024 .f32) (v34 : FVec Ideal S16x1024 .f32) : FVec Ideal S16x1024 .f32 :=
  have v35 : FVec Ideal S16 .f32 := multiReduction .add [1] S16 v34 0x00000000#32 reduces_S16x1024_S16 (.inl rfl) rfl
  have v36 : FVec Ideal S16x1 .f32 := shapeCast S16x1 v35 shapeCasts_S16_S16x1
  have cst_23 : Ideal .f32 := Scalar.ofBits .f32 0x44800000#32
  have v37 : FVec Ideal S16x1 .f32 := broadcast S16x1 cst_23
  have v38 : FVec Ideal S16x1 .f32 := divf v36 v37
  have cst_24 : Ideal .f32 := Scalar.ofBits .f32 0x358637BD#32
  have v39 : FVec Ideal S16x1 .f32 := broadcast S16x1 cst_24
  have v40 : FVec Ideal S16x1 .f32 := addf v38 v39
  have v41 : FVec Ideal S16x1 .f32 := rsqrt v40
  have v42 : FVec Ideal S16x1024 .f32 := broadcastTo S16x1024 v41 broadcasts_S16x1_S16x1024
  have v43 : FVec Ideal S16x1024 .f32 := mulf v27 v42
  have v44 : FVec Ideal S16x1024 .f32 := broadcastTo S16x1024 v29 broadcasts_S1x1024_S16x1024
  have v45 : FVec Ideal S16x1024 .f32 := mulf v43 v44
  have cst_25 : Ideal .f32 := Scalar.ofBits .f32 0x3F800000#32
  have v46 : FVec Ideal S1x1024 .f32 := broadcast S1x1024 cst_25
  have v47 : FVec Ideal S1x1024 .f32 := addf v46 v31
  have v48 : FVec Ideal S16x1024 .f32 := broadcastTo S16x1024 v47 broadcasts_S1x1024_S16x1024
  have v49 : FVec Ideal S16x1024 .f32 := mulf v45 v48
  have v50 : FVec Ideal S16x1024 .f32 := broadcastTo S16x1024 v33 broadcasts_S1x1024_S16x1024
  have v51 : FVec Ideal S16x1024 .f32 := addf v49 v50
  v51

/-- Sixteen normalised rows at one element. -/
theorem norm16_at (X : Vec Ideal S16x1024 .f32) (G : Vec Ideal S1x1024 .f32) (SC SH : Vec Ideal S1x1x1024 .f32) (p : Fin 16) (k : Fin 1024) :
    norm16 (k0_pay4 X) (k0_pay5 G) (k0_pay6 SC) (k0_pay7 SH) (k0_pay8 X) (ix2 p k)
      = inNormed (fun k => X (ix2 p k)) (fun k => G (ix2 0 k)) (fun k => SC (ix3 0 0 k)) (fun k => SH (ix3 0 0 k)) k := by
  unfold norm16 k0_pay4 k0_pay5 k0_pay6 k0_pay7 k0_pay8 k0_pay4 inNormed tiny
  pointwise

/-- The rows before a tile and the tile's. -/
theorem rows_eq (a : BitVec 32) (v25 : FVec Ideal S512x1024 .f32) (v27 : FVec Ideal S16x1024 .f32) (v29 v31 v33 : FVec Ideal S1x1024 .f32) (v34 : FVec Ideal S16x1024 .f32) :
    k0_pay9 a v25 v27 v29 v31 v33 v34
      = stack (Scalar.select (Scalar.cmpi .eq (tileWord a) 0#32) (broadcast S16x1024 (Scalar.ofBits .f32 0x00000000#32 : Ideal .f32)) (norm16 v27 v29 v31 v33 v34)) v25 := rfl

/-- The stacked rows at one element. -/
theorem stack_at (H : FVec Ideal S16x1024 .f32) (T : FVec Ideal S512x1024 .f32) (q : Fin 528) (k : Fin 1024) :
    stack H T (ix2 q k) = if h : q.val < 16 then H (ix2 ⟨q.val, h⟩ k) else T (ix2 ⟨q.val - 16, by omega⟩ k) := by
  unfold stack
  pointwise

/-- Columns 0 to 255. -/
abbrev cols0 (E : FVec Ideal S528x1024 .f32) : FVec Ideal S528x256 .f32 := extractStridedSlice S528x256 ![0, 0] E slices_S528x1024_o0_0_S528x256
/-- Columns 256 to 511. -/
abbrev cols1 (E : FVec Ideal S528x1024 .f32) : FVec Ideal S528x256 .f32 := extractStridedSlice S528x256 ![0, 256] E slices_S528x1024_o0_256_S528x256
/-- Columns 512 to 767. -/
abbrev cols2 (E : FVec Ideal S528x1024 .f32) : FVec Ideal S528x256 .f32 := extractStridedSlice S528x256 ![0, 512] E slices_S528x1024_o0_512_S528x256
/-- Columns 768 to 1023. -/
abbrev cols3 (E : FVec Ideal S528x1024 .f32) : FVec Ideal S528x256 .f32 := extractStridedSlice S528x256 ![0, 768] E slices_S528x1024_o0_768_S528x256

/-- The first group's product. -/
theorem pay11_eq (T : FVec Ideal S512x1024 .f32) (E : FVec Ideal S528x1024 .f32) (a : BitVec 32) (W : Vec Ideal S1x256x256 .bf16) :
    k0_pay11 T E a 512#32 W = dotTail (turned 1#32 (cols0 E)) (cnt a 2#32) (extractStridedSlice S512x256 ![0, 0] T slices_S512x1024_o0_0_S512x256) W := rfl
/-- The second group's. -/
theorem pay12_eq (T : FVec Ideal S512x1024 .f32) (E : FVec Ideal S528x1024 .f32) (a : BitVec 32) (W : Vec Ideal S1x256x256 .bf16) :
    k0_pay12 T E a 512#32 W = dotTail (turned 2#32 (turned 1#32 (cols1 E))) (cnt a 4#32) (extractStridedSlice S512x256 ![0, 256] T slices_S512x1024_o0_256_S512x256) W := rfl
/-- The third group's. -/
theorem pay15_eq (T : FVec Ideal S512x1024 .f32) (E : FVec Ideal S528x1024 .f32) (a : BitVec 32) (W : Vec Ideal S1x256x256 .bf16) :
    k0_pay15 T (k0_pay10 a 512#32) (k0_pay13 E) (k0_pay14 E) W = dotTail (turned 4#32 (turned 2#32 (turned 1#32 (cols2 E)))) (cnt a 8#32) (extractStridedSlice S512x256 ![0, 512] T slices_S512x1024_o0_512_S512x256) W := rfl
/-- The fourth group's. -/
theorem pay16_eq (T : FVec Ideal S512x1024 .f32) (E : FVec Ideal S528x1024 .f32) (a : BitVec 32) (W : Vec Ideal S1x256x256 .bf16) :
    k0_pay16 T E (k0_pay10 a 512#32) W = dotTail (turned 8#32 (turned 4#32 (turned 2#32 (turned 1#32 (cols3 E))))) (cnt a 16#32) (extractStridedSlice S512x256 ![0, 768] T slices_S512x1024_o0_768_S512x256) W := rfl

/-- The mean of a window. -/
def mean (a : Fin 2048 → EReal) (s : ℕ) (w : ℕ) : EReal := Ideal.div (window a s w) (((cntWord s (BitVec.ofNat 32 w)).toInt : ℝ) : EReal)

/-- One element of a group's product. -/
def pooled (h : Fin 2048 → Fin 1024 → EReal) (W : Fin 4 → Fin 256 → Fin 256 → EReal) (s : Fin 2048) (g : Fin 4) (w : ℕ) (n : Fin 256) : EReal :=
  ∑ c : Fin 256, (mean (fun s => h s ⟨256 * g.val + c.val, by omega⟩) s.val w - h s ⟨256 * g.val + c.val, by omega⟩) * W g c n

/-- Rows before a tile and the tile's, of a sequence: row `q` is row `512 a + q - 16` of it, zero before the first. -/
def IsRows (h : Fin 2048 → Fin 1024 → EReal) (a : ℕ) (E : FVec Ideal S528x1024 .f32) : Prop :=
  ∀ (q : Fin 528) (k : Fin 1024), E (ix2 q k) = if 16 ≤ 512 * a + q.val then entry (fun s => h s k) (512 * a + q.val - 16) else 0

/-- A group's product of such rows is the spec's. -/
theorem group_at (h : Fin 2048 → Fin 1024 → EReal) (W : Fin 4 → Fin 256 → Fin 256 → EReal) (a : ℕ) (ha : a < 4) (g : Fin 4) (w : ℕ) (hw : w ≤ 16)
    (E : FVec Ideal S528x1024 .f32) (hE : IsRows h a E) (Z S : FVec Ideal S528x256 .f32) (hS : Sums Z S w)
    (hZ : ∀ (q : Fin 528) (n : Fin 256), Z (ix2 q n) = E (ix2 q ⟨256 * g.val + n.val, by omega⟩))
    (H : FVec Ideal S512x256 .f32) (p : Fin 512) (hH : ∀ n : Fin 256, H (ix2 p n) = h ⟨512 * a + p.val, by omega⟩ ⟨256 * g.val + n.val, by omega⟩)
    (B : Vec Ideal S1x256x256 .bf16) (hB : ∀ c n : Fin 256, B (ix3 0 c n) = W g c n) (n : Fin 256) :
    dotTail S (cnt (BitVec.ofNat 32 a) (BitVec.ofNat 32 w)) H B (ix2 p n) = pooled h W ⟨512 * a + p.val, by omega⟩ g w n := by
  rw [dotTail_at, cnt_at]
  unfold pooled mean
  refine Finset.sum_congr rfl fun c _ => ?_
  rw [hH, hB]
  have e : S (ix2 ⟨16 + p.val, by omega⟩ c) = window (fun s => h s ⟨256 * g.val + c.val, by omega⟩) (512 * a + p.val) w := by
    rw [hS (16 + p.val) (by omega) c (by omega)]
    unfold window
    refine Finset.sum_congr rfl fun i hi => ?_
    rw [Finset.mem_range] at hi
    unfold col back
    rw [dif_pos (show 16 + p.val - i < 528 by omega), hZ, hE]
    by_cases hs : i ≤ 512 * a + p.val
    · rw [if_pos (show 16 ≤ 512 * a + (16 + p.val - i) by omega), if_pos hs]
      exact congrArg _ (by show 512 * a + (16 + p.val - i) - 16 = 512 * a + p.val - i; omega)
    · rw [if_neg (show ¬ 16 ≤ 512 * a + (16 + p.val - i) by omega), if_neg hs]
  rw [e]

/-- Four groups side by side. -/
def four (A B C D : FVec Ideal S512x256 .f32) : FVec Ideal S512x1024 .f32 :=
  concatenate S512x1024 1 [⟨S512x256, A⟩, ⟨S512x256, B⟩, ⟨S512x256, C⟩, ⟨S512x256, D⟩] concatenates_S512x256_S512x256_S512x256_S512x256_S512x1024_d1

/-- Four groups at one element. -/
theorem four_at (A B C D : FVec Ideal S512x256 .f32) (p : Fin 512) (n : Fin 1024) (f : Fin 4 → Fin 256 → EReal)
    (hA : ∀ n, A (ix2 p n) = f 0 n) (hB : ∀ n, B (ix2 p n) = f 1 n) (hC : ∀ n, C (ix2 p n) = f 2 n) (hD : ∀ n, D (ix2 p n) = f 3 n) :
    four A B C D (ix2 p n) = f ⟨n.val / 256, by omega⟩ ⟨n.val % 256, by omega⟩ := by
  have e : four A B C D (ix2 p n) = if h : n.val < 256 then A (ix2 p ⟨n.val, h⟩) else if h : n.val - 256 < 256 then B (ix2 p ⟨n.val - 256, by omega⟩)
      else if h : n.val - 256 - 256 < 256 then C (ix2 p ⟨n.val - 256 - 256, by omega⟩) else D (ix2 p ⟨n.val - 256 - 256 - 256, by omega⟩) := by
    unfold four
    pointwise
  rw [e]
  split
  · rw [hA]; exact congrArg₂ f (Fin.ext (by show 0 = n.val / 256; omega)) (Fin.ext (by show n.val = n.val % 256; omega))
  split
  · rw [hB]; exact congrArg₂ f (Fin.ext (by show 1 = n.val / 256; omega)) (Fin.ext (by show n.val - 256 = n.val % 256; omega))
  split
  · rw [hC]; exact congrArg₂ f (Fin.ext (by show 2 = n.val / 256; omega)) (Fin.ext (by show n.val - 256 - 256 = n.val % 256; omega))
  · rw [hD]; exact congrArg₂ f (Fin.ext (by show 3 = n.val / 256; omega)) (Fin.ext (by show n.val - 256 - 256 - 256 = n.val % 256; omega))

/-- The stream after the mixer, at one element. -/
theorem pay17_at (X A0 : FVec Ideal S512x1024 .f32) (A B C D : FVec Ideal S512x256 .f32) (P : Vec Ideal S1x1024 .f32) (G : Vec Ideal S1x1x1024 .f32) (p : Fin 512) (n : Fin 1024) (hX : A0 = X) :
    k0_pay17 A0 A B C D P G (ix2 p n) = X (ix2 p n) + G (ix3 0 0 n) * (four A B C D (ix2 p n) * P (ix2 0 n)) := by
  subst hX
  have e : k0_pay17 A0 A B C D P G = addf A0 (mulf (broadcastTo S512x1024 (shapeCast S1x1024 G shapeCasts_S1x1x1024_S1x1024 : FVec Ideal S1x1024 .f32) broadcasts_S1x1024_S512x1024)
      (mulf (four A B C D) (broadcastTo S512x1024 (shapeCast S1x1024 P shapeCasts_S1x1024_S1x1024 : FVec Ideal S1x1024 .f32) broadcasts_S1x1024_S512x1024))) := rfl
  rw [e]
  generalize four A B C D = Q
  pointwise

end Cert.Kernel5Ideal

end
-- ==== Proof.PoolMix.lean ====
/-
  The pooling mixer's stream: what a grid point adds to its 512 rows and the array the 32 points leave, each at one element.
-/
module

public import proofs.«01_k».proof.Proof.PoolPay

@[expose] public section

set_option maxRecDepth 16384
set_option maxHeartbeats 4000000

noncomputable section

namespace Cert.Kernel5Ideal

open Idealize.ShloMosaic Idealize.ShloMosaic.TcCoe Idealize.ShloMosaic.Tactic
open Cert.Kernel5Ideal.Gen Cert.Proof

variable (m : (ℓ : Loc nD τ sig) → Buf (Elt Ideal) ℓ) (c : Dev nD)

/-- The groups' weights in bf16. -/
theorem V_v3 : (V m c main_v3 : Vec Ideal S4x256x256 .bf16) = (truncf (F := Ideal) (φ := .f32) .bf16 (m ((c : Thread nD τ).loc main_arg3) : Vec Ideal S4x256x256 .f32) bitsLt_bf16_f32 : Vec Ideal S4x256x256 .bf16) := by
  unfold V
  unfold_abbrev_sides
  after_reads_simp
  all_goals try simp -implicitDefEqProofs only [StableHlo.TRef.toBuf, StableHlo.TRef.ofBuf, cast_cast, cast_eq]
  all_goals try clean_types
  all_goals try rfl

/-- The scale of the columns as one row. -/
theorem V_v4 : (V m c main_v4 : Vec Ideal S1x1024 .f32) = broadcastInDim S1x1024 ![1] bcast_S1024_S1x1024_1 (m ((c : Thread nD τ).loc main_arg4) : Vec Ideal S1024 .f32) := by
  unfold V
  unfold_abbrev_sides
  after_reads_simp
  all_goals try simp -implicitDefEqProofs only [StableHlo.TRef.toBuf, StableHlo.TRef.ofBuf, cast_cast, cast_eq]
  all_goals try clean_types
  all_goals try rfl

/-- The groups' weights at one element. -/
theorem v3_at (g : Fin 4) (k n : Fin 256) : (V m c main_v3 : Vec Ideal S4x256x256 .bf16) (ix3 g k n) = (m ((c : Thread nD τ).loc main_arg3) : Vec Ideal S4x256x256 .f32) (ix3 g k n) := by
  rw [V_v3]
  rfl

/-- The scale of the columns at one element. -/
theorem v4_at (n : Fin 1024) : (V m c main_v4 : Vec Ideal S1x1024 .f32) (ix2 0 n) = (m ((c : Thread nD τ).loc main_arg4) : Vec Ideal S1024 .f32) (ix1 n) := by
  rw [V_v4]
  pointwise

/-- The sixteen rows before a tile; before the first tile the first sixteen rows. -/
theorem map1 : ∀ t : Fin grid0.N, cc0_transform_1 (grid0.coords t) = ![32 * t.val - 1, 0] := by decide +kernel
/-- The gate of the sequence of the tile. -/
theorem map4 : ∀ t : Fin grid0.N, cc0_transform_4 (grid0.coords t) = ![t.val / 4, 0, 2] := by decide +kernel
/-- The groups' weights, whole. -/
theorem map6 : ∀ t : Fin grid0.N, cc0_transform_6 (grid0.coords t) = ![0, 0, 0] := by decide +kernel
/-- The columns' scale, whole. -/
theorem map7 : ∀ t : Fin grid0.N, cc0_transform_7 (grid0.coords t) = ![0, 0] := by decide +kernel
/-- The stream: one tile of 512 rows per point. -/
theorem map13 : ∀ t : Fin grid0.N, cc0_transform_13 (grid0.coords t) = ![t.val, 0] := by decide +kernel
/-- The tiles are the whole array. -/
theorem covers13 : (cfg0.win 13).Covers := by decide +kernel
/-- A tile's number in its sequence. -/
theorem tileWord_eq : ∀ t : Fin grid0.N, tileWord (BitVec.ofNat 32 (grid0.coords t 0).val) = BitVec.ofNat 32 (t.val % 4) := by decide +kernel
/-- A sequence's first tile has no rows before it. -/
theorem first_eq : ∀ t : Fin grid0.N, Scalar.cmpi .eq (tileWord (BitVec.ofNat 32 (grid0.coords t 0).val)) 0#32 = if t.val % 4 = 0 then 1#1 else 0#1 := by decide +kernel

/-- The rows before the tile at a point. -/
abbrev bH (t : Fin cfg0.N) : Vec Ideal S16x1024 .f32 := iblk m c 1 t
/-- The gate at a point. -/
abbrev bGt (t : Fin cfg0.N) : Vec Ideal S1x1x1024 .f32 := iblk m c 4 t
/-- The groups' weights at a point. -/
abbrev bW (t : Fin cfg0.N) : Vec Ideal S4x256x256 .bf16 := iblk m c 6 t
/-- The columns' scale at a point. -/
abbrev bP (t : Fin cfg0.N) : Vec Ideal S1x1024 .f32 := iblk m c 7 t

/-- The rows before a tile that is not a sequence's first, at one element. -/
theorem bH_at (t : Fin cfg0.N) (ht : ¬ t.val % 4 = 0) (r : Fin 16) (k : Fin 1024) : bH m c t (ix2 r k)
    = (m ((c : Thread nD τ).loc main_arg0) : Vec Ideal S8x2048x1024 .f32) (ix3 ⟨t.val / 4, by have := lt32 t; omega⟩ ⟨512 * (t.val % 4) + r.val - 16, by omega⟩ k) := by
  have hlt := lt32 t
  refine Eq.trans (b := (V m c main_v0 : Vec Ideal S16384x1024 .f32) (ix2 ⟨512 * t.val + r.val - 16, by omega⟩ k)) ?_ ?_
  · show (V m c main_v0 : Vec Ideal S16384x1024 .f32) _ = _
    refine congrArg (V m c main_v0 : Vec Ideal S16384x1024 .f32) ?_
    funext a; apply Fin.ext
    match a with
    | ⟨0, _⟩ =>
      show cc0_transform_1 (grid0.coords t) 0 * 16 + 1 * r.val = 512 * t.val + r.val - 16
      rw [map1 t]; show (32 * t.val - 1) * 16 + 1 * r.val = _; omega
    | ⟨1, _⟩ =>
      show cc0_transform_1 (grid0.coords t) 1 * 1024 + 1 * k.val = k.val
      rw [map1 t]; show 0 * 1024 + 1 * k.val = _; omega
  · rw [v0_at]
    have e1 : (⟨(512 * t.val + r.val - 16) / 2048, by omega⟩ : Fin 8) = ⟨t.val / 4, by omega⟩ := Fin.ext (by show (512 * t.val + r.val - 16) / 2048 = t.val / 4; omega)
    have e2 : (⟨(512 * t.val + r.val - 16) % 2048, by omega⟩ : Fin 2048) = ⟨512 * (t.val % 4) + r.val - 16, by omega⟩ := Fin.ext (by show (512 * t.val + r.val - 16) % 2048 = 512 * (t.val % 4) + r.val - 16; omega)
    exact congrArg₂ (fun b s => (m ((c : Thread nD τ).loc main_arg0) : Vec Ideal S8x2048x1024 .f32) (ix3 b s k)) e1 e2

/-- The gate at a point, at one element. -/
theorem bGt_at (t : Fin cfg0.N) (k : Fin 1024) : bGt m c t (ix3 0 0 k) = (m ((c : Thread nD τ).loc main_arg1) : Vec Ideal S8x6144 .f32) (ix2 ⟨t.val / 4, by have := lt32 t; omega⟩ ⟨2048 + k.val, by omega⟩) := by
  refine Eq.trans ?_ (v1_at m c ⟨t.val / 4, by have := lt32 t; omega⟩ ⟨2048 + k.val, by omega⟩)
  show (V m c main_v1 : Vec Ideal S8x1x6144 .f32) _ = _
  refine congrArg (V m c main_v1 : Vec Ideal S8x1x6144 .f32) ?_
  funext a; apply Fin.ext
  match a with
  | ⟨0, _⟩ =>
    show cc0_transform_4 (grid0.coords t) 0 * 1 + 1 * 0 = t.val / 4
    rw [map4 t]; show t.val / 4 * 1 + 1 * 0 = _; omega
  | ⟨1, _⟩ =>
    show cc0_transform_4 (grid0.coords t) 1 * 1 + 1 * 0 = 0
    rw [map4 t]; show 0 * 1 + 1 * 0 = _; omega
  | ⟨2, _⟩ =>
    show cc0_transform_4 (grid0.coords t) 2 * 1024 + 1 * k.val = 2048 + k.val
    rw [map4 t]; show 2 * 1024 + 1 * k.val = _; omega

/-- The groups' weights at a point, at one element. -/
theorem bW_at (t : Fin cfg0.N) (g : Fin 4) (k n : Fin 256) : bW m c t (ix3 g k n) = (m ((c : Thread nD τ).loc main_arg3) : Vec Ideal S4x256x256 .f32) (ix3 g k n) := by
  refine Eq.trans ?_ (v3_at m c g k n)
  show (V m c main_v3 : Vec Ideal S4x256x256 .bf16) _ = _
  refine congrArg (V m c main_v3 : Vec Ideal S4x256x256 .bf16) ?_
  funext a; apply Fin.ext
  match a with
  | ⟨0, _⟩ =>
    show cc0_transform_6 (grid0.coords t) 0 * 4 + 1 * g.val = g.val
    rw [map6 t]; show 0 * 4 + 1 * g.val = _; omega
  | ⟨1, _⟩ =>
    show cc0_transform_6 (grid0.coords t) 1 * 256 + 1 * k.val = k.val
    rw [map6 t]; show 0 * 256 + 1 * k.val = _; omega
  | ⟨2, _⟩ =>
    show cc0_transform_6 (grid0.coords t) 2 * 256 + 1 * n.val = n.val
    rw [map6 t]; show 0 * 256 + 1 * n.val = _; omega

/-- The columns' scale at a point, at one element. -/
theorem bP_at (t : Fin cfg0.N) (n : Fin 1024) : bP m c t (ix2 0 n) = (m ((c : Thread nD τ).loc main_arg4) : Vec Ideal S1024 .f32) (ix1 n) := by
  refine Eq.trans ?_ (v4_at m c n)
  show (V m c main_v4 : Vec Ideal S1x1024 .f32) _ = _
  refine congrArg (V m c main_v4 : Vec Ideal S1x1024 .f32) ?_
  funext a; apply Fin.ext
  match a with
  | ⟨0, _⟩ =>
    show cc0_transform_7 (grid0.coords t) 0 * 1 + 1 * 0 = 0
    rw [map7 t]; show 0 * 1 + 1 * 0 = _; omega
  | ⟨1, _⟩ =>
    show cc0_transform_7 (grid0.coords t) 1 * 1024 + 1 * n.val = n.val
    rw [map7 t]; show 0 * 1024 + 1 * n.val = _; omega

/-- Group 0's weights at a point, at one element. -/
theorem group0_at (t : Fin cfg0.N) (k n : Fin 256) : View.ld (bW m c t) r0_4 (ix3 0 k n) = (m ((c : Thread nD τ).loc main_arg3) : Vec Ideal S4x256x256 .f32) (ix3 0 k n) := by
  refine (View.ld_unit_apply_of (bW m c t) _ _ _ _ (ix3 0 k n : S4x256x256.Idx) fun a => ?_).trans (bW_at m c t 0 k n)
  match a with
  | ⟨0, _⟩ => rfl
  | ⟨1, _⟩ => show k.val = 0 + k.val; omega
  | ⟨2, _⟩ => show n.val = 0 + n.val; omega

/-- Group 1's weights at a point, at one element. -/
theorem group1_at (t : Fin cfg0.N) (k n : Fin 256) : View.ld (bW m c t) r0_5 (ix3 0 k n) = (m ((c : Thread nD τ).loc main_arg3) : Vec Ideal S4x256x256 .f32) (ix3 1 k n) := by
  refine (View.ld_unit_apply_of (bW m c t) _ _ _ _ (ix3 1 k n : S4x256x256.Idx) fun a => ?_).trans (bW_at m c t 1 k n)
  match a with
  | ⟨0, _⟩ => rfl
  | ⟨1, _⟩ => show k.val = 0 + k.val; omega
  | ⟨2, _⟩ => show n.val = 0 + n.val; omega

/-- Group 2's weights at a point, at one element. -/
theorem group2_at (t : Fin cfg0.N) (k n : Fin 256) : View.ld (bW m c t) r0_6 (ix3 0 k n) = (m ((c : Thread nD τ).loc main_arg3) : Vec Ideal S4x256x256 .f32) (ix3 2 k n) := by
  refine (View.ld_unit_apply_of (bW m c t) _ _ _ _ (ix3 2 k n : S4x256x256.Idx) fun a => ?_).trans (bW_at m c t 2 k n)
  match a with
  | ⟨0, _⟩ => rfl
  | ⟨1, _⟩ => show k.val = 0 + k.val; omega
  | ⟨2, _⟩ => show n.val = 0 + n.val; omega

/-- Group 3's weights at a point, at one element. -/
theorem group3_at (t : Fin cfg0.N) (k n : Fin 256) : View.ld (bW m c t) r0_7 (ix3 0 k n) = (m ((c : Thread nD τ).loc main_arg3) : Vec Ideal S4x256x256 .f32) (ix3 3 k n) := by
  refine (View.ld_unit_apply_of (bW m c t) _ _ _ _ (ix3 3 k n : S4x256x256.Idx) fun a => ?_).trans (bW_at m c t 3 k n)
  match a with
  | ⟨0, _⟩ => rfl
  | ⟨1, _⟩ => show k.val = 0 + k.val; omega
  | ⟨2, _⟩ => show n.val = 0 + n.val; omega

/-- The tile's normalised rows at a point. -/
abbrev tT (t : Fin cfg0.N) : FVec Ideal S512x1024 .f32 := k0_pay3 (bX m c t) (bG m c t) (bSc m c t) (bSh m c t)
/-- With the sixteen before them. -/
abbrev tE (t : Fin cfg0.N) : FVec Ideal S528x1024 .f32 :=
  k0_pay9 (BitVec.ofNat 32 (grid0.coords t 0).val) (tT m c t) (k0_pay4 (bH m c t)) (k0_pay5 (bG m c t)) (k0_pay6 (bSc m c t)) (k0_pay7 (bSh m c t)) (k0_pay8 (bH m c t))

/-- A tile's normalised rows are its sequence's. -/
theorem tT_at (t : Fin cfg0.N) (p : Fin 512) (k : Fin 1024) :
    tT m c t (ix2 p k) = hm m c ⟨t.val / 4, by have := lt32 t; omega⟩ ⟨512 * (t.val % 4) + p.val, by omega⟩ k := by
  have hlt := lt32 t
  refine (tile_at m c t p k).trans ?_
  have e1 : seqOf (rowOf t p) = ⟨t.val / 4, by omega⟩ := Fin.ext (by show (512 * t.val + p.val) / 2048 = t.val / 4; omega)
  have e2 : posOf (rowOf t p) = ⟨512 * (t.val % 4) + p.val, by omega⟩ := Fin.ext (by show (512 * t.val + p.val) % 2048 = 512 * (t.val % 4) + p.val; omega)
  rw [e1, e2]

/-- The rows at a point are the sequence's, zero before its first. -/
theorem tE_rows (t : Fin cfg0.N) : IsRows (fun s k => hm m c ⟨t.val / 4, by have := lt32 t; omega⟩ s k) (t.val % 4) (tE m c t) := by
  intro q k
  have hlt := lt32 t
  show k0_pay9 _ _ _ _ _ _ _ (ix2 q k) = _
  rw [rows_eq, stack_at, first_eq]
  by_cases hq : q.val < 16
  · rw [dif_pos hq]
    by_cases h4 : t.val % 4 = 0
    · rw [if_pos h4, if_neg (by omega)]
      show (broadcast S16x1024 (Scalar.ofBits .f32 0x00000000#32 : Ideal .f32)) (ix2 ⟨q.val, hq⟩ k) = 0
      pointwise
    · rw [if_neg h4, if_pos (by omega)]
      show norm16 _ _ _ _ _ (ix2 ⟨q.val, hq⟩ k) = _
      rw [norm16_at]
      have h0 := bSc_at m c t 0
      have h1 := bSh_at m c t 0
      have es : seqOf (rowOf t 0) = ⟨t.val / 4, by omega⟩ := Fin.ext (by show (512 * t.val + 0) / 2048 = t.val / 4; omega)
      simp only [bH_at m c t h4, bG_at, h0, h1, es]
      unfold entry
      rw [dif_pos (by omega)]
      rfl
  · rw [dif_neg hq, if_pos (by omega), tT_at]
    unfold entry
    rw [dif_pos (by omega)]
    exact congrArg (fun s => hm m c _ s k) (Fin.ext (by show 512 * (t.val % 4) + (q.val - 16) = 512 * (t.val % 4) + q.val - 16; omega))

/-- The window of a group. -/
def wide (g : Fin 4) : ℕ := 2 ^ (g.val + 1)

/-- One element of the stream after the mixer, of the normalised rows, the weights, the columns' scale, the gate and the stream. -/
def mixed (x gate ps : EReal) (h : Fin 2048 → Fin 1024 → EReal) (W : Fin 4 → Fin 256 → Fin 256 → EReal) (s : Fin 2048) (n : Fin 1024) : EReal :=
  x + gate * (pooled h W s ⟨n.val / 256, by omega⟩ (wide ⟨n.val / 256, by omega⟩) ⟨n.val % 256, by omega⟩ * ps)

/-- One element of the stream, of the arguments. -/
def elem (x : FVec Ideal S8x2048x1024 .f32) (mod : FVec Ideal S8x6144 .f32) (g : FVec Ideal S1024 .f32) (W : FVec Ideal S4x256x256 .f32) (ps : FVec Ideal S1024 .f32)
    (b : Fin 8) (s : Fin 2048) (n : Fin 1024) : EReal :=
  mixed (x (ix3 b s n)) (mod (ix2 b ⟨2048 + n.val, by omega⟩)) (ps (ix1 n)) (fun s k => hrow x mod g b s k) (fun g k n => W (ix3 g k n)) s n

/-- The stream, of the launch's arguments. -/
def stream (i : S16384x1024.Idx) : EReal :=
  elem (m ((c : Thread nD τ).loc main_arg0)) (m ((c : Thread nD τ).loc main_arg1)) (m ((c : Thread nD τ).loc main_arg2))
    (m ((c : Thread nD τ).loc main_arg3)) (m ((c : Thread nD τ).loc main_arg4)) (seqOf (i 0)) (posOf (i 0)) (i 1)

/-- What a point leaves of the stream, in its payloads. -/
theorem out13_eq (t : Fin cfg0.N) :
    out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
      = k0_pay17 (k0_pay2 (bX m c t)) (k0_pay11 (tT m c t) (tE m c t) (tileWord (BitVec.ofNat 32 (grid0.coords t 0).val)) 512#32 (View.ld (bW m c t) r0_4))
          (k0_pay12 (tT m c t) (tE m c t) (tileWord (BitVec.ofNat 32 (grid0.coords t 0).val)) 512#32 (View.ld (bW m c t) r0_5))
          (k0_pay15 (tT m c t) (k0_pay10 (tileWord (BitVec.ofNat 32 (grid0.coords t 0).val)) 512#32) (k0_pay13 (tE m c t)) (k0_pay14 (tE m c t)) (View.ld (bW m c t) r0_6))
          (k0_pay16 (tT m c t) (tE m c t) (k0_pay10 (tileWord (BitVec.ofNat 32 (grid0.coords t 0).val)) 512#32) (View.ld (bW m c t) r0_7)) (bP m c t) (bGt m c t) := by
  unfold_out out0_13
  rw [View.canon_cons_unit_lit' _ _ _ (by decide), View.ld_unit_lit' _ (bX m c t) (by decide), View.ld_unit_lit' _ (bG m c t) (by decide), View.ld_unit_lit' _ (bSc m c t) (by decide), View.ld_unit_lit' _ (bSh m c t) (by decide), View.ld_unit_lit' _ (bH m c t) (by decide), View.ld_unit_lit' _ (bP m c t) (by decide), View.ld_unit_lit' _ (bGt m c t) (by decide)]
  rfl

/-- What a point leaves of the stream, at one element. -/
theorem out13_at (t : Fin cfg0.N) (p : Fin 512) (n : Fin 1024) :
    out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p n) = stream m c (ix2 (rowOf t p) n) := by
  have hlt := lt32 t
  rw [out13_eq, pay17_at (bX m c t) _ _ _ _ _ _ _ _ _ (by unfold k0_pay2; funext i; obtain ⟨a, b, rfl⟩ : ∃ a b, i = ix2 a b := ⟨i 0, i 1, eq_ix2 i⟩; pointwise),
    tileWord_eq, pay11_eq, pay12_eq, pay15_eq, pay16_eq]
  have hE := tE_rows m c t
  have hT := tT_at m c t p
  generalize tE m c t = E at hE ⊢
  generalize tT m c t = T at hT ⊢
  rw [four_at _ _ _ _ p n (fun g n => pooled (fun s k => hm m c ⟨t.val / 4, by omega⟩ s k) (fun g k n => (m ((c : Thread nD τ).loc main_arg3) : Vec Ideal S4x256x256 .f32) (ix3 g k n)) ⟨512 * (t.val % 4) + p.val, by omega⟩ g (wide g) n)
    (fun n => group_at _ (fun g k n => (m ((c : Thread nD τ).loc main_arg3) : Vec Ideal S4x256x256 .f32) (ix3 g k n)) (t.val % 4) (by omega) 0 2 (by omega) E hE _ _ (sums2 _) (fun q n => by pointwise) _ p (fun n => by rw [← hT]; pointwise) _ (group0_at m c t) n)
    (fun n => group_at _ (fun g k n => (m ((c : Thread nD τ).loc main_arg3) : Vec Ideal S4x256x256 .f32) (ix3 g k n)) (t.val % 4) (by omega) 1 4 (by omega) E hE _ _ (sums4 _) (fun q n => by pointwise) _ p (fun n => by rw [← hT]; pointwise) _ (group1_at m c t) n)
    (fun n => group_at _ (fun g k n => (m ((c : Thread nD τ).loc main_arg3) : Vec Ideal S4x256x256 .f32) (ix3 g k n)) (t.val % 4) (by omega) 2 8 (by omega) E hE _ _ (sums8 _) (fun q n => by pointwise) _ p (fun n => by rw [← hT]; pointwise) _ (group2_at m c t) n)
    (fun n => group_at _ (fun g k n => (m ((c : Thread nD τ).loc main_arg3) : Vec Ideal S4x256x256 .f32) (ix3 g k n)) (t.val % 4) (by omega) 3 16 (by omega) E hE _ _ (sums16 _) (fun q n => by pointwise) _ p (fun n => by rw [← hT]; pointwise) _ (group3_at m c t) n),
    bX_at, bGt_at, bP_at]
  have e1 : seqOf (rowOf t p) = ⟨t.val / 4, by omega⟩ := Fin.ext (by show (512 * t.val + p.val) / 2048 = t.val / 4; omega)
  have e2 : posOf (rowOf t p) = ⟨512 * (t.val % 4) + p.val, by omega⟩ := Fin.ext (by show (512 * t.val + p.val) % 2048 = 512 * (t.val % 4) + p.val; omega)
  show _ = elem _ _ _ _ _ (seqOf (rowOf t p)) (posOf (rowOf t p)) n
  rw [e1, e2]
  rfl

/-- The stream's array after the run. -/
theorem arr13 : (dats m 0 c).arrAt 13 cfg0.N = (stream m c : Vec Ideal S16384x1024 .f32) := by
  refine Pipeline.Dat.arrAt_eq_of_covers (cfg := cfg0) (dats m 0 c) (13 : Fin 16) _ covers13 (fun t hf y => ?_)
  have h0 : (y (0 : Fin 2)).val < 512 := (y (0 : Fin 2)).isLt
  have h1 : (y (1 : Fin 2)).val < 1024 := (y (1 : Fin 2)).isLt
  have hx : (cfg0.win 13).xinj (cfg0.grid.coords t) y = (ix2 ⟨(y (0 : Fin 2)).val, h0⟩ ⟨(y (1 : Fin 2)).val, h1⟩ : S512x1024.Idx) := by
    funext a
    match a with
    | ⟨0, _⟩ => rfl
    | ⟨1, _⟩ => rfl
  have he : ((cfg0.win 13).blk t).view.emb y = (ix2 (rowOf t ⟨(y (0 : Fin 2)).val, h0⟩) ⟨(y (1 : Fin 2)).val, h1⟩ : S16384x1024.Idx) := by
    funext a
    apply Fin.ext
    match a with
    | ⟨0, _⟩ =>
      show cc0_transform_13 (grid0.coords t) 0 * 512 + 1 * (y (0 : Fin 2)).val = 512 * t.val + (y (0 : Fin 2)).val
      rw [map13 t]; show t.val * 512 + 1 * (y (0 : Fin 2)).val = _; omega
    | ⟨1, _⟩ =>
      show cc0_transform_13 (grid0.coords t) 1 * 1024 + 1 * (y (1 : Fin 2)).val = (y (1 : Fin 2)).val
      rw [map13 t]; show 0 * 1024 + 1 * (y (1 : Fin 2)).val = _; omega
  refine Eq.trans ?_ (congrArg (stream m c : Vec Ideal S16384x1024 .f32) he).symm
  exact ((congrArg ((dats m 0 c).after 13 t : Vec Ideal S512x1024 .f32) hx).trans (congrFun (after0_13 m c t) _)).trans (out13_at m c t _ _)

end Cert.Kernel5Ideal

end
-- ==== Proof.PoolRef.lean ====
/-
  The pooling mixer's reference: its running sums along a sequence, the means it takes of them, and the stream at one
  element.
-/
module

public import proofs.«01_k».proof.Proof.PoolMix

@[expose] public section

set_option maxRecDepth 16384
set_option maxHeartbeats 4000000

noncomputable section

namespace Cert.Reference5Ideal

open Idealize.ShloMosaic Idealize.ShloMosaic.TcCoe
open Cert.Reference5Ideal.Gen Cert.Proof

/-- One past each position. -/
def endW : IVec S2048 32 := addi (iotaInDim S2048 32 0) (broadcastInDim S2048 ![] bcast_S_S2048 (constantI S_ 32 1#32))
/-- How many rows a window of `w` holds at each position. -/
def cntW (w : BitVec 32) : IVec S2048 32 := minsi endW (broadcastInDim S2048 ![] bcast_S_S2048 (constantI S_ 32 w))
/-- Positions as row numbers, a negative one counted from the end. -/
def wrap (e : IVec S2048 32) : IVec S2048x1 32 :=
  broadcastInDim S2048x1 ![0] bcast_S2048_S2048x1_0 (select (cmpi .slt e (broadcastInDim S2048 ![] bcast_S_S2048 (constantI S_ 32 0#32)))
    (addi e (broadcastInDim S2048 ![] bcast_S_S2048 (constantI S_ 32 2049#32))) e)
/-- The running sums. -/
def runs (H : FVec Ideal S8x2048x1024 .f32) : FVec Ideal S8x2048x1024 .f32 :=
  Host.reduceWindowAdd ![1, 2048, 1] ![1, 1, 1] ![0, 2047, 0] ![0, 0, 0] H (broadcastInDim S_ ![] bcast_S_S_ (constant S_ .f32 0x00000000#32)) reduceWindows_S8x2048x1024_S8x2048x1024_w1s1p0_0_w2048s1p2047_0_w1s1p0_0 h_S_
/-- The running sums, with a zero before the first. -/
def sums (H : FVec Ideal S8x2048x1024 .f32) : FVec Ideal S8x2049x1024 .f32 :=
  concatenate S8x2049x1024 1 [⟨S8x1x1024, broadcastInDim S8x1x1024 ![] bcast_S_S8x1x1024 (constant S_ .f32 0x00000000#32)⟩, ⟨S8x2048x1024, runs H⟩] concatenates_S8x1x1024_S8x2048x1024_S8x2049x1024_d1
/-- A group's means, of its columns' running sums. -/
def means (Z : FVec Ideal S8x2049x256 .f32) (w : BitVec 32) : (⟨S8x2048x256, .f32⟩ : BufTy).Contents (Elt Ideal) :=
  Host.divf (subf (Host.gather gather_S8x2049x256_S2048x1_S8x2048x256_02_1_n_n_1_1_81256 Z (wrap endW))
      (Host.gather gather_S8x2049x256_S2048x1_S8x2048x256_02_1_n_n_1_1_81256 Z (wrap (subi endW (cntW w)))))
    (broadcastInDim S8x2048x256 ![0, 1, 2] bcast_S1x2048x1_S8x2048x256_0_1_2 (sitofp .f32 (broadcastInDim S1x2048x1 ![1] bcast_S2048_S1x2048x1_1 (cntW w))) : FVec Ideal S8x2048x256 .f32)
/-- All groups' means. -/
def allMeans (Z : FVec Ideal S8x2049x1024 .f32) : (⟨S8x2048x1024, .f32⟩ : BufTy).Contents (Elt Ideal) :=
  concatenate S8x2048x1024 2 [⟨S8x2048x256, means (extractStridedSlice S8x2049x256 ![0, 0, 0] Z slices_S8x2049x1024_S8x2049x256_0_0_0) 2#32⟩,
    ⟨S8x2048x256, means (extractStridedSlice S8x2049x256 ![0, 0, 256] Z slices_S8x2049x1024_S8x2049x256_0_0_256) 4#32⟩,
    ⟨S8x2048x256, means (extractStridedSlice S8x2049x256 ![0, 0, 512] Z slices_S8x2049x1024_S8x2049x256_0_0_512) 8#32⟩,
    ⟨S8x2048x256, means (extractStridedSlice S8x2049x256 ![0, 0, 768] Z slices_S8x2049x1024_S8x2049x256_0_0_768) 16#32⟩]
    concatenates_S8x2048x256_S8x2048x256_S8x2048x256_S8x2048x256_S8x2048x1024_d2
/-- Each group's columns by its own weights. -/
def turn (W : FVec Ideal S4x256x256 .f32) (Y : FVec Ideal S8x2048x1024 .f32) : FVec Ideal S8x2048x1024 .f32 :=
  shapeCast _ (transpose S8x2048x4x256 [2, 3, 0, 1] (Host.dotGeneral dot_S4x256x256_S8x2048x4x256_S4x256x8x2048_1_3_2_01_0_2 none W
    (shapeCast _ Y shapeCasts_S8x2048x1024_S8x2048x4x256)) transposes_S4x256x8x2048_S8x2048x4x256_2_3_0_1) shapeCasts_S8x2048x4x256_S8x2048x1024
/-- The stream after the mixer, of the mixed columns. -/
def added (x : FVec Ideal S8x2048x1024 .f32) (mod : FVec Ideal S8x6144 .f32) (Y : FVec Ideal S8x2048x1024 .f32) (ps : FVec Ideal S1024 .f32) : FVec Ideal S16384x1024 .f32 :=
  shapeCast _ (addf x (mulf (broadcastInDim S8x2048x1024 ![0, 1, 2] bcast_S8x1x1024_S8x2048x1024_0_1_2 (extractStridedSlice S8x1x1024 ![0, 0, 2048] (broadcastInDim S8x1x6144 ![0, 2] bcast_S8x6144_S8x1x6144_0_2 mod) slices_S8x1x6144_S8x1x1024_0_0_2048))
    (mulf Y (broadcastInDim S8x2048x1024 ![0, 1, 2] bcast_S1x1x1024_S8x2048x1024_0_1_2 (broadcastInDim S1x1x1024 ![2] bcast_S1024_S1x1x1024_2 ps))))) shapeCasts_S8x2048x1024_S16384x1024
/-- The stream after the mixer. -/
def whole (x : FVec Ideal S8x2048x1024 .f32) (mod : FVec Ideal S8x6144 .f32) (H : FVec Ideal S8x2048x1024 .f32) (W : FVec Ideal S4x256x256 .f32) (ps : FVec Ideal S1024 .f32) : FVec Ideal S16384x1024 .f32 :=
  added x mod (turn W (subf (allMeans (sums H)) H)) ps

/-- What the reference returns first. -/
theorem whole_eq (m : (ℓ : Loc nD τ sig) → Buf (Elt Ideal) ℓ) (c : Dev nD) :
    Value.res_main_v146 m c = whole (m ((c.tc : Thread nD τ).loc main_arg0)) (m ((c.tc : Thread nD τ).loc main_arg1))
      (rows (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) := rfl

/-- A fold of additions is a sum. -/
theorem foldl_add (N : ℕ) (g : Fin N → EReal) (v : EReal) : (List.finRange N).foldl (fun r n => r + g n) v = v + ∑ n, g n := by
  have h : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [h, Fin.sum_univ_def]

/-- A sum over the one column of a window. -/
theorem sum_column (f : (⟨3, ![1, 2048, 1]⟩ : Shape).Idx → EReal) : ∑ i, f i = ∑ n : Fin 2048, f (ix3 0 n 0) :=
  Fintype.sum_equiv ⟨fun i => i 1, fun n => ix3 0 n 0, fun i => by
    funext a
    match a with
    | ⟨0, _⟩ => exact Subsingleton.elim (α := Fin 1) _ _
    | ⟨1, _⟩ => rfl
    | ⟨2, _⟩ => exact Subsingleton.elim (α := Fin 1) _ _, fun n => rfl⟩ _ _ fun i => congrArg f (by
    funext a
    match a with
    | ⟨0, _⟩ => exact Subsingleton.elim (α := Fin 1) _ _
    | ⟨1, _⟩ => rfl
    | ⟨2, _⟩ => exact Subsingleton.elim (α := Fin 1) _ _)

/-- A window padded low by one less than its length sums what lies up to a place. -/
theorem shifted (e : ℕ → EReal) (t : ℕ) (ht : t < 2048) :
    ∑ i ∈ Finset.range 2048, (if 2047 ≤ t + i then e (t + i - 2047) else 0) = ∑ i ∈ Finset.range (t + 1), e i := by
  rw [show 2048 = (2047 - t) + (t + 1) by omega, Finset.sum_range_add]
  rw [Finset.sum_eq_zero (fun i hi => by rw [Finset.mem_range] at hi; rw [if_neg (by omega)]), zero_add]
  refine Finset.sum_congr rfl fun i hi => ?_
  rw [if_pos (by omega)]
  exact congrArg _ (by omega)

/-- A running sum at one element. -/
theorem runs_at (H : FVec Ideal S8x2048x1024 .f32) (b : Fin 8) (s : Fin 2048) (k : Fin 1024) :
    runs H (ix3 b s k) = upto (fun s => H (ix3 b s k)) (s.val + 1) := by
  have hs := s.isLt
  have hv : (broadcastInDim S_ ![] bcast_S_S_ (constant S_ .f32 0x00000000#32) : FVec Ideal S_ .f32) (Shape.Idx.first h_S_) = 0 := by
    show Ideal.ofBits .f32 0x00000000#32 = 0
    simp [Ideal.ofBits, Ideal.ieee]
  unfold runs Host.reduceWindowAdd
  rw [Ideal.hostReduceWindowAdd_def]
  unfold Ideal.hostReduceWindowAdd
  rw [hv]
  refine (foldl_add _ _ _).trans ?_
  rw [zero_add]
  refine Eq.trans (b := ∑ i : (⟨3, ![1, 2048, 1]⟩ : Shape).Idx, (if 2047 ≤ s.val + (i 1).val then entry (fun s => H (ix3 b s k)) (s.val + (i 1).val - 2047) else 0)) ?_ ?_
  · refine Fintype.sum_equiv (Shape.rowMajor (⟨3, ![1, 2048, 1]⟩ : Shape)).symm _ _ fun n => ?_
    have h0 : ((Shape.rowMajor (⟨3, ![1, 2048, 1]⟩ : Shape)).symm n 0).val = 0 := by have : ((Shape.rowMajor (⟨3, ![1, 2048, 1]⟩ : Shape)).symm n 0).val < 1 := ((Shape.rowMajor (⟨3, ![1, 2048, 1]⟩ : Shape)).symm n 0).isLt; omega
    have h1 : ((Shape.rowMajor (⟨3, ![1, 2048, 1]⟩ : Shape)).symm n 1).val < 2048 := ((Shape.rowMajor (⟨3, ![1, 2048, 1]⟩ : Shape)).symm n 1).isLt
    have h2 : ((Shape.rowMajor (⟨3, ![1, 2048, 1]⟩ : Shape)).symm n 2).val = 0 := by have : ((Shape.rowMajor (⟨3, ![1, 2048, 1]⟩ : Shape)).symm n 2).val < 1 := ((Shape.rowMajor (⟨3, ![1, 2048, 1]⟩ : Shape)).symm n 2).isLt; omega
    have hb := b.isLt
    have hk := k.isLt
    dsimp only
    split
    · next hin =>
      have h := hin 1
      change 2047 ≤ s.val * 1 + ((Shape.rowMajor (⟨3, ![1, 2048, 1]⟩ : Shape)).symm n 1).val ∧ s.val * 1 + ((Shape.rowMajor (⟨3, ![1, 2048, 1]⟩ : Shape)).symm n 1).val - 2047 < 2048 at h
      refine Eq.trans ?_ (if_pos (show 2047 ≤ s.val + ((Shape.rowMajor (⟨3, ![1, 2048, 1]⟩ : Shape)).symm n 1).val by omega)).symm
      unfold entry
      rw [dif_pos (by omega)]
      refine congrArg H (funext fun a => Fin.ext ?_)
      match a with
      | ⟨0, _⟩ =>
        show b.val * 1 + ((Shape.rowMajor (⟨3, ![1, 2048, 1]⟩ : Shape)).symm n 0).val - 0 = b.val
        omega
      | ⟨1, _⟩ =>
        show s.val * 1 + ((Shape.rowMajor (⟨3, ![1, 2048, 1]⟩ : Shape)).symm n 1).val - 2047 = s.val + ((Shape.rowMajor (⟨3, ![1, 2048, 1]⟩ : Shape)).symm n 1).val - 2047
        omega
      | ⟨2, _⟩ =>
        show k.val * 1 + ((Shape.rowMajor (⟨3, ![1, 2048, 1]⟩ : Shape)).symm n 2).val - 0 = k.val
        omega
    · next hin =>
      refine (if_neg (show ¬ 2047 ≤ s.val + ((Shape.rowMajor (⟨3, ![1, 2048, 1]⟩ : Shape)).symm n 1).val from fun hle => hin fun a => ?_)).symm
      match a with
      | ⟨0, _⟩ =>
        show 0 ≤ b.val * 1 + ((Shape.rowMajor (⟨3, ![1, 2048, 1]⟩ : Shape)).symm n 0).val ∧ b.val * 1 + ((Shape.rowMajor (⟨3, ![1, 2048, 1]⟩ : Shape)).symm n 0).val - 0 < 8
        omega
      | ⟨1, _⟩ =>
        show 2047 ≤ s.val * 1 + ((Shape.rowMajor (⟨3, ![1, 2048, 1]⟩ : Shape)).symm n 1).val ∧ s.val * 1 + ((Shape.rowMajor (⟨3, ![1, 2048, 1]⟩ : Shape)).symm n 1).val - 2047 < 2048
        omega
      | ⟨2, _⟩ =>
        show 0 ≤ k.val * 1 + ((Shape.rowMajor (⟨3, ![1, 2048, 1]⟩ : Shape)).symm n 2).val ∧ k.val * 1 + ((Shape.rowMajor (⟨3, ![1, 2048, 1]⟩ : Shape)).symm n 2).val - 0 < 1024
        omega
  · rw [sum_column]
    refine (Fin.sum_univ_eq_sum_range (fun n => if 2047 ≤ s.val + n then entry (fun s => H (ix3 b s k)) (s.val + n - 2047) else 0) 2048).trans ?_
    exact shifted _ s.val hs

/-- The running sums from nothing on, at one element. -/
theorem sums_at (H : FVec Ideal S8x2048x1024 .f32) (b : Fin 8) (q : Fin 2049) (k : Fin 1024) :
    sums H (ix3 b q k) = upto (fun s => H (ix3 b s k)) q.val := by
  have hr := runs_at H b
  unfold sums
  generalize runs H = R at hr ⊢
  have e : concatenate S8x2049x1024 1 [⟨S8x1x1024, (broadcastInDim S8x1x1024 ![] bcast_S_S8x1x1024 (constant S_ .f32 0x00000000#32) : FVec Ideal S8x1x1024 .f32)⟩, ⟨S8x2048x1024, R⟩] concatenates_S8x1x1024_S8x2048x1024_S8x2049x1024_d1 (ix3 b q k)
      = if h : q.val < 1 then 0 else R (ix3 b ⟨q.val - 1, by omega⟩ k) := by
    pointwise
  rw [e]
  by_cases h : q.val < 1
  · rw [dif_pos h, show q.val = 0 by omega]
    rfl
  · rw [dif_neg h, hr]
    exact congrArg _ (by show q.val - 1 + 1 = q.val; omega)

/-- A row taken by its number. -/
theorem gather_at (Z : FVec Ideal S8x2049x256 .f32) (I : IVec S2048x1 32) (b : Fin 8) (s : Fin 2048) (n : Fin 256) (q : Fin 2049) (hq : (I (ix2 s 0)).toInt.toNat = q.val) :
    Host.gather gather_S8x2049x256_S2048x1_S8x2048x256_02_1_n_n_1_1_81256 Z I (ix3 b s n) = Z (ix3 b q n) := by
  unfold Host.gather
  refine congrArg Z ?_
  funext a
  refine Fin.ext ?_
  match a with
  | ⟨0, _⟩ =>
    show GatherDims.start _ _ _ 0 + GatherDims.batchCoord _ _ 0 + GatherDims.offCoord _ _ 0 = b.val
    rw [GatherDims.batchCoord_eq_zero _ _ _ List.not_mem_nil]
    unfold GatherDims.start
    rw [dif_neg (by decide)]
    unfold GatherDims.offCoord
    rw [dif_pos (by decide)]
    show 0 + 0 + b.val = b.val
    omega
  | ⟨1, _⟩ =>
    show GatherDims.start _ _ _ 1 + GatherDims.batchCoord _ _ 1 + GatherDims.offCoord _ _ 1 = q.val
    rw [GatherDims.batchCoord_eq_zero _ _ _ List.not_mem_nil, GatherDims.offCoord_eq_zero _ _ _ (by decide)]
    unfold GatherDims.start
    rw [dif_pos (by decide)]
    have hsi : ∀ h, GatherDims.siIdx gather_S8x2049x256_S2048x1_S8x2048x256_02_1_n_n_1_1_81256 (ix3 b s n) ⟨0, h⟩ = ix2 s 0 := by
      intro h
      funext a
      refine Fin.ext ?_
      match a with
      | ⟨0, _⟩ => rfl
      | ⟨1, _⟩ => rfl
    show min (I (GatherDims.siIdx _ _ ⟨0, _⟩)).toInt.toNat (2049 - 1) + 0 + 0 = q.val
    refine (congrArg (fun i => min (I i).toInt.toNat (2049 - 1) + 0 + 0) (hsi _)).trans ?_
    show min (I (ix2 s 0)).toInt.toNat (2049 - 1) + 0 + 0 = q.val
    rw [hq]
    omega
  | ⟨2, _⟩ =>
    show GatherDims.start _ _ _ 2 + GatherDims.batchCoord _ _ 2 + GatherDims.offCoord _ _ 2 = n.val
    rw [GatherDims.batchCoord_eq_zero _ _ _ List.not_mem_nil]
    unfold GatherDims.start
    rw [dif_neg (by decide)]
    unfold GatherDims.offCoord
    rw [dif_pos (by decide)]
    show 0 + 0 + n.val = n.val
    omega

/-- A row's number of a position. -/
def word (e : BitVec 32) : BitVec 32 := Scalar.select (Scalar.cmpi .slt e 0#32) (IntOp.addi e 2049#32) e

/-- Row numbers at one element. -/
theorem wrap_at (e : IVec S2048 32) (s : Fin 2048) : wrap e (ix2 s 0) = word (e (ix1 s)) := by
  unfold wrap word
  pointwise
  all_goals rfl

/-- One past a position, at one element. -/
theorem endW_at (s : Fin 2048) : endW (ix1 s) = BitVec.ofNat 32 (s.val + 1) := by
  have h : ∀ s : Fin 2048, IntOp.addi (BitVec.ofNat 32 s.val) 1#32 = BitVec.ofNat 32 (s.val + 1) := by decide +kernel
  rw [← h]
  rfl

/-- A count at one element. -/
theorem cntW_at (w : BitVec 32) (s : Fin 2048) : cntW w (ix1 s) = Cert.Kernel5Ideal.cntWord s.val w := by
  show IntOp.minsi (endW (ix1 s)) w = _
  rw [endW_at, Cert.Kernel5Ideal.cntWord]

/-- The row of a window's end. -/
theorem end_row : ∀ s : Fin 2048, (word (BitVec.ofNat 32 (s.val + 1))).toInt.toNat = s.val + 1 := by decide +kernel
/-- The row of the start of a window of 2. -/
theorem start_row2 : ∀ s : Fin 2048, (word (IntOp.subi (BitVec.ofNat 32 (s.val + 1)) (Cert.Kernel5Ideal.cntWord s.val 2#32))).toInt.toNat = s.val + 1 - min (s.val + 1) 2 := by decide +kernel
/-- The row of the start of a window of 4. -/
theorem start_row4 : ∀ s : Fin 2048, (word (IntOp.subi (BitVec.ofNat 32 (s.val + 1)) (Cert.Kernel5Ideal.cntWord s.val 4#32))).toInt.toNat = s.val + 1 - min (s.val + 1) 4 := by decide +kernel
/-- The row of the start of a window of 8. -/
theorem start_row8 : ∀ s : Fin 2048, (word (IntOp.subi (BitVec.ofNat 32 (s.val + 1)) (Cert.Kernel5Ideal.cntWord s.val 8#32))).toInt.toNat = s.val + 1 - min (s.val + 1) 8 := by decide +kernel
/-- The row of the start of a window of 16. -/
theorem start_row16 : ∀ s : Fin 2048, (word (IntOp.subi (BitVec.ofNat 32 (s.val + 1)) (Cert.Kernel5Ideal.cntWord s.val 16#32))).toInt.toNat = s.val + 1 - min (s.val + 1) 16 := by decide +kernel

/-- A mean as the reference takes it: a difference of two running sums over the count. -/
def meanOf (a : Fin 2048 → EReal) (s : ℕ) (w : ℕ) : EReal :=
  Ideal.div (upto a (s + 1) - upto a (s + 1 - min (s + 1) w)) (((Cert.Kernel5Ideal.cntWord s (BitVec.ofNat 32 w)).toInt : ℝ) : EReal)

/-- A group's means at one element. -/
theorem means_at (Z : FVec Ideal S8x2049x256 .f32) (a : Fin 2048 → EReal) (w : ℕ) (b : Fin 8) (s : Fin 2048) (n : Fin 256)
    (hw : (word (IntOp.subi (BitVec.ofNat 32 (s.val + 1)) (Cert.Kernel5Ideal.cntWord s.val (BitVec.ofNat 32 w)))).toInt.toNat = s.val + 1 - min (s.val + 1) w)
    (hZ : ∀ q : Fin 2049, Z (ix3 b q n) = upto a q.val) :
    means Z (BitVec.ofNat 32 w) (ix3 b s n) = meanOf a s.val w := by
  have hs := s.isLt
  have e : means Z (BitVec.ofNat 32 w) (ix3 b s n) = Ideal.div
      (Host.gather gather_S8x2049x256_S2048x1_S8x2048x256_02_1_n_n_1_1_81256 Z (wrap endW) (ix3 b s n)
        - Host.gather gather_S8x2049x256_S2048x1_S8x2048x256_02_1_n_n_1_1_81256 Z (wrap (subi endW (cntW (BitVec.ofNat 32 w)))) (ix3 b s n))
      (((cntW (BitVec.ofNat 32 w) (ix1 s)).toInt : ℝ) : EReal) := by
    unfold means
    generalize Host.gather gather_S8x2049x256_S2048x1_S8x2048x256_02_1_n_n_1_1_81256 Z (wrap endW) = A
    generalize Host.gather gather_S8x2049x256_S2048x1_S8x2048x256_02_1_n_n_1_1_81256 Z (wrap (subi endW (cntW (BitVec.ofNat 32 w)))) = B
    generalize cntW (BitVec.ofNat 32 w) = C
    pointwise
    all_goals rfl
  rw [e, gather_at Z _ b s n ⟨s.val + 1, by omega⟩ (by rw [wrap_at, endW_at]; exact end_row s),
    gather_at Z _ b s n ⟨s.val + 1 - min (s.val + 1) w, by omega⟩ (by
      rw [wrap_at]
      show (word (IntOp.subi (endW (ix1 s)) (cntW _ (ix1 s)))).toInt.toNat = _
      rw [endW_at, cntW_at]
      exact hw), hZ, hZ, cntW_at, meanOf]

/-- Four groups side by side, at one element. -/
theorem four_at (A B C D : FVec Ideal S8x2048x256 .f32) (b : Fin 8) (p : Fin 2048) (n : Fin 1024) (f : Fin 4 → Fin 256 → EReal)
    (hA : ∀ n, A (ix3 b p n) = f 0 n) (hB : ∀ n, B (ix3 b p n) = f 1 n) (hC : ∀ n, C (ix3 b p n) = f 2 n) (hD : ∀ n, D (ix3 b p n) = f 3 n) :
    concatenate S8x2048x1024 2 [⟨S8x2048x256, A⟩, ⟨S8x2048x256, B⟩, ⟨S8x2048x256, C⟩, ⟨S8x2048x256, D⟩] concatenates_S8x2048x256_S8x2048x256_S8x2048x256_S8x2048x256_S8x2048x1024_d2 (ix3 b p n)
      = f ⟨n.val / 256, by omega⟩ ⟨n.val % 256, by omega⟩ := by
  have e : concatenate S8x2048x1024 2 [⟨S8x2048x256, A⟩, ⟨S8x2048x256, B⟩, ⟨S8x2048x256, C⟩, ⟨S8x2048x256, D⟩] concatenates_S8x2048x256_S8x2048x256_S8x2048x256_S8x2048x256_S8x2048x1024_d2 (ix3 b p n)
      = if h : n.val < 256 then A (ix3 b p ⟨n.val, h⟩) else if h : n.val - 256 < 256 then B (ix3 b p ⟨n.val - 256, by omega⟩)
      else if h : n.val - 256 - 256 < 256 then C (ix3 b p ⟨n.val - 256 - 256, by omega⟩) else D (ix3 b p ⟨n.val - 256 - 256 - 256, by omega⟩) := by
    pointwise
  rw [e]
  split
  · rw [hA]; exact congrArg₂ f (Fin.ext (by show 0 = n.val / 256; omega)) (Fin.ext (by show n.val = n.val % 256; omega))
  split
  · rw [hB]; exact congrArg₂ f (Fin.ext (by show 1 = n.val / 256; omega)) (Fin.ext (by show n.val - 256 = n.val % 256; omega))
  split
  · rw [hC]; exact congrArg₂ f (Fin.ext (by show 2 = n.val / 256; omega)) (Fin.ext (by show n.val - 256 - 256 = n.val % 256; omega))
  · rw [hD]; exact congrArg₂ f (Fin.ext (by show 3 = n.val / 256; omega)) (Fin.ext (by show n.val - 256 - 256 - 256 = n.val % 256; omega))

/-- All groups' means at one element. -/
theorem allMeans_at (H : FVec Ideal S8x2048x1024 .f32) (b : Fin 8) (s : Fin 2048) (g : Fin 4) (n : Fin 256) :
    allMeans (sums H) (ix3 b s ⟨256 * g.val + n.val, by omega⟩) = meanOf (fun s => H (ix3 b s ⟨256 * g.val + n.val, by omega⟩)) s.val (Cert.Kernel5Ideal.wide g) := by
  have hz := sums_at H b
  unfold allMeans
  generalize sums H = Z at hz ⊢
  have h0 := fun n : Fin 256 => means_at (extractStridedSlice S8x2049x256 ![0, 0, 0] Z slices_S8x2049x1024_S8x2049x256_0_0_0) (fun s => H (ix3 b s ⟨256 * 0 + n.val, by omega⟩)) 2 b s n (start_row2 s)
    (fun q => by rw [← hz]; pointwise)
  generalize means (extractStridedSlice S8x2049x256 ![0, 0, 0] Z slices_S8x2049x1024_S8x2049x256_0_0_0) 2#32 = M0 at h0 ⊢
  have h1 := fun n : Fin 256 => means_at (extractStridedSlice S8x2049x256 ![0, 0, 256] Z slices_S8x2049x1024_S8x2049x256_0_0_256) (fun s => H (ix3 b s ⟨256 * 1 + n.val, by omega⟩)) 4 b s n (start_row4 s)
    (fun q => by rw [← hz]; pointwise)
  generalize means (extractStridedSlice S8x2049x256 ![0, 0, 256] Z slices_S8x2049x1024_S8x2049x256_0_0_256) 4#32 = M1 at h1 ⊢
  have h2 := fun n : Fin 256 => means_at (extractStridedSlice S8x2049x256 ![0, 0, 512] Z slices_S8x2049x1024_S8x2049x256_0_0_512) (fun s => H (ix3 b s ⟨256 * 2 + n.val, by omega⟩)) 8 b s n (start_row8 s)
    (fun q => by rw [← hz]; pointwise)
  generalize means (extractStridedSlice S8x2049x256 ![0, 0, 512] Z slices_S8x2049x1024_S8x2049x256_0_0_512) 8#32 = M2 at h2 ⊢
  have h3 := fun n : Fin 256 => means_at (extractStridedSlice S8x2049x256 ![0, 0, 768] Z slices_S8x2049x1024_S8x2049x256_0_0_768) (fun s => H (ix3 b s ⟨256 * 3 + n.val, by omega⟩)) 16 b s n (start_row16 s)
    (fun q => by rw [← hz]; pointwise)
  generalize means (extractStridedSlice S8x2049x256 ![0, 0, 768] Z slices_S8x2049x1024_S8x2049x256_0_0_768) 16#32 = M3 at h3 ⊢
  refine (four_at M0 M1 M2 M3 b s _ (fun g n => meanOf (fun s => H (ix3 b s ⟨256 * g.val + n.val, by omega⟩)) s.val (Cert.Kernel5Ideal.wide g)) h0 h1 h2 h3).trans ?_
  exact congrArg₂ (fun (g : Fin 4) (n : Fin 256) => meanOf (fun s => H (ix3 b s ⟨256 * g.val + n.val, by omega⟩)) s.val (Cert.Kernel5Ideal.wide g))
    (Fin.ext (by show (256 * g.val + n.val) / 256 = g.val; omega)) (Fin.ext (by show (256 * g.val + n.val) % 256 = n.val; omega))

/-- Each group's columns by its weights, at one element. -/
theorem turn_at (W : FVec Ideal S4x256x256 .f32) (Y : FVec Ideal S8x2048x1024 .f32) (b : Fin 8) (s : Fin 2048) (n : Fin 1024) :
    turn W Y (ix3 b s n) = ∑ c : Fin 256, W (ix3 ⟨n.val / 256, by omega⟩ c ⟨n.val % 256, by omega⟩) * Y (ix3 b s ⟨256 * (n.val / 256) + c.val, by omega⟩) := by
  unfold turn
  pointwise
  refine Finset.sum_congr rfl fun c _ => congrArg (fun k => _ * Y (ix3 b s k)) (Fin.ext ?_)
  show n.val / 256 * 256 + c.val = 256 * (n.val / 256) + c.val
  omega

/-- The stream at one element, of the mixed columns. -/
theorem added_at (x : FVec Ideal S8x2048x1024 .f32) (mod : FVec Ideal S8x6144 .f32) (Y : FVec Ideal S8x2048x1024 .f32) (ps : FVec Ideal S1024 .f32) (r : Fin 16384) (n : Fin 1024) :
    added x mod Y ps (ix2 r n) = x (ix3 (Cert.Kernel5Ideal.seqOf r) (Cert.Kernel5Ideal.posOf r) n)
      + mod (ix2 (Cert.Kernel5Ideal.seqOf r) ⟨2048 + n.val, by omega⟩) * (Y (ix3 (Cert.Kernel5Ideal.seqOf r) (Cert.Kernel5Ideal.posOf r) n) * ps (ix1 n)) := by
  unfold added Cert.Kernel5Ideal.seqOf Cert.Kernel5Ideal.posOf
  pointwise

/-- The stream at one element. -/
theorem whole_at (x : FVec Ideal S8x2048x1024 .f32) (mod : FVec Ideal S8x6144 .f32) (g : FVec Ideal S1024 .f32) (W : FVec Ideal S4x256x256 .f32) (ps : FVec Ideal S1024 .f32)
    (hf : ∀ b k, Uniform fun s => Cert.Kernel5Ideal.hrow x mod g b s k) (r : Fin 16384) (n : Fin 1024) :
    whole x mod (rows x mod g) W ps (ix2 r n) = Cert.Kernel5Ideal.elem x mod g W ps (Cert.Kernel5Ideal.seqOf r) (Cert.Kernel5Ideal.posOf r) n := by
  have hr := rows_at x mod g
  unfold whole
  rw [added_at, turn_at]
  unfold Cert.Kernel5Ideal.elem Cert.Kernel5Ideal.mixed Cert.Kernel5Ideal.pooled
  refine congrArg (fun z => _ + _ * (z * _)) (Finset.sum_congr rfl fun c _ => ?_)
  rw [mul_comm]
  refine congrArg (· * _) ?_
  generalize rows x mod g = H at hr ⊢
  show allMeans (sums H) (ix3 _ _ ⟨256 * (n.val / 256) + c.val, _⟩) - H _ = _
  rw [allMeans_at H _ _ ⟨n.val / 256, by omega⟩ c]
  simp only [hr]
  unfold meanOf Cert.Kernel5Ideal.mean
  exact uniform_sub (fun s => Cert.Kernel5Ideal.hrow x mod g (Cert.Kernel5Ideal.seqOf r) s ⟨256 * (n.val / 256) + c.val, by omega⟩) (hf _ _) (Cert.Kernel5Ideal.posOf r)
    (Cert.Kernel5Ideal.wide ⟨n.val / 256, by omega⟩) (Nat.two_pow_pos _) _

end Cert.Reference5Ideal

end
-- ==== Proof.PoolClaim.lean ====
/-
  The pooling mixer's claims: what its precondition says, the reference's frame, and that the two idealised programs leave
  the same stream and the same state.
-/
module

public import proofs.«01_k».proof.Proof.PoolRef
public import proofs.«01_k».proof.Proof.InFinite
public import proofs.«01_k».proof.Pre_pool_finite
public import Idealize.ShloMosaic.Lib.ReduceAll

@[expose] public section

set_option maxRecDepth 16384
set_option maxHeartbeats 4000000

noncomputable section

namespace Cert.Proof

open Idealize.ShloMosaic Idealize.ShloMosaic.TcCoe Idealize.SL.Sem

instance poolFiniteFacts : Cert.Pre_pool_finite.Facts where
  slices_S8x6144_S8x1024_0_1024 := by decide
  bcast_S_S8x1024 := by decide
  reducesTo_S8x1024_S_d0_1 := by decide
  h_S_ := by decide
  bcast_S_S1024 := by decide
  reducesTo_S1024_S_d0 := by decide

/-- The scalars' shape has one index. -/
instance : Subsingleton Cert.Pre_pool_finite.S_.Idx := ⟨fun a b => funext fun k => k.elim0⟩

/-- Under the precondition the entries it speaks of are finite. -/
theorem pool_finite_all (x : FVec Ideal Cert.Pre_pool_finite.S8x2048x1024 .f32) (mod : FVec Ideal Cert.Pre_pool_finite.S8x6144 .f32)
    (g : FVec Ideal Cert.Pre_pool_finite.S1024 .f32) (a3 : FVec Ideal Cert.Pre_pool_finite.S4x256x256 .f32) (a4 a5 : FVec Ideal Cert.Pre_pool_finite.S1024 .f32)
    (a6 : FVec Ideal Cert.Pre_pool_finite.S1024x4 .f32) (a7 : FVec Ideal Cert.Pre_pool_finite.S4 .f32)
    (a8 : FVec Ideal Cert.Pre_pool_finite.S1024x16 .f32) (a9 : FVec Ideal Cert.Pre_pool_finite.S16 .f32)
    (h : Cert.Pre_pool_finite.fn x mod g a3 a4 a5 a6 a7 a8 a9 = fun _ => 1#1) :
    (∀ (b : Fin 8) (k : Fin 1024), mod (ix2 b ⟨1024 + k.val, by omega⟩) ≠ ⊤ ∧ mod (ix2 b ⟨1024 + k.val, by omega⟩) ≠ ⊥)
    ∧ (∀ k : Fin 1024, g (ix1 k) ≠ ⊤ ∧ g (ix1 k) ≠ ⊥) := by
  have h0 := congrFun h (Idealize.ShloMosaic.ValueIdx.ix0)
  obtain ⟨h1, h2⟩ := IntOp.andi_eq_one.1 h0
  refine ⟨fun b k => ?_, fun k => ?_⟩
  · have := Host.reduce_andi_all _ _ _ _ _ h1 (ix2 b k)
    refine real_of_abs _ (Eq.trans ?_ this)
    pointwise
    rfl
  · have := Host.reduce_andi_all _ _ _ _ _ h2 (ix1 k)
    refine real_of_abs _ (Eq.trans ?_ this)
    pointwise
    rfl

/-- Of a finite gain and scale a column of normalised rows is finite, or all one infinity: the shift's. -/
theorem row_uniform (x : FVec Ideal Cert.Pre_pool_finite.S8x2048x1024 .f32) (mod : FVec Ideal Cert.Pre_pool_finite.S8x6144 .f32)
    (g : FVec Ideal Cert.Pre_pool_finite.S1024 .f32) (b : Fin 8) (k : Fin 1024) (hg : g (ix1 k) ≠ ⊤ ∧ g (ix1 k) ≠ ⊥)
    (hsc : mod (ix2 b ⟨1024 + k.val, by omega⟩) ≠ ⊤ ∧ mod (ix2 b ⟨1024 + k.val, by omega⟩) ≠ ⊥) :
    Uniform fun s => Cert.Kernel5Ideal.hrow x mod g b s k := by
  by_cases ht : mod (ix2 b ⟨k.val, by omega⟩) = ⊤
  · refine Or.inr (Or.inr fun s => ?_)
    have hr := inNormed_real (fun k => x (ix3 b s k)) (fun k => g (ix1 k)) (fun k => mod (ix2 b ⟨1024 + k.val, by omega⟩)) (fun _ => 0) k hg hsc
      ⟨EReal.zero_ne_top, EReal.zero_ne_bot⟩
    unfold inNormed at hr
    rw [add_zero] at hr
    unfold Cert.Kernel5Ideal.hrow inNormed
    exact (congrArg (_ + ·) ht).trans (EReal.add_top_of_ne_bot hr.2)
  by_cases hb : mod (ix2 b ⟨k.val, by omega⟩) = ⊥
  · refine Or.inr (Or.inl fun s => ?_)
    unfold Cert.Kernel5Ideal.hrow inNormed
    exact (congrArg (_ + ·) hb).trans (EReal.add_bot _)
  · exact Or.inl fun s => inNormed_real _ _ _ _ k hg hsc ⟨ht, hb⟩

/-- The frame of the idealised reference. -/
theorem pool_frame_reference : Cert.quiescent_Reference5Ideal := by
  intro m g _
  refine (θ_run Cert.Reference5Ideal.defs _ _).mono
    (fun r h => ⟨fun c => (h c).2.2, Idealize.ShloMosaic.sem_eq_zero_of_no_sems (by decide) r.2⟩) (Cert.Reference5Ideal.Value.run m g)

/-- The kernel and the reference of the pooling mixer leave the same stream and hand the same state on. -/
theorem pool_same_result : Cert.algebraic_Kernel5Ideal_Reference5Ideal_pre_pool_finite := by
  intro m g m' g' hpre hagree
  refine ⟨fun c => Cert.Kernel5Ideal.stream m c, fun c => Cert.Kernel5Ideal.ends m c Cert.Kernel5Ideal.main_v12, ?_, ?_⟩
  · refine (θ_run Cert.Kernel5Ideal.defs _ _).mono (fun r h c => ⟨((h c).1 13).trans (Cert.Kernel5Ideal.arr13 m c),
      (h c).2 Cert.Kernel5Ideal.main_v12 (Pipeline.mem_restRefs_of Cert.Kernel5Ideal.main_v12 (by decide) (by decide)),
      ((h c).2 Cert.Kernel5Ideal.main_arg0 (Pipeline.mem_restRefs_of Cert.Kernel5Ideal.main_arg0 (by decide) (by decide))).trans (Cert.Kernel5Ideal.Gen.W_main_arg0 m _ c),
      ((h c).2 Cert.Kernel5Ideal.main_arg1 (Pipeline.mem_restRefs_of Cert.Kernel5Ideal.main_arg1 (by decide) (by decide))).trans (Cert.Kernel5Ideal.Gen.W_main_arg1 m _ c),
      ((h c).2 Cert.Kernel5Ideal.main_arg2 (Pipeline.mem_restRefs_of Cert.Kernel5Ideal.main_arg2 (by decide) (by decide))).trans (Cert.Kernel5Ideal.Gen.W_main_arg2 m _ c),
      ((h c).2 Cert.Kernel5Ideal.main_arg3 (Pipeline.mem_restRefs_of Cert.Kernel5Ideal.main_arg3 (by decide) (by decide))).trans (Cert.Kernel5Ideal.Gen.W_main_arg3 m _ c),
      ((h c).2 Cert.Kernel5Ideal.main_arg4 (Pipeline.mem_restRefs_of Cert.Kernel5Ideal.main_arg4 (by decide) (by decide))).trans (Cert.Kernel5Ideal.Gen.W_main_arg4 m _ c),
      ((h c).2 Cert.Kernel5Ideal.main_arg5 (Pipeline.mem_restRefs_of Cert.Kernel5Ideal.main_arg5 (by decide) (by decide))).trans (Cert.Kernel5Ideal.Gen.W_main_arg5 m _ c),
      ((h c).2 Cert.Kernel5Ideal.main_arg6 (Pipeline.mem_restRefs_of Cert.Kernel5Ideal.main_arg6 (by decide) (by decide))).trans (Cert.Kernel5Ideal.Gen.W_main_arg6 m _ c),
      ((h c).2 Cert.Kernel5Ideal.main_arg7 (Pipeline.mem_restRefs_of Cert.Kernel5Ideal.main_arg7 (by decide) (by decide))).trans (Cert.Kernel5Ideal.Gen.W_main_arg7 m _ c),
      ((h c).2 Cert.Kernel5Ideal.main_arg8 (Pipeline.mem_restRefs_of Cert.Kernel5Ideal.main_arg8 (by decide) (by decide))).trans (Cert.Kernel5Ideal.Gen.W_main_arg8 m _ c),
      ((h c).2 Cert.Kernel5Ideal.main_arg9 (Pipeline.mem_restRefs_of Cert.Kernel5Ideal.main_arg9 (by decide) (by decide))).trans (Cert.Kernel5Ideal.Gen.W_main_arg9 m _ c)⟩)
      (Cert.Kernel5Ideal.Gen.run_main (F := Ideal) m g)
  · have hf := pool_finite_all _ _ _ _ _ _ _ _ _ _ (hpre 0)
    refine (θ_run Cert.Reference5Ideal.defs _ _).mono (fun r h c => ⟨(h c).1.trans ?_, (h c).2.1.trans ?_, (h c).2.2⟩) (Cert.Reference5Ideal.Value.run (F := Ideal) m' g')
    · obtain rfl : c = 0 := Subsingleton.elim _ _
      obtain ⟨a0, a1, a2, a3, a4, a5, a6, a7, a8, a9⟩ := hagree 0
      rw [Cert.Reference5Ideal.whole_eq, a0, a1, a2, a3, a4]
      funext i
      obtain ⟨r, n, rfl⟩ : ∃ r n, i = ix2 r n := ⟨i 0, i 1, eq_ix2 i⟩
      refine (Cert.Reference5Ideal.whole_at _ _ _ _ _ (fun b k => row_uniform _ _ _ b k (hf.2 k) (hf.1 b k)) r n)
    · obtain ⟨a0, a1, a2, a3, a4, a5, a6, a7, a8, a9⟩ := hagree c
      rw [a0, a1, a2]
      funext i
      obtain ⟨b, r, k, rfl⟩ : ∃ b r k, i = ix3 b r k := ⟨i 0, i 1, i 2, eq_ix3 i⟩
      exact (Cert.Reference5Ideal.state_at _ _ _ b r k).trans (Cert.Kernel5Ideal.ends12_at m c b r k).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Same
public import proofs.«01_k».proof.Proof.Result
public import proofs.«01_k».proof.Proof.Groups
public import proofs.«01_k».proof.Proof.InSame
public import proofs.«01_k».proof.Proof.InClaim
public import proofs.«01_k».proof.Proof.Ada
public import proofs.«01_k».proof.Proof.OutProj
public import proofs.«01_k».proof.Proof.Pool
public import proofs.«01_k».proof.Proof.PoolMath
public import proofs.«01_k».proof.Proof.PoolPay
public import proofs.«01_k».proof.Proof.PoolMix
public import proofs.«01_k».proof.Proof.PoolRef
public import proofs.«01_k».proof.Proof.PoolClaim
public import Idealize.ShloMosaic.Lib.Claim

@[expose] public section

noncomputable section

namespace Cert.Proof

open Idealize.ShloMosaic Idealize.ShloMosaic.TcCoe Idealize.SL.Sem

/-- The frame of the idealised kernel. -/
theorem frame_ideal : Cert.quiescent_KernelIdeal := fun m ρ _ => Cert.KernelIdeal.run_main (F := Ideal) m ρ

/-- The frame of the idealised reference. -/
theorem frame_reference : Cert.quiescent_ReferenceIdeal := by
  intro m g _
  refine (θ_run Cert.ReferenceIdeal.defs _ _).mono
    (fun r h => ⟨h, Idealize.ShloMosaic.sem_eq_zero_of_no_sems (by decide) r.2⟩) ?_
  hlo_run

/-- What the kernel and the reference leave: the layer's rows, each for its own group. -/
theorem same_result : Cert.algebraic_KernelIdeal_ReferenceIdeal_pre_groups_named := by
  intro m g m' g' hpre hagree
  have hex : ∀ r : Fin 16384, ∃ k : Fin 4, Cert.ReferenceIdeal.groups (m' ((0 : Dev Cert.ReferenceIdeal.nD).tc.loc Cert.ReferenceIdeal.main_arg3)) (ix1 r)
      = BitVec.ofNat 32 k.val := by
    intro r
    rw [(hagree 0).2.2.2.1]
    exact named _ _ _ _ _ _ _ (hpre 0) r
  choose gof hgof using hex
  have hrow : ∀ (a : Fin 16) (b : Fin 1024), Cert.KernelIdeal.grp m 0 a b = BitVec.ofNat 32 (gof ⟨1024 * a.val + b.val, by omega⟩).val := by
    intro a b
    rw [← hgof, Cert.ReferenceIdeal.groups_at, Cert.KernelIdeal.grp_at, (hagree 0).2.2.2.1]
  refine ⟨fun c => fun i : Cert.KernelIdeal.S16384x1024.Idx => Cert.KernelIdeal.vFinal m c (i 0) (gof (i 0)) (i 1), ?_, ?_⟩
  · refine (θ_run Cert.KernelIdeal.defs _ _).mono (fun r h c => ⟨Cert.KernelIdeal.result m c gof hrow h.1, ?_⟩)
      (Cert.KernelIdeal.run_all (F := Ideal) m g (Cert.KernelIdeal.tabOK m))
    exact Cert.KernelIdeal.args_kept m h.1 c
  · refine (θ_run Cert.ReferenceIdeal.defs _ _).mono (fun r h c => ⟨(h c).1.trans ?_, (h c).2⟩) (Cert.ReferenceIdeal.run m' g')
    obtain rfl : c = 0 := Subsingleton.elim _ _
    have ha := hagree 0
    funext i
    obtain ⟨a, b, rfl⟩ : ∃ (a : Fin 16384) (b : Fin 1024), i = ix2 a b := ⟨i 0, i 1, by funext k; match k with | ⟨0, _⟩ => rfl | ⟨1, _⟩ => rfl⟩
    refine (Cert.ReferenceIdeal.layer_at _ _ _ _ _ _ _ a b (gof a) (hgof a)).trans ?_
    refine Eq.trans ?_ (Cert.KernelIdeal.vFinal_eq m 0 a (gof a) b).symm
    rw [ha.1, ha.2.1, ha.2.2.1, ha.2.2.2.1, ha.2.2.2.2.1, ha.2.2.2.2.2.1, ha.2.2.2.2.2.2]

/-- The claims, in the order they are stated. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, groupFacts, finiteFacts, poolFiniteFacts,
  frame_kernel, frame_ideal, fun m ρ _ => frame_ideal m ρ trivial, frame_reference, fun m ρ _ => frame_reference m ρ trivial,
  in_frame_kernel, in_frame_ideal, fun m ρ _ => in_frame_ideal m ρ trivial, in_frame_reference, fun m ρ _ => in_frame_reference m ρ trivial,
  ada_frame_kernel, ada_frame_ideal, ada_frame_reference, out_proj_frame_kernel, out_proj_frame_ideal, out_proj_frame_reference,
  pool_frame_kernel, pool_frame_ideal, fun m ρ _ => pool_frame_ideal m ρ trivial, pool_frame_reference, fun m ρ _ => pool_frame_reference m ρ trivial,
  trivial, same_result, trivial, in_same_result, trivial, ada_same_result, trivial, out_proj_same_result,
  trivial, pool_same_result⟩

end Cert.Proof

end
